-- ==== Defs.lean ====
def Pre_Experts [hPre_block_tables : Cert.Pre_block_tables.Facts] (m : (ℓ : Loc Cert.Experts.nD Cert.Experts.τ Cert.Experts.sig) → Buf (Elt Bits) ℓ) : Prop :=
  ∀ c : Dev Cert.Experts.nD,
    (Cert.Pre_block_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsRef [hPre_block_tables : Cert.Pre_block_tables.Facts] (m : (ℓ : Loc Cert.ExpertsRef.nD Cert.ExpertsRef.τ Cert.ExpertsRef.sig) → Buf (Elt Bits) ℓ) : Prop :=
  ∀ c : Dev Cert.ExpertsRef.nD,
    (Cert.Pre_block_tables.fn (F := Bits) (m ((c.tc : Thread Cert.ExpertsRef.nD Cert.ExpertsRef.τ).loc Cert.ExpertsRef.main_arg0)) (m ((c.tc : Thread Cert.ExpertsRef.nD Cert.ExpertsRef.τ).loc Cert.ExpertsRef.main_arg1)) (m ((c.tc : Thread Cert.ExpertsRef.nD Cert.ExpertsRef.τ).loc Cert.ExpertsRef.main_arg2)) (m ((c.tc : Thread Cert.ExpertsRef.nD Cert.ExpertsRef.τ).loc Cert.ExpertsRef.main_arg3)) (m ((c.tc : Thread Cert.ExpertsRef.nD Cert.ExpertsRef.τ).loc Cert.ExpertsRef.main_arg4)) (m ((c.tc : Thread Cert.ExpertsRef.nD Cert.ExpertsRef.τ).loc Cert.ExpertsRef.main_arg5))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SbIn (m : (ℓ : Loc Cert.SbIn.nD Cert.SbIn.τ Cert.SbIn.sig) → Buf (Elt Bits) ℓ) : Prop :=
  True

def Pre_SbInIdeal (m : (ℓ : Loc Cert.SbInIdeal.nD Cert.SbInIdeal.τ Cert.SbInIdeal.sig) → Buf (Elt Ideal) ℓ) : Prop :=
  True

def Pre_SbInRefIdeal (m : (ℓ : Loc Cert.SbInRefIdeal.nD Cert.SbInRefIdeal.τ Cert.SbInRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_DilIn (m : (ℓ : Loc Cert.DilIn.nD Cert.DilIn.τ Cert.DilIn.sig) → Buf (Elt Bits) ℓ) : Prop :=
  True

def Pre_DilInIdeal (m : (ℓ : Loc Cert.DilInIdeal.nD Cert.DilInIdeal.τ Cert.DilInIdeal.sig) → Buf (Elt Ideal) ℓ) : Prop :=
  True

def Pre_DilInRefIdeal (m : (ℓ : Loc Cert.DilInRefIdeal.nD Cert.DilInRefIdeal.τ Cert.DilInRefIdeal.sig) → Buf (Elt Ideal) ℓ) : Prop :=
  True

def Pre_StridedIn (m : (ℓ : Loc Cert.StridedIn.nD Cert.StridedIn.τ Cert.StridedIn.sig) → Buf (Elt Bits) ℓ) : Prop :=
  True

def Pre_StridedInIdeal (m : (ℓ : Loc Cert.StridedInIdeal.nD Cert.StridedInIdeal.τ Cert.StridedInIdeal.sig) → Buf (Elt Ideal) ℓ) : Prop :=
  True

def Pre_StridedInRefIdeal (m : (ℓ : Loc Cert.StridedInRefIdeal.nD Cert.StridedInRefIdeal.τ Cert.StridedInRefIdeal.sig) → Buf (Elt Ideal) ℓ) : Prop :=
  True

def Pre_DilOut (m : (ℓ : Loc Cert.DilOut.nD Cert.DilOut.τ Cert.DilOut.sig) → Buf (Elt Bits) ℓ) : Prop :=
  True

def Pre_DilOutIdeal (m : (ℓ : Loc Cert.DilOutIdeal.nD Cert.DilOutIdeal.τ Cert.DilOutIdeal.sig) → Buf (Elt Ideal) ℓ) : Prop :=
  True

def Pre_DilOutRefIdeal (m : (ℓ : Loc Cert.DilOutRefIdeal.nD Cert.DilOutRefIdeal.τ Cert.DilOutRefIdeal.sig) → Buf (Elt Ideal) ℓ) : Prop :=
  True

def Pre_WideIn (m : (ℓ : Loc Cert.WideIn.nD Cert.WideIn.τ Cert.WideIn.sig) → Buf (Elt Bits) ℓ) : Prop :=
  True

def Pre_WideInIdeal (m : (ℓ : Loc Cert.WideInIdeal.nD Cert.WideInIdeal.τ Cert.WideInIdeal.sig) → Buf (Elt Ideal) ℓ) : Prop :=
  True

def Pre_WideInRefIdeal (m : (ℓ : Loc Cert.WideInRefIdeal.nD Cert.WideInRefIdeal.τ Cert.WideInRefIdeal.sig) → Buf (Elt Ideal) ℓ) : Prop :=
  True

def quiescent_Experts [hExperts : Cert.Experts.Facts] [hPre_block_tables : Cert.Pre_block_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsRef [hExpertsRef : Cert.ExpertsRef.Facts] [hPre_block_tables : Cert.Pre_block_tables.Facts] : Prop :=
  ∀ (m : (ℓ : Loc Cert.ExpertsRef.nD Cert.ExpertsRef.τ Cert.ExpertsRef.sig) → Buf (Elt Bits) ℓ) (g : Dev Cert.ExpertsRef.nD → PrngReg), Pre_ExpertsRef m →
    θ_run (Cert.ExpertsRef.defs (F := Bits)) (onTc (τ := Cert.ExpertsRef.τ) (Cert.ExpertsRef.main (F := Bits))) ⟨m, fun _ => 0, g⟩ (fun r => (∀ c : Dev Cert.ExpertsRef.nD,
      r.2.mem ((c.tc : Thread Cert.ExpertsRef.nD Cert.ExpertsRef.τ).loc Cert.ExpertsRef.main_arg0) = m ((c.tc : Thread Cert.ExpertsRef.nD Cert.ExpertsRef.τ).loc Cert.ExpertsRef.main_arg0)
      ∧ r.2.mem ((c.tc : Thread Cert.ExpertsRef.nD Cert.ExpertsRef.τ).loc Cert.ExpertsRef.main_arg1) = m ((c.tc : Thread Cert.ExpertsRef.nD Cert.ExpertsRef.τ).loc Cert.ExpertsRef.main_arg1)
      ∧ r.2.mem ((c.tc : Thread Cert.ExpertsRef.nD Cert.ExpertsRef.τ).loc Cert.ExpertsRef.main_arg2) = m ((c.tc : Thread Cert.ExpertsRef.nD Cert.ExpertsRef.τ).loc Cert.ExpertsRef.main_arg2)
      ∧ r.2.mem ((c.tc : Thread Cert.ExpertsRef.nD Cert.ExpertsRef.τ).loc Cert.ExpertsRef.main_arg3) = m ((c.tc : Thread Cert.ExpertsRef.nD Cert.ExpertsRef.τ).loc Cert.ExpertsRef.main_arg3)
      ∧ r.2.mem ((c.tc : Thread Cert.ExpertsRef.nD Cert.ExpertsRef.τ).loc Cert.ExpertsRef.main_arg4) = m ((c.tc : Thread Cert.ExpertsRef.nD Cert.ExpertsRef.τ).loc Cert.ExpertsRef.main_arg4)
      ∧ r.2.mem ((c.tc : Thread Cert.ExpertsRef.nD Cert.ExpertsRef.τ).loc Cert.ExpertsRef.main_arg5) = m ((c.tc : Thread Cert.ExpertsRef.nD Cert.ExpertsRef.τ).loc Cert.ExpertsRef.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_SbIn [hSbIn : Cert.SbIn.Facts] : Prop :=
  ∀ (m : (ℓ : Loc Cert.SbIn.nD Cert.SbIn.τ Cert.SbIn.sig) → Buf (Elt Bits) ℓ) (g : Dev Cert.SbIn.nD → PrngReg), Pre_SbIn m →
    θ_run (Cert.SbIn.defs (F := Bits)) (onTc (τ := Cert.SbIn.τ) (Cert.SbIn.main (F := Bits))) ⟨m, fun _ => 0, g⟩ (fun r => (∀ c : Dev Cert.SbIn.nD,
      r.2.mem ((c.tc : Thread Cert.SbIn.nD Cert.SbIn.τ).loc Cert.SbIn.main_arg0) = m ((c.tc : Thread Cert.SbIn.nD Cert.SbIn.τ).loc Cert.SbIn.main_arg0)
      ∧ r.2.mem ((c.tc : Thread Cert.SbIn.nD Cert.SbIn.τ).loc Cert.SbIn.main_arg1) = m ((c.tc : Thread Cert.SbIn.nD Cert.SbIn.τ).loc Cert.SbIn.main_arg1)
      ∧ r.2.mem ((c.tc : Thread Cert.SbIn.nD Cert.SbIn.τ).loc Cert.SbIn.main_arg2) = m ((c.tc : Thread Cert.SbIn.nD Cert.SbIn.τ).loc Cert.SbIn.main_arg2)
      ∧ r.2.mem ((c.tc : Thread Cert.SbIn.nD Cert.SbIn.τ).loc Cert.SbIn.main_arg3) = m ((c.tc : Thread Cert.SbIn.nD Cert.SbIn.τ).loc Cert.SbIn.main_arg3)
      ∧ r.2.mem ((c.tc : Thread Cert.SbIn.nD Cert.SbIn.τ).loc Cert.SbIn.main_arg4) = m ((c.tc : Thread Cert.SbIn.nD Cert.SbIn.τ).loc Cert.SbIn.main_arg4))
      ∧ r.2.sem = fun _ => 0)

def quiescent_SbInIdeal [hSbInIdeal : Cert.SbInIdeal.Facts] : Prop :=
  ∀ (m : (ℓ : Loc Cert.SbInIdeal.nD Cert.SbInIdeal.τ Cert.SbInIdeal.sig) → Buf (Elt Ideal) ℓ) (g : Dev Cert.SbInIdeal.nD → PrngReg), Pre_SbInIdeal m →
    θ_run (Cert.SbInIdeal.defs (F := Ideal)) (onTc (τ := Cert.SbInIdeal.τ) (Cert.SbInIdeal.main (F := Ideal))) ⟨m, fun _ => 0, g⟩ (fun r => (∀ c : Dev Cert.SbInIdeal.nD,
      r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
      ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1)
      ∧ r.2.mem ((c.tc : Thread Cert.SbInIdeal.nD Cert.SbInIdeal.τ).loc Cert.SbInIdeal.main_arg2) = m ((c.tc : Thread Cert.SbInIdeal.nD Cert.SbInIdeal.τ).loc Cert.SbInIdeal.main_arg2)
      ∧ r.2.mem ((c.tc : Thread Cert.SbInIdeal.nD Cert.SbInIdeal.τ).loc Cert.SbInIdeal.main_arg3) = m ((c.tc : Thread Cert.SbInIdeal.nD Cert.SbInIdeal.τ).loc Cert.SbInIdeal.main_arg3)
      ∧ r.2.mem ((c.tc : Thread Cert.SbInIdeal.nD Cert.SbInIdeal.τ).loc Cert.SbInIdeal.main_arg4) = m ((c.tc : Thread Cert.SbInIdeal.nD Cert.SbInIdeal.τ).loc Cert.SbInIdeal.main_arg4))
      ∧ r.2.sem = fun _ => 0)

def quiescent_SbInRefIdeal [hSbInRefIdeal : Cert.SbInRefIdeal.Facts] : Prop :=
  ∀ (m : (ℓ : Loc Cert.SbInRefIdeal.nD Cert.SbInRefIdeal.τ Cert.SbInRefIdeal.sig) → Buf (Elt Ideal) ℓ) (g : Dev Cert.SbInRefIdeal.nD → PrngReg), Pre_SbInRefIdeal m →
    θ_run (Cert.SbInRefIdeal.defs (F := Ideal)) (onTc (τ := Cert.SbInRefIdeal.τ) (Cert.SbInRefIdeal.main (F := Ideal))) ⟨m, fun _ => 0, g⟩ (fun r => (∀ c : Dev Cert.SbInRefIdeal.nD,
      r.2.mem ((c.tc : Thread Cert.SbInRefIdeal.nD Cert.SbInRefIdeal.τ).loc Cert.SbInRefIdeal.main_arg0) = m ((c.tc : Thread Cert.SbInRefIdeal.nD Cert.SbInRefIdeal.τ).loc Cert.SbInRefIdeal.main_arg0)
      ∧ r.2.mem ((c.tc : Thread Cert.SbInRefIdeal.nD Cert.SbInRefIdeal.τ).loc Cert.SbInRefIdeal.main_arg1) = m ((c.tc : Thread Cert.SbInRefIdeal.nD Cert.SbInRefIdeal.τ).loc Cert.SbInRefIdeal.main_arg1)
      ∧ r.2.mem ((c.tc : Thread Cert.SbInRefIdeal.nD Cert.SbInRefIdeal.τ).loc Cert.SbInRefIdeal.main_arg2) = m ((c.tc : Thread Cert.SbInRefIdeal.nD Cert.SbInRefIdeal.τ).loc Cert.SbInRefIdeal.main_arg2)
      ∧ r.2.mem ((c.tc : Thread Cert.SbInRefIdeal.nD Cert.SbInRefIdeal.τ).loc Cert.SbInRefIdeal.main_arg3) = m ((c.tc : Thread Cert.SbInRefIdeal.nD Cert.SbInRefIdeal.τ).loc Cert.SbInRefIdeal.main_arg3)
      ∧ r.2.mem ((c.tc : Thread Cert.SbInRefIdeal.nD Cert.SbInRefIdeal.τ).loc Cert.SbInRefIdeal.main_arg4) = m ((c.tc : Thread Cert.SbInRefIdeal.nD Cert.SbInRefIdeal.τ).loc Cert.SbInRefIdeal.main_arg4))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2)
      ∧ r.2.mem ((c.tc : Thread Cert.GlaIn.nD Cert.GlaIn.τ).loc Cert.GlaIn.main_arg3) = m ((c.tc : Thread Cert.GlaIn.nD Cert.GlaIn.τ).loc Cert.GlaIn.main_arg3)
      ∧ r.2.mem ((c.tc : Thread Cert.GlaIn.nD Cert.GlaIn.τ).loc Cert.GlaIn.main_arg4) = m ((c.tc : Thread Cert.GlaIn.nD Cert.GlaIn.τ).loc Cert.GlaIn.main_arg4))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
      ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
      ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1)
      ∧ r.2.mem ((c.tc : Thread Cert.GlaInRefIdeal.nD Cert.GlaInRefIdeal.τ).loc Cert.GlaInRefIdeal.main_arg2) = m ((c.tc : Thread Cert.GlaInRefIdeal.nD Cert.GlaInRefIdeal.τ).loc Cert.GlaInRefIdeal.main_arg2)
      ∧ r.2.mem ((c.tc : Thread Cert.GlaInRefIdeal.nD Cert.GlaInRefIdeal.τ).loc Cert.GlaInRefIdeal.main_arg3) = m ((c.tc : Thread Cert.GlaInRefIdeal.nD Cert.GlaInRefIdeal.τ).loc Cert.GlaInRefIdeal.main_arg3)
      ∧ r.2.mem ((c.tc : Thread Cert.GlaInRefIdeal.nD Cert.GlaInRefIdeal.τ).loc Cert.GlaInRefIdeal.main_arg4) = m ((c.tc : Thread Cert.GlaInRefIdeal.nD Cert.GlaInRefIdeal.τ).loc Cert.GlaInRefIdeal.main_arg4))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3))
      ∧ r.2.sem = fun _ => 0)

def quiescent_DilIn [hDilIn : Cert.DilIn.Facts] : Prop :=
  ∀ (m : (ℓ : Loc Cert.DilIn.nD Cert.DilIn.τ Cert.DilIn.sig) → Buf (Elt Bits) ℓ) (g : Dev Cert.DilIn.nD → PrngReg), Pre_DilIn m →
    θ_run (Cert.DilIn.defs (F := Bits)) (onTc (τ := Cert.DilIn.τ) (Cert.DilIn.main (F := Bits))) ⟨m, fun _ => 0, g⟩ (fun r => (∀ c : Dev Cert.DilIn.nD,
      r.2.mem ((c.tc : Thread Cert.DilIn.nD Cert.DilIn.τ).loc Cert.DilIn.main_arg0) = m ((c.tc : Thread Cert.DilIn.nD Cert.DilIn.τ).loc Cert.DilIn.main_arg0)
      ∧ r.2.mem ((c.tc : Thread Cert.DilIn.nD Cert.DilIn.τ).loc Cert.DilIn.main_arg1) = m ((c.tc : Thread Cert.DilIn.nD Cert.DilIn.τ).loc Cert.DilIn.main_arg1)
      ∧ r.2.mem ((c.tc : Thread Cert.DilIn.nD Cert.DilIn.τ).loc Cert.DilIn.main_arg2) = m ((c.tc : Thread Cert.DilIn.nD Cert.DilIn.τ).loc Cert.DilIn.main_arg2)
      ∧ r.2.mem ((c.tc : Thread Cert.DilIn.nD Cert.DilIn.τ).loc Cert.DilIn.main_arg3) = m ((c.tc : Thread Cert.DilIn.nD Cert.DilIn.τ).loc Cert.DilIn.main_arg3)
      ∧ r.2.mem ((c.tc : Thread Cert.DilIn.nD Cert.DilIn.τ).loc Cert.DilIn.main_arg4) = m ((c.tc : Thread Cert.DilIn.nD Cert.DilIn.τ).loc Cert.DilIn.main_arg4))
      ∧ r.2.sem = fun _ => 0)

def quiescent_DilInIdeal [hDilInIdeal : Cert.DilInIdeal.Facts] : Prop :=
  ∀ (m : (ℓ : Loc Cert.DilInIdeal.nD Cert.DilInIdeal.τ Cert.DilInIdeal.sig) → Buf (Elt Ideal) ℓ) (g : Dev Cert.DilInIdeal.nD → PrngReg), Pre_DilInIdeal m →
    θ_run (Cert.DilInIdeal.defs (F := Ideal)) (onTc (τ := Cert.DilInIdeal.τ) (Cert.DilInIdeal.main (F := Ideal))) ⟨m, fun _ => 0, g⟩ (fun r => (∀ c : Dev Cert.DilInIdeal.nD,
      r.2.mem ((c.tc : Thread Cert.DilInIdeal.nD Cert.DilInIdeal.τ).loc Cert.DilInIdeal.main_arg0) = m ((c.tc : Thread Cert.DilInIdeal.nD Cert.DilInIdeal.τ).loc Cert.DilInIdeal.main_arg0)
      ∧ r.2.mem ((c.tc : Thread Cert.DilInIdeal.nD Cert.DilInIdeal.τ).loc Cert.DilInIdeal.main_arg1) = m ((c.tc : Thread Cert.DilInIdeal.nD Cert.DilInIdeal.τ).loc Cert.DilInIdeal.main_arg1)
      ∧ r.2.mem ((c.tc : Thread Cert.DilInIdeal.nD Cert.DilInIdeal.τ).loc Cert.DilInIdeal.main_arg2) = m ((c.tc : Thread Cert.DilInIdeal.nD Cert.DilInIdeal.τ).loc Cert.DilInIdeal.main_arg2)
      ∧ r.2.mem ((c.tc : Thread Cert.DilInIdeal.nD Cert.DilInIdeal.τ).loc Cert.DilInIdeal.main_arg3) = m ((c.tc : Thread Cert.DilInIdeal.nD Cert.DilInIdeal.τ).loc Cert.DilInIdeal.main_arg3)
      ∧ r.2.mem ((c.tc : Thread Cert.DilInIdeal.nD Cert.DilInIdeal.τ).loc Cert.DilInIdeal.main_arg4) = m ((c.tc : Thread Cert.DilInIdeal.nD Cert.DilInIdeal.τ).loc Cert.DilInIdeal.main_arg4))
      ∧ r.2.sem = fun _ => 0)

def quiescent_DilInRefIdeal [hDilInRefIdeal : Cert.DilInRefIdeal.Facts] : Prop :=
  ∀ (m : (ℓ : Loc Cert.DilInRefIdeal.nD Cert.DilInRefIdeal.τ Cert.DilInRefIdeal.sig) → Buf (Elt Ideal) ℓ) (g : Dev Cert.DilInRefIdeal.nD → PrngReg), Pre_DilInRefIdeal m →
    θ_run (Cert.DilInRefIdeal.defs (F := Ideal)) (onTc (τ := Cert.DilInRefIdeal.τ) (Cert.DilInRefIdeal.main (F := Ideal))) ⟨m, fun _ => 0, g⟩ (fun r => (∀ c : Dev Cert.DilInRefIdeal.nD,
      r.2.mem ((c.tc : Thread Cert.DilInRefIdeal.nD Cert.DilInRefIdeal.τ).loc Cert.DilInRefIdeal.main_arg0) = m ((c.tc : Thread Cert.DilInRefIdeal.nD Cert.DilInRefIdeal.τ).loc Cert.DilInRefIdeal.main_arg0)
      ∧ r.2.mem ((c.tc : Thread Cert.DilInRefIdeal.nD Cert.DilInRefIdeal.τ).loc Cert.DilInRefIdeal.main_arg1) = m ((c.tc : Thread Cert.DilInRefIdeal.nD Cert.DilInRefIdeal.τ).loc Cert.DilInRefIdeal.main_arg1)
      ∧ r.2.mem ((c.tc : Thread Cert.DilInRefIdeal.nD Cert.DilInRefIdeal.τ).loc Cert.DilInRefIdeal.main_arg2) = m ((c.tc : Thread Cert.DilInRefIdeal.nD Cert.DilInRefIdeal.τ).loc Cert.DilInRefIdeal.main_arg2)
      ∧ r.2.mem ((c.tc : Thread Cert.DilInRefIdeal.nD Cert.DilInRefIdeal.τ).loc Cert.DilInRefIdeal.main_arg3) = m ((c.tc : Thread Cert.DilInRefIdeal.nD Cert.DilInRefIdeal.τ).loc Cert.DilInRefIdeal.main_arg3)
      ∧ r.2.mem ((c.tc : Thread Cert.DilInRefIdeal.nD Cert.DilInRefIdeal.τ).loc Cert.DilInRefIdeal.main_arg4) = m ((c.tc : Thread Cert.DilInRefIdeal.nD Cert.DilInRefIdeal.τ).loc Cert.DilInRefIdeal.main_arg4))
      ∧ r.2.sem = fun _ => 0)

def quiescent_StridedIn [hStridedIn : Cert.StridedIn.Facts] : Prop :=
  ∀ (m : (ℓ : Loc Cert.StridedIn.nD Cert.StridedIn.τ Cert.StridedIn.sig) → Buf (Elt Bits) ℓ) (g : Dev Cert.StridedIn.nD → PrngReg), Pre_StridedIn m →
    θ_run (Cert.StridedIn.defs (F := Bits)) (onTc (τ := Cert.StridedIn.τ) (Cert.StridedIn.main (F := Bits))) ⟨m, fun _ => 0, g⟩ (fun r => (∀ c : Dev Cert.StridedIn.nD,
      r.2.mem ((c.tc : Thread Cert.StridedIn.nD Cert.StridedIn.τ).loc Cert.StridedIn.main_arg0) = m ((c.tc : Thread Cert.StridedIn.nD Cert.StridedIn.τ).loc Cert.StridedIn.main_arg0)
      ∧ r.2.mem ((c.tc : Thread Cert.StridedIn.nD Cert.StridedIn.τ).loc Cert.StridedIn.main_arg1) = m ((c.tc : Thread Cert.StridedIn.nD Cert.StridedIn.τ).loc Cert.StridedIn.main_arg1)
      ∧ r.2.mem ((c.tc : Thread Cert.StridedIn.nD Cert.StridedIn.τ).loc Cert.StridedIn.main_arg2) = m ((c.tc : Thread Cert.StridedIn.nD Cert.StridedIn.τ).loc Cert.StridedIn.main_arg2)
      ∧ r.2.mem ((c.tc : Thread Cert.StridedIn.nD Cert.StridedIn.τ).loc Cert.StridedIn.main_arg3) = m ((c.tc : Thread Cert.StridedIn.nD Cert.StridedIn.τ).loc Cert.StridedIn.main_arg3)
      ∧ r.2.mem ((c.tc : Thread Cert.StridedIn.nD Cert.StridedIn.τ).loc Cert.StridedIn.main_arg4) = m ((c.tc : Thread Cert.StridedIn.nD Cert.StridedIn.τ).loc Cert.StridedIn.main_arg4))
      ∧ r.2.sem = fun _ => 0)

def quiescent_StridedInIdeal [hStridedInIdeal : Cert.StridedInIdeal.Facts] : Prop :=
  ∀ (m : (ℓ : Loc Cert.StridedInIdeal.nD Cert.StridedInIdeal.τ Cert.StridedInIdeal.sig) → Buf (Elt Ideal) ℓ) (g : Dev Cert.StridedInIdeal.nD → PrngReg), Pre_StridedInIdeal m →
    θ_run (Cert.StridedInIdeal.defs (F := Ideal)) (onTc (τ := Cert.StridedInIdeal.τ) (Cert.StridedInIdeal.main (F := Ideal))) ⟨m, fun _ => 0, g⟩ (fun r => (∀ c : Dev Cert.StridedInIdeal.nD,
      r.2.mem ((c.tc : Thread Cert.StridedInIdeal.nD Cert.StridedInIdeal.τ).loc Cert.StridedInIdeal.main_arg0) = m ((c.tc : Thread Cert.StridedInIdeal.nD Cert.StridedInIdeal.τ).loc Cert.StridedInIdeal.main_arg0)
      ∧ r.2.mem ((c.tc : Thread Cert.StridedInIdeal.nD Cert.StridedInIdeal.τ).loc Cert.StridedInIdeal.main_arg1) = m ((c.tc : Thread Cert.StridedInIdeal.nD Cert.StridedInIdeal.τ).loc Cert.StridedInIdeal.main_arg1)
      ∧ r.2.mem ((c.tc : Thread Cert.StridedInIdeal.nD Cert.StridedInIdeal.τ).loc Cert.StridedInIdeal.main_arg2) = m ((c.tc : Thread Cert.StridedInIdeal.nD Cert.StridedInIdeal.τ).loc Cert.StridedInIdeal.main_arg2)
      ∧ r.2.mem ((c.tc : Thread Cert.StridedInIdeal.nD Cert.StridedInIdeal.τ).loc Cert.StridedInIdeal.main_arg3) = m ((c.tc : Thread Cert.StridedInIdeal.nD Cert.StridedInIdeal.τ).loc Cert.StridedInIdeal.main_arg3)
      ∧ r.2.mem ((c.tc : Thread Cert.StridedInIdeal.nD Cert.StridedInIdeal.τ).loc Cert.StridedInIdeal.main_arg4) = m ((c.tc : Thread Cert.StridedInIdeal.nD Cert.StridedInIdeal.τ).loc Cert.StridedInIdeal.main_arg4))
      ∧ r.2.sem = fun _ => 0)

def quiescent_StridedInRefIdeal [hStridedInRefIdeal : Cert.StridedInRefIdeal.Facts] : Prop :=
  ∀ (m : (ℓ : Loc Cert.StridedInRefIdeal.nD Cert.StridedInRefIdeal.τ Cert.StridedInRefIdeal.sig) → Buf (Elt Ideal) ℓ) (g : Dev Cert.StridedInRefIdeal.nD → PrngReg), Pre_StridedInRefIdeal m →
    θ_run (Cert.StridedInRefIdeal.defs (F := Ideal)) (onTc (τ := Cert.StridedInRefIdeal.τ) (Cert.StridedInRefIdeal.main (F := Ideal))) ⟨m, fun _ => 0, g⟩ (fun r => (∀ c : Dev Cert.StridedInRefIdeal.nD,
      r.2.mem ((c.tc : Thread Cert.StridedInRefIdeal.nD Cert.StridedInRefIdeal.τ).loc Cert.StridedInRefIdeal.main_arg0) = m ((c.tc : Thread Cert.StridedInRefIdeal.nD Cert.StridedInRefIdeal.τ).loc Cert.StridedInRefIdeal.main_arg0)
      ∧ r.2.mem ((c.tc : Thread Cert.StridedInRefIdeal.nD Cert.StridedInRefIdeal.τ).loc Cert.StridedInRefIdeal.main_arg1) = m ((c.tc : Thread Cert.StridedInRefIdeal.nD Cert.StridedInRefIdeal.τ).loc Cert.StridedInRefIdeal.main_arg1)
      ∧ r.2.mem ((c.tc : Thread Cert.StridedInRefIdeal.nD Cert.StridedInRefIdeal.τ).loc Cert.StridedInRefIdeal.main_arg2) = m ((c.tc : Thread Cert.StridedInRefIdeal.nD Cert.StridedInRefIdeal.τ).loc Cert.StridedInRefIdeal.main_arg2)
      ∧ r.2.mem ((c.tc : Thread Cert.StridedInRefIdeal.nD Cert.StridedInRefIdeal.τ).loc Cert.StridedInRefIdeal.main_arg3) = m ((c.tc : Thread Cert.StridedInRefIdeal.nD Cert.StridedInRefIdeal.τ).loc Cert.StridedInRefIdeal.main_arg3)
      ∧ r.2.mem ((c.tc : Thread Cert.StridedInRefIdeal.nD Cert.StridedInRefIdeal.τ).loc Cert.StridedInRefIdeal.main_arg4) = m ((c.tc : Thread Cert.StridedInRefIdeal.nD Cert.StridedInRefIdeal.τ).loc Cert.StridedInRefIdeal.main_arg4))
      ∧ r.2.sem = fun _ => 0)

def quiescent_DilOut [hDilOut : Cert.DilOut.Facts] : Prop :=
  ∀ (m : (ℓ : Loc Cert.DilOut.nD Cert.DilOut.τ Cert.DilOut.sig) → Buf (Elt Bits) ℓ) (g : Dev Cert.DilOut.nD → PrngReg), Pre_DilOut m →
    θ_run (Cert.DilOut.defs (F := Bits)) (onTc (τ := Cert.DilOut.τ) (Cert.DilOut.main (F := Bits))) ⟨m, fun _ => 0, g⟩ (fun r => (∀ c : Dev Cert.DilOut.nD,
      r.2.mem ((c.tc : Thread Cert.DilOut.nD Cert.DilOut.τ).loc Cert.DilOut.main_arg0) = m ((c.tc : Thread Cert.DilOut.nD Cert.DilOut.τ).loc Cert.DilOut.main_arg0)
      ∧ r.2.mem ((c.tc : Thread Cert.DilOut.nD Cert.DilOut.τ).loc Cert.DilOut.main_arg1) = m ((c.tc : Thread Cert.DilOut.nD Cert.DilOut.τ).loc Cert.DilOut.main_arg1)
      ∧ r.2.mem ((c.tc : Thread Cert.DilOut.nD Cert.DilOut.τ).loc Cert.DilOut.main_arg2) = m ((c.tc : Thread Cert.DilOut.nD Cert.DilOut.τ).loc Cert.DilOut.main_arg2)
      ∧ r.2.mem ((c.tc : Thread Cert.DilOut.nD Cert.DilOut.τ).loc Cert.DilOut.main_arg3) = m ((c.tc : Thread Cert.DilOut.nD Cert.DilOut.τ).loc Cert.DilOut.main_arg3)
      ∧ r.2.mem ((c.tc : Thread Cert.DilOut.nD Cert.DilOut.τ).loc Cert.DilOut.main_arg4) = m ((c.tc : Thread Cert.DilOut.nD Cert.DilOut.τ).loc Cert.DilOut.main_arg4)
      ∧ r.2.mem ((c.tc : Thread Cert.DilOut.nD Cert.DilOut.τ).loc Cert.DilOut.main_arg5) = m ((c.tc : Thread Cert.DilOut.nD Cert.DilOut.τ).loc Cert.DilOut.main_arg5)
      ∧ r.2.mem ((c.tc : Thread Cert.DilOut.nD Cert.DilOut.τ).loc Cert.DilOut.main_arg6) = m ((c.tc : Thread Cert.DilOut.nD Cert.DilOut.τ).loc Cert.DilOut.main_arg6)
      ∧ r.2.mem ((c.tc : Thread Cert.DilOut.nD Cert.DilOut.τ).loc Cert.DilOut.main_arg7) = m ((c.tc : Thread Cert.DilOut.nD Cert.DilOut.τ).loc Cert.DilOut.main_arg7)
      ∧ r.2.mem ((c.tc : Thread Cert.DilOut.nD Cert.DilOut.τ).loc Cert.DilOut.main_arg8) = m ((c.tc : Thread Cert.DilOut.nD Cert.DilOut.τ).loc Cert.DilOut.main_arg8))
      ∧ r.2.sem = fun _ => 0)

def quiescent_DilOutIdeal [hDilOutIdeal : Cert.DilOutIdeal.Facts] : Prop :=
  ∀ (m : (ℓ : Loc Cert.DilOutIdeal.nD Cert.DilOutIdeal.τ Cert.DilOutIdeal.sig) → Buf (Elt Ideal) ℓ) (g : Dev Cert.DilOutIdeal.nD → PrngReg), Pre_DilOutIdeal m →
    θ_run (Cert.DilOutIdeal.defs (F := Ideal)) (onTc (τ := Cert.DilOutIdeal.τ) (Cert.DilOutIdeal.main (F := Ideal))) ⟨m, fun _ => 0, g⟩ (fun r => (∀ c : Dev Cert.DilOutIdeal.nD,
      r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
      ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1)
      ∧ r.2.mem ((c.tc : Thread Cert.DilOutIdeal.nD Cert.DilOutIdeal.τ).loc Cert.DilOutIdeal.main_arg2) = m ((c.tc : Thread Cert.DilOutIdeal.nD Cert.DilOutIdeal.τ).loc Cert.DilOutIdeal.main_arg2)
      ∧ r.2.mem ((c.tc : Thread Cert.DilOutIdeal.nD Cert.DilOutIdeal.τ).loc Cert.DilOutIdeal.main_arg3) = m ((c.tc : Thread Cert.DilOutIdeal.nD Cert.DilOutIdeal.τ).loc Cert.DilOutIdeal.main_arg3)
      ∧ r.2.mem ((c.tc : Thread Cert.DilOutIdeal.nD Cert.DilOutIdeal.τ).loc Cert.DilOutIdeal.main_arg4) = m ((c.tc : Thread Cert.DilOutIdeal.nD Cert.DilOutIdeal.τ).loc Cert.DilOutIdeal.main_arg4)
      ∧ r.2.mem ((c.tc : Thread Cert.DilOutIdeal.nD Cert.DilOutIdeal.τ).loc Cert.DilOutIdeal.main_arg5) = m ((c.tc : Thread Cert.DilOutIdeal.nD Cert.DilOutIdeal.τ).loc Cert.DilOutIdeal.main_arg5)
      ∧ r.2.mem ((c.tc : Thread Cert.DilOutIdeal.nD Cert.DilOutIdeal.τ).loc Cert.DilOutIdeal.main_arg6) = m ((c.tc : Thread Cert.DilOutIdeal.nD Cert.DilOutIdeal.τ).loc Cert.DilOutIdeal.main_arg6)
      ∧ r.2.mem ((c.tc : Thread Cert.DilOutIdeal.nD Cert.DilOutIdeal.τ).loc Cert.DilOutIdeal.main_arg7) = m ((c.tc : Thread Cert.DilOutIdeal.nD Cert.DilOutIdeal.τ).loc Cert.DilOutIdeal.main_arg7)
      ∧ r.2.mem ((c.tc : Thread Cert.DilOutIdeal.nD Cert.DilOutIdeal.τ).loc Cert.DilOutIdeal.main_arg8) = m ((c.tc : Thread Cert.DilOutIdeal.nD Cert.DilOutIdeal.τ).loc Cert.DilOutIdeal.main_arg8))
      ∧ r.2.sem = fun _ => 0)

def quiescent_DilOutRefIdeal [hDilOutRefIdeal : Cert.DilOutRefIdeal.Facts] : Prop :=
  ∀ (m : (ℓ : Loc Cert.DilOutRefIdeal.nD Cert.DilOutRefIdeal.τ Cert.DilOutRefIdeal.sig) → Buf (Elt Ideal) ℓ) (g : Dev Cert.DilOutRefIdeal.nD → PrngReg), Pre_DilOutRefIdeal m →
    θ_run (Cert.DilOutRefIdeal.defs (F := Ideal)) (onTc (τ := Cert.DilOutRefIdeal.τ) (Cert.DilOutRefIdeal.main (F := Ideal))) ⟨m, fun _ => 0, g⟩ (fun r => (∀ c : Dev Cert.DilOutRefIdeal.nD,
      r.2.mem ((c.tc : Thread Cert.DilOutRefIdeal.nD Cert.DilOutRefIdeal.τ).loc Cert.DilOutRefIdeal.main_arg0) = m ((c.tc : Thread Cert.DilOutRefIdeal.nD Cert.DilOutRefIdeal.τ).loc Cert.DilOutRefIdeal.main_arg0)
      ∧ r.2.mem ((c.tc : Thread Cert.DilOutRefIdeal.nD Cert.DilOutRefIdeal.τ).loc Cert.DilOutRefIdeal.main_arg1) = m ((c.tc : Thread Cert.DilOutRefIdeal.nD Cert.DilOutRefIdeal.τ).loc Cert.DilOutRefIdeal.main_arg1)
      ∧ r.2.mem ((c.tc : Thread Cert.DilOutRefIdeal.nD Cert.DilOutRefIdeal.τ).loc Cert.DilOutRefIdeal.main_arg2) = m ((c.tc : Thread Cert.DilOutRefIdeal.nD Cert.DilOutRefIdeal.τ).loc Cert.DilOutRefIdeal.main_arg2)
      ∧ r.2.mem ((c.tc : Thread Cert.DilOutRefIdeal.nD Cert.DilOutRefIdeal.τ).loc Cert.DilOutRefIdeal.main_arg3) = m ((c.tc : Thread Cert.DilOutRefIdeal.nD Cert.DilOutRefIdeal.τ).loc Cert.DilOutRefIdeal.main_arg3)
      ∧ r.2.mem ((c.tc : Thread Cert.DilOutRefIdeal.nD Cert.DilOutRefIdeal.τ).loc Cert.DilOutRefIdeal.main_arg4) = m ((c.tc : Thread Cert.DilOutRefIdeal.nD Cert.DilOutRefIdeal.τ).loc Cert.DilOutRefIdeal.main_arg4)
      ∧ r.2.mem ((c.tc : Thread Cert.DilOutRefIdeal.nD Cert.DilOutRefIdeal.τ).loc Cert.DilOutRefIdeal.main_arg5) = m ((c.tc : Thread Cert.DilOutRefIdeal.nD Cert.DilOutRefIdeal.τ).loc Cert.DilOutRefIdeal.main_arg5)
      ∧ r.2.mem ((c.tc : Thread Cert.DilOutRefIdeal.nD Cert.DilOutRefIdeal.τ).loc Cert.DilOutRefIdeal.main_arg6) = m ((c.tc : Thread Cert.DilOutRefIdeal.nD Cert.DilOutRefIdeal.τ).loc Cert.DilOutRefIdeal.main_arg6)
      ∧ r.2.mem ((c.tc : Thread Cert.DilOutRefIdeal.nD Cert.DilOutRefIdeal.τ).loc Cert.DilOutRefIdeal.main_arg7) = m ((c.tc : Thread Cert.DilOutRefIdeal.nD Cert.DilOutRefIdeal.τ).loc Cert.DilOutRefIdeal.main_arg7)
      ∧ r.2.mem ((c.tc : Thread Cert.DilOutRefIdeal.nD Cert.DilOutRefIdeal.τ).loc Cert.DilOutRefIdeal.main_arg8) = m ((c.tc : Thread Cert.DilOutRefIdeal.nD Cert.DilOutRefIdeal.τ).loc Cert.DilOutRefIdeal.main_arg8))
      ∧ r.2.sem = fun _ => 0)

def quiescent_WideIn [hWideIn : Cert.WideIn.Facts] : Prop :=
  ∀ (m : (ℓ : Loc Cert.WideIn.nD Cert.WideIn.τ Cert.WideIn.sig) → Buf (Elt Bits) ℓ) (g : Dev Cert.WideIn.nD → PrngReg), Pre_WideIn m →
    θ_run (Cert.WideIn.defs (F := Bits)) (onTc (τ := Cert.WideIn.τ) (Cert.WideIn.main (F := Bits))) ⟨m, fun _ => 0, g⟩ (fun r => (∀ c : Dev Cert.WideIn.nD,
      r.2.mem ((c.tc : Thread Cert.WideIn.nD Cert.WideIn.τ).loc Cert.WideIn.main_arg0) = m ((c.tc : Thread Cert.WideIn.nD Cert.WideIn.τ).loc Cert.WideIn.main_arg0)
      ∧ r.2.mem ((c.tc : Thread Cert.WideIn.nD Cert.WideIn.τ).loc Cert.WideIn.main_arg1) = m ((c.tc : Thread Cert.WideIn.nD Cert.WideIn.τ).loc Cert.WideIn.main_arg1)
      ∧ r.2.mem ((c.tc : Thread Cert.WideIn.nD Cert.WideIn.τ).loc Cert.WideIn.main_arg2) = m ((c.tc : Thread Cert.WideIn.nD Cert.WideIn.τ).loc Cert.WideIn.main_arg2)
      ∧ r.2.mem ((c.tc : Thread Cert.WideIn.nD Cert.WideIn.τ).loc Cert.WideIn.main_arg3) = m ((c.tc : Thread Cert.WideIn.nD Cert.WideIn.τ).loc Cert.WideIn.main_arg3)
      ∧ r.2.mem ((c.tc : Thread Cert.WideIn.nD Cert.WideIn.τ).loc Cert.WideIn.main_arg4) = m ((c.tc : Thread Cert.WideIn.nD Cert.WideIn.τ).loc Cert.WideIn.main_arg4))
      ∧ r.2.sem = fun _ => 0)

def quiescent_WideInIdeal [hWideInIdeal : Cert.WideInIdeal.Facts] : Prop :=
  ∀ (m : (ℓ : Loc Cert.WideInIdeal.nD Cert.WideInIdeal.τ Cert.WideInIdeal.sig) → Buf (Elt Ideal) ℓ) (g : Dev Cert.WideInIdeal.nD → PrngReg), Pre_WideInIdeal m →
    θ_run (Cert.WideInIdeal.defs (F := Ideal)) (onTc (τ := Cert.WideInIdeal.τ) (Cert.WideInIdeal.main (F := Ideal))) ⟨m, fun _ => 0, g⟩ (fun r => (∀ c : Dev Cert.WideInIdeal.nD,
      r.2.mem ((c.tc : Thread Cert.WideInIdeal.nD Cert.WideInIdeal.τ).loc Cert.WideInIdeal.main_arg0) = m ((c.tc : Thread Cert.WideInIdeal.nD Cert.WideInIdeal.τ).loc Cert.WideInIdeal.main_arg0)
      ∧ r.2.mem ((c.tc : Thread Cert.WideInIdeal.nD Cert.WideInIdeal.τ).loc Cert.WideInIdeal.main_arg1) = m ((c.tc : Thread Cert.WideInIdeal.nD Cert.WideInIdeal.τ).loc Cert.WideInIdeal.main_arg1)
      ∧ r.2.mem ((c.tc : Thread Cert.WideInIdeal.nD Cert.WideInIdeal.τ).loc Cert.WideInIdeal.main_arg2) = m ((c.tc : Thread Cert.WideInIdeal.nD Cert.WideInIdeal.τ).loc Cert.WideInIdeal.main_arg2)
      ∧ r.2.mem ((c.tc : Thread Cert.WideInIdeal.nD Cert.WideInIdeal.τ).loc Cert.WideInIdeal.main_arg3) = m ((c.tc : Thread Cert.WideInIdeal.nD Cert.WideInIdeal.τ).loc Cert.WideInIdeal.main_arg3)
      ∧ r.2.mem ((c.tc : Thread Cert.WideInIdeal.nD Cert.WideInIdeal.τ).loc Cert.WideInIdeal.main_arg4) = m ((c.tc : Thread Cert.WideInIdeal.nD Cert.WideInIdeal.τ).loc Cert.WideInIdeal.main_arg4))
      ∧ r.2.sem = fun _ => 0)

def quiescent_WideInRefIdeal [hWideInRefIdeal : Cert.WideInRefIdeal.Facts] : Prop :=
  ∀ (m : (ℓ : Loc Cert.WideInRefIdeal.nD Cert.WideInRefIdeal.τ Cert.WideInRefIdeal.sig) → Buf (Elt Ideal) ℓ) (g : Dev Cert.WideInRefIdeal.nD → PrngReg), Pre_WideInRefIdeal m →
    θ_run (Cert.WideInRefIdeal.defs (F := Ideal)) (onTc (τ := Cert.WideInRefIdeal.τ) (Cert.WideInRefIdeal.main (F := Ideal))) ⟨m, fun _ => 0, g⟩ (fun r => (∀ c : Dev Cert.WideInRefIdeal.nD,
      r.2.mem ((c.tc : Thread Cert.WideInRefIdeal.nD Cert.WideInRefIdeal.τ).loc Cert.WideInRefIdeal.main_arg0) = m ((c.tc : Thread Cert.WideInRefIdeal.nD Cert.WideInRefIdeal.τ).loc Cert.WideInRefIdeal.main_arg0)
      ∧ r.2.mem ((c.tc : Thread Cert.WideInRefIdeal.nD Cert.WideInRefIdeal.τ).loc Cert.WideInRefIdeal.main_arg1) = m ((c.tc : Thread Cert.WideInRefIdeal.nD Cert.WideInRefIdeal.τ).loc Cert.WideInRefIdeal.main_arg1)
      ∧ r.2.mem ((c.tc : Thread Cert.WideInRefIdeal.nD Cert.WideInRefIdeal.τ).loc Cert.WideInRefIdeal.main_arg2) = m ((c.tc : Thread Cert.WideInRefIdeal.nD Cert.WideInRefIdeal.τ).loc Cert.WideInRefIdeal.main_arg2)
      ∧ r.2.mem ((c.tc : Thread Cert.WideInRefIdeal.nD Cert.WideInRefIdeal.τ).loc Cert.WideInRefIdeal.main_arg3) = m ((c.tc : Thread Cert.WideInRefIdeal.nD Cert.WideInRefIdeal.τ).loc Cert.WideInRefIdeal.main_arg3)
      ∧ r.2.mem ((c.tc : Thread Cert.WideInRefIdeal.nD Cert.WideInRefIdeal.τ).loc Cert.WideInRefIdeal.main_arg4) = m ((c.tc : Thread Cert.WideInRefIdeal.nD Cert.WideInRefIdeal.τ).loc Cert.WideInRefIdeal.main_arg4))
      ∧ r.2.sem = fun _ => 0)

def bitexact_Experts_ExpertsRef [hExperts : Cert.Experts.Facts] [hExpertsRef : Cert.ExpertsRef.Facts] [hPre_block_tables : Cert.Pre_block_tables.Facts] : Prop :=
  ∀ (m : (ℓ : Loc Cert.Experts.nD Cert.Experts.τ Cert.Experts.sig) → Buf (Elt Bits) ℓ) (g : Dev Cert.Experts.nD → PrngReg)
    (m' : (ℓ : Loc Cert.ExpertsRef.nD Cert.ExpertsRef.τ Cert.ExpertsRef.sig) → Buf (Elt Bits) ℓ) (g' : Dev Cert.ExpertsRef.nD → PrngReg), Pre_Experts m →
    (∀ c : Dev Cert.Experts.nD,
      m' ((c.tc : Thread Cert.ExpertsRef.nD Cert.ExpertsRef.τ).loc Cert.ExpertsRef.main_arg0) = m ((c.tc : Thread Cert.Experts.nD Cert.Experts.τ).loc Cert.Experts.main_arg0)
      ∧ m' ((c.tc : Thread Cert.ExpertsRef.nD Cert.ExpertsRef.τ).loc Cert.ExpertsRef.main_arg1) = m ((c.tc : Thread Cert.Experts.nD Cert.Experts.τ).loc Cert.Experts.main_arg1)
      ∧ m' ((c.tc : Thread Cert.ExpertsRef.nD Cert.ExpertsRef.τ).loc Cert.ExpertsRef.main_arg2) = m ((c.tc : Thread Cert.Experts.nD Cert.Experts.τ).loc Cert.Experts.main_arg2)
      ∧ m' ((c.tc : Thread Cert.ExpertsRef.nD Cert.ExpertsRef.τ).loc Cert.ExpertsRef.main_arg3) = m ((c.tc : Thread Cert.Experts.nD Cert.Experts.τ).loc Cert.Experts.main_arg3)
      ∧ m' ((c.tc : Thread Cert.ExpertsRef.nD Cert.ExpertsRef.τ).loc Cert.ExpertsRef.main_arg4) = m ((c.tc : Thread Cert.Experts.nD Cert.Experts.τ).loc Cert.Experts.main_arg4)
      ∧ m' ((c.tc : Thread Cert.ExpertsRef.nD Cert.ExpertsRef.τ).loc Cert.ExpertsRef.main_arg5) = m ((c.tc : Thread Cert.Experts.nD Cert.Experts.τ).loc Cert.Experts.main_arg5)) →
    ∃ (v0 : (c : Dev Cert.Experts.nD) → Buf (Elt Bits) ((c.tc : Thread Cert.Experts.nD Cert.Experts.τ).loc Cert.Experts.main_v12)),
      θ_run (Cert.Experts.defs (F := Bits)) (onTc (τ := Cert.Experts.τ) (Cert.Experts.main (F := Bits))) ⟨m, fun _ => 0, g⟩ (fun r => ∀ c : Dev Cert.Experts.nD,
          r.2.mem ((c.tc : Thread Cert.Experts.nD Cert.Experts.τ).loc Cert.Experts.main_v12) = v0 c
          ∧ r.2.mem ((c.tc : Thread Cert.Experts.nD Cert.Experts.τ).loc Cert.Experts.main_arg0) = m ((c.tc : Thread Cert.Experts.nD Cert.Experts.τ).loc Cert.Experts.main_arg0)
          ∧ r.2.mem ((c.tc : Thread Cert.Experts.nD Cert.Experts.τ).loc Cert.Experts.main_arg1) = m ((c.tc : Thread Cert.Experts.nD Cert.Experts.τ).loc Cert.Experts.main_arg1)
          ∧ r.2.mem ((c.tc : Thread Cert.Experts.nD Cert.Experts.τ).loc Cert.Experts.main_arg2) = m ((c.tc : Thread Cert.Experts.nD Cert.Experts.τ).loc Cert.Experts.main_arg2)
          ∧ r.2.mem ((c.tc : Thread Cert.Experts.nD Cert.Experts.τ).loc Cert.Experts.main_arg3) = m ((c.tc : Thread Cert.Experts.nD Cert.Experts.τ).loc Cert.Experts.main_arg3)
          ∧ r.2.mem ((c.tc : Thread Cert.Experts.nD Cert.Experts.τ).loc Cert.Experts.main_arg4) = m ((c.tc : Thread Cert.Experts.nD Cert.Experts.τ).loc Cert.Experts.main_arg4)
          ∧ r.2.mem ((c.tc : Thread Cert.Experts.nD Cert.Experts.τ).loc Cert.Experts.main_arg5) = m ((c.tc : Thread Cert.Experts.nD Cert.Experts.τ).loc Cert.Experts.main_arg5))
      ∧ θ_run (Cert.ExpertsRef.defs (F := Bits)) (onTc (τ := Cert.ExpertsRef.τ) (Cert.ExpertsRef.main (F := Bits))) ⟨m', fun _ => 0, g'⟩ (fun r => ∀ c : Dev Cert.ExpertsRef.nD,
          r.2.mem ((c.tc : Thread Cert.ExpertsRef.nD Cert.ExpertsRef.τ).loc Cert.ExpertsRef.main_v0) = v0 c
          ∧ r.2.mem ((c.tc : Thread Cert.ExpertsRef.nD Cert.ExpertsRef.τ).loc Cert.ExpertsRef.main_arg0) = m' ((c.tc : Thread Cert.ExpertsRef.nD Cert.ExpertsRef.τ).loc Cert.ExpertsRef.main_arg0)
          ∧ r.2.mem ((c.tc : Thread Cert.ExpertsRef.nD Cert.ExpertsRef.τ).loc Cert.ExpertsRef.main_arg1) = m' ((c.tc : Thread Cert.ExpertsRef.nD Cert.ExpertsRef.τ).loc Cert.ExpertsRef.main_arg1)
          ∧ r.2.mem ((c.tc : Thread Cert.ExpertsRef.nD Cert.ExpertsRef.τ).loc Cert.ExpertsRef.main_arg2) = m' ((c.tc : Thread Cert.ExpertsRef.nD Cert.ExpertsRef.τ).loc Cert.ExpertsRef.main_arg2)
          ∧ r.2.mem ((c.tc : Thread Cert.ExpertsRef.nD Cert.ExpertsRef.τ).loc Cert.ExpertsRef.main_arg3) = m' ((c.tc : Thread Cert.ExpertsRef.nD Cert.ExpertsRef.τ).loc Cert.ExpertsRef.main_arg3)
          ∧ r.2.mem ((c.tc : Thread Cert.ExpertsRef.nD Cert.ExpertsRef.τ).loc Cert.ExpertsRef.main_arg4) = m' ((c.tc : Thread Cert.ExpertsRef.nD Cert.ExpertsRef.τ).loc Cert.ExpertsRef.main_arg4)
          ∧ r.2.mem ((c.tc : Thread Cert.ExpertsRef.nD Cert.ExpertsRef.τ).loc Cert.ExpertsRef.main_arg5) = m' ((c.tc : Thread Cert.ExpertsRef.nD Cert.ExpertsRef.τ).loc Cert.ExpertsRef.main_arg5))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v39) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v52) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_SbIn_SbInIdeal : Prop :=
  True

def algebraic_SbInIdeal_SbInRefIdeal [hSbInIdeal : Cert.SbInIdeal.Facts] [hSbInRefIdeal : Cert.SbInRefIdeal.Facts] : Prop :=
  ∀ (m : (ℓ : Loc Cert.SbInIdeal.nD Cert.SbInIdeal.τ Cert.SbInIdeal.sig) → Buf (Elt Ideal) ℓ) (g : Dev Cert.SbInIdeal.nD → PrngReg)
    (m' : (ℓ : Loc Cert.SbInRefIdeal.nD Cert.SbInRefIdeal.τ Cert.SbInRefIdeal.sig) → Buf (Elt Ideal) ℓ) (g' : Dev Cert.SbInRefIdeal.nD → PrngReg), Pre_SbInIdeal m →
    (∀ c : Dev Cert.SbInIdeal.nD,
      m' ((c.tc : Thread Cert.SbInRefIdeal.nD Cert.SbInRefIdeal.τ).loc Cert.SbInRefIdeal.main_arg0) = m ((c.tc : Thread Cert.SbInIdeal.nD Cert.SbInIdeal.τ).loc Cert.SbInIdeal.main_arg0)
      ∧ m' ((c.tc : Thread Cert.SbInRefIdeal.nD Cert.SbInRefIdeal.τ).loc Cert.SbInRefIdeal.main_arg1) = m ((c.tc : Thread Cert.SbInIdeal.nD Cert.SbInIdeal.τ).loc Cert.SbInIdeal.main_arg1)
      ∧ m' ((c.tc : Thread Cert.SbInRefIdeal.nD Cert.SbInRefIdeal.τ).loc Cert.SbInRefIdeal.main_arg2) = m ((c.tc : Thread Cert.SbInIdeal.nD Cert.SbInIdeal.τ).loc Cert.SbInIdeal.main_arg2)
      ∧ m' ((c.tc : Thread Cert.SbInRefIdeal.nD Cert.SbInRefIdeal.τ).loc Cert.SbInRefIdeal.main_arg3) = m ((c.tc : Thread Cert.SbInIdeal.nD Cert.SbInIdeal.τ).loc Cert.SbInIdeal.main_arg3)
      ∧ m' ((c.tc : Thread Cert.SbInRefIdeal.nD Cert.SbInRefIdeal.τ).loc Cert.SbInRefIdeal.main_arg4) = m ((c.tc : Thread Cert.SbInIdeal.nD Cert.SbInIdeal.τ).loc Cert.SbInIdeal.main_arg4)) →
    ∃ (v0 : (c : Dev Cert.SbInIdeal.nD) → Buf (Elt Ideal) ((c.tc : Thread Cert.SbInIdeal.nD Cert.SbInIdeal.τ).loc Cert.SbInIdeal.main_v1)),
      θ_run (Cert.SbInIdeal.defs (F := Ideal)) (onTc (τ := Cert.SbInIdeal.τ) (Cert.SbInIdeal.main (F := Ideal))) ⟨m, fun _ => 0, g⟩ (fun r => ∀ c : Dev Cert.SbInIdeal.nD,
          r.2.mem ((c.tc : Thread Cert.SbInIdeal.nD Cert.SbInIdeal.τ).loc Cert.SbInIdeal.main_v1) = v0 c
          ∧ r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
          ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1)
          ∧ r.2.mem ((c.tc : Thread Cert.SbInIdeal.nD Cert.SbInIdeal.τ).loc Cert.SbInIdeal.main_arg2) = m ((c.tc : Thread Cert.SbInIdeal.nD Cert.SbInIdeal.τ).loc Cert.SbInIdeal.main_arg2)
          ∧ r.2.mem ((c.tc : Thread Cert.SbInIdeal.nD Cert.SbInIdeal.τ).loc Cert.SbInIdeal.main_arg3) = m ((c.tc : Thread Cert.SbInIdeal.nD Cert.SbInIdeal.τ).loc Cert.SbInIdeal.main_arg3)
          ∧ r.2.mem ((c.tc : Thread Cert.SbInIdeal.nD Cert.SbInIdeal.τ).loc Cert.SbInIdeal.main_arg4) = m ((c.tc : Thread Cert.SbInIdeal.nD Cert.SbInIdeal.τ).loc Cert.SbInIdeal.main_arg4))
      ∧ θ_run (Cert.SbInRefIdeal.defs (F := Ideal)) (onTc (τ := Cert.SbInRefIdeal.τ) (Cert.SbInRefIdeal.main (F := Ideal))) ⟨m', fun _ => 0, g'⟩ (fun r => ∀ c : Dev Cert.SbInRefIdeal.nD,
          r.2.mem ((c.tc : Thread Cert.SbInRefIdeal.nD Cert.SbInRefIdeal.τ).loc Cert.SbInRefIdeal.main_v20) = v0 c
          ∧ r.2.mem ((c.tc : Thread Cert.SbInRefIdeal.nD Cert.SbInRefIdeal.τ).loc Cert.SbInRefIdeal.main_arg0) = m' ((c.tc : Thread Cert.SbInRefIdeal.nD Cert.SbInRefIdeal.τ).loc Cert.SbInRefIdeal.main_arg0)
          ∧ r.2.mem ((c.tc : Thread Cert.SbInRefIdeal.nD Cert.SbInRefIdeal.τ).loc Cert.SbInRefIdeal.main_arg1) = m' ((c.tc : Thread Cert.SbInRefIdeal.nD Cert.SbInRefIdeal.τ).loc Cert.SbInRefIdeal.main_arg1)
          ∧ r.2.mem ((c.tc : Thread Cert.SbInRefIdeal.nD Cert.SbInRefIdeal.τ).loc Cert.SbInRefIdeal.main_arg2) = m' ((c.tc : Thread Cert.SbInRefIdeal.nD Cert.SbInRefIdeal.τ).loc Cert.SbInRefIdeal.main_arg2)
          ∧ r.2.mem ((c.tc : Thread Cert.SbInRefIdeal.nD Cert.SbInRefIdeal.τ).loc Cert.SbInRefIdeal.main_arg3) = m' ((c.tc : Thread Cert.SbInRefIdeal.nD Cert.SbInRefIdeal.τ).loc Cert.SbInRefIdeal.main_arg3)
          ∧ r.2.mem ((c.tc : Thread Cert.SbInRefIdeal.nD Cert.SbInRefIdeal.τ).loc Cert.SbInRefIdeal.main_arg4) = m' ((c.tc : Thread Cert.SbInRefIdeal.nD Cert.SbInRefIdeal.τ).loc Cert.SbInRefIdeal.main_arg4))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)
      ∧ m' ((c.tc : Thread Cert.GlaInRefIdeal.nD Cert.GlaInRefIdeal.τ).loc Cert.GlaInRefIdeal.main_arg2) = m ((c.tc : Thread Cert.GlaInIdeal.nD Cert.GlaInIdeal.τ).loc Cert.GlaInIdeal.main_arg2)
      ∧ m' ((c.tc : Thread Cert.GlaInRefIdeal.nD Cert.GlaInRefIdeal.τ).loc Cert.GlaInRefIdeal.main_arg3) = m ((c.tc : Thread Cert.GlaInIdeal.nD Cert.GlaInIdeal.τ).loc Cert.GlaInIdeal.main_arg3)
      ∧ m' ((c.tc : Thread Cert.GlaInRefIdeal.nD Cert.GlaInRefIdeal.τ).loc Cert.GlaInRefIdeal.main_arg4) = m ((c.tc : Thread Cert.GlaInIdeal.nD Cert.GlaInIdeal.τ).loc Cert.GlaInIdeal.main_arg4)) →
    ∃ (v0 : (c : Dev Cert.GlaInIdeal.nD) → Buf (Elt Ideal) ((c.tc : Thread Cert.GlaInIdeal.nD Cert.GlaInIdeal.τ).loc Cert.GlaInIdeal.main_v2)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v2) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
          ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
          ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v21) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1)
          ∧ r.2.mem ((c.tc : Thread Cert.GlaInRefIdeal.nD Cert.GlaInRefIdeal.τ).loc Cert.GlaInRefIdeal.main_arg2) = m' ((c.tc : Thread Cert.GlaInRefIdeal.nD Cert.GlaInRefIdeal.τ).loc Cert.GlaInRefIdeal.main_arg2)
          ∧ r.2.mem ((c.tc : Thread Cert.GlaInRefIdeal.nD Cert.GlaInRefIdeal.τ).loc Cert.GlaInRefIdeal.main_arg3) = m' ((c.tc : Thread Cert.GlaInRefIdeal.nD Cert.GlaInRefIdeal.τ).loc Cert.GlaInRefIdeal.main_arg3)
          ∧ r.2.mem ((c.tc : Thread Cert.GlaInRefIdeal.nD Cert.GlaInRefIdeal.τ).loc Cert.GlaInRefIdeal.main_arg4) = m' ((c.tc : Thread Cert.GlaInRefIdeal.nD Cert.GlaInRefIdeal.τ).loc Cert.GlaInRefIdeal.main_arg4))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)) →
    ∃ (v0 : (c : Dev Cert.MixerOutIdeal.nD) → Buf (Elt Ideal) ((c.tc : Thread Cert.MixerOutIdeal.nD Cert.MixerOutIdeal.τ).loc Cert.MixerOutIdeal.main_v0)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v0) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v4) = v0 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3))

def preserves_DilIn_DilInIdeal : Prop :=
  True

def algebraic_DilInIdeal_DilInRefIdeal [hDilInIdeal : Cert.DilInIdeal.Facts] [hDilInRefIdeal : Cert.DilInRefIdeal.Facts] : Prop :=
  ∀ (m : (ℓ : Loc Cert.DilInIdeal.nD Cert.DilInIdeal.τ Cert.DilInIdeal.sig) → Buf (Elt Ideal) ℓ) (g : Dev Cert.DilInIdeal.nD → PrngReg)
    (m' : (ℓ : Loc Cert.DilInRefIdeal.nD Cert.DilInRefIdeal.τ Cert.DilInRefIdeal.sig) → Buf (Elt Ideal) ℓ) (g' : Dev Cert.DilInRefIdeal.nD → PrngReg), Pre_DilInIdeal m →
    (∀ c : Dev Cert.DilInIdeal.nD,
      m' ((c.tc : Thread Cert.DilInRefIdeal.nD Cert.DilInRefIdeal.τ).loc Cert.DilInRefIdeal.main_arg0) = m ((c.tc : Thread Cert.DilInIdeal.nD Cert.DilInIdeal.τ).loc Cert.DilInIdeal.main_arg0)
      ∧ m' ((c.tc : Thread Cert.DilInRefIdeal.nD Cert.DilInRefIdeal.τ).loc Cert.DilInRefIdeal.main_arg1) = m ((c.tc : Thread Cert.DilInIdeal.nD Cert.DilInIdeal.τ).loc Cert.DilInIdeal.main_arg1)
      ∧ m' ((c.tc : Thread Cert.DilInRefIdeal.nD Cert.DilInRefIdeal.τ).loc Cert.DilInRefIdeal.main_arg2) = m ((c.tc : Thread Cert.DilInIdeal.nD Cert.DilInIdeal.τ).loc Cert.DilInIdeal.main_arg2)
      ∧ m' ((c.tc : Thread Cert.DilInRefIdeal.nD Cert.DilInRefIdeal.τ).loc Cert.DilInRefIdeal.main_arg3) = m ((c.tc : Thread Cert.DilInIdeal.nD Cert.DilInIdeal.τ).loc Cert.DilInIdeal.main_arg3)
      ∧ m' ((c.tc : Thread Cert.DilInRefIdeal.nD Cert.DilInRefIdeal.τ).loc Cert.DilInRefIdeal.main_arg4) = m ((c.tc : Thread Cert.DilInIdeal.nD Cert.DilInIdeal.τ).loc Cert.DilInIdeal.main_arg4)) →
    ∃ (v0 : (c : Dev Cert.DilInIdeal.nD) → Buf (Elt Ideal) ((c.tc : Thread Cert.DilInIdeal.nD Cert.DilInIdeal.τ).loc Cert.DilInIdeal.main_v2)),
      θ_run (Cert.DilInIdeal.defs (F := Ideal)) (onTc (τ := Cert.DilInIdeal.τ) (Cert.DilInIdeal.main (F := Ideal))) ⟨m, fun _ => 0, g⟩ (fun r => ∀ c : Dev Cert.DilInIdeal.nD,
          r.2.mem ((c.tc : Thread Cert.DilInIdeal.nD Cert.DilInIdeal.τ).loc Cert.DilInIdeal.main_v2) = v0 c
          ∧ r.2.mem ((c.tc : Thread Cert.DilInIdeal.nD Cert.DilInIdeal.τ).loc Cert.DilInIdeal.main_arg0) = m ((c.tc : Thread Cert.DilInIdeal.nD Cert.DilInIdeal.τ).loc Cert.DilInIdeal.main_arg0)
          ∧ r.2.mem ((c.tc : Thread Cert.DilInIdeal.nD Cert.DilInIdeal.τ).loc Cert.DilInIdeal.main_arg1) = m ((c.tc : Thread Cert.DilInIdeal.nD Cert.DilInIdeal.τ).loc Cert.DilInIdeal.main_arg1)
          ∧ r.2.mem ((c.tc : Thread Cert.DilInIdeal.nD Cert.DilInIdeal.τ).loc Cert.DilInIdeal.main_arg2) = m ((c.tc : Thread Cert.DilInIdeal.nD Cert.DilInIdeal.τ).loc Cert.DilInIdeal.main_arg2)
          ∧ r.2.mem ((c.tc : Thread Cert.DilInIdeal.nD Cert.DilInIdeal.τ).loc Cert.DilInIdeal.main_arg3) = m ((c.tc : Thread Cert.DilInIdeal.nD Cert.DilInIdeal.τ).loc Cert.DilInIdeal.main_arg3)
          ∧ r.2.mem ((c.tc : Thread Cert.DilInIdeal.nD Cert.DilInIdeal.τ).loc Cert.DilInIdeal.main_arg4) = m ((c.tc : Thread Cert.DilInIdeal.nD Cert.DilInIdeal.τ).loc Cert.DilInIdeal.main_arg4))
      ∧ θ_run (Cert.DilInRefIdeal.defs (F := Ideal)) (onTc (τ := Cert.DilInRefIdeal.τ) (Cert.DilInRefIdeal.main (F := Ideal))) ⟨m', fun _ => 0, g'⟩ (fun r => ∀ c : Dev Cert.DilInRefIdeal.nD,
          r.2.mem ((c.tc : Thread Cert.DilInRefIdeal.nD Cert.DilInRefIdeal.τ).loc Cert.DilInRefIdeal.main_v21) = v0 c
          ∧ r.2.mem ((c.tc : Thread Cert.DilInRefIdeal.nD Cert.DilInRefIdeal.τ).loc Cert.DilInRefIdeal.main_arg0) = m' ((c.tc : Thread Cert.DilInRefIdeal.nD Cert.DilInRefIdeal.τ).loc Cert.DilInRefIdeal.main_arg0)
          ∧ r.2.mem ((c.tc : Thread Cert.DilInRefIdeal.nD Cert.DilInRefIdeal.τ).loc Cert.DilInRefIdeal.main_arg1) = m' ((c.tc : Thread Cert.DilInRefIdeal.nD Cert.DilInRefIdeal.τ).loc Cert.DilInRefIdeal.main_arg1)
          ∧ r.2.mem ((c.tc : Thread Cert.DilInRefIdeal.nD Cert.DilInRefIdeal.τ).loc Cert.DilInRefIdeal.main_arg2) = m' ((c.tc : Thread Cert.DilInRefIdeal.nD Cert.DilInRefIdeal.τ).loc Cert.DilInRefIdeal.main_arg2)
          ∧ r.2.mem ((c.tc : Thread Cert.DilInRefIdeal.nD Cert.DilInRefIdeal.τ).loc Cert.DilInRefIdeal.main_arg3) = m' ((c.tc : Thread Cert.DilInRefIdeal.nD Cert.DilInRefIdeal.τ).loc Cert.DilInRefIdeal.main_arg3)
          ∧ r.2.mem ((c.tc : Thread Cert.DilInRefIdeal.nD Cert.DilInRefIdeal.τ).loc Cert.DilInRefIdeal.main_arg4) = m' ((c.tc : Thread Cert.DilInRefIdeal.nD Cert.DilInRefIdeal.τ).loc Cert.DilInRefIdeal.main_arg4))

def preserves_StridedIn_StridedInIdeal : Prop :=
  True

def algebraic_StridedInIdeal_StridedInRefIdeal [hStridedInIdeal : Cert.StridedInIdeal.Facts] [hStridedInRefIdeal : Cert.StridedInRefIdeal.Facts] : Prop :=
  ∀ (m : (ℓ : Loc Cert.StridedInIdeal.nD Cert.StridedInIdeal.τ Cert.StridedInIdeal.sig) → Buf (Elt Ideal) ℓ) (g : Dev Cert.StridedInIdeal.nD → PrngReg)
    (m' : (ℓ : Loc Cert.StridedInRefIdeal.nD Cert.StridedInRefIdeal.τ Cert.StridedInRefIdeal.sig) → Buf (Elt Ideal) ℓ) (g' : Dev Cert.StridedInRefIdeal.nD → PrngReg), Pre_StridedInIdeal m →
    (∀ c : Dev Cert.StridedInIdeal.nD,
      m' ((c.tc : Thread Cert.StridedInRefIdeal.nD Cert.StridedInRefIdeal.τ).loc Cert.StridedInRefIdeal.main_arg0) = m ((c.tc : Thread Cert.StridedInIdeal.nD Cert.StridedInIdeal.τ).loc Cert.StridedInIdeal.main_arg0)
      ∧ m' ((c.tc : Thread Cert.StridedInRefIdeal.nD Cert.StridedInRefIdeal.τ).loc Cert.StridedInRefIdeal.main_arg1) = m ((c.tc : Thread Cert.StridedInIdeal.nD Cert.StridedInIdeal.τ).loc Cert.StridedInIdeal.main_arg1)
      ∧ m' ((c.tc : Thread Cert.StridedInRefIdeal.nD Cert.StridedInRefIdeal.τ).loc Cert.StridedInRefIdeal.main_arg2) = m ((c.tc : Thread Cert.StridedInIdeal.nD Cert.StridedInIdeal.τ).loc Cert.StridedInIdeal.main_arg2)
      ∧ m' ((c.tc : Thread Cert.StridedInRefIdeal.nD Cert.StridedInRefIdeal.τ).loc Cert.StridedInRefIdeal.main_arg3) = m ((c.tc : Thread Cert.StridedInIdeal.nD Cert.StridedInIdeal.τ).loc Cert.StridedInIdeal.main_arg3)
      ∧ m' ((c.tc : Thread Cert.StridedInRefIdeal.nD Cert.StridedInRefIdeal.τ).loc Cert.StridedInRefIdeal.main_arg4) = m ((c.tc : Thread Cert.StridedInIdeal.nD Cert.StridedInIdeal.τ).loc Cert.StridedInIdeal.main_arg4)) →
    ∃ (v0 : (c : Dev Cert.StridedInIdeal.nD) → Buf (Elt Ideal) ((c.tc : Thread Cert.StridedInIdeal.nD Cert.StridedInIdeal.τ).loc Cert.StridedInIdeal.main_v2)),
      θ_run (Cert.StridedInIdeal.defs (F := Ideal)) (onTc (τ := Cert.StridedInIdeal.τ) (Cert.StridedInIdeal.main (F := Ideal))) ⟨m, fun _ => 0, g⟩ (fun r => ∀ c : Dev Cert.StridedInIdeal.nD,
          r.2.mem ((c.tc : Thread Cert.StridedInIdeal.nD Cert.StridedInIdeal.τ).loc Cert.StridedInIdeal.main_v2) = v0 c
          ∧ r.2.mem ((c.tc : Thread Cert.StridedInIdeal.nD Cert.StridedInIdeal.τ).loc Cert.StridedInIdeal.main_arg0) = m ((c.tc : Thread Cert.StridedInIdeal.nD Cert.StridedInIdeal.τ).loc Cert.StridedInIdeal.main_arg0)
          ∧ r.2.mem ((c.tc : Thread Cert.StridedInIdeal.nD Cert.StridedInIdeal.τ).loc Cert.StridedInIdeal.main_arg1) = m ((c.tc : Thread Cert.StridedInIdeal.nD Cert.StridedInIdeal.τ).loc Cert.StridedInIdeal.main_arg1)
          ∧ r.2.mem ((c.tc : Thread Cert.StridedInIdeal.nD Cert.StridedInIdeal.τ).loc Cert.StridedInIdeal.main_arg2) = m ((c.tc : Thread Cert.StridedInIdeal.nD Cert.StridedInIdeal.τ).loc Cert.StridedInIdeal.main_arg2)
          ∧ r.2.mem ((c.tc : Thread Cert.StridedInIdeal.nD Cert.StridedInIdeal.τ).loc Cert.StridedInIdeal.main_arg3) = m ((c.tc : Thread Cert.StridedInIdeal.nD Cert.StridedInIdeal.τ).loc Cert.StridedInIdeal.main_arg3)
          ∧ r.2.mem ((c.tc : Thread Cert.StridedInIdeal.nD Cert.StridedInIdeal.τ).loc Cert.StridedInIdeal.main_arg4) = m ((c.tc : Thread Cert.StridedInIdeal.nD Cert.StridedInIdeal.τ).loc Cert.StridedInIdeal.main_arg4))
      ∧ θ_run (Cert.StridedInRefIdeal.defs (F := Ideal)) (onTc (τ := Cert.StridedInRefIdeal.τ) (Cert.StridedInRefIdeal.main (F := Ideal))) ⟨m', fun _ => 0, g'⟩ (fun r => ∀ c : Dev Cert.StridedInRefIdeal.nD,
          r.2.mem ((c.tc : Thread Cert.StridedInRefIdeal.nD Cert.StridedInRefIdeal.τ).loc Cert.StridedInRefIdeal.main_v24) = v0 c
          ∧ r.2.mem ((c.tc : Thread Cert.StridedInRefIdeal.nD Cert.StridedInRefIdeal.τ).loc Cert.StridedInRefIdeal.main_arg0) = m' ((c.tc : Thread Cert.StridedInRefIdeal.nD Cert.StridedInRefIdeal.τ).loc Cert.StridedInRefIdeal.main_arg0)
          ∧ r.2.mem ((c.tc : Thread Cert.StridedInRefIdeal.nD Cert.StridedInRefIdeal.τ).loc Cert.StridedInRefIdeal.main_arg1) = m' ((c.tc : Thread Cert.StridedInRefIdeal.nD Cert.StridedInRefIdeal.τ).loc Cert.StridedInRefIdeal.main_arg1)
          ∧ r.2.mem ((c.tc : Thread Cert.StridedInRefIdeal.nD Cert.StridedInRefIdeal.τ).loc Cert.StridedInRefIdeal.main_arg2) = m' ((c.tc : Thread Cert.StridedInRefIdeal.nD Cert.StridedInRefIdeal.τ).loc Cert.StridedInRefIdeal.main_arg2)
          ∧ r.2.mem ((c.tc : Thread Cert.StridedInRefIdeal.nD Cert.StridedInRefIdeal.τ).loc Cert.StridedInRefIdeal.main_arg3) = m' ((c.tc : Thread Cert.StridedInRefIdeal.nD Cert.StridedInRefIdeal.τ).loc Cert.StridedInRefIdeal.main_arg3)
          ∧ r.2.mem ((c.tc : Thread Cert.StridedInRefIdeal.nD Cert.StridedInRefIdeal.τ).loc Cert.StridedInRefIdeal.main_arg4) = m' ((c.tc : Thread Cert.StridedInRefIdeal.nD Cert.StridedInRefIdeal.τ).loc Cert.StridedInRefIdeal.main_arg4))

def preserves_DilOut_DilOutIdeal : Prop :=
  True

def algebraic_DilOutIdeal_DilOutRefIdeal [hDilOutIdeal : Cert.DilOutIdeal.Facts] [hDilOutRefIdeal : Cert.DilOutRefIdeal.Facts] : Prop :=
  ∀ (m : (ℓ : Loc Cert.DilOutIdeal.nD Cert.DilOutIdeal.τ Cert.DilOutIdeal.sig) → Buf (Elt Ideal) ℓ) (g : Dev Cert.DilOutIdeal.nD → PrngReg)
    (m' : (ℓ : Loc Cert.DilOutRefIdeal.nD Cert.DilOutRefIdeal.τ Cert.DilOutRefIdeal.sig) → Buf (Elt Ideal) ℓ) (g' : Dev Cert.DilOutRefIdeal.nD → PrngReg), Pre_DilOutIdeal m →
    (∀ c : Dev Cert.DilOutIdeal.nD,
      m' ((c.tc : Thread Cert.DilOutRefIdeal.nD Cert.DilOutRefIdeal.τ).loc Cert.DilOutRefIdeal.main_arg0) = m ((c.tc : Thread Cert.DilOutIdeal.nD Cert.DilOutIdeal.τ).loc Cert.DilOutIdeal.main_arg0)
      ∧ m' ((c.tc : Thread Cert.DilOutRefIdeal.nD Cert.DilOutRefIdeal.τ).loc Cert.DilOutRefIdeal.main_arg1) = m ((c.tc : Thread Cert.DilOutIdeal.nD Cert.DilOutIdeal.τ).loc Cert.DilOutIdeal.main_arg1)
      ∧ m' ((c.tc : Thread Cert.DilOutRefIdeal.nD Cert.DilOutRefIdeal.τ).loc Cert.DilOutRefIdeal.main_arg2) = m ((c.tc : Thread Cert.DilOutIdeal.nD Cert.DilOutIdeal.τ).loc Cert.DilOutIdeal.main_arg2)
      ∧ m' ((c.tc : Thread Cert.DilOutRefIdeal.nD Cert.DilOutRefIdeal.τ).loc Cert.DilOutRefIdeal.main_arg3) = m ((c.tc : Thread Cert.DilOutIdeal.nD Cert.DilOutIdeal.τ).loc Cert.DilOutIdeal.main_arg3)
      ∧ m' ((c.tc : Thread Cert.DilOutRefIdeal.nD Cert.DilOutRefIdeal.τ).loc Cert.DilOutRefIdeal.main_arg4) = m ((c.tc : Thread Cert.DilOutIdeal.nD Cert.DilOutIdeal.τ).loc Cert.DilOutIdeal.main_arg4)
      ∧ m' ((c.tc : Thread Cert.DilOutRefIdeal.nD Cert.DilOutRefIdeal.τ).loc Cert.DilOutRefIdeal.main_arg5) = m ((c.tc : Thread Cert.DilOutIdeal.nD Cert.DilOutIdeal.τ).loc Cert.DilOutIdeal.main_arg5)
      ∧ m' ((c.tc : Thread Cert.DilOutRefIdeal.nD Cert.DilOutRefIdeal.τ).loc Cert.DilOutRefIdeal.main_arg6) = m ((c.tc : Thread Cert.DilOutIdeal.nD Cert.DilOutIdeal.τ).loc Cert.DilOutIdeal.main_arg6)
      ∧ m' ((c.tc : Thread Cert.DilOutRefIdeal.nD Cert.DilOutRefIdeal.τ).loc Cert.DilOutRefIdeal.main_arg7) = m ((c.tc : Thread Cert.DilOutIdeal.nD Cert.DilOutIdeal.τ).loc Cert.DilOutIdeal.main_arg7)
      ∧ m' ((c.tc : Thread Cert.DilOutRefIdeal.nD Cert.DilOutRefIdeal.τ).loc Cert.DilOutRefIdeal.main_arg8) = m ((c.tc : Thread Cert.DilOutIdeal.nD Cert.DilOutIdeal.τ).loc Cert.DilOutIdeal.main_arg8)) →
    ∃ (v0 : (c : Dev Cert.DilOutIdeal.nD) → Buf (Elt Ideal) ((c.tc : Thread Cert.DilOutIdeal.nD Cert.DilOutIdeal.τ).loc Cert.DilOutIdeal.main_v0)),
      θ_run (Cert.DilOutIdeal.defs (F := Ideal)) (onTc (τ := Cert.DilOutIdeal.τ) (Cert.DilOutIdeal.main (F := Ideal))) ⟨m, fun _ => 0, g⟩ (fun r => ∀ c : Dev Cert.DilOutIdeal.nD,
          r.2.mem ((c.tc : Thread Cert.DilOutIdeal.nD Cert.DilOutIdeal.τ).loc Cert.DilOutIdeal.main_v0) = v0 c
          ∧ r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
          ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1)
          ∧ r.2.mem ((c.tc : Thread Cert.DilOutIdeal.nD Cert.DilOutIdeal.τ).loc Cert.DilOutIdeal.main_arg2) = m ((c.tc : Thread Cert.DilOutIdeal.nD Cert.DilOutIdeal.τ).loc Cert.DilOutIdeal.main_arg2)
          ∧ r.2.mem ((c.tc : Thread Cert.DilOutIdeal.nD Cert.DilOutIdeal.τ).loc Cert.DilOutIdeal.main_arg3) = m ((c.tc : Thread Cert.DilOutIdeal.nD Cert.DilOutIdeal.τ).loc Cert.DilOutIdeal.main_arg3)
          ∧ r.2.mem ((c.tc : Thread Cert.DilOutIdeal.nD Cert.DilOutIdeal.τ).loc Cert.DilOutIdeal.main_arg4) = m ((c.tc : Thread Cert.DilOutIdeal.nD Cert.DilOutIdeal.τ).loc Cert.DilOutIdeal.main_arg4)
          ∧ r.2.mem ((c.tc : Thread Cert.DilOutIdeal.nD Cert.DilOutIdeal.τ).loc Cert.DilOutIdeal.main_arg5) = m ((c.tc : Thread Cert.DilOutIdeal.nD Cert.DilOutIdeal.τ).loc Cert.DilOutIdeal.main_arg5)
          ∧ r.2.mem ((c.tc : Thread Cert.DilOutIdeal.nD Cert.DilOutIdeal.τ).loc Cert.DilOutIdeal.main_arg6) = m ((c.tc : Thread Cert.DilOutIdeal.nD Cert.DilOutIdeal.τ).loc Cert.DilOutIdeal.main_arg6)
          ∧ r.2.mem ((c.tc : Thread Cert.DilOutIdeal.nD Cert.DilOutIdeal.τ).loc Cert.DilOutIdeal.main_arg7) = m ((c.tc : Thread Cert.DilOutIdeal.nD Cert.DilOutIdeal.τ).loc Cert.DilOutIdeal.main_arg7)
          ∧ r.2.mem ((c.tc : Thread Cert.DilOutIdeal.nD Cert.DilOutIdeal.τ).loc Cert.DilOutIdeal.main_arg8) = m ((c.tc : Thread Cert.DilOutIdeal.nD Cert.DilOutIdeal.τ).loc Cert.DilOutIdeal.main_arg8))
      ∧ θ_run (Cert.DilOutRefIdeal.defs (F := Ideal)) (onTc (τ := Cert.DilOutRefIdeal.τ) (Cert.DilOutRefIdeal.main (F := Ideal))) ⟨m', fun _ => 0, g'⟩ (fun r => ∀ c : Dev Cert.DilOutRefIdeal.nD,
          r.2.mem ((c.tc : Thread Cert.DilOutRefIdeal.nD Cert.DilOutRefIdeal.τ).loc Cert.DilOutRefIdeal.main_v35) = v0 c
          ∧ r.2.mem ((c.tc : Thread Cert.DilOutRefIdeal.nD Cert.DilOutRefIdeal.τ).loc Cert.DilOutRefIdeal.main_arg0) = m' ((c.tc : Thread Cert.DilOutRefIdeal.nD Cert.DilOutRefIdeal.τ).loc Cert.DilOutRefIdeal.main_arg0)
          ∧ r.2.mem ((c.tc : Thread Cert.DilOutRefIdeal.nD Cert.DilOutRefIdeal.τ).loc Cert.DilOutRefIdeal.main_arg1) = m' ((c.tc : Thread Cert.DilOutRefIdeal.nD Cert.DilOutRefIdeal.τ).loc Cert.DilOutRefIdeal.main_arg1)
          ∧ r.2.mem ((c.tc : Thread Cert.DilOutRefIdeal.nD Cert.DilOutRefIdeal.τ).loc Cert.DilOutRefIdeal.main_arg2) = m' ((c.tc : Thread Cert.DilOutRefIdeal.nD Cert.DilOutRefIdeal.τ).loc Cert.DilOutRefIdeal.main_arg2)
          ∧ r.2.mem ((c.tc : Thread Cert.DilOutRefIdeal.nD Cert.DilOutRefIdeal.τ).loc Cert.DilOutRefIdeal.main_arg3) = m' ((c.tc : Thread Cert.DilOutRefIdeal.nD Cert.DilOutRefIdeal.τ).loc Cert.DilOutRefIdeal.main_arg3)
          ∧ r.2.mem ((c.tc : Thread Cert.DilOutRefIdeal.nD Cert.DilOutRefIdeal.τ).loc Cert.DilOutRefIdeal.main_arg4) = m' ((c.tc : Thread Cert.DilOutRefIdeal.nD Cert.DilOutRefIdeal.τ).loc Cert.DilOutRefIdeal.main_arg4)
          ∧ r.2.mem ((c.tc : Thread Cert.DilOutRefIdeal.nD Cert.DilOutRefIdeal.τ).loc Cert.DilOutRefIdeal.main_arg5) = m' ((c.tc : Thread Cert.DilOutRefIdeal.nD Cert.DilOutRefIdeal.τ).loc Cert.DilOutRefIdeal.main_arg5)
          ∧ r.2.mem ((c.tc : Thread Cert.DilOutRefIdeal.nD Cert.DilOutRefIdeal.τ).loc Cert.DilOutRefIdeal.main_arg6) = m' ((c.tc : Thread Cert.DilOutRefIdeal.nD Cert.DilOutRefIdeal.τ).loc Cert.DilOutRefIdeal.main_arg6)
          ∧ r.2.mem ((c.tc : Thread Cert.DilOutRefIdeal.nD Cert.DilOutRefIdeal.τ).loc Cert.DilOutRefIdeal.main_arg7) = m' ((c.tc : Thread Cert.DilOutRefIdeal.nD Cert.DilOutRefIdeal.τ).loc Cert.DilOutRefIdeal.main_arg7)
          ∧ r.2.mem ((c.tc : Thread Cert.DilOutRefIdeal.nD Cert.DilOutRefIdeal.τ).loc Cert.DilOutRefIdeal.main_arg8) = m' ((c.tc : Thread Cert.DilOutRefIdeal.nD Cert.DilOutRefIdeal.τ).loc Cert.DilOutRefIdeal.main_arg8))

def preserves_WideIn_WideInIdeal : Prop :=
  True

def algebraic_WideInIdeal_WideInRefIdeal [hWideInIdeal : Cert.WideInIdeal.Facts] [hWideInRefIdeal : Cert.WideInRefIdeal.Facts] : Prop :=
  ∀ (m : (ℓ : Loc Cert.WideInIdeal.nD Cert.WideInIdeal.τ Cert.WideInIdeal.sig) → Buf (Elt Ideal) ℓ) (g : Dev Cert.WideInIdeal.nD → PrngReg)
    (m' : (ℓ : Loc Cert.WideInRefIdeal.nD Cert.WideInRefIdeal.τ Cert.WideInRefIdeal.sig) → Buf (Elt Ideal) ℓ) (g' : Dev Cert.WideInRefIdeal.nD → PrngReg), Pre_WideInIdeal m →
    (∀ c : Dev Cert.WideInIdeal.nD,
      m' ((c.tc : Thread Cert.WideInRefIdeal.nD Cert.WideInRefIdeal.τ).loc Cert.WideInRefIdeal.main_arg0) = m ((c.tc : Thread Cert.WideInIdeal.nD Cert.WideInIdeal.τ).loc Cert.WideInIdeal.main_arg0)
      ∧ m' ((c.tc : Thread Cert.WideInRefIdeal.nD Cert.WideInRefIdeal.τ).loc Cert.WideInRefIdeal.main_arg1) = m ((c.tc : Thread Cert.WideInIdeal.nD Cert.WideInIdeal.τ).loc Cert.WideInIdeal.main_arg1)
      ∧ m' ((c.tc : Thread Cert.WideInRefIdeal.nD Cert.WideInRefIdeal.τ).loc Cert.WideInRefIdeal.main_arg2) = m ((c.tc : Thread Cert.WideInIdeal.nD Cert.WideInIdeal.τ).loc Cert.WideInIdeal.main_arg2)
      ∧ m' ((c.tc : Thread Cert.WideInRefIdeal.nD Cert.WideInRefIdeal.τ).loc Cert.WideInRefIdeal.main_arg3) = m ((c.tc : Thread Cert.WideInIdeal.nD Cert.WideInIdeal.τ).loc Cert.WideInIdeal.main_arg3)
      ∧ m' ((c.tc : Thread Cert.WideInRefIdeal.nD Cert.WideInRefIdeal.τ).loc Cert.WideInRefIdeal.main_arg4) = m ((c.tc : Thread Cert.WideInIdeal.nD Cert.WideInIdeal.τ).loc Cert.WideInIdeal.main_arg4)) →
    ∃ (v0 : (c : Dev Cert.WideInIdeal.nD) → Buf (Elt Ideal) ((c.tc : Thread Cert.WideInIdeal.nD Cert.WideInIdeal.τ).loc Cert.WideInIdeal.main_v2)),
      θ_run (Cert.WideInIdeal.defs (F := Ideal)) (onTc (τ := Cert.WideInIdeal.τ) (Cert.WideInIdeal.main (F := Ideal))) ⟨m, fun _ => 0, g⟩ (fun r => ∀ c : Dev Cert.WideInIdeal.nD,
          r.2.mem ((c.tc : Thread Cert.WideInIdeal.nD Cert.WideInIdeal.τ).loc Cert.WideInIdeal.main_v2) = v0 c
          ∧ r.2.mem ((c.tc : Thread Cert.WideInIdeal.nD Cert.WideInIdeal.τ).loc Cert.WideInIdeal.main_arg0) = m ((c.tc : Thread Cert.WideInIdeal.nD Cert.WideInIdeal.τ).loc Cert.WideInIdeal.main_arg0)
          ∧ r.2.mem ((c.tc : Thread Cert.WideInIdeal.nD Cert.WideInIdeal.τ).loc Cert.WideInIdeal.main_arg1) = m ((c.tc : Thread Cert.WideInIdeal.nD Cert.WideInIdeal.τ).loc Cert.WideInIdeal.main_arg1)
          ∧ r.2.mem ((c.tc : Thread Cert.WideInIdeal.nD Cert.WideInIdeal.τ).loc Cert.WideInIdeal.main_arg2) = m ((c.tc : Thread Cert.WideInIdeal.nD Cert.WideInIdeal.τ).loc Cert.WideInIdeal.main_arg2)
          ∧ r.2.mem ((c.tc : Thread Cert.WideInIdeal.nD Cert.WideInIdeal.τ).loc Cert.WideInIdeal.main_arg3) = m ((c.tc : Thread Cert.WideInIdeal.nD Cert.WideInIdeal.τ).loc Cert.WideInIdeal.main_arg3)
          ∧ r.2.mem ((c.tc : Thread Cert.WideInIdeal.nD Cert.WideInIdeal.τ).loc Cert.WideInIdeal.main_arg4) = m ((c.tc : Thread Cert.WideInIdeal.nD Cert.WideInIdeal.τ).loc Cert.WideInIdeal.main_arg4))
      ∧ θ_run (Cert.WideInRefIdeal.defs (F := Ideal)) (onTc (τ := Cert.WideInRefIdeal.τ) (Cert.WideInRefIdeal.main (F := Ideal))) ⟨m', fun _ => 0, g'⟩ (fun r => ∀ c : Dev Cert.WideInRefIdeal.nD,
          r.2.mem ((c.tc : Thread Cert.WideInRefIdeal.nD Cert.WideInRefIdeal.τ).loc Cert.WideInRefIdeal.main_v24) = v0 c
          ∧ r.2.mem ((c.tc : Thread Cert.WideInRefIdeal.nD Cert.WideInRefIdeal.τ).loc Cert.WideInRefIdeal.main_arg0) = m' ((c.tc : Thread Cert.WideInRefIdeal.nD Cert.WideInRefIdeal.τ).loc Cert.WideInRefIdeal.main_arg0)
          ∧ r.2.mem ((c.tc : Thread Cert.WideInRefIdeal.nD Cert.WideInRefIdeal.τ).loc Cert.WideInRefIdeal.main_arg1) = m' ((c.tc : Thread Cert.WideInRefIdeal.nD Cert.WideInRefIdeal.τ).loc Cert.WideInRefIdeal.main_arg1)
          ∧ r.2.mem ((c.tc : Thread Cert.WideInRefIdeal.nD Cert.WideInRefIdeal.τ).loc Cert.WideInRefIdeal.main_arg2) = m' ((c.tc : Thread Cert.WideInRefIdeal.nD Cert.WideInRefIdeal.τ).loc Cert.WideInRefIdeal.main_arg2)
          ∧ r.2.mem ((c.tc : Thread Cert.WideInRefIdeal.nD Cert.WideInRefIdeal.τ).loc Cert.WideInRefIdeal.main_arg3) = m' ((c.tc : Thread Cert.WideInRefIdeal.nD Cert.WideInRefIdeal.τ).loc Cert.WideInRefIdeal.main_arg3)
          ∧ r.2.mem ((c.tc : Thread Cert.WideInRefIdeal.nD Cert.WideInRefIdeal.τ).loc Cert.WideInRefIdeal.main_arg4) = m' ((c.tc : Thread Cert.WideInRefIdeal.nD Cert.WideInRefIdeal.τ).loc Cert.WideInRefIdeal.main_arg4))

def Claim : Prop :=
  ∃ (hExperts : Cert.Experts.Facts) (hExpertsRef : Cert.ExpertsRef.Facts) (hCombine : Cert.Combine.Facts) (hCombineIdeal : Cert.CombineIdeal.Facts) (hCombineRefIdeal : Cert.CombineRefIdeal.Facts) (hConv : Cert.Conv.Facts) (hConvIdeal : Cert.ConvIdeal.Facts) (hConvRefIdeal : Cert.ConvRefIdeal.Facts) (hSbIn : Cert.SbIn.Facts) (hSbInIdeal : Cert.SbInIdeal.Facts) (hSbInRefIdeal : Cert.SbInRefIdeal.Facts) (hGlaIn : Cert.GlaIn.Facts) (hGlaInIdeal : Cert.GlaInIdeal.Facts) (hGlaInRefIdeal : Cert.GlaInRefIdeal.Facts) (hMixerOut : Cert.MixerOut.Facts) (hMixerOutIdeal : Cert.MixerOutIdeal.Facts) (hMixerOutRefIdeal : Cert.MixerOutRefIdeal.Facts) (hDilIn : Cert.DilIn.Facts) (hDilInIdeal : Cert.DilInIdeal.Facts) (hDilInRefIdeal : Cert.DilInRefIdeal.Facts) (hStridedIn : Cert.StridedIn.Facts) (hStridedInIdeal : Cert.StridedInIdeal.Facts) (hStridedInRefIdeal : Cert.StridedInRefIdeal.Facts) (hDilOut : Cert.DilOut.Facts) (hDilOutIdeal : Cert.DilOutIdeal.Facts) (hDilOutRefIdeal : Cert.DilOutRefIdeal.Facts) (hWideIn : Cert.WideIn.Facts) (hWideInIdeal : Cert.WideInIdeal.Facts) (hWideInRefIdeal : Cert.WideInRefIdeal.Facts) (hPre_block_tables : Cert.Pre_block_tables.Facts),
    quiescent_Experts (hExperts := hExperts) (hPre_block_tables := hPre_block_tables)
    ∧ quiescent_ExpertsRef (hExpertsRef := hExpertsRef) (hPre_block_tables := hPre_block_tables)
    ∧ quiescent_Combine (hCombine := hCombine)
    ∧ quiescent_CombineIdeal (hCombineIdeal := hCombineIdeal)
    ∧ quiescent_CombineRefIdeal (hCombineRefIdeal := hCombineRefIdeal)
    ∧ quiescent_Conv (hConv := hConv)
    ∧ quiescent_ConvIdeal (hConvIdeal := hConvIdeal)
    ∧ quiescent_ConvRefIdeal (hConvRefIdeal := hConvRefIdeal)
    ∧ quiescent_SbIn (hSbIn := hSbIn)
    ∧ quiescent_SbInIdeal (hSbInIdeal := hSbInIdeal)
    ∧ quiescent_SbInRefIdeal (hSbInRefIdeal := hSbInRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_DilIn (hDilIn := hDilIn)
    ∧ quiescent_DilInIdeal (hDilInIdeal := hDilInIdeal)
    ∧ quiescent_DilInRefIdeal (hDilInRefIdeal := hDilInRefIdeal)
    ∧ quiescent_StridedIn (hStridedIn := hStridedIn)
    ∧ quiescent_StridedInIdeal (hStridedInIdeal := hStridedInIdeal)
    ∧ quiescent_StridedInRefIdeal (hStridedInRefIdeal := hStridedInRefIdeal)
    ∧ quiescent_DilOut (hDilOut := hDilOut)
    ∧ quiescent_DilOutIdeal (hDilOutIdeal := hDilOutIdeal)
    ∧ quiescent_DilOutRefIdeal (hDilOutRefIdeal := hDilOutRefIdeal)
    ∧ quiescent_WideIn (hWideIn := hWideIn)
    ∧ quiescent_WideInIdeal (hWideInIdeal := hWideInIdeal)
    ∧ quiescent_WideInRefIdeal (hWideInRefIdeal := hWideInRefIdeal)
    ∧ bitexact_Experts_ExpertsRef (hExperts := hExperts) (hExpertsRef := hExpertsRef) (hPre_block_tables := hPre_block_tables)
    ∧ preserves_Combine_CombineIdeal
    ∧ algebraic_CombineIdeal_CombineRefIdeal (hCombineIdeal := hCombineIdeal) (hCombineRefIdeal := hCombineRefIdeal)
    ∧ preserves_Conv_ConvIdeal
    ∧ algebraic_ConvIdeal_ConvRefIdeal (hConvIdeal := hConvIdeal) (hConvRefIdeal := hConvRefIdeal)
    ∧ preserves_SbIn_SbInIdeal
    ∧ algebraic_SbInIdeal_SbInRefIdeal (hSbInIdeal := hSbInIdeal) (hSbInRefIdeal := hSbInRefIdeal)
    ∧ preserves_GlaIn_GlaInIdeal
    ∧ algebraic_GlaInIdeal_GlaInRefIdeal (hGlaInIdeal := hGlaInIdeal) (hGlaInRefIdeal := hGlaInRefIdeal)
    ∧ preserves_MixerOut_MixerOutIdeal
    ∧ algebraic_MixerOutIdeal_MixerOutRefIdeal (hMixerOutIdeal := hMixerOutIdeal) (hMixerOutRefIdeal := hMixerOutRefIdeal)
    ∧ preserves_DilIn_DilInIdeal
    ∧ algebraic_DilInIdeal_DilInRefIdeal (hDilInIdeal := hDilInIdeal) (hDilInRefIdeal := hDilInRefIdeal)
    ∧ preserves_StridedIn_StridedInIdeal
    ∧ algebraic_StridedInIdeal_StridedInRefIdeal (hStridedInIdeal := hStridedInIdeal) (hStridedInRefIdeal := hStridedInRefIdeal)
    ∧ preserves_DilOut_DilOutIdeal
    ∧ algebraic_DilOutIdeal_DilOutRefIdeal (hDilOutIdeal := hDilOutIdeal) (hDilOutRefIdeal := hDilOutRefIdeal)
    ∧ preserves_WideIn_WideInIdeal
    ∧ algebraic_WideInIdeal_WideInRefIdeal (hWideInIdeal := hWideInIdeal) (hWideInRefIdeal := hWideInRefIdeal)
-- ==== Pre_block_tables.lean ====
abbrev S288 : Shape := ⟨1, ![288]⟩
abbrev S1 : Shape := ⟨1, ![1]⟩
abbrev S589824x128 : Shape := ⟨2, ![589824, 128]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S288 32) (main_arg1 : IVec S1 32) (main_arg2 : IVec S589824x128 32) (main_arg3 : FVec F S4x32x1024x512 .f32) (main_arg4 : FVec F S4x32x1024x512 .f32) (main_arg5 : FVec F S4x32x512x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Experts.lean ====
abbrev S288 : Shape := ⟨1, ![288]⟩
abbrev S1 : Shape := ⟨1, ![1]⟩
abbrev S589824x128 : Shape := ⟨2, ![589824, 128]⟩
abbrev S4x32x1024x512 : Shape := ⟨4, ![4, 32, 1024, 512]⟩
abbrev S4x32x512x1024 : Shape := ⟨4, ![4, 32, 512, 1024]⟩
abbrev S_ : Shape := ⟨0, ![]⟩
abbrev S288x1 : Shape := ⟨2, ![288, 1]⟩
abbrev S4096x128 : Shape := ⟨2, ![4096, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S2048x128 : Shape := ⟨2, ![2048, 128]⟩
abbrev S512x128 : Shape := ⟨2, ![512, 128]⟩
abbrev S512x512 : Shape := ⟨2, ![512, 512]⟩

abbrev nBuf : Space → Nat
  | .hbm => 20
  | .vmem => 19
  | .smem => 2
  | _ => 0

abbrev bufTy : (tb : Table) → Fin (tcTables nBuf tb) → BufTy
  | .hbm, ⟨0, _⟩ => ⟨S288, .i32⟩
  | .hbm, ⟨1, _⟩ => ⟨S589824x128, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S288, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S288, .i32⟩
  | .hbm, ⟨10, _⟩ => ⟨S288, .i32⟩
  | .hbm, ⟨11, _⟩ => ⟨S_, .i32⟩
  | .hbm, ⟨12, _⟩ => ⟨S288, .i32⟩
  | .hbm, ⟨13, _⟩ => ⟨S288, .i1⟩
  | .hbm, ⟨14, _⟩ => ⟨S_, .i32⟩
  | .hbm, ⟨15, _⟩ => ⟨S288, .i32⟩
  | .hbm, ⟨16, _⟩ => ⟨S288, .i32⟩
  | .hbm, ⟨17, _⟩ => ⟨S288, .i32⟩
  | .hbm, ⟨18, _⟩ => ⟨S288x1, .i32⟩
  | .hbm, ⟨19, _⟩ => ⟨S589824x128, .i32⟩
  | .local _ .vmem, ⟨0, _⟩ => ⟨S4096x128, .i32⟩
  | .local _ .vmem, ⟨1, _⟩ => ⟨S4096x128, .i32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | .local _ .vmem, ⟨11, _⟩ => ⟨S1x1x1024x512, .f32⟩
  | .local _ .vmem, ⟨12, _⟩ => ⟨S1x1x512x1024, .f32⟩
  | .local _ .vmem, ⟨13, _⟩ => ⟨S1x1x512x1024, .f32⟩
  | .local _ .vmem, ⟨14, _⟩ => ⟨S4096x128, .i32⟩
  | .local _ .vmem, ⟨15, _⟩ => ⟨S4096x128, .i32⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | .local _ .smem, ⟨0, _⟩ => ⟨S288, .i32⟩
  | .local _ .smem, ⟨1, _⟩ => ⟨S1, .i32⟩
  | _, _ => ⟨S288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![144], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1_i32 : BitVec 32 := 1#32
  let v7 : BitVec 32 := Scalar.subi v1 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg0 : BitVec 32 := BitVec.ofNat 32 (i 0).val
  let c2_i32_5 : BitVec 32 := 2#32
  let v21 : BitVec 32 := Scalar.muli arg0 c2_i32_5
  let c1_i32_6 : BitVec 32 := 1#32
  let v22 : BitVec 32 := Scalar.addi v21 c1_i32_6
  let v26 : Index := Scalar.indexCast v22
  ![v26.toNat]
def k0_off4 (i : grid0.Coords) : Fin 1 → Nat :=
  let arg0 : BitVec 32 := BitVec.ofNat 32 (i 0).val
  let c2_i32_5 : BitVec 32 := 2#32
  let v21 : BitVec 32 := Scalar.muli arg0 c2_i32_5
  let c1_i32_6 : BitVec 32 := 1#32
  let v22 : BitVec 32 := Scalar.addi v21 c1_i32_6
  let c1_i32_9 : BitVec 32 := 1#32
  let v28 : BitVec 32 := Scalar.subi v22 c1_i32_9
  let c0_i32_10 : BitVec 32 := 0#32
  let v29 : BitVec 32 := Scalar.maxsi v28 c0_i32_10
  let v30 : Index := Scalar.indexCast v29
  ![v30.toNat]
def k0_cond2 (i : grid0.Coords) (v2 : BitVec 32) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v3 : BitVec 1 := Scalar.cmpi .slt v1 v2
  let v16 : BitVec 32 := Scalar.extui v3
  let c0_i32_3 : BitVec 32 := 0#32
  let v17 : BitVec 1 := Scalar.cmpi .ne v16 c0_i32_3
  v17

def k0_cond3 (i : grid0.Coords) (v2 : BitVec 32) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v3 : BitVec 1 := Scalar.cmpi .slt v1 v2
  let v_true : BitVec 1 := 1#1
  let v18 : BitVec 1 := Scalar.xori v3 v_true
  let v19 : BitVec 32 := Scalar.extui v18
  let c0_i32_4 : BitVec 32 := 0#32
  let v20 : BitVec 1 := Scalar.cmpi .ne v19 c0_i32_4
  v20

def k0_cond5 (i : grid0.Coords) (v23 : BitVec 32) : BitVec 1 :=
  let arg0 : BitVec 32 := BitVec.ofNat 32 (i 0).val
  let c2_i32_5 : BitVec 32 := 2#32
  let v21 : BitVec 32 := Scalar.muli arg0 c2_i32_5
  let c1_i32_6 : BitVec 32 := 1#32
  let v22 : BitVec 32 := Scalar.addi v21 c1_i32_6
  let v24 : BitVec 1 := Scalar.cmpi .slt v22 v23
  let v37 : BitVec 32 := Scalar.extui v24
  let c0_i32_12 : BitVec 32 := 0#32
  let v38 : BitVec 1 := Scalar.cmpi .ne v37 c0_i32_12
  v38

def k0_cond6 (i : grid0.Coords) (v23 : BitVec 32) : BitVec 1 :=
  let arg0 : BitVec 32 := BitVec.ofNat 32 (i 0).val
  let c2_i32_5 : BitVec 32 := 2#32
  let v21 : BitVec 32 := Scalar.muli arg0 c2_i32_5
  let c1_i32_6 : BitVec 32 := 1#32
  let v22 : BitVec 32 := Scalar.addi v21 c1_i32_6
  let v24 : BitVec 1 := Scalar.cmpi .slt v22 v23
  let true_13 : BitVec 1 := 1#1
  let v39 : BitVec 1 := Scalar.xori v24 true_13
  let v40 : BitVec 32 := Scalar.extui v39
  let c0_i32_14 : BitVec 32 := 0#32
  let v41 : BitVec 1 := Scalar.cmpi .ne v40 c0_i32_14
  v41

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

def cc0_transform_1 (k0_off1_inb : ∀ i : grid0.Coords, ∀ (r : Fin 2), ∀ a, (k0_off1 i (BitVec.ofNat 32 r.val)) a + S1.size a ≤ S288.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S288) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_2 (k0_off1_inb : ∀ i : grid0.Coords, ∀ (r : Fin 2), ∀ a, (k0_off1 i (BitVec.ofNat 32 r.val)) a + S1.size a ≤ S288.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S288) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_3 (k0_off1_inb : ∀ i : grid0.Coords, ∀ (r : Fin 2), ∀ a, (k0_off1 i (BitVec.ofNat 32 r.val)) a + S1.size a ≤ S288.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S288) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_4 (k0_off1_inb : ∀ i : grid0.Coords, ∀ (r : Fin 2), ∀ a, (k0_off1 i (BitVec.ofNat 32 r.val)) a + S1.size a ≤ S288.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S288) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_5 (k0_off1_inb : ∀ i : grid0.Coords, ∀ (r : Fin 2), ∀ a, (k0_off1 i (BitVec.ofNat 32 r.val)) a + S1.size a ≤ S288.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S288) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_6 (k0_off1_inb : ∀ i : grid0.Coords, ∀ (r : Fin 2), ∀ a, (k0_off1 i (BitVec.ofNat 32 r.val)) a + S1.size a ≤ S288.size a) (numel1_S1 : S1.numel = 1) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S288) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRef.lean ====
abbrev S288 : Shape := ⟨1, ![288]⟩
abbrev S1 : Shape := ⟨1, ![1]⟩
abbrev S589824x128 : Shape := ⟨2, ![589824, 128]⟩
abbrev S4x32x1024x512 : Shape := ⟨4, ![4, 32, 1024, 512]⟩
abbrev S4x32x512x1024 : Shape := ⟨4, ![4, 32, 512, 1024]⟩
abbrev S2048x128 : Shape := ⟨2, ![2048, 128]⟩
abbrev S512x512 : Shape := ⟨2, ![512, 512]⟩
abbrev S512x1024 : Shape := ⟨2, ![512, 1024]⟩
abbrev S1x1x1024x512 : Shape := ⟨4, ![1, 1, 1024, 512]⟩
abbrev S1024x512 : Shape := ⟨2, ![1024, 512]⟩
abbrev S1x1x512x1024 : Shape := ⟨4, ![1, 1, 512, 1024]⟩

abbrev nBuf : Space → Nat
  | .hbm => 7
  | .vmem => 5
  | .smem => 2
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S589824x128, .i32⟩
  | .hbm, ⟨3, _⟩ => ⟨S4x32x1024x512, .f32⟩
  | .hbm, ⟨4, _⟩ => ⟨S4x32x1024x512, .f32⟩
  | .hbm, ⟨5, _⟩ => ⟨S4x32x512x1024, .f32⟩
  | .hbm, ⟨6, _⟩ => ⟨S589824x128, .i32⟩
  | .local _ .vmem, ⟨0, _⟩ => ⟨S589824x128, .i32⟩
  | .local _ .vmem, ⟨1, _⟩ => ⟨S4x32x1024x512, .f32⟩
  | .local _ .vmem, ⟨2, _⟩ => ⟨S4x32x1024x512, .f32⟩
  | .local _ .vmem, ⟨3, _⟩ => ⟨S4x32x512x1024, .f32⟩
  | .local _ .vmem, ⟨4, _⟩ => ⟨S589824x128, .i32⟩
  | .local _ .smem, ⟨0, _⟩ => ⟨S288, .i32⟩
  | .local _ .smem, ⟨1, _⟩ => ⟨S1, .i32⟩
  | _, _ => ⟨S288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c288_i32 : BitVec 32 := 288#32
  let v0 : BitVec 32 := Scalar.addi c0_i32 c288_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v2 : Index := Scalar.indexCast arg7
  ![v2.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32 : BitVec 32 := 2048#32
  let v1 : BitVec 32 := Scalar.muli arg7 c2048_i32
  let v4 : Index := Scalar.indexCast v1
  let c0 : Index := 0#32
  ![v4.toNat, 0]
def k0_off3 (v3 : BitVec 32) : Fin 4 → Nat :=
  let c0_1 : Index := 0#32
  let v11 : Index := Scalar.indexCast v3
  let c0_2 : Index := 0#32
  let c0_3 : Index := 0#32
  ![0, v11.toNat, 0, 0]

def k0_off4 (v3 : BitVec 32) : Fin 4 → Nat :=
  let c0_11 : Index := 0#32
  let v31 : Index := Scalar.indexCast v3
  let c0_12 : Index := 0#32
  let c0_13 : Index := 0#32
  ![0, v31.toNat, 0, 0]

def k0_chk1 (v3 : BitVec 32) : Prop :=
  (∀ a, (k0_off3 v3) a + S1x1x1024x512.size a ≤ S4x32x1024x512.size a) ∧
  (∀ a, (k0_off4 v3) a + S1x1x512x1024.size a ≤ S4x32x512x1024.size a)
theorem k0_off3_inb : ∀ (v3 : BitVec 32) (k0_hw1 : k0_chk1 v3), ∀ a, (k0_off3 v3) a + S1x1x1024x512.size a ≤ S4x32x1024x512.size a := fun v3 k0_hw1 => k0_hw1.1
theorem k0_off4_inb : ∀ (v3 : BitVec 32) (k0_hw1 : k0_chk1 v3), ∀ a, (k0_off4 v3) a + S1x1x512x1024.size a ≤ S4x32x512x1024.size a := fun v3 k0_hw1 => k0_hw1.2

def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32 : BitVec 32 := 2048#32
  let v1 : BitVec 32 := Scalar.muli arg7 c2048_i32
  let v44 : Index := Scalar.indexCast v1
  let c0_17 : Index := 0#32
  ![v44.toNat, 0]
abbrev stage0_0 : Fin 1 → Memref sig .tc .smem S288 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S589824x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x32x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S589824x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Combine.lean ====
abbrev S65536x128 : Shape := ⟨2, ![65536, 128]⟩
abbrev S65536x1024 : Shape := ⟨2, ![65536, 1024]⟩
abbrev S8x1x1024 : Shape := ⟨3, ![8, 1, 1024]⟩
abbrev S1024 : Shape := ⟨1, ![1024]⟩
abbrev S1x1024 : Shape := ⟨2, ![1, 1024]⟩
abbrev S4096x128 : Shape := ⟨2, ![4096, 128]⟩
abbrev S1024x128 : Shape := ⟨2, ![1024, 128]⟩
abbrev S1024x1024 : Shape := ⟨2, ![1024, 1024]⟩
abbrev S1x1x1024 : Shape := ⟨3, ![1, 1, 1024]⟩
abbrev S1024x1 : Shape := ⟨2, ![1024, 1]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S65536x128, .i32⟩
  | .hbm, ⟨1, _⟩ => ⟨S65536x128, .f32⟩
  | .hbm, ⟨2, _⟩ => ⟨S65536x1024, .f32⟩
  | .hbm, ⟨3, _⟩ => ⟨S8x1x1024, .f32⟩
  | .hbm, ⟨4, _⟩ => ⟨S1024, .f32⟩
  | .hbm, ⟨5, _⟩ => ⟨S1x1024, .f32⟩
  | .hbm, ⟨6, _⟩ => ⟨S65536x1024, .f32⟩
  | .local _ .vmem, ⟨0, _⟩ => ⟨S4096x128, .i32⟩
  | .local _ .vmem, ⟨1, _⟩ => ⟨S4096x128, .i32⟩
  | .local _ .vmem, ⟨2, _⟩ => ⟨S4096x128, .i32⟩
  | .local _ .vmem, ⟨3, _⟩ => ⟨S4096x128, .i32⟩
  | .local _ .vmem, ⟨4, _⟩ => ⟨S1024x128, .f32⟩
  | .local _ .vmem, ⟨5, _⟩ => ⟨S1024x128, .f32⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S65536x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c8_i32 : BitVec 32 := 8#32
  let v1 : BitVec 32 := Scalar.divsi v0 c8_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32 c0_i32_2
  let v8 : BitVec 32 := Scalar.extui v7
  let c0_i32_3 : BitVec 32 := 0#32
  let v9 : BitVec 1 := Scalar.cmpi .slt c8_i32 c0_i32_3
  let v10 : BitVec 32 := Scalar.extui v9
  let v11 : BitVec 32 := Scalar.subi v8 v10
  let v12 : BitVec 1 := Scalar.cmpi .ne v6 v11
  let v13 : BitVec 32 := Scalar.remsi v0 c8_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S65536x128 : Shape := ⟨2, ![65536, 128]⟩
abbrev S65536x1024 : Shape := ⟨2, ![65536, 1024]⟩
abbrev S8x1x1024 : Shape := ⟨3, ![8, 1, 1024]⟩
abbrev S1024 : Shape := ⟨1, ![1024]⟩
abbrev S2x8192x512 : Shape := ⟨3, ![2, 8192, 512]⟩
abbrev S_ : Shape := ⟨0, ![]⟩
abbrev S2x8192x1024 : Shape := ⟨3, ![2, 8192, 1024]⟩
abbrev S8192x1 : Shape := ⟨2, ![8192, 1]⟩
abbrev S1x8192x1024 : Shape := ⟨3, ![1, 8192, 1024]⟩
abbrev S8192x1024 : Shape := ⟨2, ![8192, 1024]⟩
abbrev S1x1x1024 : Shape := ⟨3, ![1, 1, 1024]⟩
abbrev S1x1024 : Shape := ⟨2, ![1, 1024]⟩
abbrev S8192 : Shape := ⟨1, ![8192]⟩
abbrev S57344x1024 : Shape := ⟨2, ![57344, 1024]⟩

abbrev nBuf : Space → Nat
  | .hbm => 50
  | .vmem => 0
  | .smem => 0
  | _ => 0

abbrev bufTy : (tb : Table) → Fin (tcTables nBuf tb) → BufTy
  | .hbm, ⟨0, _⟩ => ⟨S65536x128, .i32⟩
  | .hbm, ⟨1, _⟩ => ⟨S65536x128, .f32⟩
  | .hbm, ⟨2, _⟩ => ⟨S65536x1024, .f32⟩
  | .hbm, ⟨3, _⟩ => ⟨S8x1x1024, .f32⟩
  | .hbm, ⟨4, _⟩ => ⟨S1024, .f32⟩
  | .hbm, ⟨5, _⟩ => ⟨S2x8192x512, .i32⟩
  | .hbm, ⟨6, _⟩ => ⟨S_, .i32⟩
  | .hbm, ⟨7, _⟩ => ⟨S2x8192x512, .i32⟩
  | .hbm, ⟨8, _⟩ => ⟨S2x8192x512, .i32⟩
  | .hbm, ⟨9, _⟩ => ⟨S2x8192x512, .f32⟩
  | .hbm, ⟨10, _⟩ => ⟨S_, .i32⟩
  | .hbm, ⟨11, _⟩ => ⟨S2x8192x512, .i32⟩
  | .hbm, ⟨12, _⟩ => ⟨S2x8192x512, .i32⟩
  | .hbm, ⟨13, _⟩ => ⟨S2x8192x512, .f32⟩
  | .hbm, ⟨14, _⟩ => ⟨S2x8192x1024, .f32⟩
  | .hbm, ⟨15, _⟩ => ⟨S8192x1, .f32⟩
  | .hbm, ⟨16, _⟩ => ⟨S1x8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1, .f32⟩
  | .hbm, ⟨21, _⟩ => ⟨S1x8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S57344x1024, .f32⟩
  | .hbm, ⟨49, _⟩ => ⟨S65536x1024, .f32⟩
  | _, _ => ⟨S65536x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Conv.lean ====
abbrev S8x8192x1024 : Shape := ⟨3, ![8, 8192, 1024]⟩
abbrev S1024 : Shape := ⟨1, ![1024]⟩
abbrev S8x1x1024 : Shape := ⟨3, ![8, 1, 1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S8x8192x3072 : Shape := ⟨3, ![8, 8192, 3072]⟩
abbrev S1x1024x1024 : Shape := ⟨3, ![1, 1024, 1024]⟩
abbrev S1x1x1024 : Shape := ⟨3, ![1, 1, 1024]⟩
abbrev S1x1024x3072 : Shape := ⟨3, ![1, 1024, 3072]⟩
abbrev S1024x1 : Shape := ⟨2, ![1024, 1]⟩
abbrev S1024x512 : Shape := ⟨2, ![1024, 512]⟩
abbrev S1x1024x512 : Shape := ⟨3, ![1, 1024, 512]⟩
abbrev S1x8x1024 : Shape := ⟨3, ![1, 8, 1024]⟩
abbrev S8x1024 : Shape := ⟨2, ![8, 1024]⟩

abbrev nBuf : Space → Nat
  | .hbm => 13
  | .vmem => 30
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .f32⟩
  | .hbm, ⟨5, _⟩ => ⟨S3x1024, .f32⟩
  | .hbm, ⟨6, _⟩ => ⟨S1024, .f32⟩
  | .hbm, ⟨7, _⟩ => ⟨S1024x1024, .f32⟩
  | .hbm, ⟨8, _⟩ => ⟨S8x1x1024, .f32⟩
  | .hbm, ⟨9, _⟩ => ⟨S1x1024, .f32⟩
  | .hbm, ⟨10, _⟩ => ⟨S8x8192x3072, .bf16⟩
  | .hbm, ⟨11, _⟩ => ⟨S1x1024, .f32⟩
  | .hbm, ⟨12, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .f32⟩
  | .local _ .vmem, ⟨8, _⟩ => ⟨S1x1024x3072, .bf16⟩
  | .local _ .vmem, ⟨9, _⟩ => ⟨S1x1024x3072, .bf16⟩
  | .local _ .vmem, ⟨10, _⟩ => ⟨S1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x8x1024, .bf16⟩
  | .local _ .vmem, ⟨18, _⟩ => ⟨S1x8x1024, .bf16⟩
  | .local _ .vmem, ⟨19, _⟩ => ⟨S1x8x1024, .bf16⟩
  | .local _ .vmem, ⟨20, _⟩ => ⟨S1x8x1024, .bf16⟩
  | .local _ .vmem, ⟨21, _⟩ => ⟨S3x1024, .f32⟩
  | .local _ .vmem, ⟨22, _⟩ => ⟨S1x1024, .f32⟩
  | .local _ .vmem, ⟨23, _⟩ => ⟨S1024x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1024x1024, .f32⟩
  | .local _ .vmem, ⟨29, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc1_transform_3 (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc1_transform_4 (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S3x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1024x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ConvRefIdeal.lean ====
abbrev S8x8192x1024 : Shape := ⟨3, ![8, 8192, 1024]⟩
abbrev S1024 : Shape := ⟨1, ![1024]⟩
abbrev S8x1x1024 : Shape := ⟨3, ![8, 1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8194x1024 : Shape := ⟨3, ![8, 8194, 1024]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .f32⟩
  | .hbm, ⟨5, _⟩ => ⟨S3x1024, .f32⟩
  | .hbm, ⟨6, _⟩ => ⟨S1024, .f32⟩
  | .hbm, ⟨7, _⟩ => ⟨S1024x1024, .f32⟩
  | .hbm, ⟨8, _⟩ => ⟨S8x1x1024, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x3072, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S_, .i32⟩
  | .hbm, ⟨38, _⟩ => ⟨S_, .f32⟩
  | .hbm, ⟨39, _⟩ => ⟨S8x8194x1024, .f32⟩
  | .hbm, ⟨40, _⟩ => ⟨S1x1024, .f32⟩
  | .hbm, ⟨41, _⟩ => ⟨S1024, .f32⟩
  | .hbm, ⟨42, _⟩ => ⟨S8x8192x1024, .f32⟩
  | .hbm, ⟨43, _⟩ => ⟨S1x1x1024, .f32⟩
  | .hbm, ⟨44, _⟩ => ⟨S8x8192x1024, .f32⟩
  | .hbm, ⟨45, _⟩ => ⟨S8x8192x1024, .f32⟩
  | .hbm, ⟨46, _⟩ => ⟨S1x1024, .f32⟩
  | .hbm, ⟨47, _⟩ => ⟨S1024, .f32⟩
  | .hbm, ⟨48, _⟩ => ⟨S8x8192x1024, .f32⟩
  | .hbm, ⟨49, _⟩ => ⟨S1x1x1024, .f32⟩
  | .hbm, ⟨50, _⟩ => ⟨S8x8192x1024, .f32⟩
  | .hbm, ⟨51, _⟩ => ⟨S8x8192x1024, .f32⟩
  | .hbm, ⟨52, _⟩ => ⟨S8x8192x1024, .f32⟩
  | .hbm, ⟨53, _⟩ => ⟨S1x1024, .f32⟩
  | .hbm, ⟨54, _⟩ => ⟨S1024, .f32⟩
  | .hbm, ⟨55, _⟩ => ⟨S8x8192x1024, .f32⟩
  | .hbm, ⟨56, _⟩ => ⟨S1x1x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S1x1x1024, .f32⟩
  | .hbm, ⟨61, _⟩ => ⟨S8x8192x1024, .f32⟩
  | .hbm, ⟨62, _⟩ => ⟨S8x8192x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S8x8192x1024, .f32⟩
  | .hbm, ⟨67, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== SbIn.lean ====
abbrev S8x8192x1024 : Shape := ⟨3, ![8, 8192, 1024]⟩
abbrev S1024 : Shape := ⟨1, ![1024]⟩
abbrev S8x1x1024 : Shape := ⟨3, ![8, 1, 1024]⟩
abbrev S1024x3072 : Shape := ⟨2, ![1024, 3072]⟩
abbrev S1x1024 : Shape := ⟨2, ![1, 1024]⟩
abbrev S8x8192x3072 : Shape := ⟨3, ![8, 8192, 3072]⟩
abbrev S1x1024x1024 : Shape := ⟨3, ![1, 1024, 1024]⟩
abbrev S1x1x1024 : Shape := ⟨3, ![1, 1, 1024]⟩
abbrev S1x1024x3072 : Shape := ⟨3, ![1, 1024, 3072]⟩
abbrev S1024x1024 : Shape := ⟨2, ![1024, 1024]⟩
abbrev S1024x1 : Shape := ⟨2, ![1024, 1]⟩
abbrev S1024x512 : Shape := ⟨2, ![1024, 512]⟩
abbrev S1x1024x512 : Shape := ⟨3, ![1, 1024, 512]⟩

abbrev nBuf : Space → Nat
  | .hbm => 7
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .f32⟩
  | .hbm, ⟨5, _⟩ => ⟨S1x1024, .f32⟩
  | .hbm, ⟨6, _⟩ => ⟨S8x8192x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .f32⟩
  | .local _ .vmem, ⟨8, _⟩ => ⟨S1x1024x3072, .bf16⟩
  | .local _ .vmem, ⟨9, _⟩ => ⟨S1x1024x3072, .bf16⟩
  | .local _ .vmem, ⟨10, _⟩ => ⟨S1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbInRefIdeal.lean ====
abbrev S8x8192x1024 : Shape := ⟨3, ![8, 8192, 1024]⟩
abbrev S1024 : Shape := ⟨1, ![1024]⟩
abbrev S8x1x1024 : Shape := ⟨3, ![8, 1, 1024]⟩
abbrev S1024x3072 : Shape := ⟨2, ![1024, 3072]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x3072, .f32⟩
  | .hbm, ⟨29, _⟩ => ⟨S8x8192x3072, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== GlaIn.lean ====
abbrev S8x8192x1024 : Shape := ⟨3, ![8, 8192, 1024]⟩
abbrev S1024 : Shape := ⟨1, ![1024]⟩
abbrev S8x1x1024 : Shape := ⟨3, ![8, 1, 1024]⟩
abbrev S1024x3088 : Shape := ⟨2, ![1024, 3088]⟩
abbrev S_ : Shape := ⟨0, ![]⟩
abbrev S1024x3328 : Shape := ⟨2, ![1024, 3328]⟩
abbrev S1x1024 : Shape := ⟨2, ![1, 1024]⟩
abbrev S8x8192x3328 : Shape := ⟨3, ![8, 8192, 3328]⟩
abbrev S1x1024x1024 : Shape := ⟨3, ![1, 1024, 1024]⟩
abbrev S1x1x1024 : Shape := ⟨3, ![1, 1, 1024]⟩
abbrev S1x1024x3328 : Shape := ⟨3, ![1, 1024, 3328]⟩
abbrev S1024x1024 : Shape := ⟨2, ![1024, 1024]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 10
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3088, .f32⟩
  | .hbm, ⟨5, _⟩ => ⟨S_, .i32⟩
  | .hbm, ⟨6, _⟩ => ⟨S_, .f32⟩
  | .hbm, ⟨7, _⟩ => ⟨S1024x3328, .f32⟩
  | .hbm, ⟨8, _⟩ => ⟨S1x1024, .f32⟩
  | .hbm, ⟨9, _⟩ => ⟨S8x8192x3328, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3328, .f32⟩
  | .local _ .vmem, ⟨8, _⟩ => ⟨S1x1024x3328, .bf16⟩
  | .local _ .vmem, ⟨9, _⟩ => ⟨S1x1024x3328, .bf16⟩
  | .local _ .vmem, ⟨10, _⟩ => ⟨S1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3328 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaInRefIdeal.lean ====
abbrev S8x8192x1024 : Shape := ⟨3, ![8, 8192, 1024]⟩
abbrev S1024 : Shape := ⟨1, ![1024]⟩
abbrev S8x1x1024 : Shape := ⟨3, ![8, 1, 1024]⟩
abbrev S1024x3088 : Shape := ⟨2, ![1024, 3088]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3088 : Shape := ⟨3, ![8, 8192, 3088]⟩
abbrev S8x8192x3328 : Shape := ⟨3, ![8, 8192, 3328]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3088, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x3088, .f32⟩
  | .hbm, ⟨29, _⟩ => ⟨S_, .i32⟩
  | .hbm, ⟨30, _⟩ => ⟨S_, .f32⟩
  | .hbm, ⟨31, _⟩ => ⟨S8x8192x3328, .f32⟩
  | .hbm, ⟨32, _⟩ => ⟨S8x8192x3328, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== MixerOut.lean ====
abbrev S8x8192x1024 : Shape := ⟨3, ![8, 8192, 1024]⟩
abbrev S1024x1024 : Shape := ⟨2, ![1024, 1024]⟩
abbrev S8x1x1024 : Shape := ⟨3, ![8, 1, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8x8192x1024, .bf16⟩
  | .hbm, ⟨1, _⟩ => ⟨S1024x1024, .f32⟩
  | .hbm, ⟨2, _⟩ => ⟨S8x8192x1024, .f32⟩
  | .hbm, ⟨3, _⟩ => ⟨S8x1x1024, .f32⟩
  | .hbm, ⟨4, _⟩ => ⟨S8x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1024, .f32⟩
  | .local _ .vmem, ⟨8, _⟩ => ⟨S1x1024x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixerOutRefIdeal.lean ====
abbrev S8x8192x1024 : Shape := ⟨3, ![8, 8192, 1024]⟩
abbrev S1024x1024 : Shape := ⟨2, ![1024, 1024]⟩
abbrev S8x1x1024 : Shape := ⟨3, ![8, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S1024x1024, .f32⟩
  | .hbm, ⟨2, _⟩ => ⟨S8x8192x1024, .f32⟩
  | .hbm, ⟨3, _⟩ => ⟨S8x1x1024, .f32⟩
  | .hbm, ⟨4, _⟩ => ⟨S8x8192x1024, .f32⟩
  | .hbm, ⟨5, _⟩ => ⟨S8x8192x1024, .f32⟩
  | .hbm, ⟨6, _⟩ => ⟨S8x8192x1024, .f32⟩
  | .hbm, ⟨7, _⟩ => ⟨S8x8192x1024, .f32⟩
  | .hbm, ⟨8, _⟩ => ⟨S8x8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DilIn.lean ====
abbrev S8x8192x1024 : Shape := ⟨3, ![8, 8192, 1024]⟩
abbrev S1024 : Shape := ⟨1, ![1024]⟩
abbrev S8x1x1024 : Shape := ⟨3, ![8, 1, 1024]⟩
abbrev S1024x4608 : Shape := ⟨2, ![1024, 4608]⟩
abbrev S1024x1536 : Shape := ⟨2, ![1024, 1536]⟩
abbrev S1x1024 : Shape := ⟨2, ![1, 1024]⟩
abbrev S8x8192x1536 : Shape := ⟨3, ![8, 8192, 1536]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1024x1024 : Shape := ⟨2, ![1024, 1024]⟩
abbrev S1024x1 : Shape := ⟨2, ![1024, 1]⟩
abbrev S1024x512 : Shape := ⟨2, ![1024, 512]⟩
abbrev S1x1024x512 : Shape := ⟨3, ![1, 1024, 512]⟩

abbrev nBuf : Space → Nat
  | .hbm => 8
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4608, .f32⟩
  | .hbm, ⟨5, _⟩ => ⟨S1024x1536, .f32⟩
  | .hbm, ⟨6, _⟩ => ⟨S1x1024, .f32⟩
  | .hbm, ⟨7, _⟩ => ⟨S8x8192x1536, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .f32⟩
  | .local _ .vmem, ⟨8, _⟩ => ⟨S1x1024x1536, .bf16⟩
  | .local _ .vmem, ⟨9, _⟩ => ⟨S1x1024x1536, .bf16⟩
  | .local _ .vmem, ⟨10, _⟩ => ⟨S1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DilInRefIdeal.lean ====
abbrev S8x8192x1024 : Shape := ⟨3, ![8, 8192, 1024]⟩
abbrev S1024 : Shape := ⟨1, ![1024]⟩
abbrev S8x1x1024 : Shape := ⟨3, ![8, 1, 1024]⟩
abbrev S1024x4608 : Shape := ⟨2, ![1024, 4608]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4608 : Shape := ⟨3, ![8, 8192, 4608]⟩
abbrev S8x8192x1536 : Shape := ⟨3, ![8, 8192, 1536]⟩

abbrev nBuf : Space → Nat
  | .hbm => 31
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4608, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x4608, .f32⟩
  | .hbm, ⟨29, _⟩ => ⟨S8x8192x1536, .f32⟩
  | .hbm, ⟨30, _⟩ => ⟨S8x8192x1536, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== StridedIn.lean ====
abbrev S8x8192x1024 : Shape := ⟨3, ![8, 8192, 1024]⟩
abbrev S1024 : Shape := ⟨1, ![1024]⟩
abbrev S8x1x1024 : Shape := ⟨3, ![8, 1, 1024]⟩
abbrev S1024x4608 : Shape := ⟨2, ![1024, 4608]⟩
abbrev S1024x1536 : Shape := ⟨2, ![1024, 1536]⟩
abbrev S1x1024 : Shape := ⟨2, ![1, 1024]⟩
abbrev S8x2048x6144 : Shape := ⟨3, ![8, 2048, 6144]⟩
abbrev S1x1024x1024 : Shape := ⟨3, ![1, 1024, 1024]⟩
abbrev S1x1x1024 : Shape := ⟨3, ![1, 1, 1024]⟩
abbrev S1x256x6144 : Shape := ⟨3, ![1, 256, 6144]⟩
abbrev S1024x1024 : Shape := ⟨2, ![1024, 1024]⟩
abbrev S12x1024x128 : Shape := ⟨3, ![12, 1024, 128]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩

abbrev nBuf : Space → Nat
  | .hbm => 8
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4608, .f32⟩
  | .hbm, ⟨5, _⟩ => ⟨S1024x1536, .f32⟩
  | .hbm, ⟨6, _⟩ => ⟨S1x1024, .f32⟩
  | .hbm, ⟨7, _⟩ => ⟨S8x2048x6144, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .f32⟩
  | .local _ .vmem, ⟨8, _⟩ => ⟨S1x256x6144, .bf16⟩
  | .local _ .vmem, ⟨9, _⟩ => ⟨S1x256x6144, .bf16⟩
  | .local _ .vmem, ⟨10, _⟩ => ⟨S1024x1024, .bf16⟩
  | .local _ .vmem, ⟨11, _⟩ => ⟨S12x1024x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== StridedInRefIdeal.lean ====
abbrev S8x8192x1024 : Shape := ⟨3, ![8, 8192, 1024]⟩
abbrev S1024 : Shape := ⟨1, ![1024]⟩
abbrev S8x1x1024 : Shape := ⟨3, ![8, 1, 1024]⟩
abbrev S1024x4608 : Shape := ⟨2, ![1024, 4608]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4608 : Shape := ⟨3, ![8, 8192, 4608]⟩
abbrev S8x8192x1536 : Shape := ⟨3, ![8, 8192, 1536]⟩
abbrev S8x2048x4x3x512 : Shape := ⟨5, ![8, 2048, 4, 3, 512]⟩
abbrev S8x2048x3x4x512 : Shape := ⟨5, ![8, 2048, 3, 4, 512]⟩
abbrev S8x2048x6144 : Shape := ⟨3, ![8, 2048, 6144]⟩

abbrev nBuf : Space → Nat
  | .hbm => 34
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4608, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x4608, .f32⟩
  | .hbm, ⟨29, _⟩ => ⟨S8x8192x1536, .f32⟩
  | .hbm, ⟨30, _⟩ => ⟨S8x2048x4x3x512, .f32⟩
  | .hbm, ⟨31, _⟩ => ⟨S8x2048x3x4x512, .f32⟩
  | .hbm, ⟨32, _⟩ => ⟨S8x2048x6144, .f32⟩
  | .hbm, ⟨33, _⟩ => ⟨S8x2048x6144, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== DilOut.lean ====
abbrev S8x4x8192x128 : Shape := ⟨4, ![8, 4, 8192, 128]⟩
abbrev S8x8192x128 : Shape := ⟨3, ![8, 8192, 128]⟩
abbrev S512x1024 : Shape := ⟨2, ![512, 1024]⟩
abbrev S8x8192x1024 : Shape := ⟨3, ![8, 8192, 1024]⟩
abbrev S8x1x1024 : Shape := ⟨3, ![8, 1, 1024]⟩
abbrev S1x4x1024x128 : Shape := ⟨4, ![1, 4, 1024, 128]⟩
abbrev S1x1024x128 : Shape := ⟨3, ![1, 1024, 128]⟩
abbrev S1x1024x1024 : Shape := ⟨3, ![1, 1024, 1024]⟩
abbrev S1x1x1024 : Shape := ⟨3, ![1, 1, 1024]⟩
abbrev S1024x128 : Shape := ⟨2, ![1024, 128]⟩
abbrev S1024x1 : Shape := ⟨2, ![1024, 1]⟩
abbrev S1x1x1024x128 : Shape := ⟨4, ![1, 1, 1024, 128]⟩
abbrev S1024x512 : Shape := ⟨2, ![1024, 512]⟩
abbrev S1024x1024 : Shape := ⟨2, ![1024, 1024]⟩
abbrev S1x1024 : Shape := ⟨2, ![1, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8x4x8192x128, .f32⟩
  | .hbm, ⟨1, _⟩ => ⟨S8x4x8192x128, .f32⟩
  | .hbm, ⟨2, _⟩ => ⟨S8x4x8192x128, .f32⟩
  | .hbm, ⟨3, _⟩ => ⟨S8x8192x128, .f32⟩
  | .hbm, ⟨4, _⟩ => ⟨S8x8192x128, .f32⟩
  | .hbm, ⟨5, _⟩ => ⟨S8x8192x128, .f32⟩
  | .hbm, ⟨6, _⟩ => ⟨S512x1024, .f32⟩
  | .hbm, ⟨7, _⟩ => ⟨S8x8192x1024, .f32⟩
  | .hbm, ⟨8, _⟩ => ⟨S8x1x1024, .f32⟩
  | .hbm, ⟨9, _⟩ => ⟨S8x8192x1024, .f32⟩
  | .local _ .vmem, ⟨0, _⟩ => ⟨S1x4x1024x128, .f32⟩
  | .local _ .vmem, ⟨1, _⟩ => ⟨S1x4x1024x128, .f32⟩
  | .local _ .vmem, ⟨2, _⟩ => ⟨S1x4x1024x128, .f32⟩
  | .local _ .vmem, ⟨3, _⟩ => ⟨S1x4x1024x128, .f32⟩
  | .local _ .vmem, ⟨4, _⟩ => ⟨S1x4x1024x128, .f32⟩
  | .local _ .vmem, ⟨5, _⟩ => ⟨S1x4x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S512x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024x1024, .f32⟩
  | .local _ .vmem, ⟨18, _⟩ => ⟨S1x1024x1024, .f32⟩
  | _, _ => ⟨S8x4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DilOutRefIdeal.lean ====
abbrev S8x4x8192x128 : Shape := ⟨4, ![8, 4, 8192, 128]⟩
abbrev S8x8192x128 : Shape := ⟨3, ![8, 8192, 128]⟩
abbrev S512x1024 : Shape := ⟨2, ![512, 1024]⟩
abbrev S8x8192x1024 : Shape := ⟨3, ![8, 8192, 1024]⟩
abbrev S8x1x1024 : Shape := ⟨3, ![8, 1, 1024]⟩
abbrev S8x4x8192x2x64 : Shape := ⟨5, ![8, 4, 8192, 2, 64]⟩
abbrev S8x4x2x8192x64 : Shape := ⟨5, ![8, 4, 2, 8192, 64]⟩
abbrev S8x8x8192x64 : Shape := ⟨4, ![8, 8, 8192, 64]⟩
abbrev S1x8x8x8192x64 : Shape := ⟨5, ![1, 8, 8, 8192, 64]⟩
abbrev S3x8x8x8192x64 : Shape := ⟨5, ![3, 8, 8, 8192, 64]⟩
abbrev S1x8x8192x128 : Shape := ⟨4, ![1, 8, 8192, 128]⟩
abbrev S3x8x8192x128 : Shape := ⟨4, ![3, 8, 8192, 128]⟩
abbrev S3x8x8192x8 : Shape := ⟨4, ![3, 8, 8192, 8]⟩
abbrev S3x8x8x8192 : Shape := ⟨4, ![3, 8, 8, 8192]⟩
abbrev S_ : Shape := ⟨0, ![]⟩
abbrev S8x8x8192 : Shape := ⟨3, ![8, 8, 8192]⟩
abbrev S1x8x8x8192 : Shape := ⟨4, ![1, 8, 8, 8192]⟩
abbrev S8x8192x8x64 : Shape := ⟨4, ![8, 8192, 8, 64]⟩
abbrev S8x8192x512 : Shape := ⟨3, ![8, 8192, 512]⟩

abbrev nBuf : Space → Nat
  | .hbm => 48
  | .vmem => 0
  | .smem => 0
  | _ => 0

abbrev bufTy : (tb : Table) → Fin (tcTables nBuf tb) → BufTy
  | .hbm, ⟨0, _⟩ => ⟨S8x4x8192x128, .f32⟩
  | .hbm, ⟨1, _⟩ => ⟨S8x4x8192x128, .f32⟩
  | .hbm, ⟨2, _⟩ => ⟨S8x4x8192x128, .f32⟩
  | .hbm, ⟨3, _⟩ => ⟨S8x8192x128, .f32⟩
  | .hbm, ⟨4, _⟩ => ⟨S8x8192x128, .f32⟩
  | .hbm, ⟨5, _⟩ => ⟨S8x8192x128, .f32⟩
  | .hbm, ⟨6, _⟩ => ⟨S512x1024, .f32⟩
  | .hbm, ⟨7, _⟩ => ⟨S8x8192x1024, .f32⟩
  | .hbm, ⟨8, _⟩ => ⟨S8x1x1024, .f32⟩
  | .hbm, ⟨9, _⟩ => ⟨S8x4x8192x2x64, .f32⟩
  | .hbm, ⟨10, _⟩ => ⟨S8x4x2x8192x64, .f32⟩
  | .hbm, ⟨11, _⟩ => ⟨S8x8x8192x64, .f32⟩
  | .hbm, ⟨12, _⟩ => ⟨S8x4x8192x2x64, .f32⟩
  | .hbm, ⟨13, _⟩ => ⟨S8x4x2x8192x64, .f32⟩
  | .hbm, ⟨14, _⟩ => ⟨S8x8x8192x64, .f32⟩
  | .hbm, ⟨15, _⟩ => ⟨S8x4x8192x2x64, .f32⟩
  | .hbm, ⟨16, _⟩ => ⟨S8x4x2x8192x64, .f32⟩
  | .hbm, ⟨17, _⟩ => ⟨S8x8x8192x64, .f32⟩
  | .hbm, ⟨18, _⟩ => ⟨S1x8x8x8192x64, .f32⟩
  | .hbm, ⟨19, _⟩ => ⟨S1x8x8x8192x64, .f32⟩
  | .hbm, ⟨20, _⟩ => ⟨S1x8x8x8192x64, .f32⟩
  | .hbm, ⟨21, _⟩ => ⟨S3x8x8x8192x64, .f32⟩
  | .hbm, ⟨22, _⟩ => ⟨S1x8x8192x128, .f32⟩
  | .hbm, ⟨23, _⟩ => ⟨S1x8x8192x128, .f32⟩
  | .hbm, ⟨24, _⟩ => ⟨S1x8x8192x128, .f32⟩
  | .hbm, ⟨25, _⟩ => ⟨S3x8x8192x128, .f32⟩
  | .hbm, ⟨26, _⟩ => ⟨S3x8x8192x8, .f32⟩
  | .hbm, ⟨27, _⟩ => ⟨S3x8x8x8192, .f32⟩
  | .hbm, ⟨28, _⟩ => ⟨S_, .f32⟩
  | .hbm, ⟨29, _⟩ => ⟨S8x8x8192, .f32⟩
  | .hbm, ⟨30, _⟩ => ⟨S_, .f32⟩
  | .hbm, ⟨31, _⟩ => ⟨S8x8x8192, .f32⟩
  | .hbm, ⟨32, _⟩ => ⟨S8x8x8192, .f32⟩
  | .hbm, ⟨33, _⟩ => ⟨S1x8x8x8192, .f32⟩
  | .hbm, ⟨34, _⟩ => ⟨S3x8x8x8192, .f32⟩
  | .hbm, ⟨35, _⟩ => ⟨S3x8x8x8192, .f32⟩
  | .hbm, ⟨36, _⟩ => ⟨S3x8x8x8192, .f32⟩
  | .hbm, ⟨37, _⟩ => ⟨S_, .f32⟩
  | .hbm, ⟨38, _⟩ => ⟨S8x8x8192, .f32⟩
  | .hbm, ⟨39, _⟩ => ⟨S1x8x8x8192, .f32⟩
  | .hbm, ⟨40, _⟩ => ⟨S3x8x8x8192, .f32⟩
  | .hbm, ⟨41, _⟩ => ⟨S3x8x8x8192, .f32⟩
  | .hbm, ⟨42, _⟩ => ⟨S8x8192x8x64, .f32⟩
  | .hbm, ⟨43, _⟩ => ⟨S8x8192x512, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S8x8192x1024, .f32⟩
  | _, _ => ⟨S8x4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== WideIn.lean ====
abbrev S8x8192x1024 : Shape := ⟨3, ![8, 8192, 1024]⟩
abbrev S1024 : Shape := ⟨1, ![1024]⟩
abbrev S8x1x1024 : Shape := ⟨3, ![8, 1, 1024]⟩
abbrev S1024x4608 : Shape := ⟨2, ![1024, 4608]⟩
abbrev S1024x1536 : Shape := ⟨2, ![1024, 1536]⟩
abbrev S1x1024 : Shape := ⟨2, ![1, 1024]⟩
abbrev S8x512x24576 : Shape := ⟨3, ![8, 512, 24576]⟩
abbrev S1x1024x1024 : Shape := ⟨3, ![1, 1024, 1024]⟩
abbrev S1x1x1024 : Shape := ⟨3, ![1, 1, 1024]⟩
abbrev S1x64x24576 : Shape := ⟨3, ![1, 64, 24576]⟩
abbrev S1024x1024 : Shape := ⟨2, ![1024, 1024]⟩
abbrev S12x1024x128 : Shape := ⟨3, ![12, 1024, 128]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩

abbrev nBuf : Space → Nat
  | .hbm => 8
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4608, .f32⟩
  | .hbm, ⟨5, _⟩ => ⟨S1024x1536, .f32⟩
  | .hbm, ⟨6, _⟩ => ⟨S1x1024, .f32⟩
  | .hbm, ⟨7, _⟩ => ⟨S8x512x24576, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .f32⟩
  | .local _ .vmem, ⟨8, _⟩ => ⟨S1x64x24576, .bf16⟩
  | .local _ .vmem, ⟨9, _⟩ => ⟨S1x64x24576, .bf16⟩
  | .local _ .vmem, ⟨10, _⟩ => ⟨S1024x1024, .bf16⟩
  | .local _ .vmem, ⟨11, _⟩ => ⟨S12x1024x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x24576 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WideInRefIdeal.lean ====
abbrev S8x8192x1024 : Shape := ⟨3, ![8, 8192, 1024]⟩
abbrev S1024 : Shape := ⟨1, ![1024]⟩
abbrev S8x1x1024 : Shape := ⟨3, ![8, 1, 1024]⟩
abbrev S1024x4608 : Shape := ⟨2, ![1024, 4608]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4608 : Shape := ⟨3, ![8, 8192, 4608]⟩
abbrev S8x8192x1536 : Shape := ⟨3, ![8, 8192, 1536]⟩
abbrev S8x512x16x3x512 : Shape := ⟨5, ![8, 512, 16, 3, 512]⟩
abbrev S8x512x3x16x512 : Shape := ⟨5, ![8, 512, 3, 16, 512]⟩
abbrev S8x512x24576 : Shape := ⟨3, ![8, 512, 24576]⟩

abbrev nBuf : Space → Nat
  | .hbm => 34
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x4608, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x4608, .f32⟩
  | .hbm, ⟨29, _⟩ => ⟨S8x8192x1536, .f32⟩
  | .hbm, ⟨30, _⟩ => ⟨S8x512x16x3x512, .f32⟩
  | .hbm, ⟨31, _⟩ => ⟨S8x512x3x16x512, .f32⟩
  | .hbm, ⟨32, _⟩ => ⟨S8x512x24576, .f32⟩
  | .hbm, ⟨33, _⟩ => ⟨S8x512x24576, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.CombineSpec.lean ====
module

public import Idealize.ShloMosaic.Lib.Pointwise

@[expose] public section

noncomputable section

namespace Cert.CombineSpec

open Idealize.ShloMosaic

abbrev SG : Shape := ⟨2, ![65536, 128]⟩
abbrev SX : Shape := ⟨2, ![65536, 1024]⟩
abbrev SA : Shape := ⟨3, ![8, 1, 1024]⟩
abbrev SF : Shape := ⟨1, ![1024]⟩

/-- The value in the low half of a word. -/
def lowHalf (w : BitVec 32) : EReal := Ideal.ofBits .f32 (w <<< 16)
/-- The value in the high half of a word. -/
def highHalf (w : BitVec 32) : EReal := Ideal.ofBits .f32 (w &&& 4294901760#32)

/-- The word of choice `e` of token `r` that holds features `k` and `512 + k`. -/
def word (g : SG.Idx → BitVec 32) (e : Fin 2) (r : Fin 8192) (k : Fin 512) : BitVec 32 :=
  g (ix2 ⟨(e.val * 8192 + r.val) * 4 + k.val / 128, by omega⟩ ⟨k.val % 128, by omega⟩)

/-- Feature `j` of the expert output of choice `e` of token `r`. -/
def expert (g : SG.Idx → BitVec 32) (e : Fin 2) (r : Fin 8192) (j : Fin 1024) : EReal :=
  if h : j.val < 512 then lowHalf (word g e r ⟨j.val, h⟩) else highHalf (word g e r ⟨j.val - 512, by omega⟩)

/-- The residual stream after the mixture's update. -/
def mixed (g : SG.Idx → BitVec 32) (rt : SG.Idx → EReal) (x : SX.Idx → EReal) (a : SA.Idx → EReal) (r : Fin 8192)
    (j : Fin 1024) : EReal :=
  x (ix2 ⟨r.val, by omega⟩ j) + a (ix3 0 0 j)
    * (rt (ix2 ⟨r.val, by omega⟩ 2) * expert g 0 r j + rt (ix2 ⟨r.val, by omega⟩ 3) * expert g 1 r j)

/-- Its mean square over the features. -/
def meanSq (g : SG.Idx → BitVec 32) (rt : SG.Idx → EReal) (x : SX.Idx → EReal) (a : SA.Idx → EReal) (r : Fin 8192) : EReal :=
  Ideal.div (∑ k : Fin 1024, mixed g rt x a r k * mixed g rt x a r k) (Ideal.ofBits .f32 0x44800000#32)

/-- The layer's output on the first 8192 tokens, the residual stream as it was on the others. -/
def out (g : SG.Idx → BitVec 32) (rt : SG.Idx → EReal) (x : SX.Idx → EReal) (a : SA.Idx → EReal) (fg : SF.Idx → EReal)
    (i : SX.Idx) : EReal :=
  if h : (i 0).val < 8192 then
    mixed g rt x a ⟨(i 0).val, h⟩ (i 1)
      * Ideal.rsqrt (meanSq g rt x a ⟨(i 0).val, h⟩ + Ideal.ofBits .f32 0x358637BD#32) * fg (ix1 (i 1))
  else x i

/-- A bf16 and the f32 whose high half it is and whose low half is zero have one value. -/
theorem ieee_widen (b : BitVec 16) (w : BitVec 32) (h : w = b ++ 0#16) : Ideal.ieee 8 23 w = Ideal.ieee 8 7 b := by
  have hn : w.extractLsb' 31 1 = b.extractLsb' 15 1 := by
    subst h; apply BitVec.eq_of_toNat_eq
    simp only [BitVec.extractLsb'_toNat, BitVec.toNat_append, BitVec.toNat_ofNat, Nat.shiftRight_eq_div_pow]
    simp [Nat.shiftLeft_eq]; omega
  have he : w.extractLsb' 23 8 = b.extractLsb' 7 8 := by
    subst h; apply BitVec.eq_of_toNat_eq
    simp only [BitVec.extractLsb'_toNat, BitVec.toNat_append, BitVec.toNat_ofNat, Nat.shiftRight_eq_div_pow]
    simp [Nat.shiftLeft_eq]; omega
  have hf : (w.extractLsb' 0 23).toNat = (b.extractLsb' 0 7).toNat * 2 ^ 16 := by
    subst h
    simp only [BitVec.extractLsb'_toNat, BitVec.toNat_append, BitVec.toNat_ofNat]
    simp
    omega
  unfold Ideal.ieee
  simp only [show 8 + 23 = 31 from rfl, show 8 + 7 = 15 from rfl, hn, he, hf]
  generalize (b.extractLsb' 0 7).toNat = f
  generalize (b.extractLsb' 7 8).toNat = e
  have p1 : (2 : ℝ) ^ (1 - ((2 : ℤ) ^ (8 - 1) - 1) - (7 : ℕ) : ℤ) = 2 ^ 16 * (2 : ℝ) ^ (1 - ((2 : ℤ) ^ (8 - 1) - 1) - (23 : ℕ) : ℤ) := by
    norm_num [zpow_neg]
  have p2 : (2 : ℝ) ^ ((e : ℤ) - ((2 : ℤ) ^ (8 - 1) - 1) - (7 : ℕ) : ℤ) = 2 ^ 16 * (2 : ℝ) ^ ((e : ℤ) - ((2 : ℤ) ^ (8 - 1) - 1) - (23 : ℕ) : ℤ) := by
    rw [← zpow_natCast, ← zpow_add₀ (by norm_num)]; congr 1; push_cast; ring
  simp only [p1, p2]
  have hz : (f * 2 ^ 16 = 0) ↔ f = 0 := by omega
  simp only [hz]
  split_ifs <;> first | rfl | (congr 1; push_cast; ring)

theorem lowHalf_eq (w : BitVec 32) : Ideal.ofBits .bf16 (w.extractLsb' 0 16) = lowHalf w := by
  refine (ieee_widen _ _ ?_).symm
  apply BitVec.eq_of_toNat_eq
  simp only [BitVec.extractLsb'_toNat, BitVec.toNat_append, BitVec.toNat_ofNat, Nat.shiftRight_eq_div_pow]
  simp [Nat.shiftLeft_eq]; omega

theorem highHalf_eq (w : BitVec 32) : Ideal.ofBits .bf16 (w.extractLsb' 16 16) = highHalf w := by
  refine (ieee_widen _ _ ?_).symm
  ext i hi
  have hm : ∀ i : Nat, i < 32 → (4294901760#32).getLsbD i = decide (16 ≤ i) := by decide
  rw [BitVec.getElem_and, ← BitVec.getLsbD_eq_getElem (x := 4294901760#32), hm i hi, BitVec.getElem_append]
  by_cases h : i < 16
  · simp [h, Nat.not_le.2 h]
  · have h' : 16 ≤ i := by omega
    simp [h, h', ← BitVec.getLsbD_eq_getElem]
    intro _; omega

end Cert.CombineSpec

end
-- ==== Proof.CombineKernel.lean ====
module

public import proofs.«01_k».proof.Proof.Gen.CombineIdeal.Value
public import proofs.«01_k».proof.Proof.CombineSpec
public import Idealize.ShloMosaic.Lib.Pipeline.ValueKit
public import Idealize.ShloMosaic.Lib.Pointwise
public import Idealize.ShloMosaic.Lib.WholeRead

@[expose] public section

set_option maxRecDepth 16384

noncomputable section

namespace Cert.CombineIdeal.Hand

open Cert.CombineIdeal Cert.CombineIdeal.Gen Cert.CombineSpec Idealize.ShloMosaic Idealize.ShloMosaic.TcCoe Idealize.SL.Sem
open Idealize.ShloMosaic.Pipeline (Dat)

variable (m : (ℓ : Loc nD τ sig) → Buf (Elt Ideal) ℓ)

/-- Four loads of every fourth row, side by side, are a token's 512 words in a row. -/
theorem words_apply (x : Vec Ideal S4096x128 .i32) (v0 v1 v2 v3 : Vec Ideal S1024x128 .i32)
    (h0 : ∀ (r : Fin 1024) (l : Fin 128), v0 (ix2 r l) = x (ix2 ⟨4 * r.val, by omega⟩ l))
    (h1 : ∀ (r : Fin 1024) (l : Fin 128), v1 (ix2 r l) = x (ix2 ⟨1 + 4 * r.val, by omega⟩ l))
    (h2 : ∀ (r : Fin 1024) (l : Fin 128), v2 (ix2 r l) = x (ix2 ⟨2 + 4 * r.val, by omega⟩ l))
    (h3 : ∀ (r : Fin 1024) (l : Fin 128), v3 (ix2 r l) = x (ix2 ⟨3 + 4 * r.val, by omega⟩ l))
    (r : Fin 1024) (k : Fin 512) :
    concatenate S1024x512 1 [⟨S1024x128, v0⟩, ⟨S1024x128, v1⟩, ⟨S1024x128, v2⟩, ⟨S1024x128, v3⟩]
        concatenates_S1024x128_S1024x128_S1024x128_S1024x128_S1024x512_d1 (ix2 r k)
      = x (ix2 ⟨r.val * 4 + k.val / 128, by omega⟩ ⟨k.val % 128, by omega⟩) := by
  pointwise
  split
  · rw [h0]; congr 2 <;> apply Fin.ext <;> simp only <;> omega
  · split
    · rw [h1]; congr 2 <;> apply Fin.ext <;> simp only <;> omega
    · split
      · rw [h2]; congr 2 <;> apply Fin.ext <;> simp only <;> omega
      · rw [h3]; congr 2 <;> apply Fin.ext <;> simp only <;> omega

/-- Feature `j` of token `r` of a block of words. -/
def blkExpert (x : Vec Ideal S4096x128 .i32) (r : Fin 1024) (j : Fin 1024) : EReal :=
  if h : j.val < 512 then lowHalf (x (ix2 ⟨r.val * 4 + j.val / 128, by omega⟩ ⟨j.val % 128, by omega⟩))
  else highHalf (x (ix2 ⟨r.val * 4 + (j.val - 512) / 128, by omega⟩ ⟨(j.val - 512) % 128, by omega⟩))

theorem unpack_apply (x : Vec Ideal S4096x128 .i32) (w : IVec S1024x512 32)
    (hw : ∀ (r : Fin 1024) (k : Fin 512), w (ix2 r k) = x (ix2 ⟨r.val * 4 + k.val / 128, by omega⟩ ⟨k.val % 128, by omega⟩))
    (r j : Fin 1024) :
    concatenate S1024x1024 1 [⟨S1024x512, (unpackElementwise 0 w : FVec Ideal S1024x512 .f32)⟩, ⟨S1024x512, (unpackElementwise 1 w : FVec Ideal S1024x512 .f32)⟩]
        concatenates_S1024x512_S1024x512_S1024x1024_d1 (ix2 r j) = blkExpert x r j := by
  pointwise
  unfold blkExpert
  split
  · rw [hw, lowHalf_eq]
  · rw [hw, highHalf_eq]

def blkMixed (x0 x1 : Vec Ideal S4096x128 .i32) (x2 : Vec Ideal S1024x128 .f32) (x3 : Vec Ideal S1024x1024 .f32)
    (x4 : Vec Ideal S1x1x1024 .f32) (r j : Fin 1024) : EReal :=
  x3 (ix2 r j) + x4 (ix3 0 0 j) * (x2 (ix2 r 2) * blkExpert x0 r j + x2 (ix2 r 3) * blkExpert x1 r j)

/-- The stored block at an index, from eight loads known word by word. -/
theorem pay_apply (x0 x1 : Vec Ideal S4096x128 .i32) (x2 : Vec Ideal S1024x128 .f32) (x3 : Vec Ideal S1024x1024 .f32)
    (x4 : Vec Ideal S1x1x1024 .f32) (x5 : Vec Ideal S1x1024 .f32) (v0 v1 v2 v3 v4 v5 v6 v7 : Vec Ideal S1024x128 .i32)
    (h0 : ∀ (r : Fin 1024) (l : Fin 128), v0 (ix2 r l) = x0 (ix2 ⟨4 * r.val, by omega⟩ l))
    (h1 : ∀ (r : Fin 1024) (l : Fin 128), v1 (ix2 r l) = x0 (ix2 ⟨1 + 4 * r.val, by omega⟩ l))
    (h2 : ∀ (r : Fin 1024) (l : Fin 128), v2 (ix2 r l) = x0 (ix2 ⟨2 + 4 * r.val, by omega⟩ l))
    (h3 : ∀ (r : Fin 1024) (l : Fin 128), v3 (ix2 r l) = x0 (ix2 ⟨3 + 4 * r.val, by omega⟩ l))
    (h4 : ∀ (r : Fin 1024) (l : Fin 128), v4 (ix2 r l) = x1 (ix2 ⟨4 * r.val, by omega⟩ l))
    (h5 : ∀ (r : Fin 1024) (l : Fin 128), v5 (ix2 r l) = x1 (ix2 ⟨1 + 4 * r.val, by omega⟩ l))
    (h6 : ∀ (r : Fin 1024) (l : Fin 128), v6 (ix2 r l) = x1 (ix2 ⟨2 + 4 * r.val, by omega⟩ l))
    (h7 : ∀ (r : Fin 1024) (l : Fin 128), v7 (ix2 r l) = x1 (ix2 ⟨3 + 4 * r.val, by omega⟩ l))
    (y : S1024x1024.Idx) :
    k0_pay1 (F := Ideal) (k0_pay2 x2 v0 v1 v2 v3 v4 v5 v6 v7 x3 x4) (k0_pay3 x2 v0 v1 v2 v3 v4 v5 v6 v7 x3 x4) (k0_pay4 (F := Ideal)) x5 y
      = blkMixed x0 x1 x2 x3 x4 (y 0) (y 1)
        * Ideal.rsqrt (Ideal.div (∑ k : Fin 1024, blkMixed x0 x1 x2 x3 x4 (y 0) k * blkMixed x0 x1 x2 x3 x4 (y 0) k) (Ideal.ofBits .f32 0x44800000#32)
          + Ideal.ofBits .f32 0x358637BD#32) * x5 (ix2 0 (y 1)) := by
  have e : ∀ r j : Fin 1024, k0_pay2 (F := Ideal) x2 v0 v1 v2 v3 v4 v5 v6 v7 x3 x4 (ix2 r j) = blkMixed x0 x1 x2 x3 x4 r j := by
    intro r j
    have a0 := unpack_apply x0 _ (words_apply x0 v0 v1 v2 v3 h0 h1 h2 h3) r j
    have a1 := unpack_apply x1 _ (words_apply x1 v4 v5 v6 v7 h4 h5 h6 h7) r j
    unfold k0_pay2
    revert a0 a1
    generalize concatenate S1024x1024 _ _ _ = c0
    generalize concatenate S1024x1024 _ _ _ = c1
    intro a0 a1
    pointwise
    rw [a0, a1]; rfl
  have e' : k0_pay2 (F := Ideal) x2 v0 v1 v2 v3 v4 v5 v6 v7 x3 x4 = fun i => blkMixed x0 x1 x2 x3 x4 (i 0) (i 1) :=
    funext fun i => by
      conv_lhs => rw [eq_ix2 i]
      exact e _ _
  unfold k0_pay3
  rw [e']
  pointwise [k0_pay1, k0_pay4]

theorem out_apply (x0 x1 : Vec Ideal S4096x128 .i32) (x2 : Vec Ideal S1024x128 .f32) (x3 : Vec Ideal S1024x1024 .f32) (x4 : Vec Ideal S1x1x1024 .f32)
    (x5 : Vec Ideal S1x1024 .f32) (c : Dev nD) (i : grid0.Coords) (arg1 : Memref sig .tc .vmem S4096x128 .i32) (harg1 : arg1.IsWhole) (arg2 : Memref sig .tc .vmem S4096x128 .i32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x1024 .f32) (harg7 : arg7.IsWhole)
    (y : S1024x1024.Idx) :
    out0_A_6 c i arg1 harg1 arg2 harg2 arg3 harg3 arg4 harg4 arg5 harg5 arg6 harg6 arg7 harg7 x0 x1 x2 x3 x4 x5 y
      = blkMixed x0 x1 x2 x3 x4 (y 0) (y 1)
        * Ideal.rsqrt (Ideal.div (∑ k : Fin 1024, blkMixed x0 x1 x2 x3 x4 (y 0) k * blkMixed x0 x1 x2 x3 x4 (y 0) k) (Ideal.ofBits .f32 0x44800000#32)
          + Ideal.ofBits .f32 0x358637BD#32) * x5 (ix2 0 (y 1)) := by
  frame_out
  refine pay_apply x0 x1 x2 x3 x4 x5 _ _ _ _ _ _ _ _ ?_ ?_ ?_ ?_ ?_ ?_ ?_ ?_ y <;> intro r l <;>
    rw [Memref.IsWhole.readAt_unread] <;> pointwise

theorem idx0 : ∀ t : Fin grid0.N, win0_0.index t = ![t.val, 0] := by decide +kernel
theorem idx1 : ∀ t : Fin grid0.N, win0_1.index t = ![8 + t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0, 0] := by decide +kernel
theorem idx5 : ∀ t : Fin grid0.N, win0_5.index t = ![0, 0] := by decide +kernel
theorem idx6 : ∀ t : Fin grid0.N, win0_6.index t = ![t.val, 0] := by decide +kernel

/-- The region finds the residual's copy at the residual. -/
theorem V_copy (c : Dev nD) : V m c main_v1 = m ((c : Thread nD τ).loc main_arg2) := by
  entry_read
  rfl
/-- Rows past the batch element keep the residual. -/
theorem out_untouched (g : SG.Idx → BitVec 32) (rt : SG.Idx → EReal) (x : SX.Idx → EReal) (a : SA.Idx → EReal)
    (fg : SF.Idx → EReal) (i : SX.Idx) (h : ¬ ((i 0).val < 8192)) : out g rt x a fg i = x i := by
  unfold out
  exact dif_neg h

theorem final (c : Dev nD) : (dats m 0 c).arrAt 6 cfg0.N =
    out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_coversWhere_of_agree 6 _ (fun β => β (0 : Fin 2) < 8) (by decide +kernel) (fun t hf y => ?_) (fun j hj => ?_)
  · blk_simp
    rw [after0_6]
    unfold outsAt0
    rw [out_apply]
    idx_vars y
    have ht8 : t.val < 8 := t.isLt
    have hlt : t.val * 1024 + y0.val < 8192 := by omega
    have ht : ((win0_6.blk t).view.emb (ix2 y0 y1)) = ix2 (⟨t.val * 1024 + y0.val, by omega⟩ : Fin 65536) y1 := by
      blk_ext [idx6]
    rw [ht]
    have hm : ∀ k, blkMixed (iblk m c 0 t) (iblk m c 1 t) (iblk m c 2 t) (iblk m c 3 t) (iblk m c 4 t) y0 k =
       mixed (m ((c.tc : Thread nD τ).loc main_arg0)) (m ((c.tc : Thread nD τ).loc main_arg1)) (m ((c.tc : Thread nD τ).loc main_arg2))
      (m ((c.tc : Thread nD τ).loc main_arg3)) ⟨t.val * 1024 + y0.val, by omega⟩ k := by
      intro k
      unfold blkMixed mixed blkExpert expert word
      blk_point [iblk, V_main_arg0, V_main_arg1, V_main_arg2, V_main_arg3, idx0 t, idx1 t, idx2 t, idx3 t, idx4 t]
    have h5 : iblk m c 5 t (ix2 0 y1) = m ((c : Thread nD τ).loc main_arg4) (ix1 y1) := by
      blk_point [iblk, idx5 t]
    unfold out
    simp only [ix2_0, ix2_1, hlt, ↓reduceDIte]
    unfold meanSq
    simp only [hm, h5]
  · blk_simp [Pipeline.Window.cell_apply] at hj
    rw [A_eq]
    have hj' : ¬ ((j 0).val < 8192) := by omega
    refine (congrFun (V_copy m c) _).trans ?_
    exact (out_untouched _ _ _ _ _ _ hj').symm

end Cert.CombineIdeal.Hand

end
-- ==== Proof.CombineRef.lean ====
module

public import proofs.«01_k».proof.Proof.CombineSpec
public import proofs.«01_k».proof.Proof.Gen.CombineRefIdeal.Run

@[expose] public section

noncomputable section

namespace Cert.CombineRefIdeal.Hand

open Cert.CombineRefIdeal Cert.CombineRefIdeal.Gen Cert.CombineSpec Idealize.ShloMosaic Idealize.ShloMosaic.TcCoe

theorem shl16 (w : BitVec 32) : IntOp.shli ArithUnit.host w 16#32 = w <<< 16 := by
  simp [IntOp.shli]

/-- The gathered words, unpacked: both halves side by side are an expert's output. -/
theorem gathered_apply (g : Vec Ideal S65536x128 .i32) (e : Fin 2) (r : Fin 8192) (j : Fin 1024) :
    (concatenate S2x8192x1024 2 [⟨S2x8192x512, (bitcastToFloat (F := Ideal) .f32 (Host.shli (shapeCast _ g shapeCasts_S65536x128_S2x8192x512) (broadcastInDim S2x8192x512 ![] bcast_S_S2x8192x512 (constantI S_ 32 16#32))))⟩, ⟨S2x8192x512, (bitcastToFloat (F := Ideal) .f32 (andi (shapeCast _ g shapeCasts_S65536x128_S2x8192x512) (broadcastInDim S2x8192x512 ![] bcast_S_S2x8192x512 (constantI S_ 32 4294901760#32))))⟩] concatenates_S2x8192x512_S2x8192x512_S2x8192x1024_d2) (ix3 e r j)
      = expert g e r j := by
  pointwise
  unfold expert word lowHalf highHalf
  simp only [shl16]
  split
  · rw [show (⟨e.val * 32768 + r.val * 4 + j.val / 128, by omega⟩ : Fin 65536) = ⟨(e.val * 8192 + r.val) * 4 + j.val / 128, by omega⟩ from
      Fin.ext (by simp only; omega)]
  · rw [show (⟨e.val * 32768 + r.val * 4 + (j.val - 512) / 128, by omega⟩ : Fin 65536)
      = ⟨(e.val * 8192 + r.val) * 4 + (j.val - 512) / 128, by omega⟩ from Fin.ext (by simp only; omega)]
    rfl

variable (m : (ℓ : Loc nD τ sig) → Buf (Elt Ideal) ℓ)

theorem res_eq (c : Dev nD) : Value.res_main_v39 m c = out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  funext i
  unfold Value.res_main_v39
  have hg := gathered_apply (m ((c.tc : Thread nD τ).loc main_arg0))
  revert hg
  generalize concatenate S2x8192x1024 2 _ _ = u
  intro hg
  idx_vars i
  pointwise
  unfold out meanSq mixed
  simp only [hg]
  split
  · rename_i h
    simp only [ix2_0, ix2_1, h, ↓reduceDIte]
  · rename_i h
    simp only [ix2_0, h, ↓reduceDIte]
    exact congrArg _ (congrArg (fun k => ix2 k i1) (Fin.ext (by simp; omega)))

end Cert.CombineRefIdeal.Hand

end
-- ==== Proof.CombineClaims.lean ====
module

public import proofs.«01_k».proof.Defs
public import proofs.«01_k».proof.Proof.CombineKernel
public import proofs.«01_k».proof.Proof.CombineRef
public import proofs.«01_k».proof.Proof.Gen.CombineIdeal.Value
public import Idealize.ShloMosaic.Lib.Quiescent

@[expose] public section

noncomputable section

namespace Cert.Proof

open Idealize.ShloMosaic Idealize.SL.Sem

/-- The combine's reference ends in the arguments it started from, every counter at zero. -/
theorem combineRef_frame : quiescent_CombineRefIdeal (hCombineRefIdeal := Cert.CombineRefIdeal.Gen.facts) := fun m ρ _ =>
  (θ_run Cert.CombineRefIdeal.defs _ _).mono
    (fun r h => ⟨fun c => (h c).2, Idealize.ShloMosaic.sem_eq_zero_of_no_sems (by decide) r.2⟩)
    (Cert.CombineRefIdeal.Value.run (F := Ideal) m ρ)

/-- The combine and its reference both end in `CombineSpec.out` of the arguments. -/
theorem combine_algebraic : algebraic_CombineIdeal_CombineRefIdeal (hCombineIdeal := Cert.CombineIdeal.Gen.facts)
    (hCombineRefIdeal := Cert.CombineRefIdeal.Gen.facts) := by
  intro m g m' g' _ hagree
  refine ⟨fun c => (Cert.CombineIdeal.Gen.dats m 0 c).arrAt 6 Cert.CombineIdeal.cfg0.N,
    Cert.CombineIdeal.Value.run_blocks m g, ?_⟩
  refine (θ_run Cert.CombineRefIdeal.defs _ _).mono (fun r h c => ⟨(h c).1.trans ?_, (h c).2⟩)
    (Cert.CombineRefIdeal.Value.run (F := Ideal) m' g')
  obtain ⟨h0, h1, h2, h3, h4⟩ := hagree c
  refine (Cert.CombineRefIdeal.Hand.res_eq m' c).trans ((Cert.CombineIdeal.Hand.final m c).trans ?_).symm
  rw [h0, h1, h2, h3, h4]

end Cert.Proof

end
-- ==== Proof.ConvSpec.lean ====
module

public import Idealize.ShloMosaic.Lib.Pointwise

@[expose] public section

noncomputable section

namespace Cert.ConvSpec

open Idealize.ShloMosaic

abbrev SX : Shape := ⟨3, ![8, 8192, 1024]⟩
abbrev SV : Shape := ⟨1, ![1024]⟩
abbrev SM : Shape := ⟨3, ![8, 1, 1024]⟩
abbrev SWi : Shape := ⟨2, ![1024, 3072]⟩
abbrev SC : Shape := ⟨2, ![3, 1024]⟩
abbrev SWo : Shape := ⟨2, ![1024, 1024]⟩

/-- A row over the root of its mean square, scaled and shifted feature by feature. -/
def normRow (x g sc sh : Fin 1024 → EReal) (k : Fin 1024) : EReal :=
  x k * Ideal.rsqrt (Ideal.div (∑ l : Fin 1024, x l * x l) (Ideal.ofBits .f32 0x44800000#32) + Ideal.ofBits .f32 0x358637BD#32)
    * g k * (Ideal.ofBits .f32 0x3F800000#32 + sc k) + sh k

variable (x : SX.Idx → EReal) (g : SV.Idx → EReal) (sc sh : SM.Idx → EReal) (wi : SWi.Idx → EReal) (cw : SC.Idx → EReal)
  (cb : SV.Idx → EReal) (wo : SWo.Idx → EReal) (gt : SM.Idx → EReal)

/-- Column `n` of the normed token `s` of batch element `b` times the first weights. -/
def proj (b : Fin 8) (s : Fin 8192) (n : Fin 3072) : EReal :=
  ∑ k : Fin 1024, normRow (fun l => x (ix3 b s l)) (fun l => g (ix1 l)) (fun l => sc (ix3 b 0 l)) (fun l => sh (ix3 b 0 l)) k * wi (ix2 k n)

/-- Feature `j` of what the convolution reads: the second third of the columns times the last third. -/
def fed (p : Fin 8 → Fin 8192 → Fin 3072 → EReal) (b : Fin 8) (s : Fin 8192) (j : Fin 1024) : EReal :=
  p b s ⟨1024 + j.val, by omega⟩ * p b s ⟨2048 + j.val, by omega⟩

/-- The same `d` tokens earlier, zero before the first token. -/
def earlier (p : Fin 8 → Fin 8192 → Fin 3072 → EReal) (d : Nat) (b : Fin 8) (s : Fin 8192) (j : Fin 1024) : EReal :=
  if d ≤ s.val then fed p b ⟨s.val - d, by omega⟩ j else 0

/-- The convolution over this token and the two before it, times the first third of the columns. -/
def conved (p : Fin 8 → Fin 8192 → Fin 3072 → EReal) (b : Fin 8) (s : Fin 8192) (j : Fin 1024) : EReal :=
  p b s ⟨j.val, by omega⟩ *
    (cw (ix2 0 j) * earlier p 2 b s j + cw (ix2 1 j) * earlier p 1 b s j + cw (ix2 2 j) * fed p b s j + cb (ix1 j))

/-- The token's row after the layer, from the projected columns. -/
def outOf (p : Fin 8 → Fin 8192 → Fin 3072 → EReal) (b : Fin 8) (s : Fin 8192) (n : Fin 1024) : EReal :=
  x (ix3 b s n) + gt (ix3 b 0 n) * ∑ j : Fin 1024, conved cw cb p b s j * wo (ix2 j n)

/-- The layer's output. -/
def out (i : SX.Idx) : EReal := outOf x cw cb wo gt (proj x g sc sh wi) (i 0) (i 1) (i 2)

end Cert.ConvSpec

end
-- ==== Proof.ConvNorm.lean ====
module

public import proofs.«01_k».proof.Proof.Gen.ConvIdeal.Skeleton
public import proofs.«01_k».proof.Proof.ConvSpec
public import Idealize.ShloMosaic.Lib.Pipeline.ValueKit
public import Idealize.ShloMosaic.Lib.Pointwise
public import Idealize.ShloMosaic.Lib.KernelVsHost

@[expose] public section

set_option maxRecDepth 16384

noncomputable section

namespace Cert.ConvIdeal.Hand

open Cert.ConvIdeal Cert.ConvIdeal.Gen Cert.ConvSpec Idealize.ShloMosaic Idealize.ShloMosaic.TcCoe Idealize.SL.Sem

/-- The normed rows of a block. -/
theorem norm_apply (x0 : Vec Ideal S1x1024x1024 .f32) (x1 : Vec Ideal S1x1024 .f32) (x2 x3 : Vec Ideal S1x1x1024 .f32) (r k : Fin 1024) :
    k0_pay3 (F := Ideal) x0 x1 x2 x3 (ix2 r k)
      = normRow (fun l => x0 (ix3 0 r l)) (fun l => x1 (ix2 0 l)) (fun l => x2 (ix3 0 0 l)) (fun l => x3 (ix3 0 0 l)) k := by
  unfold normRow
  pointwise [k0_pay3]

/-- A chunk of 512 columns of the product. -/
theorem chunk_apply (h : Vec Ideal S1024x1024 .bf16) (w : Vec Ideal S1024x512 .f32) (a : Fin 1) (r : Fin 1024) (n : Fin 512) :
    k0_pay1 (F := Ideal) h w (ix3 a r n) = ∑ k : Fin 1024, h (ix2 r k) * w (ix2 k n) := by
  pointwise [k0_pay1]

/-- The gated features of a block. -/
theorem fed_apply (v0 v3 : Vec Ideal S1x1024x1024 .bf16) (r j : Fin 1024) :
    k1_pay2 (F := Ideal) v0 v3 (ix2 r j) = v0 (ix3 0 r j) * v3 (ix3 0 r j) := by
  pointwise [k1_pay2]

/-- The eight rows before a block, gated; zero before a sequence's first block. -/
def halo (n : Nat) (v7 v10 : Vec Ideal S1x8x1024 .bf16) (r : Fin 8) (j : Fin 1024) : EReal :=
  if 0 < n then v7 (ix3 0 r j) * v10 (ix3 0 r j) else 0

theorem sgt_word (n : Nat) (hn : n < 8) : IntOp.cmpi .sgt (BitVec.ofNat 32 n) 0#32 = if 0 < n then 1#1 else 0#1 := by
  interval_cases n <;> decide

theorem eq_word (n k : Nat) (hn : n < 1024) (hk : k < 1024) : IntOp.cmpi .eq (BitVec.ofNat 32 n) (BitVec.ofNat 32 k) = if n = k then 1#1 else 0#1 := by
  have h : (BitVec.ofNat 32 n = BitVec.ofNat 32 k) ↔ n = k := by
    constructor
    · intro e
      have := congrArg BitVec.toNat e
      simp only [BitVec.toNat_ofNat] at this
      omega
    · rintro rfl; rfl
  by_cases e : n = k
  · subst e; simp [IntOp.cmpi]
  · rw [if_neg e]
    show BitVec.ofBool (BitVec.ofNat 32 n == BitVec.ofNat 32 k) = 0#1
    rw [beq_eq_false_iff_ne.2 (mt h.1 e)]; rfl

theorem halo_apply (i : grid1.Coords) (v7 v10 : Vec Ideal S1x8x1024 .bf16) (r : Fin 8) (j : Fin 1024) :
    k1_pay3 (F := Ideal) i v7 v10 (ix2 r j) = halo (i 1).val v7 v10 r j := by
  have h := sgt_word (i 1).val (i 1).isLt
  unfold halo k1_pay3
  pointwise
  have h' : Scalar.cmpi .sgt (BitVec.ofNat 32 (i 1).val) 0#32 = if 0 < (i 1).val then 1#1 else 0#1 := h
  rw [h']
  by_cases hn : 0 < (i 1).val
  · rw [if_pos hn, if_pos hn]; rfl
  · rw [if_neg hn, if_neg hn]; rfl

theorem prev1_apply (i : grid1.Coords) (v0 v3 : Vec Ideal S1x1024x1024 .bf16) (v7 v10 : Vec Ideal S1x8x1024 .bf16) (r j : Fin 1024) :
    k1_pay4 (F := Ideal) i v0 v3 v7 v10 (ix2 r j)
      = if h : r.val = 0 then halo (i 1).val v7 v10 7 j else v0 (ix3 0 ⟨r.val - 1, by omega⟩ j) * v3 (ix3 0 ⟨r.val - 1, by omega⟩ j) := by
  have hh := halo_apply i v7 v10
  have hf := fed_apply v0 v3
  unfold k1_pay4
  revert hh hf
  generalize k1_pay3 (F := Ideal) i v7 v10 = u
  generalize k1_pay2 (F := Ideal) v0 v3 = f
  intro hh hf
  pointwise
  rw [eq_word r.val 0 r.isLt (by omega)]
  by_cases h : r.val = 0
  · rw [if_pos h, dif_pos h, ← hh]; rfl
  · rw [if_neg h, dif_neg h, ← hf]
    exact congrArg (fun k => f (ix2 k j)) (Fin.ext (by show (r.val + 1024 - 1) % 1024 = r.val - 1; omega))

theorem prev2_apply (i : grid1.Coords) (v0 v3 : Vec Ideal S1x1024x1024 .bf16) (v7 v10 : Vec Ideal S1x8x1024 .bf16) (r j : Fin 1024) :
    k1_pay5 (F := Ideal) i v0 v3 v7 v10 (ix2 r j)
      = if h : r.val = 0 then halo (i 1).val v7 v10 6 j else if h1 : r.val = 1 then halo (i 1).val v7 v10 7 j
        else v0 (ix3 0 ⟨r.val - 2, by omega⟩ j) * v3 (ix3 0 ⟨r.val - 2, by omega⟩ j) := by
  have hh := halo_apply i v7 v10
  have hf := fed_apply v0 v3
  unfold k1_pay5
  revert hh hf
  generalize k1_pay3 (F := Ideal) i v7 v10 = u
  generalize k1_pay2 (F := Ideal) v0 v3 = f
  intro hh hf
  pointwise
  rw [eq_word r.val 0 r.isLt (by omega), eq_word r.val 1 r.isLt (by omega)]
  by_cases h : r.val = 0
  · rw [if_pos h, dif_pos h, ← hh]; rfl
  · rw [if_neg h, dif_neg h]
    refine (show Scalar.select (0#1) _ _ = _ from rfl).trans ?_
    by_cases h1 : r.val = 1
    · rw [if_pos h1, dif_pos h1, ← hh]; rfl
    · rw [if_neg h1, dif_neg h1, ← hf]
      exact congrArg (fun k => f (ix2 k j)) (Fin.ext (by show (r.val + 1024 - 2) % 1024 = r.val - 2; omega))

/-- The stored block from the gated features and the two earlier ones. -/
theorem mix_apply (f p1 p2 : FVec Ideal S1024x1024 .f32) (cw : Vec Ideal S3x1024 .f32) (cb : Vec Ideal S1x1024 .f32) (gb : Vec Ideal S1x1024x1024 .bf16)
    (x : Vec Ideal S1x1024x1024 .f32) (gt : Vec Ideal S1x1x1024 .f32) (wo : Vec Ideal S1024x1024 .f32) (a : Fin 1) (r n : Fin 1024) :
    k1_pay1 (F := Ideal) f p1 p2 cw cb gb x gt wo (ix3 a r n)
      = x (ix3 0 r n) + gt (ix3 0 0 n) * ∑ j : Fin 1024, gb (ix3 0 r j) *
        (cw (ix2 0 j) * p2 (ix2 r j) + cw (ix2 1 j) * p1 (ix2 r j) + cw (ix2 2 j) * f (ix2 r j) + cb (ix2 0 j)) * wo (ix2 j n) := by
  pointwise [k1_pay1]

end Cert.ConvIdeal.Hand

end
-- ==== Proof.ConvProj.lean ====
module

public import proofs.«01_k».proof.Proof.Gen.ConvIdeal.Frame
public import proofs.«01_k».proof.Proof.ConvNorm

@[expose] public section

set_option maxRecDepth 16384

noncomputable section

namespace Cert.ConvIdeal.Hand

open Cert.ConvIdeal Cert.ConvIdeal.Gen Cert.ConvSpec Idealize.ShloMosaic Idealize.ShloMosaic.TcCoe Idealize.SL.Sem
open Idealize.ShloMosaic.Pipeline (Dat)

/-- A block of projected columns. -/
def projBlk (x0 : Vec Ideal S1x1024x1024 .f32) (x1 : Vec Ideal S1x1024 .f32) (x2 x3 : Vec Ideal S1x1x1024 .f32) (x4 : Vec Ideal S1024x3072 .f32)
    (y : S1x1024x3072.Idx) : EReal :=
  ∑ k : Fin 1024, normRow (fun l => x0 (ix3 0 (y 1) l)) (fun l => x1 (ix2 0 l)) (fun l => x2 (ix3 0 0 l)) (fun l => x3 (ix3 0 0 l)) k * x4 (ix2 k (y 2))

/-- A stored chunk is those columns of the block. -/
theorem chunk_cols (x0 : Vec Ideal S1x1024x1024 .f32) (x1 : Vec Ideal S1x1024 .f32) (x2 x3 : Vec Ideal S1x1x1024 .f32) (x4 : Vec Ideal S1024x3072 .f32)
    (w : Vec Ideal S1024x512 .f32) (o : Nat) (ho : o + 512 ≤ 3072) (hw : ∀ (k : Fin 1024) (n : Fin 512), w (ix2 k n) = x4 (ix2 k ⟨o + n.val, by omega⟩))
    (z : S1x1024x512.Idx) (y : S1x1024x3072.Idx) (h1 : (y 1).val = (z 1).val) (h2 : (y 2).val = o + (z 2).val) :
    k0_pay1 (F := Ideal) (k0_pay3 x0 x1 x2 x3) w z = projBlk x0 x1 x2 x3 x4 y := by
  idx_vars z
  have e1 : y 1 = z1 := Fin.ext h1
  have hz2 : z2.val < 512 := z2.isLt
  have e2 : y 2 = (⟨o + z2.val, by omega⟩ : Fin 3072) := Fin.ext h2
  refine (chunk_apply _ _ z0 z1 z2).trans ?_
  unfold projBlk
  rw [e1, e2]
  simp only [norm_apply, hw]

theorem projOut_apply (c : Dev nD) (t : Fin cfg0.N) (x0 : Vec Ideal S1x1024x1024 .f32) (x1 : Vec Ideal S1x1024 .f32) (x2 x3 : Vec Ideal S1x1x1024 .f32)
    (x4 : Vec Ideal S1024x3072 .f32) (y : S1x1024x3072.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) x0 x1 x2 x3 x4 y
      = projBlk x0 x1 x2 x3 x4 y := by
  frame_out
  canon_tiles
  · exact chunk_cols x0 x1 x2 x3 x4 _ 2560 (by omega) (fun k n => by pointwise) x y h1 h2
  · exact chunk_cols x0 x1 x2 x3 x4 _ 2048 (by omega) (fun k n => by pointwise) x y h1 h2
  · exact chunk_cols x0 x1 x2 x3 x4 _ 1536 (by omega) (fun k n => by pointwise) x y h1 h2
  · exact chunk_cols x0 x1 x2 x3 x4 _ 1024 (by omega) (fun k n => by pointwise) x y h1 h2
  · exact chunk_cols x0 x1 x2 x3 x4 _ 512 (by omega) (fun k n => by pointwise) x y h1 h2
  · exact chunk_cols x0 x1 x2 x3 x4 _ 0 (by omega) (fun k n => by pointwise) x y h1 (by omega)

theorem idx0_0 : ∀ t : Fin grid0.N, win0_0.index t = ![t.val / 8, t.val % 8, 0] := by decide +kernel
theorem idx0_1 : ∀ t : Fin grid0.N, win0_1.index t = ![0, 0] := by decide +kernel
theorem idx0_2 : ∀ t : Fin grid0.N, win0_2.index t = ![t.val / 8, 0, 0] := by decide +kernel
theorem idx0_3 : ∀ t : Fin grid0.N, win0_3.index t = ![t.val / 8, 0, 0] := by decide +kernel
theorem idx0_4 : ∀ t : Fin grid0.N, win0_4.index t = ![0, 0] := by decide +kernel
theorem idx0_5 : ∀ t : Fin grid0.N, win0_5.index t = ![t.val / 8, t.val % 8, 0] := by decide +kernel

variable (m : (ℓ : Loc nD τ sig) → Buf (Elt Ideal) ℓ) (ρ : Dev nD → PrngReg)

/-- The first call's scale row is the argument. -/
theorem V1_row (c : Dev nD) (l : Fin 1024) : V1 m ρ c main_v0 (ix2 0 l) = m ((c : Thread nD τ).loc main_arg1) (ix1 l) := by
  have e : V1 m ρ c main_v0 = shapeCast S1x1024 (m ((c : Thread nD τ).loc main_arg1)) shapeCasts_S1024_S1x1024 := by
    show StableHlo.after hostOps0 (W0 m ρ c) _ = _
    after_results_simp
    rfl
  rw [e]
  pointwise

theorem lt64 (t : Fin cfg0.N) : t.val < 64 := t.isLt

section Blocks

variable (V : (c : Dev nD) → (b : Ref sig .tc) → Buf (Elt Ideal) ((c : Thread nD τ).loc b))

theorem blk0_0 (c : Dev nD) (t : Fin cfg0.N) (r l : Fin 1024) : iblk0 V c 0 t (ix3 0 r l)
    = V c main_arg0 (ix3 (⟨t.val / 8, by have := lt64 t; omega⟩ : Fin 8) (⟨t.val % 8 * 1024 + r.val, by omega⟩ : Fin 8192) l) := by
  unfold iblk0
  blk_ext [idx0_0 t]
theorem blk0_1 (c : Dev nD) (t : Fin cfg0.N) (l : Fin 1024) : iblk0 V c 1 t (ix2 0 l) = V c main_v0 (ix2 0 l) := by
  unfold iblk0
  blk_ext [idx0_1 t]
theorem blk0_2 (c : Dev nD) (t : Fin cfg0.N) (l : Fin 1024) : iblk0 V c 2 t (ix3 0 0 l)
    = V c main_arg2 (ix3 (⟨t.val / 8, by have := lt64 t; omega⟩ : Fin 8) 0 l) := by
  unfold iblk0
  blk_ext [idx0_2 t]
theorem blk0_3 (c : Dev nD) (t : Fin cfg0.N) (l : Fin 1024) : iblk0 V c 3 t (ix3 0 0 l)
    = V c main_arg3 (ix3 (⟨t.val / 8, by have := lt64 t; omega⟩ : Fin 8) 0 l) := by
  unfold iblk0
  blk_ext [idx0_3 t]
theorem blk0_4 (c : Dev nD) (t : Fin cfg0.N) (k : Fin 1024) (n : Fin 3072) : iblk0 V c 4 t (ix2 k n) = V c main_arg4 (ix2 k n) := by
  unfold iblk0
  blk_ext [idx0_4 t]

end Blocks

theorem projArr (c : Dev nD) : (dat0 (V1 m ρ) c).arrAt 5 cfg0.N =
    fun i => proj (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) (i 2) := by
  refine (dat0 (V1 m ρ) c).arrAt_eq_of_covers 5 _ (by decide +kernel) fun t hf y => ?_
  blk_simp
  rw [after0_5]
  unfold outsAt0
  rw [projOut_apply]
  idx_vars y
  have ht : ((win0_5.blk t).view.emb (ix3 y0 y1 y2)) = ix3 (⟨t.val / 8, by have := lt64 t; omega⟩ : Fin 8) (⟨t.val % 8 * 1024 + y1.val, by omega⟩ : Fin 8192) y2 := by
    blk_ext [idx0_5]
  rw [ht]
  have a0 : V1 m ρ c main_arg0 = m ((c.tc : Thread nD τ).loc main_arg0) := W1_args m ρ c main_arg0 (by decide)
  have a2 : V1 m ρ c main_arg2 = m ((c.tc : Thread nD τ).loc main_arg2) := W1_args m ρ c main_arg2 (by decide)
  have a3 : V1 m ρ c main_arg3 = m ((c.tc : Thread nD τ).loc main_arg3) := W1_args m ρ c main_arg3 (by decide)
  have a4 : V1 m ρ c main_arg4 = m ((c.tc : Thread nD τ).loc main_arg4) := W1_args m ρ c main_arg4 (by decide)
  suffices key : projBlk (iblk0 (V1 m ρ) c 0 t) (iblk0 (V1 m ρ) c 1 t) (iblk0 (V1 m ρ) c 2 t) (iblk0 (V1 m ρ) c 3 t) (iblk0 (V1 m ρ) c 4 t) (ix3 y0 y1 y2)
      = proj (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) ⟨t.val / 8, by have := lt64 t; omega⟩
        ⟨t.val % 8 * 1024 + y1.val, by omega⟩ y2 from key
  unfold projBlk proj
  refine Finset.sum_congr rfl fun k _ => ?_
  refine congrArg₂ (· * ·) ?_ ((blk0_4 _ c t k y2).trans (congrFun a4 _))
  refine congrFun ?_ k
  refine congr (congr (congrArg₂ normRow (funext fun l => ?_) (funext fun l => ?_)) (funext fun l => ?_)) (funext fun l => ?_)
  · exact (blk0_0 _ c t y1 l).trans (congrFun a0 _)
  · exact (blk0_1 _ c t l).trans (V1_row m ρ c l)
  · exact (blk0_2 _ c t l).trans (congrFun a2 _)
  · exact (blk0_3 _ c t l).trans (congrFun a3 _)

end Cert.ConvIdeal.Hand

end
-- ==== Proof.ConvRows.lean ====
module

public import proofs.«01_k».proof.Proof.Gen.ConvIdeal.Frame
public import proofs.«01_k».proof.Proof.ConvNorm

@[expose] public section

set_option maxRecDepth 16384

noncomputable section

namespace Cert.ConvIdeal.Hand

open Cert.ConvIdeal Cert.ConvIdeal.Gen Cert.ConvSpec Idealize.ShloMosaic Idealize.ShloMosaic.TcCoe Idealize.SL.Sem
open Idealize.ShloMosaic.Pipeline (Dat)

/-- A block's features one token earlier. -/
def back1 (n : Nat) (v0 v3 : Vec Ideal S1x1024x1024 .bf16) (v7 v10 : Vec Ideal S1x8x1024 .bf16) (r j : Fin 1024) : EReal :=
  if h : r.val = 0 then halo n v7 v10 7 j else v0 (ix3 0 ⟨r.val - 1, by omega⟩ j) * v3 (ix3 0 ⟨r.val - 1, by omega⟩ j)

/-- A block's features two tokens earlier. -/
def back2 (n : Nat) (v0 v3 : Vec Ideal S1x1024x1024 .bf16) (v7 v10 : Vec Ideal S1x8x1024 .bf16) (r j : Fin 1024) : EReal :=
  if h : r.val = 0 then halo n v7 v10 6 j else if h1 : r.val = 1 then halo n v7 v10 7 j
    else v0 (ix3 0 ⟨r.val - 2, by omega⟩ j) * v3 (ix3 0 ⟨r.val - 2, by omega⟩ j)

theorem convOut_apply (i : grid1.Coords) (x0 x1 x2 : Vec Ideal S1x1024x1024 .bf16) (x3 x4 : Vec Ideal S1x8x1024 .bf16)
    (x5 : Vec Ideal S3x1024 .f32) (x6 : Vec Ideal S1x1024 .f32) (x7 : Vec Ideal S1024x1024 .f32) (x8 : Vec Ideal S1x1024x1024 .f32)
    (x9 : Vec Ideal S1x1x1024 .f32) (a : Fin 1) (r n : Fin 1024) :
    out1_10 (F := Ideal) i x0 x1 x2 x3 x4 x5 x6 x7 x8 x9 (ix3 a r n)
      = x8 (ix3 0 r n) + x9 (ix3 0 0 n) * ∑ j : Fin 1024, x0 (ix3 0 r j) *
        (x5 (ix2 0 j) * back2 (i 1).val x1 x2 x3 x4 r j + x5 (ix2 1 j) * back1 (i 1).val x1 x2 x3 x4 r j
          + x5 (ix2 2 j) * (x1 (ix3 0 r j) * x2 (ix3 0 r j)) + x6 (ix2 0 j)) * x7 (ix2 j n) := by
  frame_out
  refine (mix_apply _ _ _ _ _ _ _ _ _ a r n).trans ?_
  simp only [prev1_apply, prev2_apply, fed_apply]
  rfl

theorem at0 : ∀ t : Fin grid1.N, (grid1.coords t 1).val = t.val % 8 := by decide +kernel
theorem idx1_0 : ∀ t : Fin grid1.N, win1_0.index t = ![t.val / 8, t.val % 8, 0] := by decide +kernel
theorem idx1_1 : ∀ t : Fin grid1.N, win1_1.index t = ![t.val / 8, t.val % 8, 1] := by decide +kernel
theorem idx1_2 : ∀ t : Fin grid1.N, win1_2.index t = ![t.val / 8, t.val % 8, 2] := by decide +kernel
theorem idx1_3 : ∀ t : Fin grid1.N, win1_3.index t = ![t.val / 8, t.val % 8 * 128 - 1, 1] := by decide +kernel
theorem idx1_4 : ∀ t : Fin grid1.N, win1_4.index t = ![t.val / 8, t.val % 8 * 128 - 1, 2] := by decide +kernel
theorem idx1_5 : ∀ t : Fin grid1.N, win1_5.index t = ![0, 0] := by decide +kernel
theorem idx1_6 : ∀ t : Fin grid1.N, win1_6.index t = ![0, 0] := by decide +kernel
theorem idx1_7 : ∀ t : Fin grid1.N, win1_7.index t = ![0, 0] := by decide +kernel
theorem idx1_8 : ∀ t : Fin grid1.N, win1_8.index t = ![t.val / 8, t.val % 8, 0] := by decide +kernel
theorem idx1_9 : ∀ t : Fin grid1.N, win1_9.index t = ![t.val / 8, 0, 0] := by decide +kernel
theorem idx1_10 : ∀ t : Fin grid1.N, win1_10.index t = ![t.val / 8, t.val % 8, 0] := by decide +kernel

theorem lt64' (t : Fin cfg1.N) : t.val < 64 := t.isLt

section Blocks

variable (V : (c : Dev nD) → (b : Ref sig .tc) → Buf (Elt Ideal) ((c : Thread nD τ).loc b))

theorem blk1_0 (c : Dev nD) (t : Fin cfg1.N) (r l : Fin 1024) : iblk1 V c 0 t (ix3 0 r l)
    = V c main_v1 (ix3 (⟨t.val / 8, by have := lt64' t; omega⟩ : Fin 8) (⟨t.val % 8 * 1024 + r.val, by omega⟩ : Fin 8192) (⟨l.val, by omega⟩ : Fin 3072)) := by
  unfold iblk1
  blk_ext [idx1_0 t]
theorem blk1_1 (c : Dev nD) (t : Fin cfg1.N) (r l : Fin 1024) : iblk1 V c 1 t (ix3 0 r l)
    = V c main_v1 (ix3 (⟨t.val / 8, by have := lt64' t; omega⟩ : Fin 8) (⟨t.val % 8 * 1024 + r.val, by omega⟩ : Fin 8192) (⟨1024 + l.val, by omega⟩ : Fin 3072)) := by
  unfold iblk1
  blk_ext [idx1_1 t]
theorem blk1_2 (c : Dev nD) (t : Fin cfg1.N) (r l : Fin 1024) : iblk1 V c 2 t (ix3 0 r l)
    = V c main_v1 (ix3 (⟨t.val / 8, by have := lt64' t; omega⟩ : Fin 8) (⟨t.val % 8 * 1024 + r.val, by omega⟩ : Fin 8192) (⟨2048 + l.val, by omega⟩ : Fin 3072)) := by
  unfold iblk1
  blk_ext [idx1_2 t]
theorem blk1_3 (c : Dev nD) (t : Fin cfg1.N) (r : Fin 8) (l : Fin 1024) : iblk1 V c 3 t (ix3 0 r l)
    = V c main_v1 (ix3 (⟨t.val / 8, by have := lt64' t; omega⟩ : Fin 8) (⟨(t.val % 8 * 128 - 1) * 8 + r.val, by omega⟩ : Fin 8192) (⟨1024 + l.val, by omega⟩ : Fin 3072)) := by
  unfold iblk1
  blk_ext [idx1_3 t]
theorem blk1_4 (c : Dev nD) (t : Fin cfg1.N) (r : Fin 8) (l : Fin 1024) : iblk1 V c 4 t (ix3 0 r l)
    = V c main_v1 (ix3 (⟨t.val / 8, by have := lt64' t; omega⟩ : Fin 8) (⟨(t.val % 8 * 128 - 1) * 8 + r.val, by omega⟩ : Fin 8192) (⟨2048 + l.val, by omega⟩ : Fin 3072)) := by
  unfold iblk1
  blk_ext [idx1_4 t]
theorem blk1_5 (c : Dev nD) (t : Fin cfg1.N) (k : Fin 3) (l : Fin 1024) : iblk1 V c 5 t (ix2 k l) = V c main_arg5 (ix2 k l) := by
  unfold iblk1
  blk_ext [idx1_5 t]
theorem blk1_6 (c : Dev nD) (t : Fin cfg1.N) (l : Fin 1024) : iblk1 V c 6 t (ix2 0 l) = V c main_v2 (ix2 0 l) := by
  unfold iblk1
  blk_ext [idx1_6 t]
theorem blk1_7 (c : Dev nD) (t : Fin cfg1.N) (k l : Fin 1024) : iblk1 V c 7 t (ix2 k l) = V c main_arg7 (ix2 k l) := by
  unfold iblk1
  blk_ext [idx1_7 t]
theorem blk1_8 (c : Dev nD) (t : Fin cfg1.N) (r l : Fin 1024) : iblk1 V c 8 t (ix3 0 r l)
    = V c main_arg0 (ix3 (⟨t.val / 8, by have := lt64' t; omega⟩ : Fin 8) (⟨t.val % 8 * 1024 + r.val, by omega⟩ : Fin 8192) l) := by
  unfold iblk1
  blk_ext [idx1_8 t]
theorem blk1_9 (c : Dev nD) (t : Fin cfg1.N) (l : Fin 1024) : iblk1 V c 9 t (ix3 0 0 l)
    = V c main_arg8 (ix3 (⟨t.val / 8, by have := lt64' t; omega⟩ : Fin 8) 0 l) := by
  unfold iblk1
  blk_ext [idx1_9 t]

/-- What the second call leaves, from what it finds. -/
theorem convArr (c : Dev nD) (p : Fin 8 → Fin 8192 → Fin 3072 → EReal) (x : SX.Idx → EReal) (cw : SC.Idx → EReal) (cb : SV.Idx → EReal)
    (wo : SWo.Idx → EReal) (gt : SM.Idx → EReal) (hp : ∀ b s n, V c main_v1 (ix3 b s n) = p b s n) (hx : V c main_arg0 = x)
    (hcw : V c main_arg5 = cw) (hcb : ∀ l : Fin 1024, V c main_v2 (ix2 0 l) = cb (ix1 l)) (hwo : V c main_arg7 = wo) (hgt : V c main_arg8 = gt) :
    (dat1 V c).arrAt 10 cfg1.N = fun i => outOf x cw cb wo gt p (i 0) (i 1) (i 2) := by
  refine (dat1 V c).arrAt_eq_of_covers 10 _ (by decide +kernel) fun t hf y => ?_
  blk_simp
  rw [after1_10]
  idx_vars y
  rw [convOut_apply]
  have ht : ((win1_10.blk t).view.emb (ix3 y0 y1 y2)) = ix3 (⟨t.val / 8, by have := lt64' t; omega⟩ : Fin 8) (⟨t.val % 8 * 1024 + y1.val, by omega⟩ : Fin 8192) y2 := by
    blk_ext [idx1_10]
  rw [ht]
  have hb0 : ∀ r j : Fin 1024, iblk1 V c 0 t (ix3 0 r j) = p ⟨t.val / 8, by have := lt64' t; omega⟩ ⟨t.val % 8 * 1024 + r.val, by omega⟩ ⟨j.val, by omega⟩ :=
    fun r j => (blk1_0 V c t r j).trans (hp _ _ _)
  have hb1 : ∀ r j : Fin 1024, iblk1 V c 1 t (ix3 0 r j) = p ⟨t.val / 8, by have := lt64' t; omega⟩ ⟨t.val % 8 * 1024 + r.val, by omega⟩ ⟨1024 + j.val, by omega⟩ :=
    fun r j => (blk1_1 V c t r j).trans (hp _ _ _)
  have hb2 : ∀ r j : Fin 1024, iblk1 V c 2 t (ix3 0 r j) = p ⟨t.val / 8, by have := lt64' t; omega⟩ ⟨t.val % 8 * 1024 + r.val, by omega⟩ ⟨2048 + j.val, by omega⟩ :=
    fun r j => (blk1_2 V c t r j).trans (hp _ _ _)
  have hb3 : ∀ (r : Fin 8) (j : Fin 1024), iblk1 V c 3 t (ix3 0 r j) = p ⟨t.val / 8, by have := lt64' t; omega⟩ ⟨(t.val % 8 * 128 - 1) * 8 + r.val, by omega⟩ ⟨1024 + j.val, by omega⟩ :=
    fun r j => (blk1_3 V c t r j).trans (hp _ _ _)
  have hb4 : ∀ (r : Fin 8) (j : Fin 1024), iblk1 V c 4 t (ix3 0 r j) = p ⟨t.val / 8, by have := lt64' t; omega⟩ ⟨(t.val % 8 * 128 - 1) * 8 + r.val, by omega⟩ ⟨2048 + j.val, by omega⟩ :=
    fun r j => (blk1_4 V c t r j).trans (hp _ _ _)
  have fedAt : ∀ s s' : Fin 8192, s.val = s'.val → ∀ j, p ⟨t.val / 8, by have := lt64' t; omega⟩ s ⟨1024 + j.val, by omega⟩
      * p ⟨t.val / 8, by have := lt64' t; omega⟩ s ⟨2048 + j.val, by omega⟩ = fed p ⟨t.val / 8, by have := lt64' t; omega⟩ s' j := by
    intro s s' e j
    obtain rfl : s = s' := Fin.ext e
    rfl
  have e1 : ∀ j : Fin 1024, back1 (grid1.coords t 1).val (iblk1 V c 1 t) (iblk1 V c 2 t) (iblk1 V c 3 t) (iblk1 V c 4 t) y1 j
      = earlier p 1 ⟨t.val / 8, by have := lt64' t; omega⟩ ⟨t.val % 8 * 1024 + y1.val, by omega⟩ j := by
    intro j
    unfold back1 halo earlier
    rw [at0 t]
    by_cases h : y1.val = 0
    · rw [dif_pos h]
      by_cases hn : 0 < t.val % 8
      · rw [if_pos hn, if_pos (by show 1 ≤ t.val % 8 * 1024 + y1.val; omega), hb3, hb4]
        exact fedAt _ _ (by show (t.val % 8 * 128 - 1) * 8 + 7 = t.val % 8 * 1024 + y1.val - 1; omega) j
      · rw [if_neg hn, if_neg (by show ¬ 1 ≤ t.val % 8 * 1024 + y1.val; omega)]
    · rw [dif_neg h, if_pos (by show 1 ≤ t.val % 8 * 1024 + y1.val; omega), hb1, hb2]
      exact fedAt _ _ (by show t.val % 8 * 1024 + (y1.val - 1) = t.val % 8 * 1024 + y1.val - 1; omega) j
  have e2 : ∀ j : Fin 1024, back2 (grid1.coords t 1).val (iblk1 V c 1 t) (iblk1 V c 2 t) (iblk1 V c 3 t) (iblk1 V c 4 t) y1 j
      = earlier p 2 ⟨t.val / 8, by have := lt64' t; omega⟩ ⟨t.val % 8 * 1024 + y1.val, by omega⟩ j := by
    intro j
    unfold back2 halo earlier
    rw [at0 t]
    by_cases h : y1.val = 0
    · rw [dif_pos h]
      by_cases hn : 0 < t.val % 8
      · rw [if_pos hn, if_pos (by show 2 ≤ t.val % 8 * 1024 + y1.val; omega), hb3, hb4]
        exact fedAt _ _ (by show (t.val % 8 * 128 - 1) * 8 + 6 = t.val % 8 * 1024 + y1.val - 2; omega) j
      · rw [if_neg hn, if_neg (by show ¬ 2 ≤ t.val % 8 * 1024 + y1.val; omega)]
    · rw [dif_neg h]
      by_cases h1 : y1.val = 1
      · rw [dif_pos h1]
        by_cases hn : 0 < t.val % 8
        · rw [if_pos hn, if_pos (by show 2 ≤ t.val % 8 * 1024 + y1.val; omega), hb3, hb4]
          exact fedAt _ _ (by show (t.val % 8 * 128 - 1) * 8 + 7 = t.val % 8 * 1024 + y1.val - 2; omega) j
        · rw [if_neg hn, if_neg (by show ¬ 2 ≤ t.val % 8 * 1024 + y1.val; omega)]
      · rw [dif_neg h1, if_pos (by show 2 ≤ t.val % 8 * 1024 + y1.val; omega), hb1, hb2]
        exact fedAt _ _ (by show t.val % 8 * 1024 + (y1.val - 2) = t.val % 8 * 1024 + y1.val - 2; omega) j
  unfold outOf conved
  refine congrArg₂ (· + ·) ((blk1_8 V c t y1 y2).trans (congrFun hx _)) ?_
  refine congrArg₂ (· * ·) ((blk1_9 V c t y2).trans (congrFun hgt _)) ?_
  refine Finset.sum_congr rfl fun j _ => ?_
  refine congrArg₂ (· * ·) ?_ ((blk1_7 V c t j y2).trans (congrFun hwo _))
  refine congrArg₂ (· * ·) (hb0 y1 j) ?_
  refine congrArg₂ (· + ·) (congrArg₂ (· + ·) (congrArg₂ (· + ·) ?_ ?_) ?_) ((blk1_6 V c t j).trans (hcb j))
  · exact congrArg₂ (· * ·) ((blk1_5 V c t 0 j).trans (congrFun hcw _)) (e2 j)
  · exact congrArg₂ (· * ·) ((blk1_5 V c t 1 j).trans (congrFun hcw _)) (e1 j)
  · refine congrArg₂ (· * ·) ((blk1_5 V c t 2 j).trans (congrFun hcw _)) ?_
    rw [hb1, hb2]
    exact fedAt _ _ rfl j

end Blocks

end Cert.ConvIdeal.Hand

end
-- ==== Proof.ConvRun.lean ====
module

public import proofs.«01_k».proof.Proof.ConvProj
public import proofs.«01_k».proof.Proof.ConvRows

@[expose] public section

set_option maxRecDepth 16384

noncomputable section

namespace Cert.ConvIdeal.Hand

open Cert.ConvIdeal Cert.ConvIdeal.Gen Cert.ConvSpec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch's implicit arguments are found by unfolding definitions in a type
set_option backward.isDefEq.respectTransparency.types false in
/-- Every run of the two calls ends with the result array at what the second call leaves, the arguments unchanged. -/
theorem run : θ_run defs (onTc (τ := τ) (main (F := Ideal))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c _ (mem_uc main_v3 (by decide)), (h c _ (mem_uc main_arg0 (by decide))).trans (W4_main_arg0 m ρ c), (h c _ (mem_uc main_arg1 (by decide))).trans (W4_main_arg1 m ρ c), (h c _ (mem_uc main_arg2 (by decide))).trans (W4_main_arg2 m ρ c), (h c _ (mem_uc main_arg3 (by decide))).trans (W4_main_arg3 m ρ c), (h c _ (mem_uc main_arg4 (by decide))).trans (W4_main_arg4 m ρ c), (h c _ (mem_uc main_arg5 (by decide))).trans (W4_main_arg5 m ρ c), (h c _ (mem_uc main_arg6 (by decide))).trans (W4_main_arg6 m ρ c), (h c _ (mem_uc main_arg7 (by decide))).trans (W4_main_arg7 m ρ c), (h c _ (mem_uc main_arg8 (by decide))).trans (W4_main_arg8 m ρ c)⟩)

/-- The bias row the second call finds is the argument. -/
theorem V3_bias (c : Dev nD) (l : Fin 1024) : V3 m ρ c main_v2 (ix2 0 l) = m ((c : Thread nD τ).loc main_arg6) (ix1 l) := by
  have e : V3 m ρ c main_v2 = shapeCast S1x1024 (W2 m ρ c (Proc.devRef .tc main_arg6)) shapeCasts_S1024_S1x1024 := by
    show StableHlo.after hostOps1 (W2 m ρ c) _ = _
    after_results_simp
    rfl
  have e2 : W2 m ρ c (Proc.devRef .tc main_arg6) = m ((c : Thread nD τ).loc main_arg6) := W2_args m ρ c main_arg6 (by decide)
  rw [e, e2]
  pointwise

/-- What the run leaves in the result array. -/
theorem final (c : Dev nD) : W4 m ρ c (Proc.devRef .tc main_v3) =
    out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  refine (W4_arr m ρ c 10).trans ?_
  refine (convArr (V3 m ρ) c (proj (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) _ _ (m ((c.tc : Thread nD τ).loc main_arg6)) _ _ (fun b s n => ?_)
      (W3_args m ρ c main_arg0 (by decide)) (W3_args m ρ c main_arg5 (by decide)) (V3_bias m ρ c) (W3_args m ρ c main_arg7 (by decide))
      (W3_args m ρ c main_arg8 (by decide))).trans rfl
  have e : V3 m ρ c main_v1 = (dat0 (V1 m ρ) c).arrAt 5 cfg0.N := (W3_of m ρ c main_v1 (by decide)).trans (W2_arr m ρ c 5)
  exact (congrFun e _).trans (congrFun (projArr m ρ c) _)

end Cert.ConvIdeal.Hand

end
-- ==== Proof.ConvRef.lean ====
module

public import proofs.«01_k».proof.Proof.ConvSpec
public import proofs.«01_k».proof.Proof.Gen.ConvRefIdeal.Run
public import Idealize.ShloMosaic.Lib.KernelVsHost

@[expose] public section

noncomputable section

namespace Cert.ConvRefIdeal.Hand

open Cert.ConvRefIdeal Cert.ConvRefIdeal.Gen Cert.ConvSpec Idealize.ShloMosaic Idealize.ShloMosaic.TcCoe

variable (x : FVec Ideal S8x8192x1024 .f32) (g : FVec Ideal S1024 .f32) (sc sh : FVec Ideal S8x1x1024 .f32) (wi : FVec Ideal S1024x3072 .f32)
  (cw : FVec Ideal S3x1024 .f32) (cb : FVec Ideal S1024 .f32) (wo : FVec Ideal S1024x1024 .f32) (gt : FVec Ideal S8x1x1024 .f32)

/-- The reference's projected columns. -/
theorem proj_apply (b : Fin 8) (s : Fin 8192) (n : Fin 3072) :
    (Host.dotGeneral (F := Ideal) dot_S8x8192x1024_S1024x3072_S8x8192x3072_2_0_01_1_n_n none (addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)) wi) (ix3 b s n)
      = proj x g sc sh wi b s n := by
  unfold proj normRow
  pointwise

/-- Two rows of zeros in front of the gated features: row `s` after them is the feature two tokens earlier. -/
theorem pad_apply (p : FVec Ideal S8x8192x3072 .f32) (b : Fin 8) (s : Fin 8194) (j : Fin 1024) :
    (pad S8x8194x1024 ![0, 2, 0] ![0, 0, 0] ![0, 0, 0] (mulf (extractStridedSlice S8x8192x1024 ![0, 0, 1024] p slices_S8x8192x3072_S8x8192x1024_0_0_1024) (extractStridedSlice S8x8192x1024 ![0, 0, 2048] p slices_S8x8192x3072_S8x8192x1024_0_0_2048)) (sitofp .f32 (constantI S_ 32 0#32)) pads_S8x8192x1024_S8x8194x1024_000_200_000 h_S_) (ix3 b s j)
      = if h : 2 ≤ s.val then fed (fun b s n => p (ix3 b s n)) b ⟨s.val - 2, by omega⟩ j else 0 := by
  unfold fed
  pointwise
  by_cases h : 2 ≤ s.val
  · rw [dif_pos ⟨h, by omega⟩, dif_pos h]
  · rw [dif_neg (fun e => h e.1), dif_neg h]
    simp [FloatOps.sitofp]

/-- The reference after the projection, from its columns and the padded features. -/
theorem rest_apply (p : FVec Ideal S8x8192x3072 .f32) (q : FVec Ideal S8x8194x1024 .f32)
    (hq : ∀ (b : Fin 8) (s : Fin 8194) (j : Fin 1024), q (ix3 b s j)
      = if h : 2 ≤ s.val then fed (fun b s n => p (ix3 b s n)) b ⟨s.val - 2, by omega⟩ j else 0) (b : Fin 8) (s : Fin 8192) (n : Fin 1024) :
    (addf x (mulf (broadcastInDim S8x8192x1024 ![0, 1, 2] bcast_S8x1x1024_S8x8192x1024_0_1_2 gt) (Host.dotGeneral (F := Ideal) dot_S8x8192x1024_S1024x1024_S8x8192x1024_2_0_01_1_n_n none (mulf (extractStridedSlice S8x8192x1024 ![0, 0, 0] p slices_S8x8192x3072_S8x8192x1024_0_0_0) (addf (addf (addf (mulf (broadcastInDim S8x8192x1024 ![0, 1, 2] bcast_S1x1x1024_S8x8192x1024_0_1_2 (broadcastInDim S1x1x1024 ![2] bcast_S1024_S1x1x1024_2 (shapeCast _ (extractStridedSlice S1x1024 ![0, 0] cw slices_S3x1024_S1x1024_0_0) shapeCasts_S1x1024_S1024))) (extractStridedSlice S8x8192x1024 ![0, 0, 0] q slices_S8x8194x1024_S8x8192x1024_0_0_0)) (mulf (broadcastInDim S8x8192x1024 ![0, 1, 2] bcast_S1x1x1024_S8x8192x1024_0_1_2 (broadcastInDim S1x1x1024 ![2] bcast_S1024_S1x1x1024_2 (shapeCast _ (extractStridedSlice S1x1024 ![1, 0] cw slices_S3x1024_S1x1024_1_0) shapeCasts_S1x1024_S1024))) (extractStridedSlice S8x8192x1024 ![0, 1, 0] q slices_S8x8194x1024_S8x8192x1024_0_1_0))) (mulf (broadcastInDim S8x8192x1024 ![0, 1, 2] bcast_S1x1x1024_S8x8192x1024_0_1_2 (broadcastInDim S1x1x1024 ![2] bcast_S1024_S1x1x1024_2 (shapeCast _ (extractStridedSlice S1x1024 ![2, 0] cw slices_S3x1024_S1x1024_2_0) shapeCasts_S1x1024_S1024))) (extractStridedSlice S8x8192x1024 ![0, 2, 0] q slices_S8x8194x1024_S8x8192x1024_0_2_0))) (broadcastInDim S8x8192x1024 ![0, 1, 2] bcast_S1x1x1024_S8x8192x1024_0_1_2 (broadcastInDim S1x1x1024 ![2] bcast_S1024_S1x1x1024_2 cb)))) wo : FVec Ideal S8x8192x1024 .f32)) : FVec Ideal S8x8192x1024 .f32) (ix3 b s n)
      = outOf x cw cb wo gt (fun b s n => p (ix3 b s n)) b s n := by
  have h2 : ∀ j : Fin 1024, q (ix3 b ⟨s.val, by omega⟩ j) = earlier (fun b s n => p (ix3 b s n)) 2 b s j := fun j => by
    rw [hq]; unfold earlier; rfl
  have h1 : ∀ j : Fin 1024, q (ix3 b ⟨1 + s.val, by omega⟩ j) = earlier (fun b s n => p (ix3 b s n)) 1 b s j := fun j => by
    rw [hq]; unfold earlier
    by_cases h : 1 ≤ s.val
    · rw [dif_pos (show 2 ≤ 1 + s.val by omega), if_pos h]
      exact congrArg (fun k => fed _ b k j) (Fin.ext (by show 1 + s.val - 2 = s.val - 1; omega))
    · rw [dif_neg (show ¬ 2 ≤ 1 + s.val by omega), if_neg h]
  have h0 : ∀ j : Fin 1024, q (ix3 b ⟨2 + s.val, by omega⟩ j) = fed (fun b s n => p (ix3 b s n)) b s j := fun j => by
    rw [hq, dif_pos (show 2 ≤ 2 + s.val by omega)]
    exact congrArg (fun k => fed _ b k j) (Fin.ext (by show 2 + s.val - 2 = s.val; omega))
  unfold outOf conved
  simp only [← h2, ← h1, ← h0]
  pointwise

variable (m : (ℓ : Loc nD τ sig) → Buf (Elt Ideal) ℓ)

theorem res_eq (c : Dev nD) : Value.res_main_v52 m c = out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := by
  funext i
  unfold Value.res_main_v52
  idx_vars i
  refine (rest_apply (m ((c.tc : Thread nD τ).loc main_arg0)) (m ((c.tc : Thread nD τ).loc main_arg5)) (m ((c.tc : Thread nD τ).loc main_arg6))
    (m ((c.tc : Thread nD τ).loc main_arg7)) (m ((c.tc : Thread nD τ).loc main_arg8)) _ _ (pad_apply _) i0 i1 i2).trans ?_
  refine congrArg (fun p => outOf (m ((c.tc : Thread nD τ).loc main_arg0)) (m ((c.tc : Thread nD τ).loc main_arg5)) (m ((c.tc : Thread nD τ).loc main_arg6))
    (m ((c.tc : Thread nD τ).loc main_arg7)) (m ((c.tc : Thread nD τ).loc main_arg8)) p i0 i1 i2) (funext fun b => funext fun s => funext fun n => ?_)
  exact proj_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) b s n

end Cert.ConvRefIdeal.Hand

end
-- ==== Proof.ConvClaims.lean ====
module

public import proofs.«01_k».proof.Defs
public import proofs.«01_k».proof.Proof.ConvRun
public import proofs.«01_k».proof.Proof.ConvRef
public import Idealize.ShloMosaic.Lib.Quiescent

@[expose] public section

noncomputable section

namespace Cert.Proof

open Idealize.ShloMosaic Idealize.SL.Sem

/-- The convolution layer's reference ends in the arguments it started from, every counter at zero. -/
theorem convRef_frame : quiescent_ConvRefIdeal (hConvRefIdeal := Cert.ConvRefIdeal.Gen.facts) := fun m ρ _ =>
  (θ_run Cert.ConvRefIdeal.defs _ _).mono
    (fun r h => ⟨fun c => (h c).2, Idealize.ShloMosaic.sem_eq_zero_of_no_sems (by decide) r.2⟩)
    (Cert.ConvRefIdeal.Value.run (F := Ideal) m ρ)

/-- The convolution layer's two calls and its reference both end in `ConvSpec.out` of the arguments. -/
theorem conv_algebraic : algebraic_ConvIdeal_ConvRefIdeal (hConvIdeal := Cert.ConvIdeal.Gen.facts)
    (hConvRefIdeal := Cert.ConvRefIdeal.Gen.facts) := by
  intro m g m' g' _ hagree
  refine ⟨fun c => Cert.ConvIdeal.Gen.W4 m g c (Proc.devRef .tc Cert.ConvIdeal.main_v3), Cert.ConvIdeal.Hand.run m g, ?_⟩
  refine (θ_run Cert.ConvRefIdeal.defs _ _).mono (fun r h c => ⟨(h c).1.trans ?_, (h c).2⟩)
    (Cert.ConvRefIdeal.Value.run (F := Ideal) m' g')
  obtain ⟨h0, h1, h2, h3, h4, h5, h6, h7, h8⟩ := hagree c
  refine (Cert.ConvRefIdeal.Hand.res_eq m' c).trans ((Cert.ConvIdeal.Hand.final m g c).trans ?_).symm
  rw [h0, h1, h2, h3, h4, h5, h6, h7, h8]

end Cert.Proof

end
-- ==== Proof.ExpertsRefPieces.lean ====
module

public import proofs.«01_k».proof.Defs
public import proofs.«01_k».proof.Proof.Gen.ExpertsRef.Value

@[expose] public section

/-! What one trip of the reference's loop stores: one block of 2048 rows. -/

set_option maxRecDepth 16384
set_option Elab.async false

noncomputable section

namespace Cert.ExpertsRef.Hand

open Cert.ExpertsRef Cert.ExpertsRef.Gen
open Idealize.ShloMosaic
open Idealize.ShloMosaic.TcCoe Idealize.ShloMosaic.Tactic
open Idealize.SL.Sem

section Trip

variable (c : Dev nD) (arg0 : Memref sig .tc .smem S288 .i32) (harg0 : arg0.IsWhole) (arg1 : Memref sig .tc .smem S1 .i32) (harg1 : arg1.IsWhole)
  (arg2 : Memref sig .tc .vmem S589824x128 .i32) (harg2 : arg2.IsWhole) (arg3 : Memref sig .tc .vmem S4x32x1024x512 .f32) (harg3 : arg3.IsWhole)
  (arg4 : Memref sig .tc .vmem S4x32x1024x512 .f32) (harg4 : arg4.IsWhole) (arg5 : Memref sig .tc .vmem S4x32x512x1024 .f32) (harg5 : arg5.IsWhole)
  (arg6 : Memref sig .tc .vmem S589824x128 .i32) (harg6 : arg6.IsWhole)
  (X0 : BufTy.Contents (Elt Bits) arg0.view.ty) (X1 : BufTy.Contents (Elt Bits) arg1.view.ty) (X2 : BufTy.Contents (Elt Bits) arg2.view.ty)
  (X3 : BufTy.Contents (Elt Bits) arg3.view.ty) (X4 : BufTy.Contents (Elt Bits) arg4.view.ty) (X5 : BufTy.Contents (Elt Bits) arg5.view.ty)
  (hw : ∀ (kq : ℕ) (hkq : kq < k0_t1_loop.trips), k0_chk1 (arg0.view.readAt (Elt Bits) (Rect.unit (s := S288) (k0_off1 ⟨kq, hkq⟩) S1.size (k0_off1_inb ⟨kq, hkq⟩)).toLoadRect X0 (Shape.Idx.first (numel1_S1.symm ▸ Nat.one_pos))))

/-- The expert's number trip `k` loads. -/
def tripE (k : Fin k0_t1_loop.trips) : BitVec 32 :=
  arg0.view.readAt (Elt Bits) (Rect.unit (s := S288) (k0_off1 k) S1.size (k0_off1_inb k)).toLoadRect X0 (Shape.Idx.first (numel1_S1.symm ▸ Nat.one_pos))

/-- The number of live blocks it loads. -/
def tripN : BitVec 32 :=
  arg1.view.readAt (Elt Bits) (Rect.unit (s := S1) ![0] S1.size inb_S1_S1_0).toLoadRect X1 (Shape.Idx.first (numel1_S1.symm ▸ Nat.one_pos))

/-- The rows trip `k` stores. -/
def tripV (k : Fin k0_t1_loop.trips) (h : k0_chk1 (tripE arg0 X0 k)) : IVec S2048x128 32 :=
  k0_pay1 (k0_pay2 (F := Bits)
    (arg2.view.readAt (Elt Bits) (Rect.unit (s := S589824x128) (k0_off2 k) S2048x128.size (k0_off2_inb k)).toLoadRect X2)
    (arg3.view.readAt (Elt Bits) (Rect.unit (s := S4x32x1024x512) (k0_off3 (tripE arg0 X0 k)) S1x1x1024x512.size (k0_off3_inb _ h)).toLoadRect X3)
    (arg4.view.readAt (Elt Bits) (Rect.unit (s := S4x32x1024x512) (k0_off3 (tripE arg0 X0 k)) S1x1x1024x512.size (k0_off3_inb _ h)).toLoadRect X4)
    (arg5.view.readAt (Elt Bits) (Rect.unit (s := S4x32x512x1024) (k0_off4 (tripE arg0 X0 k)) S1x1x512x1024.size (k0_off4_inb _ h)).toLoadRect X5))
    (Scalar.cmpi .slt (Scf.iv 0#32 1#32 k) (tripN arg1 X1))

theorem trip_pieces (k : Fin k0_t1_loop.trips) (h : k0_chk1 (tripE arg0 X0 k)) :
    tripL_k0_t1 (F := Bits) Variants.none c none arg0 harg0 arg1 harg1 arg2 harg2 arg3 harg3 arg4 harg4 arg5 harg5 arg6 harg6 X0 X1 X2 X3 X4 X5 k h
      = [⟨Rect.unit (s := S589824x128) (k0_off5 k) S2048x128.size (k0_off5_inb k), tripV arg0 arg1 arg2 arg3 arg4 arg5 X0 X1 X2 X3 X4 X5 k h⟩] := by
  unfold tripL_k0_t1 trip_k0_t1
  rfl

include hw in
/-- Every piece of the trips so far is some trip's. -/
theorem pieces_mem (n : ℕ) (hn : n ≤ k0_t1_loop.trips) : ∀ p ∈ pb_k0_t1 (F := Bits) Variants.none c none arg0 harg0 arg1 harg1 arg2 harg2 arg3 harg3 arg4 harg4 arg5 harg5 arg6 harg6 X0 X1 X2 X3 X4 X5 hw n,
    ∃ k : Fin k0_t1_loop.trips, p = ⟨Rect.unit (s := S589824x128) (k0_off5 k) S2048x128.size (k0_off5_inb k), tripV arg0 arg1 arg2 arg3 arg4 arg5 X0 X1 X2 X3 X4 X5 k (hw k.val k.isLt)⟩ := by
  induction n with
  | zero => intro p hp; rw [pb_k0_t1.eq_1] at hp; exact absurd hp List.not_mem_nil
  | succ n ih =>
    intro p hp
    have e := pb_k0_t1_succ (F := Bits) Variants.none c none arg0 harg0 arg1 harg1 arg2 harg2 arg3 harg3 arg4 harg4 arg5 harg5 arg6 harg6 X0 X1 X2 X3 X4 X5 hw ⟨n, hn⟩
    have hp' := (congrArg (fun l => p ∈ l) e).mp hp
    rcases List.mem_append.mp hp' with h1 | h1
    · refine ⟨⟨n, hn⟩, ?_⟩
      have h2 := (congrArg (fun l => p ∈ l) (trip_pieces c arg0 harg0 arg1 harg1 arg2 harg2 arg3 harg3 arg4 harg4 arg5 harg5 arg6 harg6 X0 X1 X2 X3 X4 X5 ⟨n, hn⟩ (hw n hn))).mp h1
      exact List.mem_singleton.mp h2
    · exact ih (Nat.le_of_succ_le hn) p h1

end Trip

/-- The run's pieces are the loop's. -/
theorem run_pieces (c : Dev nD) (arg0 : Memref sig .tc .smem S288 .i32) (harg0 : arg0.IsWhole) (arg1 : Memref sig .tc .smem S1 .i32) (harg1 : arg1.IsWhole)
  (arg2 : Memref sig .tc .vmem S589824x128 .i32) (harg2 : arg2.IsWhole) (arg3 : Memref sig .tc .vmem S4x32x1024x512 .f32) (harg3 : arg3.IsWhole)
  (arg4 : Memref sig .tc .vmem S4x32x1024x512 .f32) (harg4 : arg4.IsWhole) (arg5 : Memref sig .tc .vmem S4x32x512x1024 .f32) (harg5 : arg5.IsWhole)
  (arg6 : Memref sig .tc .vmem S589824x128 .i32) (harg6 : arg6.IsWhole) (x0 x1 x2 x3 x4 x5 hw) :
    (kernelRun0_A (F := Bits) c arg0 harg0 arg1 harg1 arg2 harg2 arg3 harg3 arg4 harg4 arg5 harg5 arg6 harg6 x0 x1 x2 x3 x4 x5 hw).1
      = pb_k0_t1 (F := Bits) Variants.none c none arg0 harg0 arg1 harg1 arg2 harg2 arg3 harg3 arg4 harg4 arg5 harg5 arg6 harg6
        (harg0.unread x0) (harg1.unread x1) (harg2.unread x2) (harg3.unread x3) (harg4.unread x4) (harg5.unread x5) hw k0_t1_loop.trips := by
  unfold kernelRun0_A
  rfl

end Cert.ExpertsRef.Hand

end
-- ==== Proof.ExpertsBody.lean ====
module

public import proofs.«01_k».proof.Defs
public import proofs.«01_k».proof.Proof.Gen.Experts
public import proofs.«01_k».proof.Proof.Gen.Experts.Skeleton
public import proofs.«01_k».proof.Proof.Gen.Experts.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact

@[expose] public section

/-! The experts' body, one run of it per way its decisions go.

At a grid point the body treats two blocks of 2048 rows. For each it decides whether the block is live (its number below
the count of used blocks) and whether its expert differs from the block's before it: then the expert's three matrices are
rounded into the scratches. A live block is multiplied through them, a dead one is filled with zero words. -/

set_option maxRecDepth 16384
set_option Elab.async false

noncomputable section

namespace Cert.Experts.Run

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The table of experts, the count of used blocks, and the three scratches, whole. -/
abbrev tabE : Memref sig .tc .smem S288 .i32 := Memref.whole main_v11
abbrev tabN : Memref sig .tc .smem S1 .i32 := Memref.whole main_arg1
abbrev scG : Memref sig .tc .vmem S1024x512 .bf16 := Memref.whole cc0_scratch0
abbrev scU : Memref sig .tc .vmem S1024x512 .bf16 := Memref.whole cc0_scratch1
abbrev scD : Memref sig .tc .vmem S512x1024 .bf16 := Memref.whole cc0_scratch2

/-- The count as the body loads it. -/
def wordN (n : S1.Idx → Elt Bits .i32) : BitVec 32 :=
  View.readAt (Elt Bits) tabN.view (Rect.unit (s := S1) ![0] S1.size inb_S1_S1_0).toLoadRect n (Shape.Idx.first (numel1_S1.symm ▸ Nat.one_pos))

/-- The table's word at an offset, as the body loads it. -/
def wordE (off : Fin 1 → ℕ) (h : ∀ a, off a + S1.size a ≤ S288.size a) (T : S288.Idx → Elt Bits .i32) : BitVec 32 :=
  View.readAt (Elt Bits) tabE.view (Rect.unit (s := S288) off S1.size h).toLoadRect T (Shape.Idx.first (numel1_S1.symm ▸ Nat.one_pos))

/-- Whether the first half's weights are rounded anew. -/
def fresh0 (i : grid0.Coords) (T : S288.Idx → Elt Bits .i32) (n : S1.Idx → Elt Bits .i32) : BitVec 1 :=
  Scalar.cmpi .ne (Scalar.extui (Scalar.andi
    (Scalar.cmpi .slt (Scalar.addi (Scalar.muli (BitVec.ofNat 32 (i 0).val) 2#32) 0#32) (wordN n))
    (Scalar.ori (Scalar.cmpi .eq (Scalar.addi (Scalar.muli (BitVec.ofNat 32 (i 0).val) 2#32) 0#32) 0#32)
      (Scalar.cmpi .ne (wordE (k0_off1 i 0#32) (k0_off1_inb i 0) T) (wordE (k0_off2 i) (k0_off2_inb i) T)))) : BitVec 32) 0#32

/-- Whether the second half's weights are rounded anew. -/
def fresh1 (i : grid0.Coords) (T : S288.Idx → Elt Bits .i32) (n : S1.Idx → Elt Bits .i32) : BitVec 1 :=
  Scalar.cmpi .ne (Scalar.extui (Scalar.andi
    (Scalar.cmpi .slt (Scalar.addi (Scalar.muli (BitVec.ofNat 32 (i 0).val) 2#32) 1#32) (wordN n))
    (Scalar.ori (Scalar.cmpi .eq (Scalar.addi (Scalar.muli (BitVec.ofNat 32 (i 0).val) 2#32) 1#32) 0#32)
      (Scalar.cmpi .ne (wordE (k0_off3 i) (k0_off3_inb i) T) (wordE (k0_off4 i) (k0_off4_inb i) T)))) : BitVec 32) 0#32

/-- From the slots `x`, the six weight blocks `w…`, the tables and the scratches `s…` the body at point `i` runs to the
    slots' results `out`, written over whatever the output buffer held, and the scratches `s…'`. -/
def BodyRuns (c : Dev nD) (i : grid0.Coords) (arg3 : Memref sig .tc .vmem S4096x128 .i32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S1x1x1024x512 .f32) (harg7 : arg7.IsWhole)
    (arg8 : Memref sig .tc .vmem S1x1x1024x512 .f32) (harg8 : arg8.IsWhole) (arg9 : Memref sig .tc .vmem S1x1x512x1024 .f32) (harg9 : arg9.IsWhole)
    (arg10 : Memref sig .tc .vmem S4096x128 .i32) (harg10 : arg10.IsWhole) (T : S288.Idx → Elt Bits .i32) (n : S1.Idx → Elt Bits .i32)
    (x : S4096x128.Idx → Elt Bits .i32) (w0 w1 : S1x1x1024x512.Idx → Elt Bits .f32) (w2 : S1x1x512x1024.Idx → Elt Bits .f32)
    (w3 w4 : S1x1x1024x512.Idx → Elt Bits .f32) (w5 : S1x1x512x1024.Idx → Elt Bits .f32)
    (s0 : Buf (Elt Bits) ((c : Thread nD τ).loc cc0_scratch0)) (s1 : Buf (Elt Bits) ((c : Thread nD τ).loc cc0_scratch1)) (s2 : Buf (Elt Bits) ((c : Thread nD τ).loc cc0_scratch2))
    (out : List (View.Piece (Elt Bits) S4096x128 .i32))
    (s0' : Buf (Elt Bits) ((c : Thread nD τ).loc cc0_scratch0)) (s1' : Buf (Elt Bits) ((c : Thread nD τ).loc cc0_scratch1)) (s2' : Buf (Elt Bits) ((c : Thread nD τ).loc cc0_scratch2)) : Prop :=
  ∀ K : PUnit → sProp 𝕄,
    iprop((arg3.view.loc (c : Thread nD τ) ↦[arg3.view.set]{fullShare} arg3.view.rep x)
      ∗ (arg4.view.loc (c : Thread nD τ) ↦[arg4.view.set]{fullShare} arg4.view.rep w0)
      ∗ (arg5.view.loc (c : Thread nD τ) ↦[arg5.view.set]{fullShare} arg5.view.rep w1)
      ∗ (arg6.view.loc (c : Thread nD τ) ↦[arg6.view.set]{fullShare} arg6.view.rep w2)
      ∗ (arg7.view.loc (c : Thread nD τ) ↦[arg7.view.set]{fullShare} arg7.view.rep w3)
      ∗ (arg8.view.loc (c : Thread nD τ) ↦[arg8.view.set]{fullShare} arg8.view.rep w4)
      ∗ (arg9.view.loc (c : Thread nD τ) ↦[arg9.view.set]{fullShare} arg9.view.rep w5)
      ∗ (∃ d, owns (c : Thread nD τ) arg10 fullShare d)
      ∗ (tabE.view.loc (c : Thread nD τ) ↦{fullShare.right} T)
      ∗ (tabN.view.loc (c : Thread nD τ) ↦{fullShare.right} n)
      ∗ (scG.view.loc (c : Thread nD τ) ↦{fullShare} s0)
      ∗ (scU.view.loc (c : Thread nD τ) ↦{fullShare} s1)
      ∗ (scD.view.loc (c : Thread nD τ) ↦{fullShare} s2)
      ∗ (iprop((arg3.view.loc (c : Thread nD τ) ↦[arg3.view.set]{fullShare} arg3.view.rep x)
          ∗ (arg4.view.loc (c : Thread nD τ) ↦[arg4.view.set]{fullShare} arg4.view.rep w0)
          ∗ (arg5.view.loc (c : Thread nD τ) ↦[arg5.view.set]{fullShare} arg5.view.rep w1)
          ∗ (arg6.view.loc (c : Thread nD τ) ↦[arg6.view.set]{fullShare} arg6.view.rep w2)
          ∗ (arg7.view.loc (c : Thread nD τ) ↦[arg7.view.set]{fullShare} arg7.view.rep w3)
          ∗ (arg8.view.loc (c : Thread nD τ) ↦[arg8.view.set]{fullShare} arg8.view.rep w4)
          ∗ (arg9.view.loc (c : Thread nD τ) ↦[arg9.view.set]{fullShare} arg9.view.rep w5)
          ∗ (∃ f, arg10.view.loc (c : Thread nD τ) ↦[arg10.view.set]{fullShare} arg10.view.writes (Elt Bits) f out)
          ∗ (tabE.view.loc (c : Thread nD τ) ↦{fullShare.right} T)
          ∗ (tabN.view.loc (c : Thread nD τ) ↦{fullShare.right} n)
          ∗ (scG.view.loc (c : Thread nD τ) ↦{fullShare} s0')
          ∗ (scU.view.loc (c : Thread nD τ) ↦{fullShare} s1')
          ∗ (scD.view.loc (c : Thread nD τ) ↦{fullShare} s2')) -∗ K ⟨⟩))
      ⊢ wp frame (wpE (defs₀ (F := Bits)) Variants.none c none) Set.univ
          (cc0_moe_experts i tabE (Memref.isWhole_whole _) tabN (Memref.isWhole_whole _) arg3 harg3 arg4 harg4 arg5 harg5 arg6 harg6 arg7 harg7
            arg8 harg8 arg9 harg9 arg10 harg10 scG (Memref.isWhole_whole _) scU (Memref.isWhole_whole _) scD (Memref.isWhole_whole _)) K

section Paths

variable (c : Dev nD) (i : grid0.Coords) (arg3 : Memref sig .tc .vmem S4096x128 .i32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S1x1x1024x512 .f32) (harg7 : arg7.IsWhole)
    (arg8 : Memref sig .tc .vmem S1x1x1024x512 .f32) (harg8 : arg8.IsWhole) (arg9 : Memref sig .tc .vmem S1x1x512x1024 .f32) (harg9 : arg9.IsWhole)
    (arg10 : Memref sig .tc .vmem S4096x128 .i32) (harg10 : arg10.IsWhole) (T : S288.Idx → Elt Bits .i32) (n : S1.Idx → Elt Bits .i32)
    (x : S4096x128.Idx → Elt Bits .i32) (w0 w1 : S1x1x1024x512.Idx → Elt Bits .f32) (w2 : S1x1x512x1024.Idx → Elt Bits .f32)
    (w3 w4 : S1x1x1024x512.Idx → Elt Bits .f32) (w5 : S1x1x512x1024.Idx → Elt Bits .f32)
    (s0 : Buf (Elt Bits) ((c : Thread nD τ).loc cc0_scratch0)) (s1 : Buf (Elt Bits) ((c : Thread nD τ).loc cc0_scratch1)) (s2 : Buf (Elt Bits) ((c : Thread nD τ).loc cc0_scratch2))

set_option backward.proofsInPublic true in
set_option maxHeartbeats 2000000 in
/-- The first half live with new weights, the second live with new weights. -/
def runNN (hf0 : fresh0 i T n = 1#1) (h2 : k0_cond2 i (wordN n) = 1#1) (h3 : ¬(k0_cond3 i (wordN n) = 1#1))
    (hf1 : fresh1 i T n = 1#1) (h5 : k0_cond5 i (wordN n) = 1#1) (h6 : ¬(k0_cond6 i (wordN n) = 1#1)) :
    Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' } :=
  ⟨_, _, _, _, fun K => by
    unfold owns
    rw [cc0_moe_experts_eq_skeleton]; unfold cc0_moe_experts_skel
    rw [k0_part3_eq_skeleton, k0_part2_eq_skeleton]; unfold k0_part3_skel k0_part2_skel
    rw [k0_part1_eq_skeleton]; unfold k0_part1_skel
    iintro ⟨H3, H4, H5, H6, H7, H8, H9, ⟨%d2, %f2, -, HO⟩, HT0, HT1, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first
      | (guard_target = Scalar.cmpi .ne (Scalar.extui (Scalar.andi (Scalar.cmpi .slt (Scalar.addi _ 0#32) _) _)) _ = _; exact hf0)
      | (guard_target = k0_cond2 _ _ = _; exact h2) | (guard_target = ¬(k0_cond3 _ _ = _); exact h3)
      | (guard_target = Scalar.cmpi .ne (Scalar.extui (Scalar.andi (Scalar.cmpi .slt (Scalar.addi _ 1#32) _) _)) _ = _; exact hf1)
      | (guard_target = k0_cond5 _ _ = _; exact h5) | (guard_target = ¬(k0_cond6 _ _ = _); exact h6))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexists _; iexact HO
    isplitl [HT0]; · iexact HT0
    isplitl [HT1]; · iexact HT1
    isplitl [HS0]; · iexact HS0
    isplitl [HS1]; · iexact HS1
    iexact HS2⟩

set_option backward.proofsInPublic true in
set_option maxHeartbeats 2000000 in
/-- The first half live with new weights, the second live with the weights kept. -/
def runNK (hf0 : fresh0 i T n = 1#1) (h2 : k0_cond2 i (wordN n) = 1#1) (h3 : ¬(k0_cond3 i (wordN n) = 1#1))
    (hf1 : ¬(fresh1 i T n = 1#1)) (h5 : k0_cond5 i (wordN n) = 1#1) (h6 : ¬(k0_cond6 i (wordN n) = 1#1)) :
    Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' } :=
  ⟨_, _, _, _, fun K => by
    unfold owns
    rw [cc0_moe_experts_eq_skeleton]; unfold cc0_moe_experts_skel
    rw [k0_part3_eq_skeleton, k0_part2_eq_skeleton]; unfold k0_part3_skel k0_part2_skel
    rw [k0_part1_eq_skeleton]; unfold k0_part1_skel
    iintro ⟨H3, H4, H5, H6, H7, H8, H9, ⟨%d2, %f2, -, HO⟩, HT0, HT1, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first
      | (guard_target = Scalar.cmpi .ne (Scalar.extui (Scalar.andi (Scalar.cmpi .slt (Scalar.addi _ 0#32) _) _)) _ = _; exact hf0)
      | (guard_target = k0_cond2 _ _ = _; exact h2) | (guard_target = ¬(k0_cond3 _ _ = _); exact h3)
      | (guard_target = ¬(Scalar.cmpi .ne (Scalar.extui (Scalar.andi (Scalar.cmpi .slt (Scalar.addi _ 1#32) _) _)) _ = _); exact hf1)
      | (guard_target = k0_cond5 _ _ = _; exact h5) | (guard_target = ¬(k0_cond6 _ _ = _); exact h6))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexists _; iexact HO
    isplitl [HT0]; · iexact HT0
    isplitl [HT1]; · iexact HT1
    isplitl [HS0]; · iexact HS0
    isplitl [HS1]; · iexact HS1
    iexact HS2⟩

set_option backward.proofsInPublic true in
set_option maxHeartbeats 2000000 in
/-- The first half live with new weights, the second dead. -/
def runND (hf0 : fresh0 i T n = 1#1) (h2 : k0_cond2 i (wordN n) = 1#1) (h3 : ¬(k0_cond3 i (wordN n) = 1#1))
    (hf1 : ¬(fresh1 i T n = 1#1)) (h5 : ¬(k0_cond5 i (wordN n) = 1#1)) (h6 : k0_cond6 i (wordN n) = 1#1) :
    Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' } :=
  ⟨_, _, _, _, fun K => by
    unfold owns
    rw [cc0_moe_experts_eq_skeleton]; unfold cc0_moe_experts_skel
    rw [k0_part3_eq_skeleton, k0_part2_eq_skeleton]; unfold k0_part3_skel k0_part2_skel
    rw [k0_part1_eq_skeleton]; unfold k0_part1_skel
    iintro ⟨H3, H4, H5, H6, H7, H8, H9, ⟨%d2, %f2, -, HO⟩, HT0, HT1, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first
      | (guard_target = Scalar.cmpi .ne (Scalar.extui (Scalar.andi (Scalar.cmpi .slt (Scalar.addi _ 0#32) _) _)) _ = _; exact hf0)
      | (guard_target = k0_cond2 _ _ = _; exact h2) | (guard_target = ¬(k0_cond3 _ _ = _); exact h3)
      | (guard_target = ¬(Scalar.cmpi .ne (Scalar.extui (Scalar.andi (Scalar.cmpi .slt (Scalar.addi _ 1#32) _) _)) _ = _); exact hf1)
      | (guard_target = ¬(k0_cond5 _ _ = _); exact h5) | (guard_target = k0_cond6 _ _ = _; exact h6))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexists _; iexact HO
    isplitl [HT0]; · iexact HT0
    isplitl [HT1]; · iexact HT1
    isplitl [HS0]; · iexact HS0
    isplitl [HS1]; · iexact HS1
    iexact HS2⟩

set_option backward.proofsInPublic true in
set_option maxHeartbeats 2000000 in
/-- The first half live with the weights kept, the second live with new weights. -/
def runKN (hf0 : ¬(fresh0 i T n = 1#1)) (h2 : k0_cond2 i (wordN n) = 1#1) (h3 : ¬(k0_cond3 i (wordN n) = 1#1))
    (hf1 : fresh1 i T n = 1#1) (h5 : k0_cond5 i (wordN n) = 1#1) (h6 : ¬(k0_cond6 i (wordN n) = 1#1)) :
    Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' } :=
  ⟨_, _, _, _, fun K => by
    unfold owns
    rw [cc0_moe_experts_eq_skeleton]; unfold cc0_moe_experts_skel
    rw [k0_part3_eq_skeleton, k0_part2_eq_skeleton]; unfold k0_part3_skel k0_part2_skel
    rw [k0_part1_eq_skeleton]; unfold k0_part1_skel
    iintro ⟨H3, H4, H5, H6, H7, H8, H9, ⟨%d2, %f2, -, HO⟩, HT0, HT1, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first
      | (guard_target = ¬(Scalar.cmpi .ne (Scalar.extui (Scalar.andi (Scalar.cmpi .slt (Scalar.addi _ 0#32) _) _)) _ = _); exact hf0)
      | (guard_target = k0_cond2 _ _ = _; exact h2) | (guard_target = ¬(k0_cond3 _ _ = _); exact h3)
      | (guard_target = Scalar.cmpi .ne (Scalar.extui (Scalar.andi (Scalar.cmpi .slt (Scalar.addi _ 1#32) _) _)) _ = _; exact hf1)
      | (guard_target = k0_cond5 _ _ = _; exact h5) | (guard_target = ¬(k0_cond6 _ _ = _); exact h6))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexists _; iexact HO
    isplitl [HT0]; · iexact HT0
    isplitl [HT1]; · iexact HT1
    isplitl [HS0]; · iexact HS0
    isplitl [HS1]; · iexact HS1
    iexact HS2⟩

set_option backward.proofsInPublic true in
set_option maxHeartbeats 2000000 in
/-- The first half live with the weights kept, the second live with the weights kept. -/
def runKK (hf0 : ¬(fresh0 i T n = 1#1)) (h2 : k0_cond2 i (wordN n) = 1#1) (h3 : ¬(k0_cond3 i (wordN n) = 1#1))
    (hf1 : ¬(fresh1 i T n = 1#1)) (h5 : k0_cond5 i (wordN n) = 1#1) (h6 : ¬(k0_cond6 i (wordN n) = 1#1)) :
    Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' } :=
  ⟨_, _, _, _, fun K => by
    unfold owns
    rw [cc0_moe_experts_eq_skeleton]; unfold cc0_moe_experts_skel
    rw [k0_part3_eq_skeleton, k0_part2_eq_skeleton]; unfold k0_part3_skel k0_part2_skel
    rw [k0_part1_eq_skeleton]; unfold k0_part1_skel
    iintro ⟨H3, H4, H5, H6, H7, H8, H9, ⟨%d2, %f2, -, HO⟩, HT0, HT1, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first
      | (guard_target = ¬(Scalar.cmpi .ne (Scalar.extui (Scalar.andi (Scalar.cmpi .slt (Scalar.addi _ 0#32) _) _)) _ = _); exact hf0)
      | (guard_target = k0_cond2 _ _ = _; exact h2) | (guard_target = ¬(k0_cond3 _ _ = _); exact h3)
      | (guard_target = ¬(Scalar.cmpi .ne (Scalar.extui (Scalar.andi (Scalar.cmpi .slt (Scalar.addi _ 1#32) _) _)) _ = _); exact hf1)
      | (guard_target = k0_cond5 _ _ = _; exact h5) | (guard_target = ¬(k0_cond6 _ _ = _); exact h6))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexists _; iexact HO
    isplitl [HT0]; · iexact HT0
    isplitl [HT1]; · iexact HT1
    isplitl [HS0]; · iexact HS0
    isplitl [HS1]; · iexact HS1
    iexact HS2⟩

set_option backward.proofsInPublic true in
set_option maxHeartbeats 2000000 in
/-- The first half live with the weights kept, the second dead. -/
def runKD (hf0 : ¬(fresh0 i T n = 1#1)) (h2 : k0_cond2 i (wordN n) = 1#1) (h3 : ¬(k0_cond3 i (wordN n) = 1#1))
    (hf1 : ¬(fresh1 i T n = 1#1)) (h5 : ¬(k0_cond5 i (wordN n) = 1#1)) (h6 : k0_cond6 i (wordN n) = 1#1) :
    Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' } :=
  ⟨_, _, _, _, fun K => by
    unfold owns
    rw [cc0_moe_experts_eq_skeleton]; unfold cc0_moe_experts_skel
    rw [k0_part3_eq_skeleton, k0_part2_eq_skeleton]; unfold k0_part3_skel k0_part2_skel
    rw [k0_part1_eq_skeleton]; unfold k0_part1_skel
    iintro ⟨H3, H4, H5, H6, H7, H8, H9, ⟨%d2, %f2, -, HO⟩, HT0, HT1, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec! (disch := first
      | (guard_target = ¬(Scalar.cmpi .ne (Scalar.extui (Scalar.andi (Scalar.cmpi .slt (Scalar.addi _ 0#32) _) _)) _ = _); exact hf0)
      | (guard_target = k0_cond2 _ _ = _; exact h2) | (guard_target = ¬(k0_cond3 _ _ = _); exact h3)
      | (guard_target = ¬(Scalar.cmpi .ne (Scalar.extui (Scalar.andi (Scalar.cmpi .slt (Scalar.addi _ 1#32) _) _)) _ = _); exact hf1)
      | (guard_target = ¬(k0_cond5 _ _ = _); exact h5) | (guard_target = k0_cond6 _ _ = _; exact h6))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexists _; iexact HO
    isplitl [HT0]; · iexact HT0
    isplitl [HT1]; · iexact HT1
    isplitl [HS0]; · iexact HS0
    isplitl [HS1]; · iexact HS1
    iexact HS2⟩

set_option backward.proofsInPublic true in
set_option maxHeartbeats 2000000 in
/-- The first half dead, the second dead. -/
def runDD (hf0 : ¬(fresh0 i T n = 1#1)) (h2 : ¬(k0_cond2 i (wordN n) = 1#1)) (h3 : k0_cond3 i (wordN n) = 1#1)
    (hf1 : ¬(fresh1 i T n = 1#1)) (h5 : ¬(k0_cond5 i (wordN n) = 1#1)) (h6 : k0_cond6 i (wordN n) = 1#1) :
    Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' } :=
  ⟨_, _, _, _, fun K => by
    unfold owns
    rw [cc0_moe_experts_eq_skeleton]; unfold cc0_moe_experts_skel
    rw [k0_part3_eq_skeleton, k0_part2_eq_skeleton]; unfold k0_part3_skel k0_part2_skel
    rw [k0_part1_eq_skeleton]; unfold k0_part1_skel
    iintro ⟨H3, H4, H5, H6, H7, H8, H9, ⟨%d2, %f2, -, HO⟩, HT0, HT1, HS0, HS1, HS2, Hk⟩
    have hS0 : scG.IsWhole := Memref.isWhole_whole _
    have hS1 : scU.IsWhole := Memref.isWhole_whole _
    have hS2 : scD.IsWhole := Memref.isWhole_whole _
    have hT0 : tabE.IsWhole := Memref.isWhole_whole _
    have hT1 : tabN.IsWhole := Memref.isWhole_whole _
    sl_exec (disch := first
      | (guard_target = ¬(Scalar.cmpi .ne (Scalar.extui (Scalar.andi (Scalar.cmpi .slt (Scalar.addi _ 0#32) _) _)) _ = _); exact hf0)
      | (guard_target = ¬(k0_cond2 _ _ = _); exact h2) | (guard_target = k0_cond3 _ _ = _; exact h3)
      | (guard_target = ¬(Scalar.cmpi .ne (Scalar.extui (Scalar.andi (Scalar.cmpi .slt (Scalar.addi _ 1#32) _) _)) _ = _); exact hf1)
      | (guard_target = ¬(k0_cond5 _ _ = _); exact h5) | (guard_target = k0_cond6 _ _ = _; exact h6))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HO]; · iexists _; iexact HO
    isplitl [HT0]; · iexact HT0
    isplitl [HT1]; · iexact HT1
    isplitl [HS0]; · iexact HS0
    isplitl [HS1]; · iexact HS1
    iexact HS2⟩

end Paths

end Cert.Experts.Run

end
-- ==== Proof.ExpertsOut.lean ====
module

public import proofs.«01_k».proof.Proof.ExpertsBody
public import Idealize.ShloMosaic.Lib.ValueIdxCore
public import Idealize.ShloMosaic.Lib.ValueIdxCoords
public import Idealize.ShloMosaic.Lib.WholeRead

@[expose] public section

/-! What each run of the experts' body leaves: the output's two halves of rows, and the weights in the scratches. -/

set_option maxRecDepth 16384

noncomputable section

namespace Cert.Experts.Run

open Cert.Experts Cert.Experts.Gen
open Idealize.ShloMosaic
open Idealize.ShloMosaic.TcCoe Idealize.ShloMosaic.Tactic
open Idealize.ShloMosaic.ValueIdx

/-- Words of 512 by 512 laid out as 2048 rows of 128 lanes, four rows to one of theirs; the first half's then the second's. -/
def rows (A B : IVec S512x512 32) (y : S4096x128.Idx) : BitVec 32 :=
  if h : (y 0).val < 2048 then A (ix2 ⟨(y 0).val / 4, by omega⟩ ⟨(y 0).val % 4 * 128 + (y 1).val, by have := idx2_lt1 y; omega⟩)
  else B (ix2 ⟨((y 0).val - 2048) / 4, by have := idx2_lt0 y; omega⟩ ⟨(y 0).val % 4 * 128 + (y 1).val, by have := idx2_lt1 y; omega⟩)

/-- The words of the first half's block through weights `g`, `u`, `d`: four slabs of every fourth row. -/
def mlp0 (x : S4096x128.Idx → Elt Bits .i32) (g u : FVec Bits S1024x512 .bf16) (d : FVec Bits S512x1024 .bf16) : IVec S512x512 32 :=
  k0_pay6 (F := Bits) (fun y => x (ix2 ⟨4 * (y 0).val, by have := idx2_lt0 y; omega⟩ (y 1)))
    (fun y => x (ix2 ⟨1 + 4 * (y 0).val, by have := idx2_lt0 y; omega⟩ (y 1)))
    (fun y => x (ix2 ⟨2 + 4 * (y 0).val, by have := idx2_lt0 y; omega⟩ (y 1)))
    (fun y => x (ix2 ⟨3 + 4 * (y 0).val, by have := idx2_lt0 y; omega⟩ (y 1))) g u d

/-- The words of the second half's block. -/
def mlp1 (x : S4096x128.Idx → Elt Bits .i32) (g u : FVec Bits S1024x512 .bf16) (d : FVec Bits S512x1024 .bf16) : IVec S512x512 32 :=
  k0_pay6 (F := Bits) (fun y => x (ix2 ⟨2048 + 4 * (y 0).val, by have := idx2_lt0 y; omega⟩ (y 1)))
    (fun y => x (ix2 ⟨2049 + 4 * (y 0).val, by have := idx2_lt0 y; omega⟩ (y 1)))
    (fun y => x (ix2 ⟨2050 + 4 * (y 0).val, by have := idx2_lt0 y; omega⟩ (y 1)))
    (fun y => x (ix2 ⟨2051 + 4 * (y 0).val, by have := idx2_lt0 y; omega⟩ (y 1))) g u d

/-- Zero words. -/
def zero512 : IVec S512x512 32 := fun _ => 0#32

theorem rows_lt (A B : IVec S512x512 32) (r : ℕ) (l : Fin 128) (hr : r < 4096) (h : r < 2048) :
    rows A B (ix2 ⟨r, hr⟩ l) = A (ix2 ⟨r / 4, by omega⟩ ⟨r % 4 * 128 + l.val, by omega⟩) := by
  unfold rows; exact dif_pos h

theorem rows_ge (A B : IVec S512x512 32) (r : ℕ) (l : Fin 128) (hr : r < 4096) (h : ¬ r < 2048) :
    rows A B (ix2 ⟨r, hr⟩ l) = B (ix2 ⟨(r - 2048) / 4, by omega⟩ ⟨r % 4 * 128 + l.val, by omega⟩) := by
  unfold rows; exact dif_neg h

theorem strip0_0 (A B : IVec S512x512 32) (h : ∀ a, (Rect.unit (s := S4096x128) ![0, 0] S2048x128.size inb_S4096x128_S2048x128_0_0).stride a = 1) (x : S512x128.Idx) :
    k0_pay11 A x = rows A B (((Rect.unit (s := S4096x128) ![0, 0] S2048x128.size inb_S4096x128_S2048x128_0_0).within
      (⟨(⟨![0, 0], S512x128.size, ![4, 1], inb_S2048x128_S512x128_0_0_s_4_1⟩ : LoadRect S2048x128), spos_4_1⟩ : Rect S2048x128) h).emb x) := by
  have h0 := idx2_lt0 x
  have h1 := idx2_lt1 x
  have he : ((Rect.unit (s := S4096x128) ![0, 0] S2048x128.size inb_S4096x128_S2048x128_0_0).within
      (⟨(⟨![0, 0], S512x128.size, ![4, 1], inb_S2048x128_S512x128_0_0_s_4_1⟩ : LoadRect S2048x128), spos_4_1⟩ : Rect S2048x128) h).emb x
      = ix2 (⟨0 + 4 * (x 0).val, by omega⟩ : Fin 4096) (⟨(x 1).val, h1⟩ : Fin 128) := by
    funext a
    match a with
    | ⟨0, _⟩ => exact Fin.ext (by show 0 + 0 + 4 * (x 0).val = 0 + 4 * (x 0).val; omega)
    | ⟨1, _⟩ => exact Fin.ext (by show 0 + 0 + 1 * (x 1).val = (x 1).val; omega)
  rw [he, rows_lt _ _ _ _ _ (by omega)]
  show A _ = A _
  congr 1
  funext a
  match a with
  | ⟨0, _⟩ => exact Fin.ext (by show 0 + (x 0).val = (0 + 4 * (x 0).val) / 4; omega)
  | ⟨1, _⟩ => exact Fin.ext (by show 0 + (x 1).val = (0 + 4 * (x 0).val) % 4 * 128 + (x 1).val; omega)

theorem strip0_1 (A B : IVec S512x512 32) (h : ∀ a, (Rect.unit (s := S4096x128) ![0, 0] S2048x128.size inb_S4096x128_S2048x128_0_0).stride a = 1) (x : S512x128.Idx) :
    k0_pay12 A x = rows A B (((Rect.unit (s := S4096x128) ![0, 0] S2048x128.size inb_S4096x128_S2048x128_0_0).within
      (⟨(⟨![1, 0], S512x128.size, ![4, 1], inb_S2048x128_S512x128_1_0_s_4_1⟩ : LoadRect S2048x128), spos_4_1⟩ : Rect S2048x128) h).emb x) := by
  have h0 := idx2_lt0 x
  have h1 := idx2_lt1 x
  have he : ((Rect.unit (s := S4096x128) ![0, 0] S2048x128.size inb_S4096x128_S2048x128_0_0).within
      (⟨(⟨![1, 0], S512x128.size, ![4, 1], inb_S2048x128_S512x128_1_0_s_4_1⟩ : LoadRect S2048x128), spos_4_1⟩ : Rect S2048x128) h).emb x
      = ix2 (⟨1 + 4 * (x 0).val, by omega⟩ : Fin 4096) (⟨(x 1).val, h1⟩ : Fin 128) := by
    funext a
    match a with
    | ⟨0, _⟩ => exact Fin.ext (by show 0 + 1 + 4 * (x 0).val = 1 + 4 * (x 0).val; omega)
    | ⟨1, _⟩ => exact Fin.ext (by show 0 + 0 + 1 * (x 1).val = (x 1).val; omega)
  rw [he, rows_lt _ _ _ _ _ (by omega)]
  show A _ = A _
  congr 1
  funext a
  match a with
  | ⟨0, _⟩ => exact Fin.ext (by show 0 + (x 0).val = (1 + 4 * (x 0).val) / 4; omega)
  | ⟨1, _⟩ => exact Fin.ext (by show 128 + (x 1).val = (1 + 4 * (x 0).val) % 4 * 128 + (x 1).val; omega)

theorem strip0_2 (A B : IVec S512x512 32) (h : ∀ a, (Rect.unit (s := S4096x128) ![0, 0] S2048x128.size inb_S4096x128_S2048x128_0_0).stride a = 1) (x : S512x128.Idx) :
    k0_pay13 A x = rows A B (((Rect.unit (s := S4096x128) ![0, 0] S2048x128.size inb_S4096x128_S2048x128_0_0).within
      (⟨(⟨![2, 0], S512x128.size, ![4, 1], inb_S2048x128_S512x128_2_0_s_4_1⟩ : LoadRect S2048x128), spos_4_1⟩ : Rect S2048x128) h).emb x) := by
  have h0 := idx2_lt0 x
  have h1 := idx2_lt1 x
  have he : ((Rect.unit (s := S4096x128) ![0, 0] S2048x128.size inb_S4096x128_S2048x128_0_0).within
      (⟨(⟨![2, 0], S512x128.size, ![4, 1], inb_S2048x128_S512x128_2_0_s_4_1⟩ : LoadRect S2048x128), spos_4_1⟩ : Rect S2048x128) h).emb x
      = ix2 (⟨2 + 4 * (x 0).val, by omega⟩ : Fin 4096) (⟨(x 1).val, h1⟩ : Fin 128) := by
    funext a
    match a with
    | ⟨0, _⟩ => exact Fin.ext (by show 0 + 2 + 4 * (x 0).val = 2 + 4 * (x 0).val; omega)
    | ⟨1, _⟩ => exact Fin.ext (by show 0 + 0 + 1 * (x 1).val = (x 1).val; omega)
  rw [he, rows_lt _ _ _ _ _ (by omega)]
  show A _ = A _
  congr 1
  funext a
  match a with
  | ⟨0, _⟩ => exact Fin.ext (by show 0 + (x 0).val = (2 + 4 * (x 0).val) / 4; omega)
  | ⟨1, _⟩ => exact Fin.ext (by show 256 + (x 1).val = (2 + 4 * (x 0).val) % 4 * 128 + (x 1).val; omega)

theorem strip0_3 (A B : IVec S512x512 32) (h : ∀ a, (Rect.unit (s := S4096x128) ![0, 0] S2048x128.size inb_S4096x128_S2048x128_0_0).stride a = 1) (x : S512x128.Idx) :
    k0_pay14 A x = rows A B (((Rect.unit (s := S4096x128) ![0, 0] S2048x128.size inb_S4096x128_S2048x128_0_0).within
      (⟨(⟨![3, 0], S512x128.size, ![4, 1], inb_S2048x128_S512x128_3_0_s_4_1⟩ : LoadRect S2048x128), spos_4_1⟩ : Rect S2048x128) h).emb x) := by
  have h0 := idx2_lt0 x
  have h1 := idx2_lt1 x
  have he : ((Rect.unit (s := S4096x128) ![0, 0] S2048x128.size inb_S4096x128_S2048x128_0_0).within
      (⟨(⟨![3, 0], S512x128.size, ![4, 1], inb_S2048x128_S512x128_3_0_s_4_1⟩ : LoadRect S2048x128), spos_4_1⟩ : Rect S2048x128) h).emb x
      = ix2 (⟨3 + 4 * (x 0).val, by omega⟩ : Fin 4096) (⟨(x 1).val, h1⟩ : Fin 128) := by
    funext a
    match a with
    | ⟨0, _⟩ => exact Fin.ext (by show 0 + 3 + 4 * (x 0).val = 3 + 4 * (x 0).val; omega)
    | ⟨1, _⟩ => exact Fin.ext (by show 0 + 0 + 1 * (x 1).val = (x 1).val; omega)
  rw [he, rows_lt _ _ _ _ _ (by omega)]
  show A _ = A _
  congr 1
  funext a
  match a with
  | ⟨0, _⟩ => exact Fin.ext (by show 0 + (x 0).val = (3 + 4 * (x 0).val) / 4; omega)
  | ⟨1, _⟩ => exact Fin.ext (by show 384 + (x 1).val = (3 + 4 * (x 0).val) % 4 * 128 + (x 1).val; omega)

theorem strip1_0 (A B : IVec S512x512 32) (h : ∀ a, (Rect.unit (s := S4096x128) ![2048, 0] S2048x128.size inb_S4096x128_S2048x128_2048_0).stride a = 1) (x : S512x128.Idx) :
    k0_pay1 B x = rows A B (((Rect.unit (s := S4096x128) ![2048, 0] S2048x128.size inb_S4096x128_S2048x128_2048_0).within
      (⟨(⟨![0, 0], S512x128.size, ![4, 1], inb_S2048x128_S512x128_0_0_s_4_1⟩ : LoadRect S2048x128), spos_4_1⟩ : Rect S2048x128) h).emb x) := by
  have h0 := idx2_lt0 x
  have h1 := idx2_lt1 x
  have he : ((Rect.unit (s := S4096x128) ![2048, 0] S2048x128.size inb_S4096x128_S2048x128_2048_0).within
      (⟨(⟨![0, 0], S512x128.size, ![4, 1], inb_S2048x128_S512x128_0_0_s_4_1⟩ : LoadRect S2048x128), spos_4_1⟩ : Rect S2048x128) h).emb x
      = ix2 (⟨2048 + 4 * (x 0).val, by omega⟩ : Fin 4096) (⟨(x 1).val, h1⟩ : Fin 128) := by
    funext a
    match a with
    | ⟨0, _⟩ => exact Fin.ext (by show 2048 + 0 + 4 * (x 0).val = 2048 + 4 * (x 0).val; omega)
    | ⟨1, _⟩ => exact Fin.ext (by show 0 + 0 + 1 * (x 1).val = (x 1).val; omega)
  rw [he, rows_ge _ _ _ _ _ (by omega)]
  show B _ = B _
  congr 1
  funext a
  match a with
  | ⟨0, _⟩ => exact Fin.ext (by show 0 + (x 0).val = (2048 + 4 * (x 0).val - 2048) / 4; omega)
  | ⟨1, _⟩ => exact Fin.ext (by show 0 + (x 1).val = (2048 + 4 * (x 0).val) % 4 * 128 + (x 1).val; omega)

theorem strip1_1 (A B : IVec S512x512 32) (h : ∀ a, (Rect.unit (s := S4096x128) ![2048, 0] S2048x128.size inb_S4096x128_S2048x128_2048_0).stride a = 1) (x : S512x128.Idx) :
    k0_pay2 B x = rows A B (((Rect.unit (s := S4096x128) ![2048, 0] S2048x128.size inb_S4096x128_S2048x128_2048_0).within
      (⟨(⟨![1, 0], S512x128.size, ![4, 1], inb_S2048x128_S512x128_1_0_s_4_1⟩ : LoadRect S2048x128), spos_4_1⟩ : Rect S2048x128) h).emb x) := by
  have h0 := idx2_lt0 x
  have h1 := idx2_lt1 x
  have he : ((Rect.unit (s := S4096x128) ![2048, 0] S2048x128.size inb_S4096x128_S2048x128_2048_0).within
      (⟨(⟨![1, 0], S512x128.size, ![4, 1], inb_S2048x128_S512x128_1_0_s_4_1⟩ : LoadRect S2048x128), spos_4_1⟩ : Rect S2048x128) h).emb x
      = ix2 (⟨2049 + 4 * (x 0).val, by omega⟩ : Fin 4096) (⟨(x 1).val, h1⟩ : Fin 128) := by
    funext a
    match a with
    | ⟨0, _⟩ => exact Fin.ext (by show 2048 + 1 + 4 * (x 0).val = 2049 + 4 * (x 0).val; omega)
    | ⟨1, _⟩ => exact Fin.ext (by show 0 + 0 + 1 * (x 1).val = (x 1).val; omega)
  rw [he, rows_ge _ _ _ _ _ (by omega)]
  show B _ = B _
  congr 1
  funext a
  match a with
  | ⟨0, _⟩ => exact Fin.ext (by show 0 + (x 0).val = (2049 + 4 * (x 0).val - 2048) / 4; omega)
  | ⟨1, _⟩ => exact Fin.ext (by show 128 + (x 1).val = (2049 + 4 * (x 0).val) % 4 * 128 + (x 1).val; omega)

theorem strip1_2 (A B : IVec S512x512 32) (h : ∀ a, (Rect.unit (s := S4096x128) ![2048, 0] S2048x128.size inb_S4096x128_S2048x128_2048_0).stride a = 1) (x : S512x128.Idx) :
    k0_pay3 B x = rows A B (((Rect.unit (s := S4096x128) ![2048, 0] S2048x128.size inb_S4096x128_S2048x128_2048_0).within
      (⟨(⟨![2, 0], S512x128.size, ![4, 1], inb_S2048x128_S512x128_2_0_s_4_1⟩ : LoadRect S2048x128), spos_4_1⟩ : Rect S2048x128) h).emb x) := by
  have h0 := idx2_lt0 x
  have h1 := idx2_lt1 x
  have he : ((Rect.unit (s := S4096x128) ![2048, 0] S2048x128.size inb_S4096x128_S2048x128_2048_0).within
      (⟨(⟨![2, 0], S512x128.size, ![4, 1], inb_S2048x128_S512x128_2_0_s_4_1⟩ : LoadRect S2048x128), spos_4_1⟩ : Rect S2048x128) h).emb x
      = ix2 (⟨2050 + 4 * (x 0).val, by omega⟩ : Fin 4096) (⟨(x 1).val, h1⟩ : Fin 128) := by
    funext a
    match a with
    | ⟨0, _⟩ => exact Fin.ext (by show 2048 + 2 + 4 * (x 0).val = 2050 + 4 * (x 0).val; omega)
    | ⟨1, _⟩ => exact Fin.ext (by show 0 + 0 + 1 * (x 1).val = (x 1).val; omega)
  rw [he, rows_ge _ _ _ _ _ (by omega)]
  show B _ = B _
  congr 1
  funext a
  match a with
  | ⟨0, _⟩ => exact Fin.ext (by show 0 + (x 0).val = (2050 + 4 * (x 0).val - 2048) / 4; omega)
  | ⟨1, _⟩ => exact Fin.ext (by show 256 + (x 1).val = (2050 + 4 * (x 0).val) % 4 * 128 + (x 1).val; omega)

theorem strip1_3 (A B : IVec S512x512 32) (h : ∀ a, (Rect.unit (s := S4096x128) ![2048, 0] S2048x128.size inb_S4096x128_S2048x128_2048_0).stride a = 1) (x : S512x128.Idx) :
    k0_pay4 B x = rows A B (((Rect.unit (s := S4096x128) ![2048, 0] S2048x128.size inb_S4096x128_S2048x128_2048_0).within
      (⟨(⟨![3, 0], S512x128.size, ![4, 1], inb_S2048x128_S512x128_3_0_s_4_1⟩ : LoadRect S2048x128), spos_4_1⟩ : Rect S2048x128) h).emb x) := by
  have h0 := idx2_lt0 x
  have h1 := idx2_lt1 x
  have he : ((Rect.unit (s := S4096x128) ![2048, 0] S2048x128.size inb_S4096x128_S2048x128_2048_0).within
      (⟨(⟨![3, 0], S512x128.size, ![4, 1], inb_S2048x128_S512x128_3_0_s_4_1⟩ : LoadRect S2048x128), spos_4_1⟩ : Rect S2048x128) h).emb x
      = ix2 (⟨2051 + 4 * (x 0).val, by omega⟩ : Fin 4096) (⟨(x 1).val, h1⟩ : Fin 128) := by
    funext a
    match a with
    | ⟨0, _⟩ => exact Fin.ext (by show 2048 + 3 + 4 * (x 0).val = 2051 + 4 * (x 0).val; omega)
    | ⟨1, _⟩ => exact Fin.ext (by show 0 + 0 + 1 * (x 1).val = (x 1).val; omega)
  rw [he, rows_ge _ _ _ _ _ (by omega)]
  show B _ = B _
  congr 1
  funext a
  match a with
  | ⟨0, _⟩ => exact Fin.ext (by show 0 + (x 0).val = (2051 + 4 * (x 0).val - 2048) / 4; omega)
  | ⟨1, _⟩ => exact Fin.ext (by show 384 + (x 1).val = (2051 + 4 * (x 0).val) % 4 * 128 + (x 1).val; omega)

/-- The dead halves' zero words. -/
theorem dead0 (B : IVec S512x512 32) (x : S2048x128.Idx) :
    k0_pay15 x = rows zero512 B ((Rect.unit (s := S4096x128) ![0, 0] S2048x128.size inb_S4096x128_S2048x128_0_0).emb x) := by
  have h0 := idx2_lt0 x
  have he : (Rect.unit (s := S4096x128) ![0, 0] S2048x128.size inb_S4096x128_S2048x128_0_0).emb x
      = ix2 (⟨(x 0).val, by omega⟩ : Fin 4096) (⟨(x 1).val, idx2_lt1 x⟩ : Fin 128) := by
    funext a
    match a with
    | ⟨0, _⟩ => exact Fin.ext (by show 0 + 1 * (x 0).val = (x 0).val; omega)
    | ⟨1, _⟩ => exact Fin.ext (by show 0 + 1 * (x 1).val = (x 1).val; omega)
  rw [he, rows_lt _ _ _ _ _ h0]
  rfl

theorem dead1 (A : IVec S512x512 32) (x : S2048x128.Idx) :
    k0_pay5 x = rows A zero512 ((Rect.unit (s := S4096x128) ![2048, 0] S2048x128.size inb_S4096x128_S2048x128_2048_0).emb x) := by
  have h0 := idx2_lt0 x
  have he : (Rect.unit (s := S4096x128) ![2048, 0] S2048x128.size inb_S4096x128_S2048x128_2048_0).emb x
      = ix2 (⟨2048 + (x 0).val, by omega⟩ : Fin 4096) (⟨(x 1).val, idx2_lt1 x⟩ : Fin 128) := by
    funext a
    match a with
    | ⟨0, _⟩ => exact Fin.ext (by show 2048 + 1 * (x 0).val = 2048 + (x 0).val; omega)
    | ⟨1, _⟩ => exact Fin.ext (by show 0 + 1 * (x 1).val = (x 1).val; omega)
  rw [he, rows_ge _ _ _ _ _ (by omega)]
  rfl

/-- Every row lies in one of the pieces: a strip by its remainder modulo four, or the half as a whole. -/
theorem mem_strip (o : Fin 2 → ℕ) (ho : ∀ a, o a + S2048x128.size a ≤ S4096x128.size a) (k : ℕ) (hk : ∀ a, S512x128.size a = 0 ∨ (![k, 0] : Fin 2 → ℕ) a + (![4, 1] : Fin 2 → ℕ) a * (S512x128.size a - 1) < S2048x128.size a)
    (hp : ∀ a, 0 < (![4, 1] : Fin 2 → ℕ) a) (h : ∀ a, (Rect.unit (s := S4096x128) o S2048x128.size ho).stride a = 1)
    (y : S4096x128.Idx) (h0 : o 0 ≤ (y 0).val) (h0' : (y 0).val < o 0 + 2048) (hm : (y 0).val % 4 = k) (hom : o 0 % 4 = 0) (h1 : o 1 = 0) :
    y ∈ ((Rect.unit (s := S4096x128) o S2048x128.size ho).within (⟨(⟨![k, 0], S512x128.size, ![4, 1], hk⟩ : LoadRect S2048x128), hp⟩ : Rect S2048x128) h).set := by
  rw [LoadRect.mem_set]
  intro a
  match a with
  | ⟨0, _⟩ => exact ⟨((y 0).val - o 0) / 4, by show _ < 512; omega, by show (y 0).val = o 0 + k + 4 * (((y 0).val - o 0) / 4); omega⟩
  | ⟨1, _⟩ => exact ⟨(y 1).val, idx2_lt1 y, by show (y 1).val = o 1 + 0 + 1 * (y 1).val; omega⟩

theorem mem_half (o : Fin 2 → ℕ) (ho : ∀ a, o a + S2048x128.size a ≤ S4096x128.size a)
    (y : S4096x128.Idx) (h0 : o 0 ≤ (y 0).val) (h0' : (y 0).val < o 0 + 2048) (h1 : o 1 = 0) :
    y ∈ (Rect.unit (s := S4096x128) o S2048x128.size ho).set := by
  rw [LoadRect.mem_set]
  intro a
  match a with
  | ⟨0, _⟩ => exact ⟨(y 0).val - o 0, by show _ < 2048; omega, by show (y 0).val = o 0 + 1 * ((y 0).val - o 0); omega⟩
  | ⟨1, _⟩ => exact ⟨(y 1).val, idx2_lt1 y, by show (y 1).val = o 1 + 1 * (y 1).val; omega⟩

/-- A list's pieces are the rows of one half: each a part of them, and together all of that half. -/
structure Half0 (L : List (View.Piece (Elt Bits) S4096x128 .i32)) (A : IVec S512x512 32) : Prop where
  part : ∀ B, ∀ p ∈ L, ∀ z : p.1.shape.Idx, p.2 z = rows A B (p.1.emb z)
  all : ∀ y : S4096x128.Idx, (y 0).val < 2048 → ∃ p ∈ L, y ∈ p.1.set

structure Half1 (L : List (View.Piece (Elt Bits) S4096x128 .i32)) (B : IVec S512x512 32) : Prop where
  part : ∀ A, ∀ p ∈ L, ∀ z : p.1.shape.Idx, p.2 z = rows A B (p.1.emb z)
  all : ∀ y : S4096x128.Idx, 2048 ≤ (y 0).val → ∃ p ∈ L, y ∈ p.1.set

theorem read_halves (v : View sig .tc .vmem S4096x128 .i32) (f : v.ty.Contents (Elt Bits)) {L0 L1 : List (View.Piece (Elt Bits) S4096x128 .i32)}
    {A B : IVec S512x512 32} (h0 : Half0 L0 A) (h1 : Half1 L1 B) : v.read (Elt Bits) (v.writes (Elt Bits) f (L1 ++ L0)) = rows A B := by
  funext y
  refine View.read_writes_apply_of_pieces v f (rows A B) (L1 ++ L0) (fun p hp z => ?_) y ?_
  · rcases List.mem_append.mp hp with h | h
    · exact h1.part A p h z
    · exact h0.part B p h z
  · by_cases hy : (y 0).val < 2048
    · obtain ⟨p, hp, hm⟩ := h0.all y hy
      exact ⟨p, List.mem_append.mpr (.inr hp), hm⟩
    · obtain ⟨p, hp, hm⟩ := h1.all y (Nat.le_of_not_lt hy)
      exact ⟨p, List.mem_append.mpr (.inl hp), hm⟩

/-- A live half's four strips. -/
abbrev strips0 (A : IVec S512x512 32) : List (View.Piece (Elt Bits) S4096x128 .i32) :=
  [⟨(Rect.unit (s := S4096x128) ![0, 0] S2048x128.size inb_S4096x128_S2048x128_0_0).within (⟨(⟨![3, 0], S512x128.size, ![4, 1], inb_S2048x128_S512x128_3_0_s_4_1⟩ : LoadRect S2048x128), spos_4_1⟩ : Rect S2048x128) (fun _ => rfl), k0_pay14 A⟩,
   ⟨(Rect.unit (s := S4096x128) ![0, 0] S2048x128.size inb_S4096x128_S2048x128_0_0).within (⟨(⟨![2, 0], S512x128.size, ![4, 1], inb_S2048x128_S512x128_2_0_s_4_1⟩ : LoadRect S2048x128), spos_4_1⟩ : Rect S2048x128) (fun _ => rfl), k0_pay13 A⟩,
   ⟨(Rect.unit (s := S4096x128) ![0, 0] S2048x128.size inb_S4096x128_S2048x128_0_0).within (⟨(⟨![1, 0], S512x128.size, ![4, 1], inb_S2048x128_S512x128_1_0_s_4_1⟩ : LoadRect S2048x128), spos_4_1⟩ : Rect S2048x128) (fun _ => rfl), k0_pay12 A⟩,
   ⟨(Rect.unit (s := S4096x128) ![0, 0] S2048x128.size inb_S4096x128_S2048x128_0_0).within (⟨(⟨![0, 0], S512x128.size, ![4, 1], inb_S2048x128_S512x128_0_0_s_4_1⟩ : LoadRect S2048x128), spos_4_1⟩ : Rect S2048x128) (fun _ => rfl), k0_pay11 A⟩]

theorem half_strips0 (A : IVec S512x512 32) : Half0 (strips0 A) A where
  part := by
    intro B p hp
    simp only [List.mem_cons, List.not_mem_nil, or_false] at hp
    rcases hp with rfl | rfl | rfl | rfl
    · exact fun z => strip0_3 A B (fun _ => rfl) z
    · exact fun z => strip0_2 A B (fun _ => rfl) z
    · exact fun z => strip0_1 A B (fun _ => rfl) z
    · exact fun z => strip0_0 A B (fun _ => rfl) z
  all := by
    intro y hy
    have h4 := idx2_lt0 y
    have hm : (y 0).val % 4 = 0 ∨ (y 0).val % 4 = 1 ∨ (y 0).val % 4 = 2 ∨ (y 0).val % 4 = 3 := by omega
    rcases hm with hm | hm | hm | hm
    · exact ⟨_, .tail _ (.tail _ (.tail _ (.head _))), mem_strip ![0, 0] _ 0 inb_S2048x128_S512x128_0_0_s_4_1 spos_4_1 (fun _ => rfl) y (by show 0 ≤ _; omega) (by show _ < 0 + 2048; omega) hm rfl rfl⟩
    · exact ⟨_, .tail _ (.tail _ (.head _)), mem_strip ![0, 0] _ 1 inb_S2048x128_S512x128_1_0_s_4_1 spos_4_1 (fun _ => rfl) y (by show 0 ≤ _; omega) (by show _ < 0 + 2048; omega) hm rfl rfl⟩
    · exact ⟨_, .tail _ (.head _), mem_strip ![0, 0] _ 2 inb_S2048x128_S512x128_2_0_s_4_1 spos_4_1 (fun _ => rfl) y (by show 0 ≤ _; omega) (by show _ < 0 + 2048; omega) hm rfl rfl⟩
    · exact ⟨_, .head _, mem_strip ![0, 0] _ 3 inb_S2048x128_S512x128_3_0_s_4_1 spos_4_1 (fun _ => rfl) y (by show 0 ≤ _; omega) (by show _ < 0 + 2048; omega) hm rfl rfl⟩

/-- A dead half's one piece. -/
abbrev fill0 : List (View.Piece (Elt Bits) S4096x128 .i32) := [⟨Rect.unit (s := S4096x128) ![0, 0] S2048x128.size inb_S4096x128_S2048x128_0_0, k0_pay15⟩]

theorem half_fill0 : Half0 fill0 zero512 where
  part := by
    intro B p hp
    rw [List.mem_singleton] at hp
    subst hp
    exact fun z => dead0 B z
  all := fun y hy => ⟨_, .head _, mem_half ![0, 0] inb_S4096x128_S2048x128_0_0 y (by show 0 ≤ _; omega) (by have := idx2_lt0 y; show _ < 0 + 2048; omega) rfl⟩

/-- A live half's four strips. -/
abbrev strips1 (A : IVec S512x512 32) : List (View.Piece (Elt Bits) S4096x128 .i32) :=
  [⟨(Rect.unit (s := S4096x128) ![2048, 0] S2048x128.size inb_S4096x128_S2048x128_2048_0).within (⟨(⟨![3, 0], S512x128.size, ![4, 1], inb_S2048x128_S512x128_3_0_s_4_1⟩ : LoadRect S2048x128), spos_4_1⟩ : Rect S2048x128) (fun _ => rfl), k0_pay4 A⟩,
   ⟨(Rect.unit (s := S4096x128) ![2048, 0] S2048x128.size inb_S4096x128_S2048x128_2048_0).within (⟨(⟨![2, 0], S512x128.size, ![4, 1], inb_S2048x128_S512x128_2_0_s_4_1⟩ : LoadRect S2048x128), spos_4_1⟩ : Rect S2048x128) (fun _ => rfl), k0_pay3 A⟩,
   ⟨(Rect.unit (s := S4096x128) ![2048, 0] S2048x128.size inb_S4096x128_S2048x128_2048_0).within (⟨(⟨![1, 0], S512x128.size, ![4, 1], inb_S2048x128_S512x128_1_0_s_4_1⟩ : LoadRect S2048x128), spos_4_1⟩ : Rect S2048x128) (fun _ => rfl), k0_pay2 A⟩,
   ⟨(Rect.unit (s := S4096x128) ![2048, 0] S2048x128.size inb_S4096x128_S2048x128_2048_0).within (⟨(⟨![0, 0], S512x128.size, ![4, 1], inb_S2048x128_S512x128_0_0_s_4_1⟩ : LoadRect S2048x128), spos_4_1⟩ : Rect S2048x128) (fun _ => rfl), k0_pay1 A⟩]

theorem half_strips1 (A : IVec S512x512 32) : Half1 (strips1 A) A where
  part := by
    intro B p hp
    simp only [List.mem_cons, List.not_mem_nil, or_false] at hp
    rcases hp with rfl | rfl | rfl | rfl
    · exact fun z => strip1_3 B A (fun _ => rfl) z
    · exact fun z => strip1_2 B A (fun _ => rfl) z
    · exact fun z => strip1_1 B A (fun _ => rfl) z
    · exact fun z => strip1_0 B A (fun _ => rfl) z
  all := by
    intro y hy
    have h4 := idx2_lt0 y
    have hm : (y 0).val % 4 = 0 ∨ (y 0).val % 4 = 1 ∨ (y 0).val % 4 = 2 ∨ (y 0).val % 4 = 3 := by omega
    rcases hm with hm | hm | hm | hm
    · exact ⟨_, .tail _ (.tail _ (.tail _ (.head _))), mem_strip ![2048, 0] _ 0 inb_S2048x128_S512x128_0_0_s_4_1 spos_4_1 (fun _ => rfl) y (by show 2048 ≤ _; omega) (by show _ < 2048 + 2048; omega) hm rfl rfl⟩
    · exact ⟨_, .tail _ (.tail _ (.head _)), mem_strip ![2048, 0] _ 1 inb_S2048x128_S512x128_1_0_s_4_1 spos_4_1 (fun _ => rfl) y (by show 2048 ≤ _; omega) (by show _ < 2048 + 2048; omega) hm rfl rfl⟩
    · exact ⟨_, .tail _ (.head _), mem_strip ![2048, 0] _ 2 inb_S2048x128_S512x128_2_0_s_4_1 spos_4_1 (fun _ => rfl) y (by show 2048 ≤ _; omega) (by show _ < 2048 + 2048; omega) hm rfl rfl⟩
    · exact ⟨_, .head _, mem_strip ![2048, 0] _ 3 inb_S2048x128_S512x128_3_0_s_4_1 spos_4_1 (fun _ => rfl) y (by show 2048 ≤ _; omega) (by show _ < 2048 + 2048; omega) hm rfl rfl⟩

/-- A dead half's one piece. -/
abbrev fill1 : List (View.Piece (Elt Bits) S4096x128 .i32) := [⟨Rect.unit (s := S4096x128) ![2048, 0] S2048x128.size inb_S4096x128_S2048x128_2048_0, k0_pay5⟩]

theorem half_fill1 : Half1 fill1 zero512 where
  part := by
    intro B p hp
    rw [List.mem_singleton] at hp
    subst hp
    exact fun z => dead1 B z
  all := fun y hy => ⟨_, .head _, mem_half ![2048, 0] inb_S4096x128_S2048x128_2048_0 y (by show 2048 ≤ _; omega) (by have := idx2_lt0 y; show _ < 2048 + 2048; omega) rfl⟩

/-- A whole scratch read through its one full rectangle. -/
theorem read_full {e : EltTy} {a b : ℕ} (v : View sig .tc .vmem ⟨2, ![a, b]⟩ e) (f : v.ty.Contents (Elt Bits))
    (h : ∀ k, (![0, 0] : Fin 2 → ℕ) k + (![a, b] : Fin 2 → ℕ) k ≤ (⟨2, ![a, b]⟩ : Shape).size k)
    (w : (⟨2, ![a, b]⟩ : Shape).Idx → Elt Bits e) (L : List (View.Piece (Elt Bits) ⟨2, ![a, b]⟩ e)) :
    v.read (Elt Bits) (v.writes (Elt Bits) f (⟨Rect.unit (s := ⟨2, ![a, b]⟩) ![0, 0] ![a, b] h, w⟩ :: L)) = w := by
  funext y
  refine View.read_writes_cons_hit v f (Rect.unit (s := ⟨2, ![a, b]⟩) ![0, 0] ![a, b] h) w L y y ?_
  funext k
  match k with
  | ⟨0, _⟩ => exact Fin.ext (by show 0 + 1 * (y 0).val = (y 0).val; omega)
  | ⟨1, _⟩ => exact Fin.ext (by show 0 + 1 * (y 1).val = (y 1).val; omega)

theorem idx_full {a b : ℕ} (h : ∀ k, (![0, 0] : Fin 2 → ℕ) k + (![a, b] : Fin 2 → ℕ) k ≤ (⟨2, ![a, b]⟩ : Shape).size k)
    (y : (⟨2, ![a, b]⟩ : Shape).Idx) : (Rect.unit (s := ⟨2, ![a, b]⟩) ![0, 0] ![a, b] h).toLoadRect.idx y = y := by
  funext k
  match k with
  | ⟨0, _⟩ => exact Fin.ext (by show 0 + 1 * (y 0).val = (y 0).val; omega)
  | ⟨1, _⟩ => exact Fin.ext (by show 0 + 1 * (y 1).val = (y 1).val; omega)

theorem idx_full4 {a b : ℕ} (h : ∀ k, (![0, 0, 0, 0] : Fin 4 → ℕ) k + (![1, 1, a, b] : Fin 4 → ℕ) k ≤ (⟨4, ![1, 1, a, b]⟩ : Shape).size k)
    (y : (⟨4, ![1, 1, a, b]⟩ : Shape).Idx) : (Rect.unit (s := ⟨4, ![1, 1, a, b]⟩) ![0, 0, 0, 0] ![1, 1, a, b] h).toLoadRect.idx y = y := by
  funext k
  match k with
  | ⟨0, _⟩ => exact Fin.ext (by show 0 + 1 * (y 0).val = (y 0).val; omega)
  | ⟨1, _⟩ => exact Fin.ext (by show 0 + 1 * (y 1).val = (y 1).val; omega)
  | ⟨2, _⟩ => exact Fin.ext (by show 0 + 1 * (y 2).val = (y 2).val; omega)
  | ⟨3, _⟩ => exact Fin.ext (by show 0 + 1 * (y 3).val = (y 3).val; omega)

/-- A weight block read whole. -/
theorem readAt_block {a b : ℕ} (v : View sig .tc .vmem ⟨4, ![1, 1, a, b]⟩ .f32)
    (h : ∀ k, (![0, 0, 0, 0] : Fin 4 → ℕ) k + (![1, 1, a, b] : Fin 4 → ℕ) k ≤ (⟨4, ![1, 1, a, b]⟩ : Shape).size k)
    (w : (⟨4, ![1, 1, a, b]⟩ : Shape).Idx → Elt Bits .f32) :
    v.readAt (Elt Bits) (Rect.unit (s := ⟨4, ![1, 1, a, b]⟩) ![0, 0, 0, 0] ![1, 1, a, b] h).toLoadRect (v.rep w) = w := by
  rw [View.readAt_rep]
  funext y
  rw [idx_full4]

/-- A scratch just written whole reads as what was written. -/
theorem readCov_full {e : EltTy} {a b : ℕ} (v : View sig .tc .vmem ⟨2, ![a, b]⟩ e)
    (h h' : ∀ k, (![0, 0] : Fin 2 → ℕ) k + (![a, b] : Fin 2 → ℕ) k ≤ (⟨2, ![a, b]⟩ : Shape).size k)
    (w : (⟨2, ![a, b]⟩ : Shape).Idx → Elt Bits e) (L : List (View.Piece (Elt Bits) ⟨2, ![a, b]⟩ e)) :
    v.readCov (⟨Rect.unit (s := ⟨2, ![a, b]⟩) ![0, 0] ![a, b] h, w⟩ :: L) (Rect.unit (s := ⟨2, ![a, b]⟩) ![0, 0] ![a, b] h').toLoadRect = w := by
  funext y
  show v.read (Elt Bits) (v.writes (Elt Bits) v.junk _) ((Rect.unit (s := ⟨2, ![a, b]⟩) ![0, 0] ![a, b] h').toLoadRect.idx y) = w y
  rw [read_full, idx_full]

end Cert.Experts.Run

end
-- ==== Proof.ExpertsDone.lean ====
module

public import proofs.«01_k».proof.Proof.ExpertsOut

@[expose] public section

/-! Each way through the body, with what it leaves: the two halves' words and the weights the scratches hold after it. -/

set_option maxRecDepth 16384

noncomputable section

namespace Cert.Experts.Run

open Cert.Experts Cert.Experts.Gen
open Idealize.ShloMosaic
open Idealize.ShloMosaic.TcCoe Idealize.ShloMosaic.Tactic
open Idealize.ShloMosaic.ValueIdx

theorem slab0_0 (v : View sig .tc .vmem S4096x128 .i32) (x : S4096x128.Idx → Elt Bits .i32) (h : ∀ a, (Rect.unit (s := S4096x128) ![0, 0] S2048x128.size inb_S4096x128_S2048x128_0_0).stride a = 1) :
    View.readAt (Elt Bits) v ((Rect.unit (s := S4096x128) ![0, 0] S2048x128.size inb_S4096x128_S2048x128_0_0).withinL
      (⟨![0, 0], S512x128.size, ![4, 1], inb_S2048x128_S512x128_0_0_s_4_1⟩ : LoadRect S2048x128) h) (v.rep x)
      = (fun y : S512x128.Idx => x (ix2 ⟨4 * (y 0).val, by have := idx2_lt0 y; omega⟩ (y 1))) := by
  rw [View.readAt_rep]
  funext (y : S512x128.Idx)
  refine congrArg x ?_
  funext a
  match a with
  | ⟨0, _⟩ => exact Fin.ext (by show 0 + 0 + 4 * (y 0).val = 4 * (y 0).val; omega)
  | ⟨1, _⟩ => exact Fin.ext (by show 0 + 0 + 1 * (y 1).val = (y 1).val; omega)

theorem slab0_1 (v : View sig .tc .vmem S4096x128 .i32) (x : S4096x128.Idx → Elt Bits .i32) (h : ∀ a, (Rect.unit (s := S4096x128) ![0, 0] S2048x128.size inb_S4096x128_S2048x128_0_0).stride a = 1) :
    View.readAt (Elt Bits) v ((Rect.unit (s := S4096x128) ![0, 0] S2048x128.size inb_S4096x128_S2048x128_0_0).withinL
      (⟨![1, 0], S512x128.size, ![4, 1], inb_S2048x128_S512x128_1_0_s_4_1⟩ : LoadRect S2048x128) h) (v.rep x)
      = (fun y : S512x128.Idx => x (ix2 ⟨1 + 4 * (y 0).val, by have := idx2_lt0 y; omega⟩ (y 1))) := by
  rw [View.readAt_rep]
  funext (y : S512x128.Idx)
  refine congrArg x ?_
  funext a
  match a with
  | ⟨0, _⟩ => exact Fin.ext (by show 0 + 1 + 4 * (y 0).val = 1 + 4 * (y 0).val; omega)
  | ⟨1, _⟩ => exact Fin.ext (by show 0 + 0 + 1 * (y 1).val = (y 1).val; omega)

theorem slab0_2 (v : View sig .tc .vmem S4096x128 .i32) (x : S4096x128.Idx → Elt Bits .i32) (h : ∀ a, (Rect.unit (s := S4096x128) ![0, 0] S2048x128.size inb_S4096x128_S2048x128_0_0).stride a = 1) :
    View.readAt (Elt Bits) v ((Rect.unit (s := S4096x128) ![0, 0] S2048x128.size inb_S4096x128_S2048x128_0_0).withinL
      (⟨![2, 0], S512x128.size, ![4, 1], inb_S2048x128_S512x128_2_0_s_4_1⟩ : LoadRect S2048x128) h) (v.rep x)
      = (fun y : S512x128.Idx => x (ix2 ⟨2 + 4 * (y 0).val, by have := idx2_lt0 y; omega⟩ (y 1))) := by
  rw [View.readAt_rep]
  funext (y : S512x128.Idx)
  refine congrArg x ?_
  funext a
  match a with
  | ⟨0, _⟩ => exact Fin.ext (by show 0 + 2 + 4 * (y 0).val = 2 + 4 * (y 0).val; omega)
  | ⟨1, _⟩ => exact Fin.ext (by show 0 + 0 + 1 * (y 1).val = (y 1).val; omega)

theorem slab0_3 (v : View sig .tc .vmem S4096x128 .i32) (x : S4096x128.Idx → Elt Bits .i32) (h : ∀ a, (Rect.unit (s := S4096x128) ![0, 0] S2048x128.size inb_S4096x128_S2048x128_0_0).stride a = 1) :
    View.readAt (Elt Bits) v ((Rect.unit (s := S4096x128) ![0, 0] S2048x128.size inb_S4096x128_S2048x128_0_0).withinL
      (⟨![3, 0], S512x128.size, ![4, 1], inb_S2048x128_S512x128_3_0_s_4_1⟩ : LoadRect S2048x128) h) (v.rep x)
      = (fun y : S512x128.Idx => x (ix2 ⟨3 + 4 * (y 0).val, by have := idx2_lt0 y; omega⟩ (y 1))) := by
  rw [View.readAt_rep]
  funext (y : S512x128.Idx)
  refine congrArg x ?_
  funext a
  match a with
  | ⟨0, _⟩ => exact Fin.ext (by show 0 + 3 + 4 * (y 0).val = 3 + 4 * (y 0).val; omega)
  | ⟨1, _⟩ => exact Fin.ext (by show 0 + 0 + 1 * (y 1).val = (y 1).val; omega)

theorem slab1_0 (v : View sig .tc .vmem S4096x128 .i32) (x : S4096x128.Idx → Elt Bits .i32) (h : ∀ a, (Rect.unit (s := S4096x128) ![2048, 0] S2048x128.size inb_S4096x128_S2048x128_2048_0).stride a = 1) :
    View.readAt (Elt Bits) v ((Rect.unit (s := S4096x128) ![2048, 0] S2048x128.size inb_S4096x128_S2048x128_2048_0).withinL
      (⟨![0, 0], S512x128.size, ![4, 1], inb_S2048x128_S512x128_0_0_s_4_1⟩ : LoadRect S2048x128) h) (v.rep x)
      = (fun y : S512x128.Idx => x (ix2 ⟨2048 + 4 * (y 0).val, by have := idx2_lt0 y; omega⟩ (y 1))) := by
  rw [View.readAt_rep]
  funext (y : S512x128.Idx)
  refine congrArg x ?_
  funext a
  match a with
  | ⟨0, _⟩ => exact Fin.ext (by show 2048 + 0 + 4 * (y 0).val = 2048 + 4 * (y 0).val; omega)
  | ⟨1, _⟩ => exact Fin.ext (by show 0 + 0 + 1 * (y 1).val = (y 1).val; omega)

theorem slab1_1 (v : View sig .tc .vmem S4096x128 .i32) (x : S4096x128.Idx → Elt Bits .i32) (h : ∀ a, (Rect.unit (s := S4096x128) ![2048, 0] S2048x128.size inb_S4096x128_S2048x128_2048_0).stride a = 1) :
    View.readAt (Elt Bits) v ((Rect.unit (s := S4096x128) ![2048, 0] S2048x128.size inb_S4096x128_S2048x128_2048_0).withinL
      (⟨![1, 0], S512x128.size, ![4, 1], inb_S2048x128_S512x128_1_0_s_4_1⟩ : LoadRect S2048x128) h) (v.rep x)
      = (fun y : S512x128.Idx => x (ix2 ⟨2049 + 4 * (y 0).val, by have := idx2_lt0 y; omega⟩ (y 1))) := by
  rw [View.readAt_rep]
  funext (y : S512x128.Idx)
  refine congrArg x ?_
  funext a
  match a with
  | ⟨0, _⟩ => exact Fin.ext (by show 2048 + 1 + 4 * (y 0).val = 2049 + 4 * (y 0).val; omega)
  | ⟨1, _⟩ => exact Fin.ext (by show 0 + 0 + 1 * (y 1).val = (y 1).val; omega)

theorem slab1_2 (v : View sig .tc .vmem S4096x128 .i32) (x : S4096x128.Idx → Elt Bits .i32) (h : ∀ a, (Rect.unit (s := S4096x128) ![2048, 0] S2048x128.size inb_S4096x128_S2048x128_2048_0).stride a = 1) :
    View.readAt (Elt Bits) v ((Rect.unit (s := S4096x128) ![2048, 0] S2048x128.size inb_S4096x128_S2048x128_2048_0).withinL
      (⟨![2, 0], S512x128.size, ![4, 1], inb_S2048x128_S512x128_2_0_s_4_1⟩ : LoadRect S2048x128) h) (v.rep x)
      = (fun y : S512x128.Idx => x (ix2 ⟨2050 + 4 * (y 0).val, by have := idx2_lt0 y; omega⟩ (y 1))) := by
  rw [View.readAt_rep]
  funext (y : S512x128.Idx)
  refine congrArg x ?_
  funext a
  match a with
  | ⟨0, _⟩ => exact Fin.ext (by show 2048 + 2 + 4 * (y 0).val = 2050 + 4 * (y 0).val; omega)
  | ⟨1, _⟩ => exact Fin.ext (by show 0 + 0 + 1 * (y 1).val = (y 1).val; omega)

theorem slab1_3 (v : View sig .tc .vmem S4096x128 .i32) (x : S4096x128.Idx → Elt Bits .i32) (h : ∀ a, (Rect.unit (s := S4096x128) ![2048, 0] S2048x128.size inb_S4096x128_S2048x128_2048_0).stride a = 1) :
    View.readAt (Elt Bits) v ((Rect.unit (s := S4096x128) ![2048, 0] S2048x128.size inb_S4096x128_S2048x128_2048_0).withinL
      (⟨![3, 0], S512x128.size, ![4, 1], inb_S2048x128_S512x128_3_0_s_4_1⟩ : LoadRect S2048x128) h) (v.rep x)
      = (fun y : S512x128.Idx => x (ix2 ⟨2051 + 4 * (y 0).val, by have := idx2_lt0 y; omega⟩ (y 1))) := by
  rw [View.readAt_rep]
  funext (y : S512x128.Idx)
  refine congrArg x ?_
  funext a
  match a with
  | ⟨0, _⟩ => exact Fin.ext (by show 2048 + 3 + 4 * (y 0).val = 2051 + 4 * (y 0).val; omega)
  | ⟨1, _⟩ => exact Fin.ext (by show 0 + 0 + 1 * (y 1).val = (y 1).val; omega)

/-- A whole scratch read through its full rectangle is its contents. -/
theorem whole_full {e : EltTy} {a b : ℕ} (v : View sig .tc .vmem ⟨2, ![a, b]⟩ e) (f : v.ty.Contents (Elt Bits))
    (h : ∀ k, (![0, 0] : Fin 2 → ℕ) k + (![a, b] : Fin 2 → ℕ) k ≤ (⟨2, ![a, b]⟩ : Shape).size k) :
    v.readAt (Elt Bits) (Rect.unit (s := ⟨2, ![a, b]⟩) ![0, 0] ![a, b] h).toLoadRect f = v.read (Elt Bits) f := by
  funext y
  show v.read (Elt Bits) f ((Rect.unit (s := ⟨2, ![a, b]⟩) ![0, 0] ![a, b] h).toLoadRect.idx y) = _
  rw [idx_full]

/-- A scratch written whole holds what was written. -/
theorem held0 (h : ∀ k, (![0, 0] : Fin 2 → ℕ) k + S1024x512.size k ≤ S1024x512.size k) (w : S1024x512.Idx → Elt Bits .bf16) (L : List (View.Piece (Elt Bits) S1024x512 .bf16)) :
    scG.view.writes (Elt Bits) scG.view.junk (⟨Rect.unit (s := S1024x512) ![0, 0] S1024x512.size h, w⟩ :: L) = w := by
  have e := read_full (a := 1024) (b := 512) (e := .bf16) scG.view scG.view.junk h w L
  refine Eq.trans ?_ e
  generalize scG.view.writes (Elt Bits) scG.view.junk (⟨Rect.unit (s := S1024x512) ![0, 0] S1024x512.size h, w⟩ :: L) = q
  exact (View.read_whole (Val := Elt Bits) cc0_scratch0 q).symm

/-- A scratch written whole holds what was written. -/
theorem held1 (h : ∀ k, (![0, 0] : Fin 2 → ℕ) k + S1024x512.size k ≤ S1024x512.size k) (w : S1024x512.Idx → Elt Bits .bf16) (L : List (View.Piece (Elt Bits) S1024x512 .bf16)) :
    scU.view.writes (Elt Bits) scU.view.junk (⟨Rect.unit (s := S1024x512) ![0, 0] S1024x512.size h, w⟩ :: L) = w := by
  have e := read_full (a := 1024) (b := 512) (e := .bf16) scU.view scU.view.junk h w L
  refine Eq.trans ?_ e
  generalize scU.view.writes (Elt Bits) scU.view.junk (⟨Rect.unit (s := S1024x512) ![0, 0] S1024x512.size h, w⟩ :: L) = q
  exact (View.read_whole (Val := Elt Bits) cc0_scratch1 q).symm

/-- A scratch written whole holds what was written. -/
theorem held2 (h : ∀ k, (![0, 0] : Fin 2 → ℕ) k + S512x1024.size k ≤ S512x1024.size k) (w : S512x1024.Idx → Elt Bits .bf16) (L : List (View.Piece (Elt Bits) S512x1024 .bf16)) :
    scD.view.writes (Elt Bits) scD.view.junk (⟨Rect.unit (s := S512x1024) ![0, 0] S512x1024.size h, w⟩ :: L) = w := by
  have e := read_full (a := 512) (b := 1024) (e := .bf16) scD.view scD.view.junk h w L
  refine Eq.trans ?_ e
  generalize scD.view.writes (Elt Bits) scD.view.junk (⟨Rect.unit (s := S512x1024) ![0, 0] S512x1024.size h, w⟩ :: L) = q
  exact (View.read_whole (Val := Elt Bits) cc0_scratch2 q).symm

theorem kept0 (h : ∀ k, (![0, 0] : Fin 2 → ℕ) k + S1024x512.size k ≤ S1024x512.size k) (f : S1024x512.Idx → Elt Bits .bf16) :
    scG.view.readAt (Elt Bits) (Rect.unit (s := S1024x512) ![0, 0] S1024x512.size h).toLoadRect f = f :=
  whole_full scG.view f h

theorem kept1 (h : ∀ k, (![0, 0] : Fin 2 → ℕ) k + S1024x512.size k ≤ S1024x512.size k) (f : S1024x512.Idx → Elt Bits .bf16) :
    scU.view.readAt (Elt Bits) (Rect.unit (s := S1024x512) ![0, 0] S1024x512.size h).toLoadRect f = f :=
  whole_full scU.view f h

theorem kept2 (h : ∀ k, (![0, 0] : Fin 2 → ℕ) k + S512x1024.size k ≤ S512x1024.size k) (f : S512x1024.Idx → Elt Bits .bf16) :
    scD.view.readAt (Elt Bits) (Rect.unit (s := S512x1024) ![0, 0] S512x1024.size h).toLoadRect f = f :=
  whole_full scD.view f h

theorem readLL (v : View sig .tc .vmem S4096x128 .i32) (f : v.ty.Contents (Elt Bits)) (A : IVec S512x512 32) (B : IVec S512x512 32) :
    v.read (Elt Bits) (v.writes (Elt Bits) f
      [⟨(Rect.unit (s := S4096x128) ![2048, 0] S2048x128.size inb_S4096x128_S2048x128_2048_0).within (⟨(⟨![3, 0], S512x128.size, ![4, 1], inb_S2048x128_S512x128_3_0_s_4_1⟩ : LoadRect S2048x128), spos_4_1⟩ : Rect S2048x128) (fun _ => rfl), k0_pay4 B⟩,
       ⟨(Rect.unit (s := S4096x128) ![2048, 0] S2048x128.size inb_S4096x128_S2048x128_2048_0).within (⟨(⟨![2, 0], S512x128.size, ![4, 1], inb_S2048x128_S512x128_2_0_s_4_1⟩ : LoadRect S2048x128), spos_4_1⟩ : Rect S2048x128) (fun _ => rfl), k0_pay3 B⟩,
       ⟨(Rect.unit (s := S4096x128) ![2048, 0] S2048x128.size inb_S4096x128_S2048x128_2048_0).within (⟨(⟨![1, 0], S512x128.size, ![4, 1], inb_S2048x128_S512x128_1_0_s_4_1⟩ : LoadRect S2048x128), spos_4_1⟩ : Rect S2048x128) (fun _ => rfl), k0_pay2 B⟩,
       ⟨(Rect.unit (s := S4096x128) ![2048, 0] S2048x128.size inb_S4096x128_S2048x128_2048_0).within (⟨(⟨![0, 0], S512x128.size, ![4, 1], inb_S2048x128_S512x128_0_0_s_4_1⟩ : LoadRect S2048x128), spos_4_1⟩ : Rect S2048x128) (fun _ => rfl), k0_pay1 B⟩,
       ⟨(Rect.unit (s := S4096x128) ![0, 0] S2048x128.size inb_S4096x128_S2048x128_0_0).within (⟨(⟨![3, 0], S512x128.size, ![4, 1], inb_S2048x128_S512x128_3_0_s_4_1⟩ : LoadRect S2048x128), spos_4_1⟩ : Rect S2048x128) (fun _ => rfl), k0_pay14 A⟩,
       ⟨(Rect.unit (s := S4096x128) ![0, 0] S2048x128.size inb_S4096x128_S2048x128_0_0).within (⟨(⟨![2, 0], S512x128.size, ![4, 1], inb_S2048x128_S512x128_2_0_s_4_1⟩ : LoadRect S2048x128), spos_4_1⟩ : Rect S2048x128) (fun _ => rfl), k0_pay13 A⟩,
       ⟨(Rect.unit (s := S4096x128) ![0, 0] S2048x128.size inb_S4096x128_S2048x128_0_0).within (⟨(⟨![1, 0], S512x128.size, ![4, 1], inb_S2048x128_S512x128_1_0_s_4_1⟩ : LoadRect S2048x128), spos_4_1⟩ : Rect S2048x128) (fun _ => rfl), k0_pay12 A⟩,
       ⟨(Rect.unit (s := S4096x128) ![0, 0] S2048x128.size inb_S4096x128_S2048x128_0_0).within (⟨(⟨![0, 0], S512x128.size, ![4, 1], inb_S2048x128_S512x128_0_0_s_4_1⟩ : LoadRect S2048x128), spos_4_1⟩ : Rect S2048x128) (fun _ => rfl), k0_pay11 A⟩]) = rows A B :=
  read_halves (L0 := strips0 A) (L1 := strips1 B) v f (half_strips0 A) (half_strips1 B)

theorem readLD (v : View sig .tc .vmem S4096x128 .i32) (f : v.ty.Contents (Elt Bits)) (A : IVec S512x512 32) :
    v.read (Elt Bits) (v.writes (Elt Bits) f
      [⟨(Rect.unit (s := S4096x128) ![2048, 0] S2048x128.size inb_S4096x128_S2048x128_2048_0), k0_pay5⟩,
       ⟨(Rect.unit (s := S4096x128) ![0, 0] S2048x128.size inb_S4096x128_S2048x128_0_0).within (⟨(⟨![3, 0], S512x128.size, ![4, 1], inb_S2048x128_S512x128_3_0_s_4_1⟩ : LoadRect S2048x128), spos_4_1⟩ : Rect S2048x128) (fun _ => rfl), k0_pay14 A⟩,
       ⟨(Rect.unit (s := S4096x128) ![0, 0] S2048x128.size inb_S4096x128_S2048x128_0_0).within (⟨(⟨![2, 0], S512x128.size, ![4, 1], inb_S2048x128_S512x128_2_0_s_4_1⟩ : LoadRect S2048x128), spos_4_1⟩ : Rect S2048x128) (fun _ => rfl), k0_pay13 A⟩,
       ⟨(Rect.unit (s := S4096x128) ![0, 0] S2048x128.size inb_S4096x128_S2048x128_0_0).within (⟨(⟨![1, 0], S512x128.size, ![4, 1], inb_S2048x128_S512x128_1_0_s_4_1⟩ : LoadRect S2048x128), spos_4_1⟩ : Rect S2048x128) (fun _ => rfl), k0_pay12 A⟩,
       ⟨(Rect.unit (s := S4096x128) ![0, 0] S2048x128.size inb_S4096x128_S2048x128_0_0).within (⟨(⟨![0, 0], S512x128.size, ![4, 1], inb_S2048x128_S512x128_0_0_s_4_1⟩ : LoadRect S2048x128), spos_4_1⟩ : Rect S2048x128) (fun _ => rfl), k0_pay11 A⟩]) = rows A zero512 :=
  read_halves (L0 := strips0 A) (L1 := fill1) v f (half_strips0 A) half_fill1

theorem readDD (v : View sig .tc .vmem S4096x128 .i32) (f : v.ty.Contents (Elt Bits)) :
    v.read (Elt Bits) (v.writes (Elt Bits) f
      [⟨(Rect.unit (s := S4096x128) ![2048, 0] S2048x128.size inb_S4096x128_S2048x128_2048_0), k0_pay5⟩,
       ⟨(Rect.unit (s := S4096x128) ![0, 0] S2048x128.size inb_S4096x128_S2048x128_0_0), k0_pay15⟩]) = rows zero512 zero512 :=
  read_halves (L0 := fill0) (L1 := fill1) v f half_fill0 half_fill1

theorem mlp0_of (v : View sig .tc .vmem S4096x128 .i32) (x : S4096x128.Idx → Elt Bits .i32) (g u g' u' : FVec Bits S1024x512 .bf16) (d d' : FVec Bits S512x1024 .bf16)
    (hg : g = g') (hu : u = u') (hd : d = d') :
    k0_pay6 (F := Bits) (View.readAt (Elt Bits) v ((Rect.unit (s := S4096x128) ![0, 0] S2048x128.size inb_S4096x128_S2048x128_0_0).withinL
      (⟨![0, 0], S512x128.size, ![4, 1], inb_S2048x128_S512x128_0_0_s_4_1⟩ : LoadRect S2048x128) (fun _ => rfl)) (v.rep x))
    (View.readAt (Elt Bits) v ((Rect.unit (s := S4096x128) ![0, 0] S2048x128.size inb_S4096x128_S2048x128_0_0).withinL
      (⟨![1, 0], S512x128.size, ![4, 1], inb_S2048x128_S512x128_1_0_s_4_1⟩ : LoadRect S2048x128) (fun _ => rfl)) (v.rep x))
    (View.readAt (Elt Bits) v ((Rect.unit (s := S4096x128) ![0, 0] S2048x128.size inb_S4096x128_S2048x128_0_0).withinL
      (⟨![2, 0], S512x128.size, ![4, 1], inb_S2048x128_S512x128_2_0_s_4_1⟩ : LoadRect S2048x128) (fun _ => rfl)) (v.rep x))
    (View.readAt (Elt Bits) v ((Rect.unit (s := S4096x128) ![0, 0] S2048x128.size inb_S4096x128_S2048x128_0_0).withinL
      (⟨![3, 0], S512x128.size, ![4, 1], inb_S2048x128_S512x128_3_0_s_4_1⟩ : LoadRect S2048x128) (fun _ => rfl)) (v.rep x)) g u d = mlp0 x g' u' d' := by
  subst hg hu hd
  exact congrFun (congrFun (congrFun (congr (congr (congr (congrArg (k0_pay6 (F := Bits)) (slab0_0 v x _)) (slab0_1 v x _)) (slab0_2 v x _)) (slab0_3 v x _)) g) u) d

theorem mlp1_of (v : View sig .tc .vmem S4096x128 .i32) (x : S4096x128.Idx → Elt Bits .i32) (g u g' u' : FVec Bits S1024x512 .bf16) (d d' : FVec Bits S512x1024 .bf16)
    (hg : g = g') (hu : u = u') (hd : d = d') :
    k0_pay7 (F := Bits) (View.readAt (Elt Bits) v ((Rect.unit (s := S4096x128) ![2048, 0] S2048x128.size inb_S4096x128_S2048x128_2048_0).withinL
      (⟨![0, 0], S512x128.size, ![4, 1], inb_S2048x128_S512x128_0_0_s_4_1⟩ : LoadRect S2048x128) (fun _ => rfl)) (v.rep x))
    (View.readAt (Elt Bits) v ((Rect.unit (s := S4096x128) ![2048, 0] S2048x128.size inb_S4096x128_S2048x128_2048_0).withinL
      (⟨![1, 0], S512x128.size, ![4, 1], inb_S2048x128_S512x128_1_0_s_4_1⟩ : LoadRect S2048x128) (fun _ => rfl)) (v.rep x))
    (View.readAt (Elt Bits) v ((Rect.unit (s := S4096x128) ![2048, 0] S2048x128.size inb_S4096x128_S2048x128_2048_0).withinL
      (⟨![2, 0], S512x128.size, ![4, 1], inb_S2048x128_S512x128_2_0_s_4_1⟩ : LoadRect S2048x128) (fun _ => rfl)) (v.rep x))
    (View.readAt (Elt Bits) v ((Rect.unit (s := S4096x128) ![2048, 0] S2048x128.size inb_S4096x128_S2048x128_2048_0).withinL
      (⟨![3, 0], S512x128.size, ![4, 1], inb_S2048x128_S512x128_3_0_s_4_1⟩ : LoadRect S2048x128) (fun _ => rfl)) (v.rep x)) g u d = mlp1 x g' u' d' := by
  subst hg hu hd
  exact congrFun (congrFun (congrFun (congr (congr (congr (congrArg (k0_pay7 (F := Bits)) (slab1_0 v x _)) (slab1_1 v x _)) (slab1_2 v x _)) (slab1_3 v x _)) g) u) d

theorem new0 (v : View sig .tc .vmem S1x1x1024x512 .f32) (w : S1x1x1024x512.Idx → Elt Bits .f32) (L : List (View.Piece (Elt Bits) S1024x512 .bf16)) :
    scG.view.readCov (Val := Elt Bits) (⟨Rect.unit (s := S1024x512) ![0, 0] S1024x512.size inb_S1024x512_S1024x512_0_0, k0_pay8 (View.readAt (Elt Bits) v (Rect.unit (s := S1x1x1024x512) ![0, 0, 0, 0] S1x1x1024x512.size inb_S1x1x1024x512_S1x1x1024x512_0_0_0_0).toLoadRect (v.rep w))⟩ :: L)
      (Rect.unit (s := S1024x512) ![0, 0] S1024x512.size inb_S1024x512_S1024x512_0_0).toLoadRect = k0_pay8 w :=
  (readCov_full scG.view _ _ _ _).trans (congrArg k0_pay8 (readAt_block v _ w))

theorem hold0 (v : View sig .tc .vmem S1x1x1024x512 .f32) (w : S1x1x1024x512.Idx → Elt Bits .f32) (L : List (View.Piece (Elt Bits) S1024x512 .bf16)) :
    scG.view.writes (Elt Bits) scG.view.junk (⟨Rect.unit (s := S1024x512) ![0, 0] S1024x512.size inb_S1024x512_S1024x512_0_0, k0_pay8 (View.readAt (Elt Bits) v (Rect.unit (s := S1x1x1024x512) ![0, 0, 0, 0] S1x1x1024x512.size inb_S1x1x1024x512_S1x1x1024x512_0_0_0_0).toLoadRect (v.rep w))⟩ :: L) = k0_pay8 w :=
  (held0 _ _ _).trans (congrArg k0_pay8 (readAt_block v _ w))

theorem new1 (v : View sig .tc .vmem S1x1x1024x512 .f32) (w : S1x1x1024x512.Idx → Elt Bits .f32) (L : List (View.Piece (Elt Bits) S1024x512 .bf16)) :
    scU.view.readCov (Val := Elt Bits) (⟨Rect.unit (s := S1024x512) ![0, 0] S1024x512.size inb_S1024x512_S1024x512_0_0, k0_pay9 (View.readAt (Elt Bits) v (Rect.unit (s := S1x1x1024x512) ![0, 0, 0, 0] S1x1x1024x512.size inb_S1x1x1024x512_S1x1x1024x512_0_0_0_0).toLoadRect (v.rep w))⟩ :: L)
      (Rect.unit (s := S1024x512) ![0, 0] S1024x512.size inb_S1024x512_S1024x512_0_0).toLoadRect = k0_pay9 w :=
  (readCov_full scU.view _ _ _ _).trans (congrArg k0_pay9 (readAt_block v _ w))

theorem hold1 (v : View sig .tc .vmem S1x1x1024x512 .f32) (w : S1x1x1024x512.Idx → Elt Bits .f32) (L : List (View.Piece (Elt Bits) S1024x512 .bf16)) :
    scU.view.writes (Elt Bits) scU.view.junk (⟨Rect.unit (s := S1024x512) ![0, 0] S1024x512.size inb_S1024x512_S1024x512_0_0, k0_pay9 (View.readAt (Elt Bits) v (Rect.unit (s := S1x1x1024x512) ![0, 0, 0, 0] S1x1x1024x512.size inb_S1x1x1024x512_S1x1x1024x512_0_0_0_0).toLoadRect (v.rep w))⟩ :: L) = k0_pay9 w :=
  (held1 _ _ _).trans (congrArg k0_pay9 (readAt_block v _ w))

theorem new2 (v : View sig .tc .vmem S1x1x512x1024 .f32) (w : S1x1x512x1024.Idx → Elt Bits .f32) (L : List (View.Piece (Elt Bits) S512x1024 .bf16)) :
    scD.view.readCov (Val := Elt Bits) (⟨Rect.unit (s := S512x1024) ![0, 0] S512x1024.size inb_S512x1024_S512x1024_0_0, k0_pay10 (View.readAt (Elt Bits) v (Rect.unit (s := S1x1x512x1024) ![0, 0, 0, 0] S1x1x512x1024.size inb_S1x1x512x1024_S1x1x512x1024_0_0_0_0).toLoadRect (v.rep w))⟩ :: L)
      (Rect.unit (s := S512x1024) ![0, 0] S512x1024.size inb_S512x1024_S512x1024_0_0).toLoadRect = k0_pay10 w :=
  (readCov_full scD.view _ _ _ _).trans (congrArg k0_pay10 (readAt_block v _ w))

theorem hold2 (v : View sig .tc .vmem S1x1x512x1024 .f32) (w : S1x1x512x1024.Idx → Elt Bits .f32) (L : List (View.Piece (Elt Bits) S512x1024 .bf16)) :
    scD.view.writes (Elt Bits) scD.view.junk (⟨Rect.unit (s := S512x1024) ![0, 0] S512x1024.size inb_S512x1024_S512x1024_0_0, k0_pay10 (View.readAt (Elt Bits) v (Rect.unit (s := S1x1x512x1024) ![0, 0, 0, 0] S1x1x512x1024.size inb_S1x1x512x1024_S1x1x512x1024_0_0_0_0).toLoadRect (v.rep w))⟩ :: L) = k0_pay10 w :=
  (held2 _ _ _).trans (congrArg k0_pay10 (readAt_block v _ w))

theorem new3 (v : View sig .tc .vmem S1x1x1024x512 .f32) (w : S1x1x1024x512.Idx → Elt Bits .f32) (L : List (View.Piece (Elt Bits) S1024x512 .bf16)) :
    scG.view.readCov (Val := Elt Bits) (⟨Rect.unit (s := S1024x512) ![0, 0] S1024x512.size inb_S1024x512_S1024x512_0_0, k0_pay16 (View.readAt (Elt Bits) v (Rect.unit (s := S1x1x1024x512) ![0, 0, 0, 0] S1x1x1024x512.size inb_S1x1x1024x512_S1x1x1024x512_0_0_0_0).toLoadRect (v.rep w))⟩ :: L)
      (Rect.unit (s := S1024x512) ![0, 0] S1024x512.size inb_S1024x512_S1024x512_0_0).toLoadRect = k0_pay16 w :=
  (readCov_full scG.view _ _ _ _).trans (congrArg k0_pay16 (readAt_block v _ w))

theorem hold3 (v : View sig .tc .vmem S1x1x1024x512 .f32) (w : S1x1x1024x512.Idx → Elt Bits .f32) (L : List (View.Piece (Elt Bits) S1024x512 .bf16)) :
    scG.view.writes (Elt Bits) scG.view.junk (⟨Rect.unit (s := S1024x512) ![0, 0] S1024x512.size inb_S1024x512_S1024x512_0_0, k0_pay16 (View.readAt (Elt Bits) v (Rect.unit (s := S1x1x1024x512) ![0, 0, 0, 0] S1x1x1024x512.size inb_S1x1x1024x512_S1x1x1024x512_0_0_0_0).toLoadRect (v.rep w))⟩ :: L) = k0_pay16 w :=
  (held0 _ _ _).trans (congrArg k0_pay16 (readAt_block v _ w))

theorem new4 (v : View sig .tc .vmem S1x1x1024x512 .f32) (w : S1x1x1024x512.Idx → Elt Bits .f32) (L : List (View.Piece (Elt Bits) S1024x512 .bf16)) :
    scU.view.readCov (Val := Elt Bits) (⟨Rect.unit (s := S1024x512) ![0, 0] S1024x512.size inb_S1024x512_S1024x512_0_0, k0_pay17 (View.readAt (Elt Bits) v (Rect.unit (s := S1x1x1024x512) ![0, 0, 0, 0] S1x1x1024x512.size inb_S1x1x1024x512_S1x1x1024x512_0_0_0_0).toLoadRect (v.rep w))⟩ :: L)
      (Rect.unit (s := S1024x512) ![0, 0] S1024x512.size inb_S1024x512_S1024x512_0_0).toLoadRect = k0_pay17 w :=
  (readCov_full scU.view _ _ _ _).trans (congrArg k0_pay17 (readAt_block v _ w))

theorem hold4 (v : View sig .tc .vmem S1x1x1024x512 .f32) (w : S1x1x1024x512.Idx → Elt Bits .f32) (L : List (View.Piece (Elt Bits) S1024x512 .bf16)) :
    scU.view.writes (Elt Bits) scU.view.junk (⟨Rect.unit (s := S1024x512) ![0, 0] S1024x512.size inb_S1024x512_S1024x512_0_0, k0_pay17 (View.readAt (Elt Bits) v (Rect.unit (s := S1x1x1024x512) ![0, 0, 0, 0] S1x1x1024x512.size inb_S1x1x1024x512_S1x1x1024x512_0_0_0_0).toLoadRect (v.rep w))⟩ :: L) = k0_pay17 w :=
  (held1 _ _ _).trans (congrArg k0_pay17 (readAt_block v _ w))

theorem new5 (v : View sig .tc .vmem S1x1x512x1024 .f32) (w : S1x1x512x1024.Idx → Elt Bits .f32) (L : List (View.Piece (Elt Bits) S512x1024 .bf16)) :
    scD.view.readCov (Val := Elt Bits) (⟨Rect.unit (s := S512x1024) ![0, 0] S512x1024.size inb_S512x1024_S512x1024_0_0, k0_pay18 (View.readAt (Elt Bits) v (Rect.unit (s := S1x1x512x1024) ![0, 0, 0, 0] S1x1x512x1024.size inb_S1x1x512x1024_S1x1x512x1024_0_0_0_0).toLoadRect (v.rep w))⟩ :: L)
      (Rect.unit (s := S512x1024) ![0, 0] S512x1024.size inb_S512x1024_S512x1024_0_0).toLoadRect = k0_pay18 w :=
  (readCov_full scD.view _ _ _ _).trans (congrArg k0_pay18 (readAt_block v _ w))

theorem hold5 (v : View sig .tc .vmem S1x1x512x1024 .f32) (w : S1x1x512x1024.Idx → Elt Bits .f32) (L : List (View.Piece (Elt Bits) S512x1024 .bf16)) :
    scD.view.writes (Elt Bits) scD.view.junk (⟨Rect.unit (s := S512x1024) ![0, 0] S512x1024.size inb_S512x1024_S512x1024_0_0, k0_pay18 (View.readAt (Elt Bits) v (Rect.unit (s := S1x1x512x1024) ![0, 0, 0, 0] S1x1x512x1024.size inb_S1x1x512x1024_S1x1x512x1024_0_0_0_0).toLoadRect (v.rep w))⟩ :: L) = k0_pay18 w :=
  (held2 _ _ _).trans (congrArg k0_pay18 (readAt_block v _ w))

section Paths

variable (c : Dev nD) (i : grid0.Coords) (arg3 : Memref sig .tc .vmem S4096x128 .i32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S1x1x1024x512 .f32) (harg7 : arg7.IsWhole)
    (arg8 : Memref sig .tc .vmem S1x1x1024x512 .f32) (harg8 : arg8.IsWhole) (arg9 : Memref sig .tc .vmem S1x1x512x1024 .f32) (harg9 : arg9.IsWhole)
    (arg10 : Memref sig .tc .vmem S4096x128 .i32) (harg10 : arg10.IsWhole) (T : S288.Idx → Elt Bits .i32) (n : S1.Idx → Elt Bits .i32)
    (x : S4096x128.Idx → Elt Bits .i32) (w0 w1 : S1x1x1024x512.Idx → Elt Bits .f32) (w2 : S1x1x512x1024.Idx → Elt Bits .f32)
    (w3 w4 : S1x1x1024x512.Idx → Elt Bits .f32) (w5 : S1x1x512x1024.Idx → Elt Bits .f32)
    (s0 : Buf (Elt Bits) ((c : Thread nD τ).loc cc0_scratch0)) (s1 : Buf (Elt Bits) ((c : Thread nD τ).loc cc0_scratch1)) (s2 : Buf (Elt Bits) ((c : Thread nD τ).loc cc0_scratch2))

/-- The body runs to the halves `A` and `B`, whatever its output buffer held, and to scratches `g`, `u`, `d`. -/
def DoneAt (A B : IVec S512x512 32) (g u : S1024x512.Idx → Elt Bits .bf16) (d : S512x1024.Idx → Elt Bits .bf16) : Prop :=
  ∃ out : List (View.Piece (Elt Bits) S4096x128 .i32),
    BodyRuns c i arg3 harg3 arg4 harg4 arg5 harg5 arg6 harg6 arg7 harg7 arg8 harg8 arg9 harg9 arg10 harg10 T n x w0 w1 w2 w3 w4 w5 s0 s1 s2 out g u d
    ∧ ∀ f, arg10.view.read (Elt Bits) (arg10.view.writes (Elt Bits) f out) = rows A B

variable {c i arg3 harg3 arg4 harg4 arg5 harg5 arg6 harg6 arg7 harg7 arg8 harg8 arg9 harg9 arg10 harg10 T n x w0 w1 w2 w3 w4 w5 s0 s1 s2} in
theorem DoneAt.ofRun {A B : IVec S512x512 32} {g u : S1024x512.Idx → Elt Bits .bf16} {d : S512x1024.Idx → Elt Bits .bf16}
    (r : Σ' (out : List (View.Piece (Elt Bits) S4096x128 .i32)) (s0' : Buf (Elt Bits) ((c : Thread nD τ).loc cc0_scratch0)) (s1' : Buf (Elt Bits) ((c : Thread nD τ).loc cc0_scratch1)),
      { s2' : Buf (Elt Bits) ((c : Thread nD τ).loc cc0_scratch2) // BodyRuns c i arg3 harg3 arg4 harg4 arg5 harg5 arg6 harg6 arg7 harg7 arg8 harg8 arg9 harg9 arg10 harg10 T n x w0 w1 w2 w3 w4 w5 s0 s1 s2 out s0' s1' s2' })
    (e0 : r.2.1 = g) (e1 : r.2.2.1 = u) (e2 : r.2.2.2.1 = d) (hr : ∀ f, arg10.view.read (Elt Bits) (arg10.view.writes (Elt Bits) f r.1) = rows A B) :
    DoneAt c i arg3 harg3 arg4 harg4 arg5 harg5 arg6 harg6 arg7 harg7 arg8 harg8 arg9 harg9 arg10 harg10 T n x w0 w1 w2 w3 w4 w5 s0 s1 s2 A B g u d := by
  obtain ⟨out, a, b, ⟨e, h⟩⟩ := r
  subst e0 e1 e2
  exact ⟨out, h, hr⟩

set_option maxHeartbeats 2000000 in
theorem doneNN (hf0 : fresh0 i T n = 1#1) (h2 : k0_cond2 i (wordN n) = 1#1) (h3 : ¬(k0_cond3 i (wordN n) = 1#1))
    (hf1 : fresh1 i T n = 1#1) (h5 : k0_cond5 i (wordN n) = 1#1) (h6 : ¬(k0_cond6 i (wordN n) = 1#1)) :
    DoneAt c i arg3 harg3 arg4 harg4 arg5 harg5 arg6 harg6 arg7 harg7 arg8 harg8 arg9 harg9 arg10 harg10 T n x w0 w1 w2 w3 w4 w5 s0 s1 s2 (mlp0 x (k0_pay8 w0) (k0_pay9 w1) (k0_pay10 w2)) (mlp1 x (k0_pay16 w3) (k0_pay17 w4) (k0_pay18 w5)) (k0_pay16 w3) (k0_pay17 w4) (k0_pay18 w5) := by
  refine DoneAt.ofRun (runNN c i arg3 harg3 arg4 harg4 arg5 harg5 arg6 harg6 arg7 harg7 arg8 harg8 arg9 harg9 arg10 harg10 T n x w0 w1 w2 w3 w4 w5 s0 s1 s2 hf0 h2 h3 hf1 h5 h6) ?_ ?_ ?_ fun f => ?_
  · unfold runNN; dsimp only; exact hold3 _ _ _
  · unfold runNN; dsimp only; exact hold4 _ _ _
  · unfold runNN; dsimp only; exact hold5 _ _ _
  unfold runNN; dsimp only
  refine (readLL arg10.view f _ _).trans ?_
  exact congrArg₂ rows (mlp0_of arg3.view x _ _ _ _ _ _ (new0 _ _ _) (new1 _ _ _) (new2 _ _ _)) (mlp1_of arg3.view x _ _ _ _ _ _ (new3 _ _ _) (new4 _ _ _) (new5 _ _ _))

set_option maxHeartbeats 2000000 in
theorem doneNK (hf0 : fresh0 i T n = 1#1) (h2 : k0_cond2 i (wordN n) = 1#1) (h3 : ¬(k0_cond3 i (wordN n) = 1#1))
    (hf1 : ¬(fresh1 i T n = 1#1)) (h5 : k0_cond5 i (wordN n) = 1#1) (h6 : ¬(k0_cond6 i (wordN n) = 1#1)) :
    DoneAt c i arg3 harg3 arg4 harg4 arg5 harg5 arg6 harg6 arg7 harg7 arg8 harg8 arg9 harg9 arg10 harg10 T n x w0 w1 w2 w3 w4 w5 s0 s1 s2 (mlp0 x (k0_pay8 w0) (k0_pay9 w1) (k0_pay10 w2)) (mlp1 x (k0_pay8 w0) (k0_pay9 w1) (k0_pay10 w2)) (k0_pay8 w0) (k0_pay9 w1) (k0_pay10 w2) := by
  refine DoneAt.ofRun (runNK c i arg3 harg3 arg4 harg4 arg5 harg5 arg6 harg6 arg7 harg7 arg8 harg8 arg9 harg9 arg10 harg10 T n x w0 w1 w2 w3 w4 w5 s0 s1 s2 hf0 h2 h3 hf1 h5 h6) ?_ ?_ ?_ fun f => ?_
  · unfold runNK; dsimp only; exact hold0 _ _ _
  · unfold runNK; dsimp only; exact hold1 _ _ _
  · unfold runNK; dsimp only; exact hold2 _ _ _
  unfold runNK; dsimp only
  refine (readLL arg10.view f _ _).trans ?_
  exact congrArg₂ rows (mlp0_of arg3.view x _ _ _ _ _ _ (new0 _ _ _) (new1 _ _ _) (new2 _ _ _)) (mlp1_of arg3.view x _ _ _ _ _ _ (new0 _ _ _) (new1 _ _ _) (new2 _ _ _))

set_option maxHeartbeats 2000000 in
theorem doneND (hf0 : fresh0 i T n = 1#1) (h2 : k0_cond2 i (wordN n) = 1#1) (h3 : ¬(k0_cond3 i (wordN n) = 1#1))
    (hf1 : ¬(fresh1 i T n = 1#1)) (h5 : ¬(k0_cond5 i (wordN n) = 1#1)) (h6 : k0_cond6 i (wordN n) = 1#1) :
    DoneAt c i arg3 harg3 arg4 harg4 arg5 harg5 arg6 harg6 arg7 harg7 arg8 harg8 arg9 harg9 arg10 harg10 T n x w0 w1 w2 w3 w4 w5 s0 s1 s2 (mlp0 x (k0_pay8 w0) (k0_pay9 w1) (k0_pay10 w2)) zero512 (k0_pay8 w0) (k0_pay9 w1) (k0_pay10 w2) := by
  refine DoneAt.ofRun (runND c i arg3 harg3 arg4 harg4 arg5 harg5 arg6 harg6 arg7 harg7 arg8 harg8 arg9 harg9 arg10 harg10 T n x w0 w1 w2 w3 w4 w5 s0 s1 s2 hf0 h2 h3 hf1 h5 h6) ?_ ?_ ?_ fun f => ?_
  · unfold runND; dsimp only; exact hold0 _ _ _
  · unfold runND; dsimp only; exact hold1 _ _ _
  · unfold runND; dsimp only; exact hold2 _ _ _
  unfold runND; dsimp only
  refine (readLD arg10.view f _).trans ?_
  exact congrArg₂ rows (mlp0_of arg3.view x _ _ _ _ _ _ (new0 _ _ _) (new1 _ _ _) (new2 _ _ _)) (rfl)

set_option maxHeartbeats 2000000 in
theorem doneKN (hf0 : ¬(fresh0 i T n = 1#1)) (h2 : k0_cond2 i (wordN n) = 1#1) (h3 : ¬(k0_cond3 i (wordN n) = 1#1))
    (hf1 : fresh1 i T n = 1#1) (h5 : k0_cond5 i (wordN n) = 1#1) (h6 : ¬(k0_cond6 i (wordN n) = 1#1)) :
    DoneAt c i arg3 harg3 arg4 harg4 arg5 harg5 arg6 harg6 arg7 harg7 arg8 harg8 arg9 harg9 arg10 harg10 T n x w0 w1 w2 w3 w4 w5 s0 s1 s2 (mlp0 x s0 s1 s2) (mlp1 x (k0_pay16 w3) (k0_pay17 w4) (k0_pay18 w5)) (k0_pay16 w3) (k0_pay17 w4) (k0_pay18 w5) := by
  refine DoneAt.ofRun (runKN c i arg3 harg3 arg4 harg4 arg5 harg5 arg6 harg6 arg7 harg7 arg8 harg8 arg9 harg9 arg10 harg10 T n x w0 w1 w2 w3 w4 w5 s0 s1 s2 hf0 h2 h3 hf1 h5 h6) ?_ ?_ ?_ fun f => ?_
  · unfold runKN; dsimp only; exact hold3 _ _ _
  · unfold runKN; dsimp only; exact hold4 _ _ _
  · unfold runKN; dsimp only; exact hold5 _ _ _
  unfold runKN; dsimp only
  refine (readLL arg10.view f _ _).trans ?_
  exact congrArg₂ rows (mlp0_of arg3.view x _ _ _ _ _ _ (kept0 _ _) (kept1 _ _) (kept2 _ _)) (mlp1_of arg3.view x _ _ _ _ _ _ (new3 _ _ _) (new4 _ _ _) (new5 _ _ _))

set_option maxHeartbeats 2000000 in
theorem doneKK (hf0 : ¬(fresh0 i T n = 1#1)) (h2 : k0_cond2 i (wordN n) = 1#1) (h3 : ¬(k0_cond3 i (wordN n) = 1#1))
    (hf1 : ¬(fresh1 i T n = 1#1)) (h5 : k0_cond5 i (wordN n) = 1#1) (h6 : ¬(k0_cond6 i (wordN n) = 1#1)) :
    DoneAt c i arg3 harg3 arg4 harg4 arg5 harg5 arg6 harg6 arg7 harg7 arg8 harg8 arg9 harg9 arg10 harg10 T n x w0 w1 w2 w3 w4 w5 s0 s1 s2 (mlp0 x s0 s1 s2) (mlp1 x s0 s1 s2) s0 s1 s2 := by
  refine DoneAt.ofRun (runKK c i arg3 harg3 arg4 harg4 arg5 harg5 arg6 harg6 arg7 harg7 arg8 harg8 arg9 harg9 arg10 harg10 T n x w0 w1 w2 w3 w4 w5 s0 s1 s2 hf0 h2 h3 hf1 h5 h6) ?_ ?_ ?_ fun f => ?_
  · unfold runKK; dsimp only
  · unfold runKK; dsimp only
  · unfold runKK; dsimp only
  unfold runKK; dsimp only
  refine (readLL arg10.view f _ _).trans ?_
  exact congrArg₂ rows (mlp0_of arg3.view x _ _ _ _ _ _ (kept0 _ _) (kept1 _ _) (kept2 _ _)) (mlp1_of arg3.view x _ _ _ _ _ _ (kept0 _ _) (kept1 _ _) (kept2 _ _))

set_option maxHeartbeats 2000000 in
theorem doneKD (hf0 : ¬(fresh0 i T n = 1#1)) (h2 : k0_cond2 i (wordN n) = 1#1) (h3 : ¬(k0_cond3 i (wordN n) = 1#1))
    (hf1 : ¬(fresh1 i T n = 1#1)) (h5 : ¬(k0_cond5 i (wordN n) = 1#1)) (h6 : k0_cond6 i (wordN n) = 1#1) :
    DoneAt c i arg3 harg3 arg4 harg4 arg5 harg5 arg6 harg6 arg7 harg7 arg8 harg8 arg9 harg9 arg10 harg10 T n x w0 w1 w2 w3 w4 w5 s0 s1 s2 (mlp0 x s0 s1 s2) zero512 s0 s1 s2 := by
  refine DoneAt.ofRun (runKD c i arg3 harg3 arg4 harg4 arg5 harg5 arg6 harg6 arg7 harg7 arg8 harg8 arg9 harg9 arg10 harg10 T n x w0 w1 w2 w3 w4 w5 s0 s1 s2 hf0 h2 h3 hf1 h5 h6) ?_ ?_ ?_ fun f => ?_
  · unfold runKD; dsimp only
  · unfold runKD; dsimp only
  · unfold runKD; dsimp only
  unfold runKD; dsimp only
  refine (readLD arg10.view f _).trans ?_
  exact congrArg₂ rows (mlp0_of arg3.view x _ _ _ _ _ _ (kept0 _ _) (kept1 _ _) (kept2 _ _)) (rfl)

set_option maxHeartbeats 2000000 in
theorem doneDD (hf0 : ¬(fresh0 i T n = 1#1)) (h2 : ¬(k0_cond2 i (wordN n) = 1#1)) (h3 : k0_cond3 i (wordN n) = 1#1)
    (hf1 : ¬(fresh1 i T n = 1#1)) (h5 : ¬(k0_cond5 i (wordN n) = 1#1)) (h6 : k0_cond6 i (wordN n) = 1#1) :
    DoneAt c i arg3 harg3 arg4 harg4 arg5 harg5 arg6 harg6 arg7 harg7 arg8 harg8 arg9 harg9 arg10 harg10 T n x w0 w1 w2 w3 w4 w5 s0 s1 s2 zero512 zero512 s0 s1 s2 := by
  refine DoneAt.ofRun (runDD c i arg3 harg3 arg4 harg4 arg5 harg5 arg6 harg6 arg7 harg7 arg8 harg8 arg9 harg9 arg10 harg10 T n x w0 w1 w2 w3 w4 w5 s0 s1 s2 hf0 h2 h3 hf1 h5 h6) ?_ ?_ ?_ fun f => ?_
  · unfold runDD; dsimp only
  · unfold runDD; dsimp only
  · unfold runDD; dsimp only
  unfold runDD; dsimp only
  refine (readDD arg10.view f).trans ?_
  exact congrArg₂ rows (rfl) (rfl)

end Paths

end Cert.Experts.Run

end
-- ==== Proof.ExpertsStep.lean ====
module

public import proofs.«01_k».proof.Proof.ExpertsDone

@[expose] public section

/-! One step of the experts' kernel, its seven ways put together: the weights the scratches hold after each half, and the
words each half leaves. -/

set_option maxRecDepth 16384

noncomputable section

namespace Cert.Experts.Run

open Cert.Experts Cert.Experts.Gen
open Idealize.ShloMosaic
open Idealize.ShloMosaic.TcCoe Idealize.ShloMosaic.Tactic
open Idealize.ShloMosaic.ValueIdx

/-- Whether block `k` is among the used ones. -/
def live (n : S1.Idx → Elt Bits .i32) (k : ℕ) : Prop := (BitVec.ofNat 32 k).slt (wordN n) = true

instance (n : S1.Idx → Elt Bits .i32) (k : ℕ) : Decidable (live n k) := by unfold live; infer_instance

theorem live_iff (n : S1.Idx → Elt Bits .i32) (k : ℕ) (hk : k < 1000) : live n k ↔ (k : ℤ) < (wordN n).toInt := by
  unfold live
  rw [BitVec.slt_iff_toInt_lt, BitVec.toInt_eq_toNat_of_lt (by rw [BitVec.toNat_ofNat]; omega), BitVec.toNat_ofNat, Nat.mod_eq_of_lt (by omega)]

theorem live_mono (n : S1.Idx → Elt Bits .i32) {j k : ℕ} (hjk : j ≤ k) (hk : k < 1000) (h : live n k) : live n j := by
  rw [live_iff n _ (by omega)] at h ⊢
  omega

/-- The table's expert of block `k`. -/
def exAt (T : S288.Idx → Elt Bits .i32) (k : Fin 288) : BitVec 32 := T (ix1 k)

theorem wordE_eq (off : Fin 1 → ℕ) (h : ∀ a, off a + S1.size a ≤ S288.size a) (T : S288.Idx → Elt Bits .i32) (k : Fin 288) (hk : off 0 = k.val) :
    wordE off h T = exAt T k := by
  unfold wordE exAt
  show T _ = T _
  congr 1
  funext a
  match a with
  | ⟨0, _⟩ => exact Fin.ext (by show off 0 + 1 * _ = k.val; rw [hk]; exact Nat.add_zero _)

theorem twice (t r : ℕ) : Scalar.addi (Scalar.muli (BitVec.ofNat 32 t) 2#32) (BitVec.ofNat 32 r) = BitVec.ofNat 32 (2 * t + r) := by
  show BitVec.ofNat 32 t * 2#32 + BitVec.ofNat 32 r = _
  apply BitVec.eq_of_toNat_eq
  simp only [BitVec.toNat_add, BitVec.toNat_mul, BitVec.toNat_ofNat]
  omega

theorem ne_zero_bit (b : BitVec 1) : (Scalar.cmpi .ne (Scalar.extui b : BitVec 32) 0#32 = 1#1) ↔ b = 1#1 := by
  revert b; decide

theorem ne_zero_not (b : BitVec 1) : (Scalar.cmpi .ne (Scalar.extui (Scalar.xori b 1#1) : BitVec 32) 0#32 = 1#1) ↔ ¬ b = 1#1 := by
  revert b; decide

theorem and_or_bit (a b c : BitVec 1) : Scalar.andi a (Scalar.ori b c) = 1#1 ↔ a = 1#1 ∧ (b = 1#1 ∨ c = 1#1) := by
  revert a b c; decide

theorem ofBool_one (b : Bool) : BitVec.ofBool b = 1#1 ↔ b = true := by cases b <;> decide

theorem slt_bit (a b : BitVec 32) : Scalar.cmpi .slt a b = 1#1 ↔ a.slt b = true := ofBool_one _

theorem eq_bit (a b : BitVec 32) : Scalar.cmpi .eq a b = 1#1 ↔ a = b := (ofBool_one _).trans beq_iff_eq

theorem ne_bit (a b : BitVec 32) : Scalar.cmpi .ne a b = 1#1 ↔ a ≠ b := (ofBool_one _).trans bne_iff_ne

theorem cond2_iff (i : grid0.Coords) (n : S1.Idx → Elt Bits .i32) : k0_cond2 i (wordN n) = 1#1 ↔ live n (2 * (i 0).val) := by
  refine (ne_zero_bit _).trans ((slt_bit _ _).trans ?_)
  rw [twice]; rfl

theorem cond3_iff (i : grid0.Coords) (n : S1.Idx → Elt Bits .i32) : k0_cond3 i (wordN n) = 1#1 ↔ ¬ live n (2 * (i 0).val) := by
  refine (ne_zero_not _).trans (not_congr ((slt_bit _ _).trans ?_))
  rw [twice]; rfl

theorem cond5_iff (i : grid0.Coords) (n : S1.Idx → Elt Bits .i32) : k0_cond5 i (wordN n) = 1#1 ↔ live n (2 * (i 0).val + 1) := by
  refine (ne_zero_bit _).trans ((slt_bit _ _).trans ?_)
  rw [twice]; rfl

theorem cond6_iff (i : grid0.Coords) (n : S1.Idx → Elt Bits .i32) : k0_cond6 i (wordN n) = 1#1 ↔ ¬ live n (2 * (i 0).val + 1) := by
  refine (ne_zero_not _).trans (not_congr ((slt_bit _ _).trans ?_))
  rw [twice]; rfl

theorem coord_lt (i : grid0.Coords) : (i 0).val < 144 := (i 0).isLt

/-- The blocks the two halves of point `i` treat, and the one before them. -/
def k0 (i : grid0.Coords) : Fin 288 := ⟨2 * (i 0).val, by have := coord_lt i; omega⟩
def k1 (i : grid0.Coords) : Fin 288 := ⟨2 * (i 0).val + 1, by have := coord_lt i; omega⟩
def kp (i : grid0.Coords) : Fin 288 := ⟨2 * (i 0).val - 1, by have := coord_lt i; omega⟩

theorem off2_val : ∀ i : grid0.Coords, k0_off2 i 0 = 2 * (i 0).val - 1 := by decide +kernel

theorem fresh0_iff (i : grid0.Coords) (T : S288.Idx → Elt Bits .i32) (n : S1.Idx → Elt Bits .i32) :
    fresh0 i T n = 1#1 ↔ live n (2 * (i 0).val) ∧ ((i 0).val = 0 ∨ exAt T (k0 i) ≠ exAt T (kp i)) := by
  refine (ne_zero_bit _).trans ((and_or_bit _ _ _).trans ?_)
  rw [slt_bit, eq_bit, ne_bit, twice, wordE_eq (k0_off1 i 0#32) (k0_off1_inb i 0) T (k0 i) (congrFun (k0_off1_eq i 0) 0), wordE_eq _ _ T (kp i) (off2_val i)]
  refine and_congr Iff.rfl (or_congr ?_ Iff.rfl)
  have := coord_lt i
  constructor
  · intro h
    have h := congrArg BitVec.toNat h
    simp only [BitVec.toNat_ofNat] at h
    omega
  · intro h; rw [h]

theorem fresh1_iff (i : grid0.Coords) (T : S288.Idx → Elt Bits .i32) (n : S1.Idx → Elt Bits .i32) :
    fresh1 i T n = 1#1 ↔ live n (2 * (i 0).val + 1) ∧ exAt T (k1 i) ≠ exAt T (k0 i) := by
  refine (ne_zero_bit _).trans ((and_or_bit _ _ _).trans ?_)
  rw [slt_bit, eq_bit, ne_bit, twice, wordE_eq _ _ T (k1 i) (congrFun (k0_off3_eq i) 0), wordE_eq _ _ T (k0 i) (congrFun (k0_off4_eq i) 0)]
  refine and_congr Iff.rfl ?_
  have := coord_lt i
  constructor
  · rintro (h | h)
    · have h := congrArg BitVec.toNat h
      simp only [BitVec.toNat_ofNat] at h
      omega
    · exact h
  · exact Or.inr

/-- The first where the bit is set, else the second. -/
abbrev pickW {α : Type} (b : BitVec 1) (p q : α) : α := if b = 1#1 then p else q

section Step

variable (c : Dev nD) (i : grid0.Coords) (arg3 : Memref sig .tc .vmem S4096x128 .i32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S1x1x1024x512 .f32) (harg7 : arg7.IsWhole)
    (arg8 : Memref sig .tc .vmem S1x1x1024x512 .f32) (harg8 : arg8.IsWhole) (arg9 : Memref sig .tc .vmem S1x1x512x1024 .f32) (harg9 : arg9.IsWhole)
    (arg10 : Memref sig .tc .vmem S4096x128 .i32) (harg10 : arg10.IsWhole) (T : S288.Idx → Elt Bits .i32) (n : S1.Idx → Elt Bits .i32)
    (x : S4096x128.Idx → Elt Bits .i32) (w0 w1 : S1x1x1024x512.Idx → Elt Bits .f32) (w2 : S1x1x512x1024.Idx → Elt Bits .f32)
    (w3 w4 : S1x1x1024x512.Idx → Elt Bits .f32) (w5 : S1x1x512x1024.Idx → Elt Bits .f32)
    (s0 : Buf (Elt Bits) ((c : Thread nD τ).loc cc0_scratch0)) (s1 : Buf (Elt Bits) ((c : Thread nD τ).loc cc0_scratch1)) (s2 : Buf (Elt Bits) ((c : Thread nD τ).loc cc0_scratch2))

/-- A point's step. -/
theorem step : DoneAt c i arg3 harg3 arg4 harg4 arg5 harg5 arg6 harg6 arg7 harg7 arg8 harg8 arg9 harg9 arg10 harg10 T n x w0 w1 w2 w3 w4 w5 s0 s1 s2
    (if live n (2 * (i 0).val) then mlp0 x (pickW (fresh0 i T n) (k0_pay8 w0) s0) (pickW (fresh0 i T n) (k0_pay9 w1) s1) (pickW (fresh0 i T n) (k0_pay10 w2) s2) else zero512)
    (if live n (2 * (i 0).val + 1) then mlp1 x (pickW (fresh1 i T n) (k0_pay16 w3) (pickW (fresh0 i T n) (k0_pay8 w0) s0))
      (pickW (fresh1 i T n) (k0_pay17 w4) (pickW (fresh0 i T n) (k0_pay9 w1) s1)) (pickW (fresh1 i T n) (k0_pay18 w5) (pickW (fresh0 i T n) (k0_pay10 w2) s2)) else zero512)
    (pickW (fresh1 i T n) (k0_pay16 w3) (pickW (fresh0 i T n) (k0_pay8 w0) s0))
    (pickW (fresh1 i T n) (k0_pay17 w4) (pickW (fresh0 i T n) (k0_pay9 w1) s1))
    (pickW (fresh1 i T n) (k0_pay18 w5) (pickW (fresh0 i T n) (k0_pay10 w2) s2)) := by
  have hm : live n (2 * (i 0).val + 1) → live n (2 * (i 0).val) := live_mono n (by omega) (by have := coord_lt i; omega)
  by_cases l0 : live n (2 * (i 0).val)
  · have h2 := (cond2_iff i n).mpr l0
    have h3 := fun h => (cond3_iff i n).mp h l0
    rw [if_pos l0]
    by_cases l1 : live n (2 * (i 0).val + 1)
    · have h5 := (cond5_iff i n).mpr l1
      have h6 := fun h => (cond6_iff i n).mp h l1
      rw [if_pos l1]
      by_cases f0 : fresh0 i T n = 1#1 <;> by_cases f1 : fresh1 i T n = 1#1 <;> simp only [pickW, f0, f1, if_true, if_false, ↓reduceIte]
      · exact doneNN c i arg3 harg3 arg4 harg4 arg5 harg5 arg6 harg6 arg7 harg7 arg8 harg8 arg9 harg9 arg10 harg10 T n x w0 w1 w2 w3 w4 w5 s0 s1 s2 f0 h2 h3 f1 h5 h6
      · exact doneNK c i arg3 harg3 arg4 harg4 arg5 harg5 arg6 harg6 arg7 harg7 arg8 harg8 arg9 harg9 arg10 harg10 T n x w0 w1 w2 w3 w4 w5 s0 s1 s2 f0 h2 h3 f1 h5 h6
      · exact doneKN c i arg3 harg3 arg4 harg4 arg5 harg5 arg6 harg6 arg7 harg7 arg8 harg8 arg9 harg9 arg10 harg10 T n x w0 w1 w2 w3 w4 w5 s0 s1 s2 f0 h2 h3 f1 h5 h6
      · exact doneKK c i arg3 harg3 arg4 harg4 arg5 harg5 arg6 harg6 arg7 harg7 arg8 harg8 arg9 harg9 arg10 harg10 T n x w0 w1 w2 w3 w4 w5 s0 s1 s2 f0 h2 h3 f1 h5 h6
    · have h5 := fun h => l1 ((cond5_iff i n).mp h)
      have h6 := (cond6_iff i n).mpr l1
      have f1 : ¬(fresh1 i T n = 1#1) := fun h => l1 ((fresh1_iff i T n).mp h).1
      rw [if_neg l1]
      by_cases f0 : fresh0 i T n = 1#1 <;> simp only [pickW, f0, f1, if_true, if_false, ↓reduceIte]
      · exact doneND c i arg3 harg3 arg4 harg4 arg5 harg5 arg6 harg6 arg7 harg7 arg8 harg8 arg9 harg9 arg10 harg10 T n x w0 w1 w2 w3 w4 w5 s0 s1 s2 f0 h2 h3 f1 h5 h6
      · exact doneKD c i arg3 harg3 arg4 harg4 arg5 harg5 arg6 harg6 arg7 harg7 arg8 harg8 arg9 harg9 arg10 harg10 T n x w0 w1 w2 w3 w4 w5 s0 s1 s2 f0 h2 h3 f1 h5 h6
  · have l1 : ¬ live n (2 * (i 0).val + 1) := fun h => l0 (hm h)
    have h2 := fun h => l0 ((cond2_iff i n).mp h)
    have h3 := (cond3_iff i n).mpr l0
    have h5 := fun h => l1 ((cond5_iff i n).mp h)
    have h6 := (cond6_iff i n).mpr l1
    have f0 : ¬(fresh0 i T n = 1#1) := fun h => l0 ((fresh0_iff i T n).mp h).1
    have f1 : ¬(fresh1 i T n = 1#1) := fun h => l1 ((fresh1_iff i T n).mp h).1
    rw [if_neg l0, if_neg l1]
    simp only [pickW, f0, f1, if_false, ↓reduceIte]
    exact doneDD c i arg3 harg3 arg4 harg4 arg5 harg5 arg6 harg6 arg7 harg7 arg8 harg8 arg9 harg9 arg10 harg10 T n x w0 w1 w2 w3 w4 w5 s0 s1 s2 f0 h2 h3 f1 h5 h6

end Step

end Cert.Experts.Run

end
-- ==== Proof.ExpertsTab.lean ====
module

public import proofs.«01_k».proof.Proof.ExpertsStep
public import Idealize.ShloMosaic.Lib.Claim
public import Idealize.ShloMosaic.Lib.Pipeline.Frame

@[expose] public section

/-! The table of experts as the host lines before the region leave it, and the blocks the index maps choose. -/

set_option maxRecDepth 16384

noncomputable section

namespace Cert.Experts.Run

open Cert.Experts Cert.Experts.Gen
open Idealize.ShloMosaic
open Idealize.ShloMosaic.TcCoe Idealize.ShloMosaic.Tactic
open Idealize.ShloMosaic.ValueIdx

/-- What the tables must hold: experts below 32, at least one used block. -/
def Good (b : S288.Idx → Elt Bits .i32) (n : S1.Idx → Elt Bits .i32) : Prop :=
  (∀ k : Fin 288, (b (ix1 k)).toNat < 32) ∧ 1 ≤ (wordN n).toInt

/-- The host's clamped block number. -/
def clampIdx (n : S1.Idx → Elt Bits .i32) : IVec S288 32 :=
  minsi (iotaInDim S288 32 0) (broadcastInDim S288 ![] bcast_S_S288 (subi (shapeCast S_ n shapeCasts_S1_S_) (constantI S_ 32 1#32)))

/-- The host's table. -/
def tabOf (b : S288.Idx → Elt Bits .i32) (n : S1.Idx → Elt Bits .i32) : S288.Idx → Elt Bits .i32 :=
  Host.gather gather_S288_S288x1_S288_n_0_n_n_0_1_1 b (broadcastInDim S288x1 ![0] bcast_S288_S288x1_0
    (select (cmpi .slt (clampIdx n) (broadcastInDim S288 ![] bcast_S_S288 (constantI S_ 32 0#32)))
      (addi (clampIdx n) (broadcastInDim S288 ![] bcast_S_S288 (constantI S_ 32 288#32))) (clampIdx n)))

/-- A gather of single elements reads its operand at the start index, read signed and clamped. -/
theorem tab_gather (b : S288.Idx → Elt Bits .i32) (idx : IVec S288x1 32) (k : Fin 288) :
    Host.gather gather_S288_S288x1_S288_n_0_n_n_0_1_1 b idx (ix1 k) = b (ix1 ⟨min (idx (ix2 k (0 : Fin 1))).toInt.toNat 287, by omega⟩) := by
  unfold Host.gather
  congr 1
  funext a
  obtain rfl : a = 0 := Subsingleton.elim _ _
  refine Fin.ext ?_
  show GatherDims.start _ (ix1 k) idx 0 + GatherDims.batchCoord _ (ix1 k) 0 + GatherDims.offCoord _ (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S288_S288x1_S288_n_0_n_n_0_1_1.startIndexMap from List.mem_singleton.mpr rfl)]
  have hsi : gather_S288_S288x1_S288_n_0_n_n_0_1_1.siIdx (ix1 k) ⟨List.idxOf (0 : Fin 1) gather_S288_S288x1_S288_n_0_n_n_0_1_1.startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

theorem one_idx (p q : S1.Idx) : p = q := by
  funext a
  match a with
  | ⟨0, _⟩ => exact Fin.ext (by have h1 : (p 0).val < 1 := (p 0).isLt; have h2 : (q 0).val < 1 := (q 0).isLt; show (p 0).val = (q 0).val; omega)

theorem clamp_apply (n : S1.Idx → Elt Bits .i32) (k : Fin 288) :
    clampIdx n (ix1 k) = IntOp.minsi (BitVec.ofNat 32 k.val) (wordN n - 1#32) := by
  show IntOp.minsi (BitVec.ofNat 32 k.val) (n _ - 1#32) = IntOp.minsi (BitVec.ofNat 32 k.val) (n _ - 1#32)
  congr 3
  exact one_idx _ _

theorem pred_toInt (w : BitVec 32) (h : 1 ≤ w.toInt) : (w - 1#32).toInt = w.toInt - 1 ∧ (w - 1#32).toNat < 2 ^ 31 ∧ (w - 1#32).toNat = w.toNat - 1 ∧ w.toInt = w.toNat := by
  have hlt := w.isLt
  have hw : w.toNat < 2 ^ 31 := by
    by_contra hc
    rw [BitVec.toInt_eq_toNat_cond] at h
    split at h <;> omega
  have e1 : w.toInt = w.toNat := BitVec.toInt_eq_toNat_of_lt (by omega)
  have e2 : (w - 1#32).toNat = w.toNat - 1 := by
    rw [BitVec.toNat_sub]
    simp only [BitVec.toNat_ofNat]
    omega
  refine ⟨?_, by omega, e2, e1⟩
  rw [BitVec.toInt_eq_toNat_of_lt (by omega), e2, e1]
  omega

/-- For a live block the host's clamp is the identity; for any block it gives one of the table's. -/
theorem clamp_live (n : S1.Idx → Elt Bits .i32) (hn : 1 ≤ (wordN n).toInt) (k : Fin 288) (h : live n k.val) :
    clampIdx n (ix1 k) = BitVec.ofNat 32 k.val := by
  rw [clamp_apply]
  unfold IntOp.minsi
  rw [live_iff n _ (by omega)] at h
  obtain ⟨p1, p2, p3, p4⟩ := pred_toInt _ hn
  have ek : (BitVec.ofNat 32 k.val).toInt = k.val := by
    rw [BitVec.toInt_eq_toNat_of_lt (by rw [BitVec.toNat_ofNat]; omega), BitVec.toNat_ofNat, Nat.mod_eq_of_lt (by omega)]
  by_cases hs : (BitVec.ofNat 32 k.val).slt (wordN n - 1#32) = true
  · rw [if_pos hs]
  · rw [if_neg hs]
    rw [BitVec.slt_iff_toInt_lt, ek, p1] at hs
    apply BitVec.eq_of_toInt_eq
    rw [ek, p1]
    omega

theorem tab_some (b : S288.Idx → Elt Bits .i32) (n : S1.Idx → Elt Bits .i32) (k : Fin 288) : ∃ j : Fin 288, tabOf b n (ix1 k) = b (ix1 j) :=
  ⟨_, tab_gather b _ k⟩

theorem tab_live (b : S288.Idx → Elt Bits .i32) (n : S1.Idx → Elt Bits .i32) (hn : 1 ≤ (wordN n).toInt) (k : Fin 288) (h : live n k.val) :
    tabOf b n (ix1 k) = b (ix1 k) := by
  unfold tabOf
  rw [tab_gather]
  congr 2
  refine Fin.ext ?_
  have e : (broadcastInDim S288x1 ![0] bcast_S288_S288x1_0
    (select (cmpi .slt (clampIdx n) (broadcastInDim S288 ![] bcast_S_S288 (constantI S_ 32 0#32)))
      (addi (clampIdx n) (broadcastInDim S288 ![] bcast_S_S288 (constantI S_ 32 288#32))) (clampIdx n))) (ix2 k (0 : Fin 1))
      = BitVec.ofNat 32 k.val := by
    refine Eq.trans (b := Scalar.select (IntOp.cmpi .slt (clampIdx n (ix1 k)) 0#32) (clampIdx n (ix1 k) + 288#32) (clampIdx n (ix1 k))) ?_ ?_
    · refine Eq.trans (congrArg (select (cmpi .slt (clampIdx n) (broadcastInDim S288 ![] bcast_S_S288 (constantI S_ 32 0#32)))
        (addi (clampIdx n) (broadcastInDim S288 ![] bcast_S_S288 (constantI S_ 32 288#32))) (clampIdx n)) (a₂ := ix1 k) ?_) rfl
      funext a
      match a with
      | ⟨0, _⟩ => exact Fin.ext rfl
    · rw [clamp_live n hn k h]
      have : IntOp.cmpi .slt (BitVec.ofNat 32 k.val) 0#32 = 0#1 := by
        show BitVec.ofBool _ = _
        rw [show (BitVec.ofNat 32 k.val).slt 0#32 = false from by
          rw [Bool.eq_false_iff, ne_eq, BitVec.slt_iff_toInt_lt, BitVec.toInt_eq_toNat_of_lt (by rw [BitVec.toNat_ofNat]; omega)]
          simp only [BitVec.ofNat_eq_ofNat, BitVec.toInt_zero, not_lt]
          exact Int.natCast_nonneg _]
        rfl
      rw [this]
      rfl
  show min _ 287 = k.val
  rw [e, BitVec.toInt_eq_toNat_of_lt (by rw [BitVec.toNat_ofNat]; omega), BitVec.toNat_ofNat, Nat.mod_eq_of_lt (by omega)]
  omega

/-- The host's lines leave that table. -/
theorem after_tab (V : Valuation τ sig (Elt Bits)) :
    StableHlo.after (hostOps0 (F := Bits)) V (Proc.devRef .tc main_v11) = tabOf (V (Proc.devRef .tc main_arg0)) (V (Proc.devRef .tc main_arg1)) := by
  unfold_abbrev_sides
  after_results
  rfl

theorem after_other (V : Valuation τ sig (Elt Bits)) :
    StableHlo.after (hostOps0 (F := Bits)) V (Proc.devRef .tc main_arg0) = V (Proc.devRef .tc main_arg0)
      ∧ StableHlo.after (hostOps0 (F := Bits)) V (Proc.devRef .tc main_arg1) = V (Proc.devRef .tc main_arg1)
      ∧ StableHlo.after (hostOps0 (F := Bits)) V (Proc.devRef .tc main_arg2) = V (Proc.devRef .tc main_arg2)
      ∧ StableHlo.after (hostOps0 (F := Bits)) V (Proc.devRef .tc main_arg3) = V (Proc.devRef .tc main_arg3)
      ∧ StableHlo.after (hostOps0 (F := Bits)) V (Proc.devRef .tc main_arg4) = V (Proc.devRef .tc main_arg4)
      ∧ StableHlo.after (hostOps0 (F := Bits)) V (Proc.devRef .tc main_arg5) = V (Proc.devRef .tc main_arg5) := by
  refine ⟨?_, ?_, ?_, ?_, ?_, ?_⟩
  all_goals
    unfold_abbrev_sides
    after_results

/-! ## The blocks the index maps choose -/

/-- The tables a launch runs at. -/
def Bnd (T : S288.Idx → Elt Bits .i32) (n : S1.Idx → Elt Bits .i32) : Prop :=
  (∀ k : Fin 288, (exAt T k).toNat < 32) ∧ 1 ≤ (wordN n).toInt

theorem Bnd.of_good {b : S288.Idx → Elt Bits .i32} {n : S1.Idx → Elt Bits .i32} (h : Good b n) : Bnd (tabOf b n) n :=
  ⟨fun k => by obtain ⟨j, e⟩ := tab_some b n k; unfold exAt; rw [e]; exact h.1 j, h.2⟩

set_option backward.proofsInPublic true in
/-- The two tables as the region holds them. -/
def pfOf (T : S288.Idx → Elt Bits .i32) (n : S1.Idx → Elt Bits .i32) : pre0.Contents (Elt Bits) :=
  fun | ⟨0, _⟩ => T | ⟨1, _⟩ => n | ⟨_ + 2, h⟩ => absurd h (by simp)

variable (T : S288.Idx → Elt Bits .i32) (n : S1.Idx → Elt Bits .i32) (i : grid0.Coords)

theorem off1_0 : ∀ i : grid0.Coords, k0_off1 i (BitVec.ofNat 32 (0 : Fin 2).val) 0 = 2 * (i 0).val := by decide +kernel
theorem off1_1 : ∀ i : grid0.Coords, k0_off1 i (BitVec.ofNat 32 (1 : Fin 2).val) 0 = 2 * (i 0).val + 1 := by decide +kernel

theorem tr1 : cc0_transform_1 k0_off1_inb numel1_S1 (pfOf T n) i = ![0, (exAt T (k0 i)).toNat, 0, 0] := by
  rw [← wordE_eq _ (k0_off1_inb i 0) T (k0 i) (off1_0 i)]; rfl
theorem tr2 : cc0_transform_2 k0_off1_inb numel1_S1 (pfOf T n) i = ![0, (exAt T (k0 i)).toNat, 0, 0] := by
  rw [← wordE_eq _ (k0_off1_inb i 0) T (k0 i) (off1_0 i)]; rfl
theorem tr3 : cc0_transform_3 k0_off1_inb numel1_S1 (pfOf T n) i = ![0, (exAt T (k0 i)).toNat, 0, 0] := by
  rw [← wordE_eq _ (k0_off1_inb i 0) T (k0 i) (off1_0 i)]; rfl
theorem tr4 : cc0_transform_4 k0_off1_inb numel1_S1 (pfOf T n) i = ![0, (exAt T (k1 i)).toNat, 0, 0] := by
  rw [← wordE_eq _ (k0_off1_inb i 1) T (k1 i) (off1_1 i)]; rfl
theorem tr5 : cc0_transform_5 k0_off1_inb numel1_S1 (pfOf T n) i = ![0, (exAt T (k1 i)).toNat, 0, 0] := by
  rw [← wordE_eq _ (k0_off1_inb i 1) T (k1 i) (off1_1 i)]; rfl
theorem tr6 : cc0_transform_6 k0_off1_inb numel1_S1 (pfOf T n) i = ![0, (exAt T (k1 i)).toNat, 0, 0] := by
  rw [← wordE_eq _ (k0_off1_inb i 1) T (k1 i) (off1_1 i)]; rfl

/-- The quotient by two as the index map computes it: a truncating division, corrected where the signs differ. -/
def halfW (v1 : BitVec 32) : BitVec 32 :=
  Scalar.select (Scalar.andi (Scalar.cmpi .ne (Scalar.subi (Scalar.extui (Scalar.cmpi .sgt v1 0#32)) (Scalar.extui (Scalar.cmpi .slt v1 0#32) : BitVec 32))
      (Scalar.subi (Scalar.extui (Scalar.cmpi .sgt 2#32 0#32)) (Scalar.extui (Scalar.cmpi .slt 2#32 0#32))))
      (Scalar.cmpi .ne (Scalar.remsi v1 2#32) 0#32)) (Scalar.subi (Scalar.divsi v1 2#32) 1#32) (Scalar.divsi v1 2#32)

theorem tr0 : cc0_transform_0 inb_S1_S1_0 numel1_S1 (pfOf T n) i
    = ![(Scalar.minsi (BitVec.ofNat 32 (i 0).val) (halfW (Scalar.subi (wordN n) 1#32))).toNat, 0] := rfl

theorem divsi_two (v : BitVec 32) (hv : v.toNat < 2 ^ 31) : (Scalar.divsi v 2#32).toNat = v.toNat / 2 := by
  show (IntOp.divsi _ v 2#32).toNat = _
  unfold IntOp.divsi
  rw [if_neg (by unfold IntOp.SDivCorner; exact fun h => h.elim (fun h => absurd h (by decide)) (fun h => absurd h.2 (by decide)))]
  rw [BitVec.sdiv_eq, show v.msb = false from by rw [BitVec.msb_eq_false_iff_two_mul_lt]; omega, show (2#32).msb = false from rfl]
  simp [BitVec.toNat_udiv]

theorem halfW_toNat (v : BitVec 32) (hv : v.toNat < 2 ^ 31) : (halfW v).toNat = v.toNat / 2 := by
  by_cases h0 : v = 0#32
  · subst h0; decide
  · have hp : (0#32).slt v = true := by
      rw [BitVec.slt_iff_toInt_lt, BitVec.toInt_eq_toNat_of_lt (by omega : 2 * v.toNat < 2 ^ 32)]
      have : v.toNat ≠ 0 := fun h => h0 (BitVec.eq_of_toNat_eq (by simpa using h))
      simp; omega
    have hn : v.slt 0#32 = false := by
      rw [Bool.eq_false_iff, ne_eq, BitVec.slt_iff_toInt_lt, BitVec.toInt_eq_toNat_of_lt (by omega : 2 * v.toNat < 2 ^ 32)]
      simp
    have e1 : Scalar.cmpi .sgt v 0#32 = 1#1 := by show BitVec.ofBool ((0#32).slt v) = _; rw [hp]; rfl
    have e2 : Scalar.cmpi .slt v 0#32 = 0#1 := by show BitVec.ofBool (v.slt 0#32) = _; rw [hn]; rfl
    have e3 : halfW v = Scalar.divsi v 2#32 := by
      unfold halfW
      rw [e1, e2]
      have : Scalar.cmpi .ne (Scalar.subi (Scalar.extui 1#1) (Scalar.extui 0#1 : BitVec 32)) (Scalar.subi (Scalar.extui (Scalar.cmpi .sgt 2#32 0#32)) (Scalar.extui (Scalar.cmpi .slt 2#32 0#32))) = 0#1 := by decide
      rw [this]
      generalize Scalar.cmpi .ne (Scalar.remsi v 2#32) 0#32 = b
      revert b
      have : ∀ b : BitVec 1, Scalar.andi 0#1 b = 0#1 := by decide
      intro b
      rw [this]
      rfl
    rw [e3, divsi_two v hv]

theorem minsi_toNat (t : ℕ) (w : BitVec 32) (ht : t < 1000) (hw : w.toNat < 2 ^ 31) :
    (Scalar.minsi (BitVec.ofNat 32 t) w).toNat = min t w.toNat := by
  have e1 : (BitVec.ofNat 32 t).toNat = t := by rw [BitVec.toNat_ofNat]; omega
  show (IntOp.minsi _ _).toNat = _
  unfold IntOp.minsi
  by_cases h : (BitVec.ofNat 32 t).slt w = true
  · rw [if_pos h, e1]
    rw [BitVec.slt_iff_toInt_lt, BitVec.toInt_eq_toNat_of_lt (by omega), BitVec.toInt_eq_toNat_of_lt (by omega), e1] at h
    omega
  · rw [if_neg h]
    rw [BitVec.slt_iff_toInt_lt, BitVec.toInt_eq_toNat_of_lt (by omega), BitVec.toInt_eq_toNat_of_lt (by omega), e1] at h
    omega

/-- The block of rows the first map chooses: the point's own, or the last with a used half. -/
theorem tr0_val (hn : 1 ≤ (wordN n).toInt) : cc0_transform_0 inb_S1_S1_0 numel1_S1 (pfOf T n) i
    = ![min (i 0).val (((wordN n).toNat - 1) / 2), 0] := by
  obtain ⟨-, p2, p3, -⟩ := pred_toInt _ hn
  have e : (Scalar.subi (wordN n) 1#32).toNat = (wordN n).toNat - 1 := p3
  have hl : (Scalar.subi (wordN n) 1#32).toNat < 2 ^ 31 := p2
  have hh := halfW_toNat _ hl
  rw [tr0, minsi_toNat _ _ (by have := coord_lt i; omega) (by omega), hh, e]

theorem tr0_live (hn : 1 ≤ (wordN n).toInt) (h : live n (2 * (i 0).val)) : cc0_transform_0 inb_S1_S1_0 numel1_S1 (pfOf T n) i
    = ![(i 0).val, 0] := by
  rw [tr0_val T n i hn]
  obtain ⟨-, -, -, p4⟩ := pred_toInt _ hn
  rw [live_iff n _ (by have := coord_lt i; omega), p4] at h
  congr 1
  omega

/-- Every block the maps choose lies inside its array. -/
theorem ok_of_bnd (h : Bnd T n) : ok0 (pfOf T n) := by
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [tr0_val T n i h.2]
    have := coord_lt i
    intro a
    match a with
    | ⟨0, _⟩ => show (min (i 0).val _ + 1) * 4096 ≤ 589824; omega
    | ⟨1, _⟩ => show (0 + 1) * 128 ≤ 128; omega
  all_goals first | rw [tr1] | rw [tr2] | rw [tr3] | rw [tr4] | rw [tr5] | rw [tr6]
  all_goals
    intro a
    have h0 := h.1 (k0 i)
    have h1 := h.1 (k1 i)
    match a with
    | ⟨0, _⟩ => show (0 + 1) * 1 ≤ 4; omega
    | ⟨1, _⟩ => show ((exAt T _).toNat + 1) * 1 ≤ 32; omega
    | ⟨2, _⟩ => show (0 + 1) * _ ≤ _; exact Nat.le_of_eq (by rfl)
    | ⟨3, _⟩ => show (0 + 1) * _ ≤ _; exact Nat.le_of_eq (by rfl)

/-- The output's block is stored at every point. -/
theorem idle_out : idle0 (pfOf T n) 7 i = false := by
  show (!(k0_cond2 i (wordN n) == 1#1) && !(k0_cond3 i (wordN n) == 1#1) && _ && _) = false
  by_cases h : live n (2 * (i 0).val)
  · rw [(cond2_iff i n).2 h]; rfl
  · rw [(cond3_iff i n).2 h]; simp

end Cert.Experts.Run

end
-- ==== Proof.ExpertsRun.lean ====
module

public import proofs.«01_k».proof.Proof.ExpertsTab
public import Idealize.ShloMosaic.Lib.Pipeline.TableIdle
public import Idealize.ShloMosaic.Lib.Pipeline.Quiescent
public import Idealize.ShloMosaic.Adequacy
public import Idealize.ShloMosaic.Init

@[expose] public section

/-! The experts' grid: what the scratches hold between the points, and every point's obligation.

Before point `t` the scratches hold the rounded matrices of the expert of block `2t - 1`, where that block is live; where it
is not, nothing is said of them, and nothing needs to be, since no later block is live either. -/

set_option maxRecDepth 16384
set_option Elab.async false

noncomputable section

namespace Cert.Experts.Run

open Cert.Experts Cert.Experts.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- One expert's matrices in the stacks of all layers' experts (the first layer's). -/
def gateOf (a : S4x32x1024x512.Idx → Elt Bits .f32) (e : BitVec 32) : S1x1x1024x512.Idx → Elt Bits .f32 :=
  fun y => a (ix4 (0 : Fin 4) (⟨e.toNat % 32, Nat.mod_lt _ (by omega)⟩ : Fin 32) (y 2) (y 3))
def downOf (a : S4x32x512x1024.Idx → Elt Bits .f32) (e : BitVec 32) : S1x1x512x1024.Idx → Elt Bits .f32 :=
  fun y => a (ix4 (0 : Fin 4) (⟨e.toNat % 32, Nat.mod_lt _ (by omega)⟩ : Fin 32) (y 2) (y 3))

/-! ## One point's step of the scratches -/

section Pick

variable (T : S288.Idx → Elt Bits .i32) (n : S1.Idx → Elt Bits .i32) (i : grid0.Coords) {α : Type} (φ : BitVec 32 → α) (f : α)

/-- The first half finds its expert's matrix: rounded anew, or left by the block before, of the same expert. -/
theorem pick_first (hk : ∀ k : Fin 288, k.val + 1 = 2 * (i 0).val → live n k.val → f = φ (exAt T k)) (hl : live n (2 * (i 0).val)) :
    pickW (fresh0 i T n) (φ (exAt T (k0 i))) f = φ (exAt T (k0 i)) := by
  unfold pickW
  by_cases hf : fresh0 i T n = 1#1
  · rw [if_pos hf]
  · rw [if_neg hf]
    rw [fresh0_iff] at hf
    have h0 : (i 0).val ≠ 0 := fun h => hf ⟨hl, .inl h⟩
    have he : exAt T (k0 i) = exAt T (kp i) := by
      by_contra hne
      exact hf ⟨hl, .inr hne⟩
    have hc := coord_lt i
    rw [he]
    exact hk (kp i) (by show 2 * (i 0).val - 1 + 1 = _; omega) (live_mono n (by show 2 * (i 0).val - 1 ≤ 2 * (i 0).val; omega) (by omega) hl)

/-- The second half likewise, after the first. -/
theorem pick_second (hk : live n (2 * (i 0).val) → f = φ (exAt T (k0 i))) (hl : live n (2 * (i 0).val + 1)) :
    pickW (fresh1 i T n) (φ (exAt T (k1 i))) f = φ (exAt T (k1 i)) := by
  unfold pickW
  have hc := coord_lt i
  have hl0 : live n (2 * (i 0).val) := live_mono n (by omega) (by omega) hl
  by_cases hf : fresh1 i T n = 1#1
  · rw [if_pos hf]
  · rw [if_neg hf]
    rw [fresh1_iff] at hf
    have he : exAt T (k1 i) = exAt T (k0 i) := by
      by_contra hne
      exact hf ⟨hl, hne⟩
    rw [he]
    exact hk hl0

end Pick

section Grid

variable (T : S288.Idx → Elt Bits .i32) (n : S1.Idx → Elt Bits .i32) (hb : Bnd T n)
variable (V : (c : Dev nD) → (b : Ref sig .tc) → Buf (Elt Bits) ((c.tc : Thread nD τ).loc b))

/-- An expert's rounded matrices. -/
def gW (c : Dev nD) (e : BitVec 32) : S1024x512.Idx → Elt Bits .bf16 := k0_pay8 (F := Bits) (gateOf (V c main_arg3) e)
def uW (c : Dev nD) (e : BitVec 32) : S1024x512.Idx → Elt Bits .bf16 := k0_pay9 (F := Bits) (gateOf (V c main_arg4) e)
def dW (c : Dev nD) (e : BitVec 32) : S512x1024.Idx → Elt Bits .bf16 := k0_pay10 (F := Bits) (downOf (V c main_arg5) e)

/-- What the scratches hold before point `t`. -/
def Kept (c : Dev nD) (t : ℕ) (f0 f1 : S1024x512.Idx → Elt Bits .bf16) (f2 : S512x1024.Idx → Elt Bits .bf16) : Prop :=
  ∀ k : Fin 288, k.val + 1 = 2 * t → live n k.val → f0 = gW V c (exAt T k) ∧ f1 = uW V c (exAt T k) ∧ f2 = dW V c (exAt T k)

/-- The words a point leaves for its two blocks, of the slots `x` in its window. -/
def wordsA (c : Dev nD) (i : grid0.Coords) (x : S4096x128.Idx → Elt Bits .i32) : IVec S512x512 32 :=
  if live n (2 * (i 0).val) then mlp0 x (gW V c (exAt T (k0 i))) (uW V c (exAt T (k0 i))) (dW V c (exAt T (k0 i))) else zero512
def wordsB (c : Dev nD) (i : grid0.Coords) (x : S4096x128.Idx → Elt Bits .i32) : IVec S512x512 32 :=
  if live n (2 * (i 0).val + 1) then mlp1 x (gW V c (exAt T (k1 i))) (uW V c (exAt T (k1 i))) (dW V c (exAt T (k1 i))) else zero512

theorem step_kept (c : Dev nD) (i : grid0.Coords) (arg3 : Memref sig .tc .vmem S4096x128 .i32) (harg3 : arg3.IsWhole)
    (arg4 : Memref sig .tc .vmem S1x1x1024x512 .f32) (harg4 : arg4.IsWhole) (arg5 : Memref sig .tc .vmem S1x1x1024x512 .f32) (harg5 : arg5.IsWhole)
    (arg6 : Memref sig .tc .vmem S1x1x512x1024 .f32) (harg6 : arg6.IsWhole) (arg7 : Memref sig .tc .vmem S1x1x1024x512 .f32) (harg7 : arg7.IsWhole)
    (arg8 : Memref sig .tc .vmem S1x1x1024x512 .f32) (harg8 : arg8.IsWhole) (arg9 : Memref sig .tc .vmem S1x1x512x1024 .f32) (harg9 : arg9.IsWhole)
    (arg10 : Memref sig .tc .vmem S4096x128 .i32) (harg10 : arg10.IsWhole) (x : S4096x128.Idx → Elt Bits .i32)
    (f0 f1 : S1024x512.Idx → Elt Bits .bf16) (f2 : S512x1024.Idx → Elt Bits .bf16) (hk : Kept T n V c (i 0).val f0 f1 f2) :
    ∃ f0' f1' f2', Kept T n V c ((i 0).val + 1) f0' f1' f2' ∧
      DoneAt c i arg3 harg3 arg4 harg4 arg5 harg5 arg6 harg6 arg7 harg7 arg8 harg8 arg9 harg9 arg10 harg10 T n x
        (gateOf (V c main_arg3) (exAt T (k0 i))) (gateOf (V c main_arg4) (exAt T (k0 i))) (downOf (V c main_arg5) (exAt T (k0 i)))
        (gateOf (V c main_arg3) (exAt T (k1 i))) (gateOf (V c main_arg4) (exAt T (k1 i))) (downOf (V c main_arg5) (exAt T (k1 i)))
        f0 f1 f2 (wordsA T n V c i x) (wordsB T n V c i x) f0' f1' f2' := by
  have hc := coord_lt i
  have a0 : live n (2 * (i 0).val) → pickW (fresh0 i T n) (gW V c (exAt T (k0 i))) f0 = gW V c (exAt T (k0 i)) := fun hl =>
    pick_first T n i (gW V c) f0 (fun k h1 h2 => (hk k h1 h2).1) hl
  have a1 : live n (2 * (i 0).val) → pickW (fresh0 i T n) (uW V c (exAt T (k0 i))) f1 = uW V c (exAt T (k0 i)) := fun hl =>
    pick_first T n i (uW V c) f1 (fun k h1 h2 => (hk k h1 h2).2.1) hl
  have a2 : live n (2 * (i 0).val) → pickW (fresh0 i T n) (dW V c (exAt T (k0 i))) f2 = dW V c (exAt T (k0 i)) := fun hl =>
    pick_first T n i (dW V c) f2 (fun k h1 h2 => (hk k h1 h2).2.2) hl
  have b0 := fun hl => pick_second T n i (gW V c) _ a0 hl
  have b1 := fun hl => pick_second T n i (uW V c) _ a1 hl
  have b2 := fun hl => pick_second T n i (dW V c) _ a2 hl
  refine ⟨pickW (fresh1 i T n) (gW V c (exAt T (k1 i))) (pickW (fresh0 i T n) (gW V c (exAt T (k0 i))) f0),
    pickW (fresh1 i T n) (uW V c (exAt T (k1 i))) (pickW (fresh0 i T n) (uW V c (exAt T (k0 i))) f1),
    pickW (fresh1 i T n) (dW V c (exAt T (k1 i))) (pickW (fresh0 i T n) (dW V c (exAt T (k0 i))) f2), ?_, ?_⟩
  · intro k hk1 hl
    have e : k = k1 i := Fin.ext (by show k.val = 2 * (i 0).val + 1; omega)
    have hl' : live n (2 * (i 0).val + 1) := by rw [e] at hl; exact hl
    rw [e]
    exact ⟨b0 hl', b1 hl', b2 hl'⟩
  · have hs := step c i arg3 harg3 arg4 harg4 arg5 harg5 arg6 harg6 arg7 harg7 arg8 harg8 arg9 harg9 arg10 harg10 T n x
        (gateOf (V c main_arg3) (exAt T (k0 i))) (gateOf (V c main_arg4) (exAt T (k0 i))) (downOf (V c main_arg5) (exAt T (k0 i)))
        (gateOf (V c main_arg3) (exAt T (k1 i))) (gateOf (V c main_arg4) (exAt T (k1 i))) (downOf (V c main_arg5) (exAt T (k1 i))) f0 f1 f2
    have eA : wordsA T n V c i x = (if live n (2 * (i 0).val) then mlp0 x (pickW (fresh0 i T n) (gW V c (exAt T (k0 i))) f0)
        (pickW (fresh0 i T n) (uW V c (exAt T (k0 i))) f1) (pickW (fresh0 i T n) (dW V c (exAt T (k0 i))) f2) else zero512) := by
      unfold wordsA
      by_cases hl : live n (2 * (i 0).val)
      · rw [if_pos hl, if_pos hl, a0 hl, a1 hl, a2 hl]
      · rw [if_neg hl, if_neg hl]
    have eB : wordsB T n V c i x = (if live n (2 * (i 0).val + 1) then mlp1 x (pickW (fresh1 i T n) (gW V c (exAt T (k1 i))) (pickW (fresh0 i T n) (gW V c (exAt T (k0 i))) f0))
        (pickW (fresh1 i T n) (uW V c (exAt T (k1 i))) (pickW (fresh0 i T n) (uW V c (exAt T (k0 i))) f1))
        (pickW (fresh1 i T n) (dW V c (exAt T (k1 i))) (pickW (fresh0 i T n) (dW V c (exAt T (k0 i))) f2)) else zero512) := by
      unfold wordsB
      by_cases hl : live n (2 * (i 0).val + 1)
      · rw [if_pos hl, if_pos hl, b0 hl, b1 hl, b2 hl]
      · rw [if_neg hl, if_neg hl]
    rw [eA, eB]
    exact hs

/-! ## The pipeline at the tables -/

/-- The tables' contents, every block inside its array. -/
def adm : (pcfg0 (F := Bits)).Adm := ⟨pfOf T n, ok_of_bnd T n hb⟩
abbrev cfgA : Pipeline.Cfg sig Λ₀ := cfg0 (F := Bits) (adm T n hb)
abbrev crd (t : Fin (cfgA T n hb).N) : (cfgA T n hb).grid.Coords := (cfgA T n hb).grid.coords t

abbrev ms_0 (t : Fin (cfgA T n hb).N) : Memref sig .tc .vmem S4096x128 .i32 := spec0_0.stage ((cfgA T n hb).slots t (0 : Fin 8))
abbrev hs_0 (t : Fin (cfgA T n hb).N) : (ms_0 T n hb t).IsWhole := hstage0_0 (((cfgA T n hb).slots t (0 : Fin 8)).cast nbuf0_0)
abbrev ms_1 (t : Fin (cfgA T n hb).N) : Memref sig .tc .vmem S1x1x1024x512 .f32 := spec0_1.stage ((cfgA T n hb).slots t (1 : Fin 8))
abbrev hs_1 (t : Fin (cfgA T n hb).N) : (ms_1 T n hb t).IsWhole := hstage0_1 (((cfgA T n hb).slots t (1 : Fin 8)).cast nbuf0_1)
abbrev ms_2 (t : Fin (cfgA T n hb).N) : Memref sig .tc .vmem S1x1x1024x512 .f32 := spec0_2.stage ((cfgA T n hb).slots t (2 : Fin 8))
abbrev hs_2 (t : Fin (cfgA T n hb).N) : (ms_2 T n hb t).IsWhole := hstage0_2 (((cfgA T n hb).slots t (2 : Fin 8)).cast nbuf0_2)
abbrev ms_3 (t : Fin (cfgA T n hb).N) : Memref sig .tc .vmem S1x1x512x1024 .f32 := spec0_3.stage ((cfgA T n hb).slots t (3 : Fin 8))
abbrev hs_3 (t : Fin (cfgA T n hb).N) : (ms_3 T n hb t).IsWhole := hstage0_3 (((cfgA T n hb).slots t (3 : Fin 8)).cast nbuf0_3)
abbrev ms_4 (t : Fin (cfgA T n hb).N) : Memref sig .tc .vmem S1x1x1024x512 .f32 := spec0_4.stage ((cfgA T n hb).slots t (4 : Fin 8))
abbrev hs_4 (t : Fin (cfgA T n hb).N) : (ms_4 T n hb t).IsWhole := hstage0_4 (((cfgA T n hb).slots t (4 : Fin 8)).cast nbuf0_4)
abbrev ms_5 (t : Fin (cfgA T n hb).N) : Memref sig .tc .vmem S1x1x1024x512 .f32 := spec0_5.stage ((cfgA T n hb).slots t (5 : Fin 8))
abbrev hs_5 (t : Fin (cfgA T n hb).N) : (ms_5 T n hb t).IsWhole := hstage0_5 (((cfgA T n hb).slots t (5 : Fin 8)).cast nbuf0_5)
abbrev ms_6 (t : Fin (cfgA T n hb).N) : Memref sig .tc .vmem S1x1x512x1024 .f32 := spec0_6.stage ((cfgA T n hb).slots t (6 : Fin 8))
abbrev hs_6 (t : Fin (cfgA T n hb).N) : (ms_6 T n hb t).IsWhole := hstage0_6 (((cfgA T n hb).slots t (6 : Fin 8)).cast nbuf0_6)
abbrev ms_7 (t : Fin (cfgA T n hb).N) : Memref sig .tc .vmem S4096x128 .i32 := spec0_7.stage ((cfgA T n hb).slots t (7 : Fin 8))
abbrev hs_7 (t : Fin (cfgA T n hb).N) : (ms_7 T n hb t).IsWhole := hstage0_7 (((cfgA T n hb).slots t (7 : Fin 8)).cast nbuf0_7)

/-- Window `w`'s block at point `t`, of its array as the region finds it. -/
def iblk (c : Dev nD) (w : Fin (cfgA T n hb).W) (t : Fin (cfgA T n hb).N) : (((cfgA T n hb).win w).xblock (crd T n hb t)).Idx → Elt Bits ((cfgA T n hb).win w).elt :=
  (((cfgA T n hb).win w).blk t).view.read (Elt Bits) (V c (Pipeline.arrRef spec0 w))

/-- What a point leaves in the output's block. -/
def outAt (c : Dev nD) (t : Fin (cfgA T n hb).N) : S4096x128.Idx → Elt Bits .i32 :=
  rows (wordsA T n V c (crd T n hb t) (iblk T n hb V c (0 : Fin 8) t)) (wordsB T n V c (crd T n hb t) (iblk T n hb V c (0 : Fin 8) t))

/-- The invariant before a point: the scratches as `Kept` says, the tables' half shares, the random register. -/
def Phi (c : Dev nD) (t : ℕ) : sProp 𝕄 :=
  iprop((∃ f0 : Buf (Elt Bits) ((c : Thread nD τ).loc cc0_scratch0), ∃ f1 : Buf (Elt Bits) ((c : Thread nD τ).loc cc0_scratch1), ∃ f2 : Buf (Elt Bits) ((c : Thread nD τ).loc cc0_scratch2),
      ⌜Kept T n V c t f0 f1 f2⌝ ∗ (scG.view.loc (c : Thread nD τ) ↦{fullShare} f0) ∗ (scU.view.loc (c : Thread nD τ) ↦{fullShare} f1) ∗ (scD.view.loc (c : Thread nD τ) ↦{fullShare} f2))
    ∗ (tabE.view.loc (c : Thread nD τ) ↦{fullShare.right} T) ∗ (tabN.view.loc (c : Thread nD τ) ↦{fullShare.right} n)
    ∗ ∃ r, prngReg c r)

/-- The proof data of the one pipeline. -/
def dats (_ : Fin 1) (c : Dev nD) : Dat τ (Elt Bits) Unit ℕ (UR sig nD τ) ℕ (cfgA T n hb) c where
  A w := V c (Pipeline.arrRef spec0 w)
  after w t := match w with
    | ⟨0, _⟩ => iblk T n hb V c (0 : Fin 8) t
    | ⟨1, _⟩ => iblk T n hb V c (1 : Fin 8) t
    | ⟨2, _⟩ => iblk T n hb V c (2 : Fin 8) t
    | ⟨3, _⟩ => iblk T n hb V c (3 : Fin 8) t
    | ⟨4, _⟩ => iblk T n hb V c (4 : Fin 8) t
    | ⟨5, _⟩ => iblk T n hb V c (5 : Fin 8) t
    | ⟨6, _⟩ => iblk T n hb V c (6 : Fin 8) t
    | ⟨7, _⟩ => outAt T n hb V c t
  Φ t := Phi T n V c t.val
  q w := Pipeline.shareOf spec0 w
  owed _ := 0

theorem after_0 (c : Dev nD) (t : Fin (cfgA T n hb).N) : (dats T n hb V 0 c).after (0 : Fin 8) t = iblk T n hb V c (0 : Fin 8) t := rfl
theorem after_1 (c : Dev nD) (t : Fin (cfgA T n hb).N) : (dats T n hb V 0 c).after (1 : Fin 8) t = iblk T n hb V c (1 : Fin 8) t := rfl
theorem after_2 (c : Dev nD) (t : Fin (cfgA T n hb).N) : (dats T n hb V 0 c).after (2 : Fin 8) t = iblk T n hb V c (2 : Fin 8) t := rfl
theorem after_3 (c : Dev nD) (t : Fin (cfgA T n hb).N) : (dats T n hb V 0 c).after (3 : Fin 8) t = iblk T n hb V c (3 : Fin 8) t := rfl
theorem after_4 (c : Dev nD) (t : Fin (cfgA T n hb).N) : (dats T n hb V 0 c).after (4 : Fin 8) t = iblk T n hb V c (4 : Fin 8) t := rfl
theorem after_5 (c : Dev nD) (t : Fin (cfgA T n hb).N) : (dats T n hb V 0 c).after (5 : Fin 8) t = iblk T n hb V c (5 : Fin 8) t := rfl
theorem after_6 (c : Dev nD) (t : Fin (cfgA T n hb).N) : (dats T n hb V 0 c).after (6 : Fin 8) t = iblk T n hb V c (6 : Fin 8) t := rfl
theorem after_7 (c : Dev nD) (t : Fin (cfgA T n hb).N) : (dats T n hb V 0 c).after (7 : Fin 8) t = outAt T n hb V c t := rfl

/-- An input window's buffer holds its block when the body runs. -/
theorem before_0 (c : Dev nD) (t : Fin (cfgA T n hb).N) (d) : (dats T n hb V 0 c).before (0 : Fin 8) t d = iblk T n hb V c (0 : Fin 8) t :=
  ((dats T n hb V 0 c).before_in_eq_fetched (0 : Fin 8) rfl (fun _ => rfl) (fun _ _ _ => rfl) (fun t => by rw [after_0]; unfold Dat.blockOf iblk; rfl) t d).trans
    (by unfold Dat.fetched Dat.blockOf iblk; rfl)
theorem before_1 (c : Dev nD) (t : Fin (cfgA T n hb).N) (d) : (dats T n hb V 0 c).before (1 : Fin 8) t d = iblk T n hb V c (1 : Fin 8) t :=
  ((dats T n hb V 0 c).before_in_eq_fetched (1 : Fin 8) rfl (fun _ => rfl) (fun _ _ _ => rfl) (fun t => by rw [after_1]; unfold Dat.blockOf iblk; rfl) t d).trans
    (by unfold Dat.fetched Dat.blockOf iblk; rfl)
theorem before_2 (c : Dev nD) (t : Fin (cfgA T n hb).N) (d) : (dats T n hb V 0 c).before (2 : Fin 8) t d = iblk T n hb V c (2 : Fin 8) t :=
  ((dats T n hb V 0 c).before_in_eq_fetched (2 : Fin 8) rfl (fun _ => rfl) (fun _ _ _ => rfl) (fun t => by rw [after_2]; unfold Dat.blockOf iblk; rfl) t d).trans
    (by unfold Dat.fetched Dat.blockOf iblk; rfl)
theorem before_3 (c : Dev nD) (t : Fin (cfgA T n hb).N) (d) : (dats T n hb V 0 c).before (3 : Fin 8) t d = iblk T n hb V c (3 : Fin 8) t :=
  ((dats T n hb V 0 c).before_in_eq_fetched (3 : Fin 8) rfl (fun _ => rfl) (fun _ _ _ => rfl) (fun t => by rw [after_3]; unfold Dat.blockOf iblk; rfl) t d).trans
    (by unfold Dat.fetched Dat.blockOf iblk; rfl)
theorem before_4 (c : Dev nD) (t : Fin (cfgA T n hb).N) (d) : (dats T n hb V 0 c).before (4 : Fin 8) t d = iblk T n hb V c (4 : Fin 8) t :=
  ((dats T n hb V 0 c).before_in_eq_fetched (4 : Fin 8) rfl (fun _ => rfl) (fun _ _ _ => rfl) (fun t => by rw [after_4]; unfold Dat.blockOf iblk; rfl) t d).trans
    (by unfold Dat.fetched Dat.blockOf iblk; rfl)
theorem before_5 (c : Dev nD) (t : Fin (cfgA T n hb).N) (d) : (dats T n hb V 0 c).before (5 : Fin 8) t d = iblk T n hb V c (5 : Fin 8) t :=
  ((dats T n hb V 0 c).before_in_eq_fetched (5 : Fin 8) rfl (fun _ => rfl) (fun _ _ _ => rfl) (fun t => by rw [after_5]; unfold Dat.blockOf iblk; rfl) t d).trans
    (by unfold Dat.fetched Dat.blockOf iblk; rfl)
theorem before_6 (c : Dev nD) (t : Fin (cfgA T n hb).N) (d) : (dats T n hb V 0 c).before (6 : Fin 8) t d = iblk T n hb V c (6 : Fin 8) t :=
  ((dats T n hb V 0 c).before_in_eq_fetched (6 : Fin 8) rfl (fun _ => rfl) (fun _ _ _ => rfl) (fun t => by rw [after_6]; unfold Dat.blockOf iblk; rfl) t d).trans
    (by unfold Dat.fetched Dat.blockOf iblk; rfl)

/-- The blocks of the weights' windows are the experts' matrices. -/
theorem iblk_1 (c : Dev nD) (t : Fin (cfgA T n hb).N) : iblk T n hb V c (1 : Fin 8) t = gateOf (V c main_arg3) (exAt T (k0 (crd T n hb t))) := by
  funext y
  show V c main_arg3 _ = V c main_arg3 _
  congr 1
  have e := tr1 T n (crd T n hb t)
  have hlt := hb.1 (k0 (crd T n hb t))
  funext a
  refine Fin.ext ?_
  show cc0_transform_1 k0_off1_inb numel1_S1 (pfOf T n) (crd T n hb t) a * S1x1x1024x512.size a + 1 * (y a).val = _
  rw [e]
  match a with
  | ⟨0, _⟩ => have h : (y 0).val < 1 := (y 0).isLt; show 0 * 1 + 1 * (y 0).val = 0; omega
  | ⟨1, _⟩ => have h : (y 1).val < 1 := (y 1).isLt; show (exAt T (k0 (crd T n hb t))).toNat * 1 + 1 * (y 1).val = (exAt T (k0 (crd T n hb t))).toNat % 32; omega
  | ⟨2, _⟩ => show 0 * 1024 + 1 * (y 2).val = (y 2).val; omega
  | ⟨3, _⟩ => show 0 * 512 + 1 * (y 3).val = (y 3).val; omega

theorem iblk_2 (c : Dev nD) (t : Fin (cfgA T n hb).N) : iblk T n hb V c (2 : Fin 8) t = gateOf (V c main_arg4) (exAt T (k0 (crd T n hb t))) := by
  funext y
  show V c main_arg4 _ = V c main_arg4 _
  congr 1
  have e := tr2 T n (crd T n hb t)
  have hlt := hb.1 (k0 (crd T n hb t))
  funext a
  refine Fin.ext ?_
  show cc0_transform_2 k0_off1_inb numel1_S1 (pfOf T n) (crd T n hb t) a * S1x1x1024x512.size a + 1 * (y a).val = _
  rw [e]
  match a with
  | ⟨0, _⟩ => have h : (y 0).val < 1 := (y 0).isLt; show 0 * 1 + 1 * (y 0).val = 0; omega
  | ⟨1, _⟩ => have h : (y 1).val < 1 := (y 1).isLt; show (exAt T (k0 (crd T n hb t))).toNat * 1 + 1 * (y 1).val = (exAt T (k0 (crd T n hb t))).toNat % 32; omega
  | ⟨2, _⟩ => show 0 * 1024 + 1 * (y 2).val = (y 2).val; omega
  | ⟨3, _⟩ => show 0 * 512 + 1 * (y 3).val = (y 3).val; omega

theorem iblk_3 (c : Dev nD) (t : Fin (cfgA T n hb).N) : iblk T n hb V c (3 : Fin 8) t = downOf (V c main_arg5) (exAt T (k0 (crd T n hb t))) := by
  funext y
  show V c main_arg5 _ = V c main_arg5 _
  congr 1
  have e := tr3 T n (crd T n hb t)
  have hlt := hb.1 (k0 (crd T n hb t))
  funext a
  refine Fin.ext ?_
  show cc0_transform_3 k0_off1_inb numel1_S1 (pfOf T n) (crd T n hb t) a * S1x1x512x1024.size a + 1 * (y a).val = _
  rw [e]
  match a with
  | ⟨0, _⟩ => have h : (y 0).val < 1 := (y 0).isLt; show 0 * 1 + 1 * (y 0).val = 0; omega
  | ⟨1, _⟩ => have h : (y 1).val < 1 := (y 1).isLt; show (exAt T (k0 (crd T n hb t))).toNat * 1 + 1 * (y 1).val = (exAt T (k0 (crd T n hb t))).toNat % 32; omega
  | ⟨2, _⟩ => show 0 * 512 + 1 * (y 2).val = (y 2).val; omega
  | ⟨3, _⟩ => show 0 * 1024 + 1 * (y 3).val = (y 3).val; omega

theorem iblk_4 (c : Dev nD) (t : Fin (cfgA T n hb).N) : iblk T n hb V c (4 : Fin 8) t = gateOf (V c main_arg3) (exAt T (k1 (crd T n hb t))) := by
  funext y
  show V c main_arg3 _ = V c main_arg3 _
  congr 1
  have e := tr4 T n (crd T n hb t)
  have hlt := hb.1 (k1 (crd T n hb t))
  funext a
  refine Fin.ext ?_
  show cc0_transform_4 k0_off1_inb numel1_S1 (pfOf T n) (crd T n hb t) a * S1x1x1024x512.size a + 1 * (y a).val = _
  rw [e]
  match a with
  | ⟨0, _⟩ => have h : (y 0).val < 1 := (y 0).isLt; show 0 * 1 + 1 * (y 0).val = 0; omega
  | ⟨1, _⟩ => have h : (y 1).val < 1 := (y 1).isLt; show (exAt T (k1 (crd T n hb t))).toNat * 1 + 1 * (y 1).val = (exAt T (k1 (crd T n hb t))).toNat % 32; omega
  | ⟨2, _⟩ => show 0 * 1024 + 1 * (y 2).val = (y 2).val; omega
  | ⟨3, _⟩ => show 0 * 512 + 1 * (y 3).val = (y 3).val; omega

theorem iblk_5 (c : Dev nD) (t : Fin (cfgA T n hb).N) : iblk T n hb V c (5 : Fin 8) t = gateOf (V c main_arg4) (exAt T (k1 (crd T n hb t))) := by
  funext y
  show V c main_arg4 _ = V c main_arg4 _
  congr 1
  have e := tr5 T n (crd T n hb t)
  have hlt := hb.1 (k1 (crd T n hb t))
  funext a
  refine Fin.ext ?_
  show cc0_transform_5 k0_off1_inb numel1_S1 (pfOf T n) (crd T n hb t) a * S1x1x1024x512.size a + 1 * (y a).val = _
  rw [e]
  match a with
  | ⟨0, _⟩ => have h : (y 0).val < 1 := (y 0).isLt; show 0 * 1 + 1 * (y 0).val = 0; omega
  | ⟨1, _⟩ => have h : (y 1).val < 1 := (y 1).isLt; show (exAt T (k1 (crd T n hb t))).toNat * 1 + 1 * (y 1).val = (exAt T (k1 (crd T n hb t))).toNat % 32; omega
  | ⟨2, _⟩ => show 0 * 1024 + 1 * (y 2).val = (y 2).val; omega
  | ⟨3, _⟩ => show 0 * 512 + 1 * (y 3).val = (y 3).val; omega

theorem iblk_6 (c : Dev nD) (t : Fin (cfgA T n hb).N) : iblk T n hb V c (6 : Fin 8) t = downOf (V c main_arg5) (exAt T (k1 (crd T n hb t))) := by
  funext y
  show V c main_arg5 _ = V c main_arg5 _
  congr 1
  have e := tr6 T n (crd T n hb t)
  have hlt := hb.1 (k1 (crd T n hb t))
  funext a
  refine Fin.ext ?_
  show cc0_transform_6 k0_off1_inb numel1_S1 (pfOf T n) (crd T n hb t) a * S1x1x512x1024.size a + 1 * (y a).val = _
  rw [e]
  match a with
  | ⟨0, _⟩ => have h : (y 0).val < 1 := (y 0).isLt; show 0 * 1 + 1 * (y 0).val = 0; omega
  | ⟨1, _⟩ => have h : (y 1).val < 1 := (y 1).isLt; show (exAt T (k1 (crd T n hb t))).toNat * 1 + 1 * (y 1).val = (exAt T (k1 (crd T n hb t))).toNat % 32; omega
  | ⟨2, _⟩ => show 0 * 512 + 1 * (y 2).val = (y 2).val; omega
  | ⟨3, _⟩ => show 0 * 1024 + 1 * (y 3).val = (y 3).val; omega

/-- The grid's one coordinate is the point's number. -/
theorem coords_val : ∀ t : Fin grid0.N, ((grid0.coords t) 0).val = t.val := by decide +kernel

theorem crd_val (t : Fin (cfgA T n hb).N) : ((crd T n hb t) 0).val = t.val := coords_val t

end Grid

end Cert.Experts.Run

end
-- ==== Proof.ExpertsOb.lean ====
module

public import proofs.«01_k».proof.Proof.ExpertsRun

@[expose] public section

/-! Every point's obligation, and the launch. -/

set_option maxRecDepth 16384
set_option Elab.async false

noncomputable section

namespace Cert.Experts.Run

open Cert.Experts Cert.Experts.Gen
open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

section Grid

variable (T : S288.Idx → Elt Bits .i32) (n : S1.Idx → Elt Bits .i32) (hb : Bnd T n)
variable (V : (c : Dev nD) → (b : Ref sig .tc) → Buf (Elt Bits) ((c.tc : Thread nD τ).loc b))

/-- The body at point `t`, on the buffers the pipeline hands it. -/
abbrev bodyAt (t : Fin (cfgA T n hb).N) : Prog (TpuEff nD τ sig (Elt Bits) Λ₀ .tc) PUnit :=
  cc0_moe_experts (crd T n hb t) tabE (Memref.isWhole_whole _) tabN (Memref.isWhole_whole _) (ms_0 T n hb t) (hs_0 T n hb t) (ms_1 T n hb t) (hs_1 T n hb t)
    (ms_2 T n hb t) (hs_2 T n hb t) (ms_3 T n hb t) (hs_3 T n hb t) (ms_4 T n hb t) (hs_4 T n hb t) (ms_5 T n hb t) (hs_5 T n hb t) (ms_6 T n hb t) (hs_6 T n hb t)
    (ms_7 T n hb t) (hs_7 T n hb t) scG (Memref.isWhole_whole _) scU (Memref.isWhole_whole _) scD (Memref.isWhole_whole _)

set_option maxHeartbeats 4000000 in
/-- A point's obligation, from the body's step. -/
theorem point_ob (c : Dev nD) (t : Fin (cfgA T n hb).N) :
    iprop((dats T n hb V 0 c).Φ t.castSucc ∗ (dats T n hb V 0 c).owesAt () t.castSucc
        ∗ (∃ d, owns (c : Thread nD τ) (ms_0 T n hb t) fullShare ((dats T n hb V 0 c).before (0 : Fin 8) t d))
        ∗ (∃ d, owns (c : Thread nD τ) (ms_1 T n hb t) fullShare ((dats T n hb V 0 c).before (1 : Fin 8) t d))
        ∗ (∃ d, owns (c : Thread nD τ) (ms_2 T n hb t) fullShare ((dats T n hb V 0 c).before (2 : Fin 8) t d))
        ∗ (∃ d, owns (c : Thread nD τ) (ms_3 T n hb t) fullShare ((dats T n hb V 0 c).before (3 : Fin 8) t d))
        ∗ (∃ d, owns (c : Thread nD τ) (ms_4 T n hb t) fullShare ((dats T n hb V 0 c).before (4 : Fin 8) t d))
        ∗ (∃ d, owns (c : Thread nD τ) (ms_5 T n hb t) fullShare ((dats T n hb V 0 c).before (5 : Fin 8) t d))
        ∗ (∃ d, owns (c : Thread nD τ) (ms_6 T n hb t) fullShare ((dats T n hb V 0 c).before (6 : Fin 8) t d))
        ∗ (∃ d, owns (c : Thread nD τ) (ms_7 T n hb t) fullShare ((dats T n hb V 0 c).before (7 : Fin 8) t d)))
      ⊢ wp frame (wpE (defs₀ (F := Bits)) Variants.none c none) Set.univ (bodyAt T n hb t) fun _ =>
          iprop((dats T n hb V 0 c).Φ t.succ ∗ (dats T n hb V 0 c).owesAt () t.succ
            ∗ bigSep Finset.univ fun w : Fin (cfgA T n hb).W =>
                match (cfgA T n hb).idle w ((cfgA T n hb).grid.coords t) with
                | true =>
                  match ((cfgA T n hb).win w).flush t with
                  | false => iprop(∃ d, owns (c : Thread nD τ) (((cfgA T n hb).win w).stage ((cfgA T n hb).slots t w)) fullShare ((dats T n hb V 0 c).before w t d))
                  | true => owns (c : Thread nD τ) (((cfgA T n hb).win w).stage ((cfgA T n hb).slots t w)) fullShare ((dats T n hb V 0 c).after w t)
                | false => owns (c : Thread nD τ) (((cfgA T n hb).win w).stage ((cfgA T n hb).slots t w)) fullShare ((dats T n hb V 0 c).after w t)) := by
  rw [bigSep_W0]
  have i7 : (cfgA T n hb).idle (7 : Fin 8) ((cfgA T n hb).grid.coords t) = false := idle_out T n (crd T n hb t)
  rewrite [i7]
  simp only [before_0, before_1, before_2, before_3, before_4, before_5, before_6, after_0, after_1, after_2, after_3, after_4, after_5, after_6, after_7]
  rewrite [show (dats T n hb V 0 c).Φ t.succ = Phi T n V c (t.val + 1) from rfl, show (dats T n hb V 0 c).Φ t.castSucc = Phi T n V c t.val from rfl,
    show (dats T n hb V 0 c).owesAt () t.succ = (dats T n hb V 0 c).owesAt () t.castSucc from rfl]
  unfold Phi
  iintro ⟨⟨⟨%f0, %f1, %f2, %hk, HS0, HS1, HS2⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨g0, g1, g2, hk', out, hrun, hout⟩ := step_kept T n V c (crd T n hb t) (ms_0 T n hb t) (hs_0 T n hb t) (ms_1 T n hb t) (hs_1 T n hb t)
    (ms_2 T n hb t) (hs_2 T n hb t) (ms_3 T n hb t) (hs_3 T n hb t) (ms_4 T n hb t) (hs_4 T n hb t) (ms_5 T n hb t) (hs_5 T n hb t) (ms_6 T n hb t) (hs_6 T n hb t)
    (ms_7 T n hb t) (hs_7 T n hb t) (iblk T n hb V c (0 : Fin 8) t) f0 f1 f2 (by rw [crd_val]; exact hk)
  rw [crd_val] at hk'
  rw [← iblk_1 T n hb V c t, ← iblk_2 T n hb V c t, ← iblk_3 T n hb V c t, ← iblk_4 T n hb V c t, ← iblk_5 T n hb V c t, ← iblk_6 T n hb V c t] at hrun
  iapply (hrun _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iexists _; iexact H7
  isplitl [HT0]; · iexact HT0
  isplitl [HT1]; · iexact HT1
  isplitl [HS0]; · iexact HS0
  isplitl [HS1]; · iexact HS1
  isplitl [HS2]; · iexact HS2
  iintro ⟨H0, H1, H2, H3, H4, H5, H6, ⟨%e7, H7⟩, HT0, HT1, HS0, HS1, HS2⟩
  isplitl [HS0 HS1 HS2 HT0 HT1 HR]
  · isplitl [HS0 HS1 HS2]
    · iexists g0; iexists g1; iexists g2
      isplitr; · ipureintro; exact hk'
      isplitl [HS0]; · iexact HS0
      isplitl [HS1]; · iexact HS1
      iexact HS2
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro; exact hout e7

theorem body_ob (c : Dev nD) : BodyObligation (dats T n hb V 0 c) (defs₀ (F := Bits)) Variants.none () Set.univ := fun t => by
  rw [bigSep_W0]
  exact point_ob T n hb V c t

/-! ## The launch -/

theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v11) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem inv_in (c : Dev nD) : iprop(Pipeline.ΦA spec0 c ∗ Pipeline.ΦT pre0 (adm T n hb).1 c) ⊢ (dats T n hb V 0 c).Φ 0 := by
  rw [show (dats T n hb V 0 c).Φ 0 = Phi T n V c 0 from rfl]
  unfold Pipeline.ΦA Pipeline.ΦT
  rw [tables_eq, scopedRest0_eq]
  unfold Phi
  iintro ⟨⟨⟨⟨%f0, HS0⟩, ⟨%f1, HS1⟩, ⟨%f2, HS2⟩⟩, HR⟩, HT0, HT1⟩
  isplitl [HS0 HS1 HS2]
  · iexists f0; iexists f1; iexists f2
    isplitr; · ipureintro; intro k hk; omega
    isplitl [HS0]; · iexact HS0
    isplitl [HS1]; · iexact HS1
    iexact HS2
  isplitl [HT0]; · iexact HT0
  isplitl [HT1]; · iexact HT1
  iexact HR

theorem inv_out (c : Dev nD) : (dats T n hb V 0 c).Φ (Fin.last (cfgA T n hb).N) ⊢ Pipeline.ΦA spec0 c := by
  rw [show (dats T n hb V 0 c).Φ (Fin.last (cfgA T n hb).N) = Phi T n V c (cfgA T n hb).N from rfl]
  unfold Pipeline.ΦA
  rw [scopedRest0_eq]
  unfold Phi
  iintro ⟨⟨%f0, %f1, %f2, -, HS0, HS1, HS2⟩, -, -, HR⟩
  isplitl [HS0 HS1 HS2]
  · isplitl [HS0]; · iexists f0; iexact HS0
    isplitl [HS1]; · iexists f1; iexact HS1
    iexists f2; iexact HS2
  iexact HR

end Grid

section Launch

variable (m : (ℓ : Loc nD τ sig) → Buf (Elt Bits) ℓ) (ρ : Dev nD → PrngReg)

/-- What the region finds in the buffers. -/
abbrev Vm (c : Dev nD) (b : Ref sig .tc) : Buf (Elt Bits) ((c.tc : Thread nD τ).loc b) :=
  StableHlo.after (hostOps0 (F := Bits)) (fun b => m (c, b)) (Proc.devRef .tc b)

/-- The tables of the one device. -/
abbrev bm : S288.Idx → Elt Bits .i32 := m (((0 : Dev nD).tc : Thread nD τ).loc main_arg0)
abbrev nm : S1.Idx → Elt Bits .i32 := m (((0 : Dev nD).tc : Thread nD τ).loc main_arg1)

abbrev datsM (hg : Good (bm m) (nm m)) := dats (tabOf (bm m) (nm m)) (nm m) (Bnd.of_good hg) (Vm m)

set_option backward.isDefEq.respectTransparency.types false in
set_option maxHeartbeats 4000000 in
/-- Every run ends, each array at what the write-backs left and every other buffer as the region found it. -/
theorem run_main (hg : Good (bm m) (nm m)) :
    θ_run (defs (F := Bits)) (onTc (τ := τ) (main (F := Bits))) (s₀ m ρ)
      (fun r => Pipeline.FramePost (Pipeline.pin (pcfgs (F := Bits)) fun _ => adm (tabOf (bm m) (nm m)) (nm m) (Bnd.of_good hg)) (datsM m hg) 0 (Vm m) r ∧ r.2.sem = fun _ => 0) :=
  Pipeline.θ_run_frameP_track_shared (pcfgs (F := Bits)) (fun _ => adm (tabOf (bm m) (nm m)) (nm m) (Bnd.of_good hg)) (datsM m hg) 0 launch₀0 defs₀ Variants.none m ρ main
    (hbody := fun c => (body_ob _ _ _ _ c).loose)
    (hq := fun _ _ _ => rfl) (howed := fun _ _ => rfl) (V := Vm m)
    (hmain := Pipeline.hmainP_prefix (pcfgs (F := Bits)) 0 defs₀ Variants.none m main hostOps0 hostOps0_sub (StableHlo.forall_fresh_of_map rfl) main_chain)
    (hA := fun _ _ => rfl)
    (hpf := fun c k => by
      obtain rfl : c = 0 := Subsingleton.elim _ _
      match k with
      | ⟨0, _⟩ => exact after_tab _
      | ⟨1, _⟩ => exact (after_other _).2.1)
    (hin := inv_in _ _ _ _) (hout := inv_out _ _ _ _) (Q' := _) (hQ' := fun _ h => h)

end Launch

end Cert.Experts.Run

end
-- ==== Proof.ExpertsValue.lean ====
module

public import proofs.«01_k».proof.Defs
public import proofs.«01_k».proof.Proof.ExpertsOb
public import Idealize.ShloMosaic.Lib.ReduceAll
public import Idealize.ShloMosaic.Lib.Pipeline.ValueKit.Geometry

@[expose] public section

/-! What the experts' launch leaves: the arguments as they were, and in the result, for each live block of 2048 rows,
the words its expert makes of the block's slots, and zero in every other block. -/

set_option maxRecDepth 16384
set_option Elab.async false

noncomputable section

namespace Cert.Experts.Run

open Cert.Experts Cert.Experts.Gen
open Idealize.ShloMosaic
open Idealize.ShloMosaic.TcCoe Idealize.ShloMosaic.Tactic
open Idealize.ShloMosaic.ValueIdx
open Idealize.SL.Sem
open Idealize.ShloMosaic.Pipeline (Dat)

/-! ## The precondition -/

theorem small_of_signed (w : BitVec 32) (h0 : 0 ≤ w.toInt) (h1 : w.toInt < 32) : w.toNat < 32 := by
  have hlt := w.isLt
  rw [BitVec.toInt_eq_toNat_cond] at h0 h1
  split at h0 <;> omega

theorem and_ones (a b : BitVec 1) (h : IntOp.andi a b = 1#1) : a = 1#1 ∧ b = 1#1 := by
  revert a b; decide

/-- The tables are good where the precondition evaluates to all ones. -/
theorem good_of_ones [Cert.Pre_block_tables.Facts] (b : S288.Idx → Elt Bits .i32) (n : S1.Idx → Elt Bits .i32)
    (x2 : IVec S589824x128 32) (x3 x4 : FVec Bits S4x32x1024x512 .f32) (x5 : FVec Bits S4x32x512x1024 .f32)
    (h : Cert.Pre_block_tables.fn (F := Bits) b n x2 x3 x4 x5 = fun _ => 1#1) : Good b n := by
  have h0 := congrFun h (fun a => a.elim0)
  obtain ⟨h1, h2⟩ := and_ones _ _ h0
  refine ⟨fun k => ?_, ?_⟩
  · haveI : Subsingleton Cert.Pre_block_tables.S_.Idx := ⟨fun a b => funext fun a => a.elim0⟩
    have e := Host.reduce_andi_all _ _ _ _ _ h1 (ix1 k)
    obtain ⟨e1, e2⟩ := and_ones _ _ e
    exact small_of_signed _ (IntOp.cmpi_sge.1 e1) (IntOp.cmpi_slt.1 e2)
  · have e := IntOp.cmpi_sge.1 h2
    refine le_of_le_of_eq e ?_
    exact congrArg BitVec.toInt (congrArg n (one_idx _ _))

/-! ## The result -/

/-- Every fourth row of block `k`, from row `j` of it. -/
def slab (x : S589824x128.Idx → Elt Bits .i32) (k : Fin 288) (j : Fin 4) : S512x128.Idx → Elt Bits .i32 :=
  fun y => x (ix2 ⟨2048 * k.val + (j.val + 4 * (y 0).val), by have := idx2_lt0 y; omega⟩ (y 1))

/-- Block `k`'s words through the expert `e`. -/
def blockWords (x : S589824x128.Idx → Elt Bits .i32) (g u : S4x32x1024x512.Idx → Elt Bits .f32) (d : S4x32x512x1024.Idx → Elt Bits .f32)
    (e : BitVec 32) (k : Fin 288) : IVec S512x512 32 :=
  k0_pay6 (F := Bits) (slab x k 0) (slab x k 1) (slab x k 2) (slab x k 3) (k0_pay8 (F := Bits) (gateOf g e)) (k0_pay9 (F := Bits) (gateOf u e)) (k0_pay10 (F := Bits) (downOf d e))

/-- The block of a row. -/
def blockOf (y : S589824x128.Idx) : Fin 288 := ⟨(y 0).val / 2048, by have := idx2_lt0 y; omega⟩

/-- Where an entry's word stands in its block's words. -/
def wordAt (y : S589824x128.Idx) : S512x512.Idx :=
  ix2 ⟨(y 0).val % 2048 / 4, by omega⟩ ⟨(y 0).val % 4 * 128 + (y 1).val, by have := idx2_lt1 y; omega⟩

/-- The result. -/
def want (b : S288.Idx → Elt Bits .i32) (n : S1.Idx → Elt Bits .i32) (x : S589824x128.Idx → Elt Bits .i32)
    (g u : S4x32x1024x512.Idx → Elt Bits .f32) (d : S4x32x512x1024.Idx → Elt Bits .f32) : S589824x128.Idx → Elt Bits .i32 := fun y =>
  if live n (blockOf y).val then blockWords x g u d (b (ix1 (blockOf y))) (blockOf y) (wordAt y) else 0#32

theorem rows_low (A B : IVec S512x512 32) (y : S4096x128.Idx) (h : (y 0).val < 2048) :
    rows A B y = A (ix2 ⟨(y 0).val / 4, by omega⟩ ⟨(y 0).val % 4 * 128 + (y 1).val, by have := idx2_lt1 y; omega⟩) := by
  unfold rows; exact dif_pos h
theorem rows_high (A B : IVec S512x512 32) (y : S4096x128.Idx) (h : ¬ (y 0).val < 2048) :
    rows A B y = B (ix2 ⟨((y 0).val - 2048) / 4, by have := idx2_lt0 y; omega⟩ ⟨(y 0).val % 4 * 128 + (y 1).val, by have := idx2_lt1 y; omega⟩) := by
  unfold rows; exact dif_neg h

/-- The output's blocks are the grid's points in order. -/
theorem idx7_val : ∀ t : Fin grid0.N, cc0_transform_7 (grid0.coords t) 0 = t.val := by decide +kernel

/-- Every point writes its block back. -/
theorem flush7 : ∀ t : Fin grid0.N, Pipeline.Window.flushOf grid0 true cc0_transform_7 t = true := by decide +kernel

section Launch

variable (m : (ℓ : Loc nD τ sig) → Buf (Elt Bits) ℓ) (ρ : Dev nD → PrngReg) (hg : Good (bm m) (nm m))

abbrev gridN : ℕ := (cfgA (tabOf (bm m) (nm m)) (nm m) (Bnd.of_good hg)).N

theorem vm_arg (c : Dev nD) : Vm m c main_arg0 = m ((c.tc : Thread nD τ).loc main_arg0) ∧ Vm m c main_arg1 = m ((c.tc : Thread nD τ).loc main_arg1)
    ∧ Vm m c main_arg2 = m ((c.tc : Thread nD τ).loc main_arg2) ∧ Vm m c main_arg3 = m ((c.tc : Thread nD τ).loc main_arg3)
    ∧ Vm m c main_arg4 = m ((c.tc : Thread nD τ).loc main_arg4) ∧ Vm m c main_arg5 = m ((c.tc : Thread nD τ).loc main_arg5) :=
  after_other _

/-- The slots' block at a point whose first block is live. -/
theorem slots_block (c : Dev nD) (t : Fin (gridN m hg)) (hl : live (nm m) (2 * t.val)) (r : ℕ) (hr : r < 4096) (l : Fin 128) :
    iblk (tabOf (bm m) (nm m)) (nm m) (Bnd.of_good hg) (Vm m) c (0 : Fin 8) t (ix2 ⟨r, hr⟩ l)
      = m ((c.tc : Thread nD τ).loc main_arg2) (ix2 ⟨4096 * t.val + r, by have : t.val < 144 := t.isLt; omega⟩ l) := by
  refine Eq.trans ?_ (congrFun (vm_arg m c).2.2.1 _)
  show Vm m c main_arg2 _ = Vm m c main_arg2 _
  congr 1
  have hv := crd_val (tabOf (bm m) (nm m)) (nm m) (Bnd.of_good hg) t
  have e := tr0_live (tabOf (bm m) (nm m)) (nm m) (crd (tabOf (bm m) (nm m)) (nm m) (Bnd.of_good hg) t) hg.2 (by rw [hv]; exact hl)
  rw [hv] at e
  funext a
  refine Fin.ext ?_
  show cc0_transform_0 inb_S1_S1_0 numel1_S1 (pfOf (tabOf (bm m) (nm m)) (nm m)) (crd (tabOf (bm m) (nm m)) (nm m) (Bnd.of_good hg) t) a * S4096x128.size a + 1 * ((ix2 (⟨r, hr⟩ : Fin 4096) l : S4096x128.Idx) a).val = _
  rw [e]
  match a with
  | ⟨0, _⟩ => show t.val * 4096 + 1 * r = 4096 * t.val + r; omega
  | ⟨1, _⟩ => show 0 * 128 + 1 * l.val = l.val; omega

theorem out_eq (c : Dev nD) (t : Fin (gridN m hg)) (y : S4096x128.Idx) :
    outAt (tabOf (bm m) (nm m)) (nm m) (Bnd.of_good hg) (Vm m) c t y
      = want (bm m) (nm m) (m ((c.tc : Thread nD τ).loc main_arg2)) (m ((c.tc : Thread nD τ).loc main_arg3)) (m ((c.tc : Thread nD τ).loc main_arg4)) (m ((c.tc : Thread nD τ).loc main_arg5))
          (ix2 ⟨4096 * t.val + (y 0).val, by have : t.val < 144 := t.isLt; have := idx2_lt0 y; omega⟩ (y 1)) := by
  have ht : t.val < 144 := t.isLt
  have hy := idx2_lt0 y
  have hv := crd_val (tabOf (bm m) (nm m)) (nm m) (Bnd.of_good hg) t
  obtain ⟨-, -, -, v3, v4, v5⟩ := vm_arg m c
  unfold outAt
  by_cases h : (y 0).val < 2048
  · rw [rows_low _ _ _ h]
    unfold wordsA want
    have hk : (blockOf (ix2 (⟨4096 * t.val + (y 0).val, by omega⟩ : Fin 589824) (y 1)) : Fin 288) = ⟨2 * t.val, by omega⟩ :=
      Fin.ext (by show (4096 * t.val + (y 0).val) / 2048 = 2 * t.val; omega)
    have hw : wordAt (ix2 (⟨4096 * t.val + (y 0).val, by omega⟩ : Fin 589824) (y 1)) = ix2 ⟨(y 0).val / 4, by omega⟩ ⟨(y 0).val % 4 * 128 + (y 1).val, by have := idx2_lt1 y; omega⟩ :=
      congrArg₂ ix2 (Fin.ext (by show (4096 * t.val + (y 0).val) % 2048 / 4 = (y 0).val / 4; omega)) (Fin.ext (by show (4096 * t.val + (y 0).val) % 4 * 128 + (y 1).val = (y 0).val % 4 * 128 + (y 1).val; omega))
    rw [hk, hw, hv]
    by_cases hl : live (nm m) (2 * t.val)
    · rw [if_pos hl, if_pos hl]
      have ek : (k0 (crd (tabOf (bm m) (nm m)) (nm m) (Bnd.of_good hg) t)) = (⟨2 * t.val, by omega⟩ : Fin 288) := Fin.ext (by show 2 * _ = _; rw [hv])
      have ee : exAt (tabOf (bm m) (nm m)) (⟨2 * t.val, by omega⟩ : Fin 288) = bm m (ix1 ⟨2 * t.val, by omega⟩) := tab_live _ _ hg.2 _ hl
      rw [ek, ee]
      unfold mlp0 blockWords gW uW dW
      rw [v3, v4, v5]
      have hs : ∀ (j : Fin 4) (r : S512x128.Idx → Fin 4096), (∀ z, (r z).val = j.val + 4 * (z 0).val) →
          (fun z : S512x128.Idx => iblk (tabOf (bm m) (nm m)) (nm m) (Bnd.of_good hg) (Vm m) c (0 : Fin 8) t (ix2 (r z) (z 1)))
            = slab (m ((c.tc : Thread nD τ).loc main_arg2)) ⟨2 * t.val, by omega⟩ j := fun j r hr => by
        funext z
        refine (slots_block m hg c t hl (r z).val (r z).isLt (z 1)).trans ?_
        unfold slab
        refine congrArg _ (congrArg₂ ix2 (Fin.ext ?_) rfl)
        show 4096 * t.val + (r z).val = 2048 * (2 * t.val) + (j.val + 4 * (z 0).val)
        rw [hr z]; omega
      have s0 := hs 0 (fun z => ⟨4 * (z 0).val, by have := idx2_lt0 z; omega⟩) (fun z => by show 4 * _ = 0 + 4 * _; omega)
      have s1 := hs 1 (fun z => ⟨1 + 4 * (z 0).val, by have := idx2_lt0 z; omega⟩) (fun z => rfl)
      have s2 := hs 2 (fun z => ⟨2 + 4 * (z 0).val, by have := idx2_lt0 z; omega⟩) (fun z => rfl)
      have s3 := hs 3 (fun z => ⟨3 + 4 * (z 0).val, by have := idx2_lt0 z; omega⟩) (fun z => rfl)
      exact congrFun (congrFun (congrFun (congrFun (congr (congr (congr (congrArg (k0_pay6 (F := Bits)) s0) s1) s2) s3) _) _) _) _
    · rw [if_neg hl, if_neg hl]; rfl
  · rw [rows_high _ _ _ h]
    unfold wordsB want
    have hk : (blockOf (ix2 (⟨4096 * t.val + (y 0).val, by omega⟩ : Fin 589824) (y 1)) : Fin 288) = ⟨2 * t.val + 1, by omega⟩ :=
      Fin.ext (by show (4096 * t.val + (y 0).val) / 2048 = 2 * t.val + 1; omega)
    have hw : wordAt (ix2 (⟨4096 * t.val + (y 0).val, by omega⟩ : Fin 589824) (y 1)) = ix2 ⟨((y 0).val - 2048) / 4, by omega⟩ ⟨(y 0).val % 4 * 128 + (y 1).val, by have := idx2_lt1 y; omega⟩ :=
      congrArg₂ ix2 (Fin.ext (by show (4096 * t.val + (y 0).val) % 2048 / 4 = ((y 0).val - 2048) / 4; omega)) (Fin.ext (by show (4096 * t.val + (y 0).val) % 4 * 128 + (y 1).val = (y 0).val % 4 * 128 + (y 1).val; omega))
    rw [hk, hw, hv]
    by_cases hl : live (nm m) (2 * t.val + 1)
    · rw [if_pos hl, if_pos hl]
      have hl0 : live (nm m) (2 * t.val) := live_mono (nm m) (by omega) (by omega) hl
      have ek : (k1 (crd (tabOf (bm m) (nm m)) (nm m) (Bnd.of_good hg) t)) = (⟨2 * t.val + 1, by omega⟩ : Fin 288) := Fin.ext (by show 2 * _ + 1 = _; rw [hv])
      have ee : exAt (tabOf (bm m) (nm m)) (⟨2 * t.val + 1, by omega⟩ : Fin 288) = bm m (ix1 ⟨2 * t.val + 1, by omega⟩) := tab_live _ _ hg.2 _ hl
      rw [ek, ee]
      unfold mlp1 blockWords gW uW dW
      rw [v3, v4, v5]
      have hs : ∀ (j : Fin 4) (r : S512x128.Idx → Fin 4096), (∀ z, (r z).val = 2048 + j.val + 4 * (z 0).val) →
          (fun z : S512x128.Idx => iblk (tabOf (bm m) (nm m)) (nm m) (Bnd.of_good hg) (Vm m) c (0 : Fin 8) t (ix2 (r z) (z 1)))
            = slab (m ((c.tc : Thread nD τ).loc main_arg2)) ⟨2 * t.val + 1, by omega⟩ j := fun j r hr => by
        funext z
        refine (slots_block m hg c t hl0 (r z).val (r z).isLt (z 1)).trans ?_
        unfold slab
        refine congrArg _ (congrArg₂ ix2 (Fin.ext ?_) rfl)
        show 4096 * t.val + (r z).val = 2048 * (2 * t.val + 1) + (j.val + 4 * (z 0).val)
        rw [hr z]; omega
      have s0 := hs 0 (fun z => ⟨2048 + 4 * (z 0).val, by have := idx2_lt0 z; omega⟩) (fun z => rfl)
      have s1 := hs 1 (fun z => ⟨2049 + 4 * (z 0).val, by have := idx2_lt0 z; omega⟩) (fun z => rfl)
      have s2 := hs 2 (fun z => ⟨2050 + 4 * (z 0).val, by have := idx2_lt0 z; omega⟩) (fun z => rfl)
      have s3 := hs 3 (fun z => ⟨2051 + 4 * (z 0).val, by have := idx2_lt0 z; omega⟩) (fun z => rfl)
      exact congrFun (congrFun (congrFun (congrFun (congr (congr (congr (congrArg (k0_pay6 (F := Bits)) s0) s1) s2) s3) _) _) _) _
    · rw [if_neg hl, if_neg hl]; rfl

/-- Where the output's block stands in the result. -/
theorem emb7 (t : Fin (gridN m hg)) (y : S4096x128.Idx) :
    ((((cfgA (tabOf (bm m) (nm m)) (nm m) (Bnd.of_good hg)).win (7 : Fin 8)).blk t).view.emb y : S589824x128.Idx)
      = ix2 ⟨4096 * t.val + (y 0).val, by have : t.val < 144 := t.isLt; have := idx2_lt0 y; omega⟩ (y 1) := by
  have hv := crd_val (tabOf (bm m) (nm m)) (nm m) (Bnd.of_good hg) t
  have h0 := idx2_lt0 y
  have ht : t.val < 144 := t.isLt
  funext a
  refine Fin.ext ?_
  match a with
  | ⟨0, _⟩ =>
    show cc0_transform_7 (crd (tabOf (bm m) (nm m)) (nm m) (Bnd.of_good hg) t) 0 * 4096 + 1 * (y 0).val = 4096 * t.val + (y 0).val
    have e : cc0_transform_7 (crd (tabOf (bm m) (nm m)) (nm m) (Bnd.of_good hg) t) 0 = t.val := idx7_val t
    rw [e]; omega
  | ⟨1, _⟩ => show 0 * 128 + 1 * (y 1).val = (y 1).val; omega

/-- The result after the run. -/
theorem result_eq (c : Dev nD) : (datsM m hg 0 c).arrAt (7 : Fin 8) (gridN m hg)
    = want (bm m) (nm m) (m ((c.tc : Thread nD τ).loc main_arg2)) (m ((c.tc : Thread nD τ).loc main_arg3)) (m ((c.tc : Thread nD τ).loc main_arg4)) (m ((c.tc : Thread nD τ).loc main_arg5)) := by
  refine (datsM m hg 0 c).arrAt_eq_of_emb (7 : Fin 8) _ (fun t _ y => ?_) (fun i => ?_)
  · refine Eq.trans ?_ (congrArg _ (emb7 m hg t y).symm)
    exact out_eq m hg c t y
  · have hi := idx2_lt0 (show S589824x128.Idx from i)
    have hi1 := idx2_lt1 (show S589824x128.Idx from i)
    refine ⟨⟨((show S589824x128.Idx from i) 0).val / 4096, by show _ < 144; omega⟩, ?_, ?_⟩
    · exact (Pipeline.Window.flush_eq_flushOf _ _).trans (flush7 _)
    · have e := View.emb_mem_set ((((cfgA (tabOf (bm m) (nm m)) (nm m) (Bnd.of_good hg)).win (7 : Fin 8)).blk
          ⟨((show S589824x128.Idx from i) 0).val / 4096, by show _ < 144; omega⟩).view)
          (show S4096x128.Idx from ix2 ⟨((show S589824x128.Idx from i) 0).val % 4096, by omega⟩ ((show S589824x128.Idx from i) 1))
      refine (congrArg (fun z => z ∈ _) ?_).mp e
      refine (emb7 m hg _ _).trans ?_
      refine (congrArg₂ (ix2 (n0 := 589824) (n1 := 128)) (Fin.ext ?_) rfl).trans (eq_ix2 (show S589824x128.Idx from i)).symm
      show 4096 * (((show S589824x128.Idx from i) 0).val / 4096) + ((show S589824x128.Idx from i) 0).val % 4096 = ((show S589824x128.Idx from i) 0).val
      omega

include hg in
/-- The launch's run: the result, the arguments unchanged, every counter at zero. -/
theorem run_value : θ_run (defs (F := Bits)) (onTc (τ := τ) (main (F := Bits))) (s₀ m ρ) (fun r => (∀ c : Dev nD,
      r.2.mem ((c.tc : Thread nD τ).loc main_v12) = want (bm m) (nm m) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine (θ_run (defs (F := Bits)) _ _).mono (fun r h => ⟨fun c => ?_, h.2⟩) (run_main m ρ hg)
  obtain ⟨hw, hr⟩ := h.1 c
  obtain ⟨v0, v1, v2, v3, v4, v5⟩ := vm_arg m c
  refine ⟨(hw (7 : Fin 8)).trans (result_eq m hg c), (hr main_arg0 (Pipeline.mem_restRefs_of _ (by decide) (show ∀ w : Fin 8, (spec0 w).arr.view.ref ≠ main_arg0 from by decide))).trans v0,
    (hr main_arg1 (Pipeline.mem_restRefs_of _ (by decide) (show ∀ w : Fin 8, (spec0 w).arr.view.ref ≠ main_arg1 from by decide))).trans v1, ?_, ?_, ?_, ?_⟩
  · exact (hw (0 : Fin 8)).trans (((datsM m hg 0 c).arrAt_in (0 : Fin 8) rfl _).trans v2)
  · exact (hw (1 : Fin 8)).trans (((datsM m hg 0 c).arrAt_in (1 : Fin 8) rfl _).trans v3)
  · exact (hw (2 : Fin 8)).trans (((datsM m hg 0 c).arrAt_in (2 : Fin 8) rfl _).trans v4)
  · exact (hw (3 : Fin 8)).trans (((datsM m hg 0 c).arrAt_in (3 : Fin 8) rfl _).trans v5)

end Launch

end Cert.Experts.Run

end
-- ==== Proof.ExpertsSame.lean ====
module

public import proofs.«01_k».proof.Proof.ExpertsValue
public import proofs.«01_k».proof.Proof.Gen.ExpertsRef.Skeleton
public import proofs.«01_k».proof.Proof.Gen.ExpertsRef
public import Idealize.ShloMosaic.Lib.Pipeline.Value

@[expose] public section

/-! The two programs' arithmetic on one block is the same, word for word: only how the block's rows come to stand side by
side differs, and how the matrices are reshaped. -/

set_option maxRecDepth 16384
set_option Elab.async false

noncomputable section

namespace Cert.Experts.Run

open Cert.Experts Cert.Experts.Gen
open Idealize.ShloMosaic
open Idealize.ShloMosaic.TcCoe Idealize.ShloMosaic.Tactic
open Idealize.ShloMosaic.ValueIdx

/-- The gated product of one block's words `w`, side by side, through rounded matrices. -/
def gated (w : IVec S512x512 32) (g u : FVec Bits S1024x512 .bf16) (d : FVec Bits S512x1024 .bf16) : IVec S512x512 32 :=
  let x : FVec Bits S512x1024 .bf16 := truncf .bf16 (concatenate S512x1024 1 [⟨S512x512, (unpackElementwise 0 w : FVec Bits S512x512 .f32)⟩, ⟨S512x512, (unpackElementwise 1 w : FVec Bits S512x512 .f32)⟩] concatenates_S512x512_S512x512_S512x1024_d1) bitsLt_bf16_f32
  let a : FVec Bits S512x512 .f32 := matmul dot_S512x1024_S1024x512_S512x512_1_0_0_1_n_n none x g (constant S512x512 .f32 0x00000000#32)
  let b : FVec Bits S512x512 .f32 := matmul dot_S512x1024_S1024x512_S512x512_1_0_0_1_n_n none x u (constant S512x512 .f32 0x00000000#32)
  let one : FVec Bits S512x512 .f32 := broadcast S512x512 (Scalar.ofBits .f32 0x3F800000#32)
  let z : FVec Bits S512x512 .f32 := broadcast S512x512 (Scalar.ofBits .f32 0x00000000#32)
  let h : FVec Bits S512x512 .bf16 := truncf .bf16 (mulf (mulf a (divf one (addf one (exp (subf z a))))) b) bitsLt_bf16_f32
  let y : FVec Bits S512x1024 .f32 := matmul dot_S512x512_S512x1024_S512x1024_1_0_0_1_n_n none h d (constant S512x1024 .f32 0x00000000#32)
  packElementwise (extractStridedSlice S512x512 ![0, 0] y slices_S512x1024_o0_0_S512x512) (extractStridedSlice S512x512 ![0, 512] y slices_S512x1024_o0_512_S512x512)

theorem pay6_gated (a b c e : Vec Bits S512x128 .i32) (g u : FVec Bits S1024x512 .bf16) (d : FVec Bits S512x1024 .bf16) :
    k0_pay6 (F := Bits) a b c e g u d = gated (concatenate S512x512 1 [⟨S512x128, a⟩, ⟨S512x128, b⟩, ⟨S512x128, c⟩, ⟨S512x128, e⟩] concatenates_S512x128_S512x128_S512x128_S512x128_S512x512_d1) g u d := rfl

theorem pay2_gated (x : Vec Bits Cert.ExpertsRef.S2048x128 .i32) (g u : Vec Bits S1x1x1024x512 .f32) (d : Vec Bits S1x1x512x1024 .f32) :
    Cert.ExpertsRef.Gen.k0_pay2 (F := Bits) x g u d = gated (shapeCast S512x512 x Cert.ExpertsRef.Facts₀.shapeCasts_S2048x128_S512x512)
      (truncf .bf16 (shapeCast S1024x512 g shapeCasts_S1x1x1024x512_S1024x512) bitsLt_bf16_f32)
      (truncf .bf16 (shapeCast S1024x512 u shapeCasts_S1x1x1024x512_S1024x512) bitsLt_bf16_f32)
      (truncf .bf16 (shapeCast S512x1024 d shapeCasts_S1x1x512x1024_S512x1024) bitsLt_bf16_f32) := rfl

/-- Block `k`'s rows. -/
def rowsOf (x : S589824x128.Idx → Elt Bits .i32) (k : Fin 288) : Cert.ExpertsRef.S2048x128.Idx → Elt Bits .i32 :=
  fun z => x (ix2 ⟨2048 * k.val + (z 0).val, by have := idx2_lt0 z; omega⟩ (z 1))

/-- Four slabs of every fourth row, side by side, are the block's rows four by four. -/
theorem slabs_eq (x : S589824x128.Idx → Elt Bits .i32) (k : Fin 288) :
    concatenate S512x512 1 [⟨S512x128, slab x k 0⟩, ⟨S512x128, slab x k 1⟩, ⟨S512x128, slab x k 2⟩, ⟨S512x128, slab x k 3⟩] concatenates_S512x128_S512x128_S512x128_S512x128_S512x512_d1
      = shapeCast S512x512 (rowsOf x k) Cert.ExpertsRef.Facts₀.shapeCasts_S2048x128_S512x512 := by
  funext j
  have h0 := idx2_lt0 j
  have h1 := idx2_lt1 j
  have hl : slab x k ⟨(j 1).val / 128, by omega⟩ (ix2 (j 0) ⟨(j 1).val % 128, by omega⟩)
      = rowsOf x k (ix2 ⟨4 * (j 0).val + (j 1).val / 128, by omega⟩ ⟨(j 1).val % 128, by omega⟩) := by
    unfold slab rowsOf
    refine congrArg x (congrArg₂ ix2 (Fin.ext ?_) rfl)
    show 2048 * k.val + ((j 1).val / 128 + 4 * (j 0).val) = 2048 * k.val + (4 * (j 0).val + (j 1).val / 128)
    omega
  refine (concatenate_ofFn_apply (t := S512x512) (s₁ := S512x128) (1 : Fin 2) (slab x k) concatenates_S512x128_S512x128_S512x128_S512x128_S512x512_d1 rfl 128 rfl j
    ⟨(j 1).val / 128, by omega⟩ rfl (ix2 (j 0) ⟨(j 1).val % 128, by omega⟩) rfl (fun b hb => ?_)).trans (hl.trans ?_)
  · match b with
    | ⟨0, _⟩ => rfl
    | ⟨1, _⟩ => exact absurd rfl hb
  · refine (shapeCast_apply _ _ _ _ ?_).symm
    rw [Shape.rowMajor_val_two, Shape.rowMajor_val_two]
    show (4 * (j 0).val + (j 1).val / 128) * 128 + (j 1).val % 128 = (j 0).val * 512 + (j 1).val
    omega

theorem words_same (x : S589824x128.Idx → Elt Bits .i32) (g u : S4x32x1024x512.Idx → Elt Bits .f32) (d : S4x32x512x1024.Idx → Elt Bits .f32)
    (e : BitVec 32) (k : Fin 288) :
    Cert.ExpertsRef.Gen.k0_pay2 (F := Bits) (rowsOf x k) (gateOf g e) (gateOf u e) (downOf d e) = blockWords x g u d e k := by
  unfold blockWords
  rw [pay6_gated, slabs_eq, pay2_gated]
  exact congr (congr (congrArg (gated _) (shapeCast_self _ _).symm) (shapeCast_self _ _).symm) (shapeCast_self _ _).symm

theorem block_same (x : S589824x128.Idx → Elt Bits .i32) (g u : S4x32x1024x512.Idx → Elt Bits .f32) (d : S4x32x512x1024.Idx → Elt Bits .f32)
    (e : BitVec 32) (k : Fin 288) (b : BitVec 1) (z : Cert.ExpertsRef.S2048x128.Idx) :
    Cert.ExpertsRef.Gen.k0_pay1 (Cert.ExpertsRef.Gen.k0_pay2 (F := Bits) (rowsOf x k) (gateOf g e) (gateOf u e) (downOf d e)) b z
      = if b = 1#1 then blockWords x g u d e k (ix2 ⟨(z 0).val / 4, by have := idx2_lt0 z; omega⟩ ⟨(z 0).val % 4 * 128 + (z 1).val, by have := idx2_lt1 z; omega⟩) else 0#32 := by
  have h0 := idx2_lt0 z
  have h1 := idx2_lt1 z
  rw [words_same]
  unfold Cert.ExpertsRef.Gen.k0_pay1
  refine (shapeCast_apply _ _ _ (ix2 ⟨(z 0).val / 4, by omega⟩ ⟨(z 0).val % 4 * 128 + (z 1).val, by omega⟩) ?_).trans ?_
  · rw [Shape.rowMajor_val_two, Shape.rowMajor_val_two]
    show (z 0).val / 4 * 512 + ((z 0).val % 4 * 128 + (z 1).val) = (z 0).val * 128 + (z 1).val
    omega
  · unfold Scalar.select
    by_cases hb : b = 1#1
    · subst hb; rfl
    · rw [if_neg hb]
      exact congrFun (if_neg (c := b = 1) hb) _

end Cert.Experts.Run

end
-- ==== Proof.ExpertsRefValue.lean ====
module

public import proofs.«01_k».proof.Proof.ExpertsRefPieces
public import proofs.«01_k».proof.Proof.ExpertsSame
public import Idealize.ShloMosaic.Lib.WholeRead
public import Idealize.ShloMosaic.Lib.WordArith.Masks

@[expose] public section

/-! What the reference's run leaves, entry by entry. -/

set_option maxRecDepth 16384
set_option Elab.async false

noncomputable section

namespace Cert.ExpertsRef.Hand

open Cert.ExpertsRef Cert.ExpertsRef.Gen
open Cert.Experts.Run (Good live wordN live_iff gateOf downOf rowsOf block_same blockOf wordAt want one_idx)
open Idealize.ShloMosaic Idealize.ShloMosaic.ValueIdx
open Idealize.ShloMosaic.TcCoe Idealize.ShloMosaic.Tactic
open Idealize.SL.Sem

theorem trip_lt (k : Fin k0_t1_loop.trips) : k.val < 288 := Nat.lt_of_lt_of_le k.isLt k0_t1_abs.2.1

theorem iv_word (k : Fin k0_t1_loop.trips) : (Scf.iv 0#32 1#32 k.val).toNat = k.val :=
  WordArith.toNat_iv_zero_one k.val (by have := trip_lt k; omega)

theorem iv_eq (k : Fin k0_t1_loop.trips) : Scf.iv 0#32 1#32 k.val = BitVec.ofNat 32 k.val := by
  have := trip_lt k
  refine BitVec.eq_of_toNat_eq ?_
  rw [iv_word, BitVec.toNat_ofNat, Nat.mod_eq_of_lt (by omega)]

theorem row_word (k : Fin k0_t1_loop.trips) : (Scalar.muli (Scf.iv 0#32 1#32 k.val) 2048#32).toNat = 2048 * k.val := by
  have := trip_lt k
  show (Scf.iv 0#32 1#32 k.val * 2048#32).toNat = 2048 * k.val
  rw [BitVec.toNat_mul, iv_word, BitVec.toNat_ofNat]
  omega

/-- An expert's number in range meets the loads' side condition. -/
theorem chk_of_lt (v : BitVec 32) (h : v.toNat < 32) : k0_chk1 v := by
  refine ⟨fun a => ?_, fun a => ?_⟩
  · match a with
    | ⟨0, _⟩ => show 0 + 1 ≤ 4; omega
    | ⟨1, _⟩ => show v.toNat + 1 ≤ 32; omega
    | ⟨2, _⟩ => show 0 + 1024 ≤ 1024; omega
    | ⟨3, _⟩ => show 0 + 512 ≤ 512; omega
  · match a with
    | ⟨0, _⟩ => show 0 + 1 ≤ 4; omega
    | ⟨1, _⟩ => show v.toNat + 1 ≤ 32; omega
    | ⟨2, _⟩ => show 0 + 512 ≤ 512; omega
    | ⟨3, _⟩ => show 0 + 1024 ≤ 1024; omega

/-- The number trip `k` loads is the table's. -/
theorem tripE_eq (arg0 : Memref sig .tc .smem S288 .i32) (harg0 : arg0.IsWhole) (x0 : Vec Bits S288 .i32) (k : Fin k0_t1_loop.trips) :
    tripE arg0 (harg0.unread x0) k = x0 (ix1 ⟨k.val, trip_lt k⟩) := by
  unfold tripE
  refine (harg0.readAt_unread x0 _ _).trans (congrArg x0 (funext fun a => ?_))
  match a with
  | ⟨0, _⟩ =>
    refine Fin.ext ?_
    show (Scf.iv 0#32 1#32 k.val).toNat + 1 * 0 = k.val
    rw [iv_word]; omega

theorem tripN_eq (arg1 : Memref sig .tc .smem S1 .i32) (harg1 : arg1.IsWhole) (x1 : Vec Bits S1 .i32) :
    tripN arg1 (harg1.unread x1) = wordN x1 := by
  unfold tripN wordN
  refine (harg1.readAt_unread x1 _ _).trans ?_
  exact congrArg x1 (one_idx _ _)

/-- A trip runs the experts' products on a live block. -/
theorem lives (x1 : Vec Bits S1 .i32) (k : Fin k0_t1_loop.trips) :
    Scalar.cmpi .slt (Scf.iv 0#32 1#32 k.val) (wordN x1) = 1#1 ↔ live x1 k.val := by
  have := trip_lt k
  rw [iv_eq]
  unfold live
  exact (by
    show IntOp.cmpi .slt (BitVec.ofNat 32 k.val) (wordN x1) = 1#1 ↔ _
    rw [IntOp.cmpi_slt, BitVec.slt_iff_toInt_lt])

theorem rows_read (arg2 : Memref sig .tc .vmem S589824x128 .i32) (harg2 : arg2.IsWhole) (x2 : Vec Bits S589824x128 .i32) (k : Fin k0_t1_loop.trips) :
    arg2.view.readAt (Elt Bits) (Rect.unit (s := S589824x128) (k0_off2 k) S2048x128.size (k0_off2_inb k)).toLoadRect (harg2.unread x2)
      = rowsOf x2 ⟨k.val, trip_lt k⟩ := by
  funext z
  refine (harg2.readAt_unread x2 _ z).trans ?_
  unfold rowsOf
  refine congrArg x2 (funext fun a => Fin.ext ?_)
  match a with
  | ⟨0, _⟩ =>
    show (Scalar.muli (Scf.iv 0#32 1#32 k.val) 2048#32).toNat + 1 * (z 0).val = 2048 * k.val + (z 0).val
    rw [row_word]; omega
  | ⟨1, _⟩ => show 0 + 1 * (z 1).val = (z 1).val; omega

theorem gate_read (arg3 : Memref sig .tc .vmem S4x32x1024x512 .f32) (harg3 : arg3.IsWhole) (x3 : Vec Bits S4x32x1024x512 .f32)
    (v : BitVec 32) (hv : v.toNat < 32) (h : k0_chk1 v) :
    arg3.view.readAt (Elt Bits) (Rect.unit (s := S4x32x1024x512) (k0_off3 v) S1x1x1024x512.size (k0_off3_inb v h)).toLoadRect (harg3.unread x3)
      = gateOf x3 v := by
  funext z
  refine (harg3.readAt_unread x3 _ z).trans ?_
  unfold gateOf
  refine congrArg x3 (funext fun a => Fin.ext ?_)
  match a with
  | ⟨0, _⟩ => have : (z 0).val < 1 := (z 0).isLt; show 0 + 1 * (z 0).val = 0; omega
  | ⟨1, _⟩ => have : (z 1).val < 1 := (z 1).isLt; show v.toNat + 1 * (z 1).val = v.toNat % 32; omega
  | ⟨2, _⟩ => show 0 + 1 * (z 2).val = (z 2).val; omega
  | ⟨3, _⟩ => show 0 + 1 * (z 3).val = (z 3).val; omega

theorem down_read (arg5 : Memref sig .tc .vmem S4x32x512x1024 .f32) (harg5 : arg5.IsWhole) (x5 : Vec Bits S4x32x512x1024 .f32)
    (v : BitVec 32) (hv : v.toNat < 32) (h : k0_chk1 v) :
    arg5.view.readAt (Elt Bits) (Rect.unit (s := S4x32x512x1024) (k0_off4 v) S1x1x512x1024.size (k0_off4_inb v h)).toLoadRect (harg5.unread x5)
      = downOf x5 v := by
  funext z
  refine (harg5.readAt_unread x5 _ z).trans ?_
  unfold downOf
  refine congrArg x5 (funext fun a => Fin.ext ?_)
  match a with
  | ⟨0, _⟩ => have : (z 0).val < 1 := (z 0).isLt; show 0 + 1 * (z 0).val = 0; omega
  | ⟨1, _⟩ => have : (z 1).val < 1 := (z 1).isLt; show v.toNat + 1 * (z 1).val = v.toNat % 32; omega
  | ⟨2, _⟩ => show 0 + 1 * (z 2).val = (z 2).val; omega
  | ⟨3, _⟩ => show 0 + 1 * (z 3).val = (z 3).val; omega

/-- The wanted word where the row's block and place are known. -/
theorem want_at (b : S288.Idx → Elt Bits .i32) (n : S1.Idx → Elt Bits .i32) (x : S589824x128.Idx → Elt Bits .i32)
    (g u : S4x32x1024x512.Idx → Elt Bits .f32) (d : S4x32x512x1024.Idx → Elt Bits .f32) (y : S589824x128.Idx) (k : Fin 288) (p)
    (hk : blockOf y = k) (hp : wordAt y = p) :
    want b n x g u d y = if live n k.val then Experts.Run.blockWords x g u d (b (ix1 k)) k p else 0#32 := by
  subst hk hp; rfl

section Run

variable (c : Dev nD) (arg0 : Memref sig .tc .smem S288 .i32) (harg0 : arg0.IsWhole) (arg1 : Memref sig .tc .smem S1 .i32) (harg1 : arg1.IsWhole)
  (arg2 : Memref sig .tc .vmem S589824x128 .i32) (harg2 : arg2.IsWhole) (arg3 : Memref sig .tc .vmem S4x32x1024x512 .f32) (harg3 : arg3.IsWhole)
  (arg4 : Memref sig .tc .vmem S4x32x1024x512 .f32) (harg4 : arg4.IsWhole) (arg5 : Memref sig .tc .vmem S4x32x512x1024 .f32) (harg5 : arg5.IsWhole)
  (arg6 : Memref sig .tc .vmem S589824x128 .i32) (harg6 : arg6.IsWhole)
  (x0 : Vec Bits S288 .i32) (x1 : Vec Bits S1 .i32) (x2 : Vec Bits S589824x128 .i32) (x3 : Vec Bits S4x32x1024x512 .f32)
  (x4 : Vec Bits S4x32x1024x512 .f32) (x5 : Vec Bits S4x32x512x1024 .f32)

/-- A trip's rows are the wanted ones. -/
theorem trip_want (hg : Good x0 x1) (k : Fin k0_t1_loop.trips) (h : k0_chk1 (tripE arg0 (harg0.unread x0) k)) (z : S2048x128.Idx) :
    tripV arg0 arg1 arg2 arg3 arg4 arg5 (harg0.unread x0) (harg1.unread x1) (harg2.unread x2) (harg3.unread x3) (harg4.unread x4) (harg5.unread x5) k h z
      = want x0 x1 x2 x3 x4 x5 ((Rect.unit (s := S589824x128) (k0_off5 k) S2048x128.size (k0_off5_inb k)).emb z) := by
  have hk := trip_lt k
  have hz0 := idx2_lt0 z
  have he := tripE_eq arg0 harg0 x0 k
  have hlt : (tripE arg0 (harg0.unread x0) k).toNat < 32 := by rw [he]; exact hg.1 _
  have hemb : ((Rect.unit (s := S589824x128) (k0_off5 k) S2048x128.size (k0_off5_inb k)).emb z : S589824x128.Idx)
      = ix2 ⟨2048 * k.val + (z 0).val, by omega⟩ (z 1) := by
    funext a
    refine Fin.ext ?_
    match a with
    | ⟨0, _⟩ =>
      show (Scalar.muli (Scf.iv 0#32 1#32 k.val) 2048#32).toNat + 1 * (z 0).val = 2048 * k.val + (z 0).val
      rw [row_word]; omega
    | ⟨1, _⟩ => show 0 + 1 * (z 1).val = (z 1).val; omega
  refine Eq.trans ?_ (congrArg (want x0 x1 x2 x3 x4 x5) hemb.symm)
  unfold tripV
  have r2 := rows_read arg2 harg2 x2 k
  have r3 := gate_read arg3 harg3 x3 _ hlt h
  have r4 := gate_read arg4 harg4 x4 _ hlt h
  have r5 := down_read arg5 harg5 x5 _ hlt h
  have r6 := congrArg (Scalar.cmpi .slt (Scf.iv 0#32 1#32 k)) (tripN_eq arg1 harg1 x1)
  refine (congrFun (congr (congrArg k0_pay1 (congr (congr (congr (congrArg (k0_pay2 (F := Bits)) r2) r3) r4) r5)) r6) z).trans ?_
  refine (block_same x2 x3 x4 x5 _ ⟨k.val, hk⟩ _ z).trans ?_
  rw [he]
  refine Eq.trans ?_ (want_at x0 x1 x2 x3 x4 x5 _ ⟨k.val, hk⟩ (ix2 ⟨(z 0).val / 4, by omega⟩ ⟨(z 0).val % 4 * 128 + (z 1).val, by have := idx2_lt1 z; omega⟩)
    (Fin.ext (by show (2048 * k.val + (z 0).val) / 2048 = k.val; omega))
    (congrArg₂ ix2 (Fin.ext (by show (2048 * k.val + (z 0).val) % 2048 / 4 = (z 0).val / 4; omega)) (Fin.ext (by show (2048 * k.val + (z 0).val) % 4 * 128 + (z 1).val = (z 0).val % 4 * 128 + (z 1).val; omega)))).symm
  have hl := lives x1 k
  exact if_congr hl rfl rfl

theorem out_want (hg : Good x0 x1) (hw) :
    out0_A_6 (F := Bits) c arg0 harg0 arg1 harg1 arg2 harg2 arg3 harg3 arg4 harg4 arg5 harg5 arg6 harg6 x0 x1 x2 x3 x4 x5 hw
      = want x0 x1 x2 x3 x4 x5 := by
  funext y
  unfold out0_A_6
  refine View.read_writes_apply_of_pieces _ _ (want x0 x1 x2 x3 x4 x5) _ (fun p hp x => ?_) y
    (cover0_A_6 c arg0 harg0 arg1 harg1 arg2 harg2 arg3 harg3 arg4 harg4 arg5 harg5 arg6 harg6 x0 x1 x2 x3 x4 x5 hw y)
  have hp' := (congrArg (fun l => p ∈ l) (run_pieces c arg0 harg0 arg1 harg1 arg2 harg2 arg3 harg3 arg4 harg4 arg5 harg5 arg6 harg6 x0 x1 x2 x3 x4 x5 hw)).mp hp
  obtain ⟨k, rfl⟩ := pieces_mem c arg0 harg0 arg1 harg1 arg2 harg2 arg3 harg3 arg4 harg4 arg5 harg5 arg6 harg6 _ _ _ _ _ _ hw _ (Nat.le_refl _) p hp'
  exact trip_want arg0 harg0 arg1 harg1 arg2 harg2 arg3 harg3 arg4 harg4 arg5 harg5 x0 x1 x2 x3 x4 x5 hg k (hw k.val k.isLt) x

end Run

section Launch

variable (m : (ℓ : Loc nD τ sig) → Buf (Elt Bits) ℓ) (ρ : Dev nD → PrngReg)

/-- With no grid the block is the whole array. -/
theorem blk_all (c : Dev nD) (t : Fin cfg0.N) :
    iblk m c 0 t = m ((c.tc : Thread nD τ).loc main_arg0) ∧ iblk m c 1 t = m ((c.tc : Thread nD τ).loc main_arg1)
    ∧ iblk m c 2 t = m ((c.tc : Thread nD τ).loc main_arg2) ∧ iblk m c 3 t = m ((c.tc : Thread nD τ).loc main_arg3)
    ∧ iblk m c 4 t = m ((c.tc : Thread nD τ).loc main_arg4) ∧ iblk m c 5 t = m ((c.tc : Thread nD τ).loc main_arg5) := by
  refine ⟨?_, ?_, ?_, ?_, ?_, ?_⟩
  · funext z
    unfold iblk
    show V m c main_arg0 _ = V m c main_arg0 z
    refine congrArg (V m c main_arg0) (funext fun a => Fin.ext ?_)
    match a with
    | ⟨0, _⟩ => show 0 * _ + 1 * (z 0).val = (z 0).val; omega
  · funext z
    unfold iblk
    show V m c main_arg1 _ = V m c main_arg1 z
    refine congrArg (V m c main_arg1) (funext fun a => Fin.ext ?_)
    match a with
    | ⟨0, _⟩ => show 0 * _ + 1 * (z 0).val = (z 0).val; omega
  · funext z
    unfold iblk
    show V m c main_arg2 _ = V m c main_arg2 z
    refine congrArg (V m c main_arg2) (funext fun a => Fin.ext ?_)
    match a with
    | ⟨0, _⟩ => show 0 * _ + 1 * (z 0).val = (z 0).val; omega
    | ⟨1, _⟩ => show 0 * _ + 1 * (z 1).val = (z 1).val; omega
  · funext z
    unfold iblk
    show V m c main_arg3 _ = V m c main_arg3 z
    refine congrArg (V m c main_arg3) (funext fun a => Fin.ext ?_)
    match a with
    | ⟨0, _⟩ => show 0 * _ + 1 * (z 0).val = (z 0).val; omega
    | ⟨1, _⟩ => show 0 * _ + 1 * (z 1).val = (z 1).val; omega
    | ⟨2, _⟩ => show 0 * _ + 1 * (z 2).val = (z 2).val; omega
    | ⟨3, _⟩ => show 0 * _ + 1 * (z 3).val = (z 3).val; omega
  · funext z
    unfold iblk
    show V m c main_arg4 _ = V m c main_arg4 z
    refine congrArg (V m c main_arg4) (funext fun a => Fin.ext ?_)
    match a with
    | ⟨0, _⟩ => show 0 * _ + 1 * (z 0).val = (z 0).val; omega
    | ⟨1, _⟩ => show 0 * _ + 1 * (z 1).val = (z 1).val; omega
    | ⟨2, _⟩ => show 0 * _ + 1 * (z 2).val = (z 2).val; omega
    | ⟨3, _⟩ => show 0 * _ + 1 * (z 3).val = (z 3).val; omega
  · funext z
    unfold iblk
    show V m c main_arg5 _ = V m c main_arg5 z
    refine congrArg (V m c main_arg5) (funext fun a => Fin.ext ?_)
    match a with
    | ⟨0, _⟩ => show 0 * _ + 1 * (z 0).val = (z 0).val; omega
    | ⟨1, _⟩ => show 0 * _ + 1 * (z 1).val = (z 1).val; omega
    | ⟨2, _⟩ => show 0 * _ + 1 * (z 2).val = (z 2).val; omega
    | ⟨3, _⟩ => show 0 * _ + 1 * (z 3).val = (z 3).val; omega

theorem hyps_of_good (hg : ∀ c : Dev nD, Good (m ((c.tc : Thread nD τ).loc main_arg0)) (m ((c.tc : Thread nD τ).loc main_arg1))) : Hyps m :=
  Hyps.of fun c t kq hkq => by
    refine chk_of_lt _ ?_
    have e := tripE_eq (ms0_0 t) (hs0_0 t) (iblk m c 0 t) ⟨kq, hkq⟩
    have e' := e.trans (congrFun (blk_all m c t).1 _)
    exact lt_of_eq_of_lt (congrArg BitVec.toNat e') ((hg c).1 _)

theorem out_at (hg : ∀ c : Dev nD, Good (m ((c.tc : Thread nD τ).loc main_arg0)) (m ((c.tc : Thread nD τ).loc main_arg1))) (hH : Hyps m) (c : Dev nD) (t : Fin cfg0.N) :
    outsAt0 m hH c t = want (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  obtain ⟨b0, b1, b2, b3, b4, b5⟩ := blk_all m c t
  unfold outsAt0
  refine (out_want c _ _ _ _ _ _ _ _ _ _ _ _ _ _ _ _ _ _ _ _ ?_ (Hyps.c0 hH c t)).trans ?_
  · exact (congrArg₂ Good b0 b1).mpr (hg c)
  · exact congr (congr (congr (congr (congr (congrArg want b0) b1) b2) b3) b4) b5

/-- The result's block stands at the result's start. -/
theorem emb6 (t : Fin cfg0.N) (y : S589824x128.Idx) : (((cfg0.win 6).blk t).view.emb y : S589824x128.Idx) = y := by
  funext a
  refine Fin.ext ?_
  match a with
  | ⟨0, _⟩ => show 0 * _ + 1 * (y 0).val = (y 0).val; omega
  | ⟨1, _⟩ => show 0 * _ + 1 * (y 1).val = (y 1).val; omega

theorem result_want (hg : ∀ c : Dev nD, Good (m ((c.tc : Thread nD τ).loc main_arg0)) (m ((c.tc : Thread nD τ).loc main_arg1))) (hH : Hyps m) (c : Dev nD) :
    (dats m hH 0 c).arrAt 6 cfg0.N = want (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m hH 0 c).arrAt_eq_of_emb 6 _ (fun t _ y => ?_) (fun i => ⟨(0 : Fin 1), by decide +kernel, ?_⟩)
  · refine Eq.trans ?_ (congrArg _ (emb6 t y).symm)
    exact congrFun (out_at m hg hH c t) y
  · have e := View.emb_mem_set ((cfg0.win 6).blk (0 : Fin 1)).view (show S589824x128.Idx from i)
    exact (congrArg (fun z => z ∈ _) (emb6 (0 : Fin 1) i)).mp e

/-- The launch's run: the wanted result, the arguments unchanged. -/
theorem run_value (hg : ∀ c : Dev nD, Good (m ((c.tc : Thread nD τ).loc main_arg0)) (m ((c.tc : Thread nD τ).loc main_arg1))) :
    θ_run (defs (F := Bits)) (onTc (τ := τ) (main (F := Bits))) ⟨m, fun _ => 0, ρ⟩ fun r => ∀ c : Dev nD,
      r.2.mem ((c.tc : Thread nD τ).loc main_v0) = want (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Bits)) _ _).mono (fun _ h c => ⟨(h c).1.trans (result_want m hg (hyps_of_good m hg) c), (h c).2⟩)
    (Value.run_blocks m ρ (hyps_of_good m hg))

end Launch

end Cert.ExpertsRef.Hand

end
-- ==== Proof.ExpertsClaims.lean ====
module

public import proofs.«01_k».proof.Defs
public import proofs.«01_k».proof.Proof.ExpertsRefValue
public import proofs.«01_k».proof.Proof.Gen.Pre_block_tables

@[expose] public section

noncomputable section

namespace Cert.Proof

open Idealize.ShloMosaic Idealize.SL.Sem

/-- The precondition gives the experts' launch its tables' ranges. -/
theorem experts_good (m : (ℓ : Loc Cert.Experts.nD Cert.Experts.τ Cert.Experts.sig) → Buf (Elt Bits) ℓ)
    (h : Pre_Experts (hPre_block_tables := Cert.Pre_block_tables.Gen.facts) m) : Cert.Experts.Run.Good (Cert.Experts.Run.bm m) (Cert.Experts.Run.nm m) :=
  haveI := Cert.Pre_block_tables.Gen.facts
  Cert.Experts.Run.good_of_ones _ _ _ _ _ _ (h 0)

theorem expertsRef_good (m : (ℓ : Loc Cert.ExpertsRef.nD Cert.ExpertsRef.τ Cert.ExpertsRef.sig) → Buf (Elt Bits) ℓ)
    (h : Pre_ExpertsRef (hPre_block_tables := Cert.Pre_block_tables.Gen.facts) m) (c : Dev Cert.ExpertsRef.nD) :
    Cert.Experts.Run.Good (m ((c.tc : Thread Cert.ExpertsRef.nD Cert.ExpertsRef.τ).loc Cert.ExpertsRef.main_arg0)) (m ((c.tc : Thread Cert.ExpertsRef.nD Cert.ExpertsRef.τ).loc Cert.ExpertsRef.main_arg1)) :=
  haveI := Cert.Pre_block_tables.Gen.facts
  Cert.Experts.Run.good_of_ones _ _ _ _ _ _ (h c)

/-- The experts' launch ends in the arguments it started from, every counter at zero. -/
theorem experts_frame : quiescent_Experts (hExperts := Cert.Experts.Gen.facts) (hPre_block_tables := Cert.Pre_block_tables.Gen.facts) := fun m ρ hp =>
  (θ_run Cert.Experts.defs _ _).mono (fun _ h => ⟨fun c => (h.1 c).2, h.2⟩) (Cert.Experts.Run.run_value m ρ (experts_good m hp))

/-- So does their reference's. -/
theorem expertsRef_frame : quiescent_ExpertsRef (hExpertsRef := Cert.ExpertsRef.Gen.facts) (hPre_block_tables := Cert.Pre_block_tables.Gen.facts) := fun m ρ hp =>
  Cert.ExpertsRef.Gen.frame m ρ (Cert.ExpertsRef.Hand.hyps_of_good m (expertsRef_good m hp))

/-- The experts and their reference both end in `Experts.Run.want` of the arguments: the same words. -/
theorem experts_bitexact : bitexact_Experts_ExpertsRef (hExperts := Cert.Experts.Gen.facts) (hExpertsRef := Cert.ExpertsRef.Gen.facts)
    (hPre_block_tables := Cert.Pre_block_tables.Gen.facts) := by
  intro m g m' g' hp hagree
  have hg := experts_good m hp
  refine ⟨fun c => Cert.Experts.Run.want (Cert.Experts.Run.bm m) (Cert.Experts.Run.nm m)
      (m ((c.tc : Thread Cert.Experts.nD Cert.Experts.τ).loc Cert.Experts.main_arg2)) (m ((c.tc : Thread Cert.Experts.nD Cert.Experts.τ).loc Cert.Experts.main_arg3))
      (m ((c.tc : Thread Cert.Experts.nD Cert.Experts.τ).loc Cert.Experts.main_arg4)) (m ((c.tc : Thread Cert.Experts.nD Cert.Experts.τ).loc Cert.Experts.main_arg5)),
    (θ_run Cert.Experts.defs _ _).mono (fun _ h => h.1) (Cert.Experts.Run.run_value m g hg), ?_⟩
  have hg' : ∀ c : Dev Cert.ExpertsRef.nD, Cert.Experts.Run.Good (m' ((c.tc : Thread Cert.ExpertsRef.nD Cert.ExpertsRef.τ).loc Cert.ExpertsRef.main_arg0))
      (m' ((c.tc : Thread Cert.ExpertsRef.nD Cert.ExpertsRef.τ).loc Cert.ExpertsRef.main_arg1)) := fun c => by
    obtain rfl : c = 0 := Subsingleton.elim _ _
    exact (congrArg₂ Cert.Experts.Run.Good (hagree 0).1 (hagree 0).2.1).mpr hg
  refine (θ_run Cert.ExpertsRef.defs _ _).mono (fun r h c => ⟨(h c).1.trans ?_, (h c).2⟩) (Cert.ExpertsRef.Hand.run_value m' g' hg')
  obtain rfl : c = 0 := Subsingleton.elim _ _
  obtain ⟨h0, h1, h2, h3, h4, h5⟩ := hagree 0
  exact congr (congr (congr (congr (congr (congrArg Cert.Experts.Run.want h0) h1) h2) h3) h4) h5

end Cert.Proof

end
-- ==== Proof.SbInSpec.lean ====
module

public import proofs.«01_k».proof.Proof.ConvSpec

@[expose] public section

noncomputable section

namespace Cert.SbInSpec

open Cert.ConvSpec Idealize.ShloMosaic

abbrev SP : Shape := ⟨3, ![8, 8192, 3072]⟩

/-- The normed tokens times the weights. -/
def out (x : SX.Idx → EReal) (g : SV.Idx → EReal) (sc sh : SM.Idx → EReal) (wi : SWi.Idx → EReal) (i : SP.Idx) : EReal :=
  ∑ k : Fin 1024, normRow (fun l => x (ix3 (i 0) (i 1) l)) (fun l => g (ix1 l)) (fun l => sc (ix3 (i 0) 0 l)) (fun l => sh (ix3 (i 0) 0 l)) k * wi (ix2 k (i 2))

end Cert.SbInSpec

end
-- ==== Proof.SbInKernel.lean ====
module

public import proofs.«01_k».proof.Proof.Gen.SbInIdeal.Value
public import proofs.«01_k».proof.Proof.SbInSpec
public import Idealize.ShloMosaic.Lib.Pipeline.ValueKit
public import Idealize.ShloMosaic.Lib.Pointwise
public import Idealize.ShloMosaic.Lib.KernelVsHost

@[expose] public section

set_option maxRecDepth 16384

noncomputable section

namespace Cert.SbInIdeal.Hand

open Cert.SbInIdeal Cert.SbInIdeal.Gen Cert.SbInSpec Idealize.ShloMosaic Idealize.ShloMosaic.TcCoe Idealize.SL.Sem
open Cert.ConvSpec (normRow)
open Idealize.ShloMosaic.Pipeline (Dat)

/-- The normed rows of a block. -/
theorem norm_apply (x0 : Vec Ideal S1x1024x1024 .f32) (x1 : Vec Ideal S1x1024 .f32) (x2 x3 : Vec Ideal S1x1x1024 .f32) (r k : Fin 1024) :
    k0_pay3 (F := Ideal) x0 x1 x2 x3 (ix2 r k)
      = normRow (fun l => x0 (ix3 0 r l)) (fun l => x1 (ix2 0 l)) (fun l => x2 (ix3 0 0 l)) (fun l => x3 (ix3 0 0 l)) k := by
  unfold normRow
  pointwise [k0_pay3]

/-- A block of projected columns. -/
def projBlk (x0 : Vec Ideal S1x1024x1024 .f32) (x1 : Vec Ideal S1x1024 .f32) (x2 x3 : Vec Ideal S1x1x1024 .f32) (x4 : Vec Ideal S1024x3072 .f32)
    (y : S1x1024x3072.Idx) : EReal :=
  ∑ k : Fin 1024, normRow (fun l => x0 (ix3 0 (y 1) l)) (fun l => x1 (ix2 0 l)) (fun l => x2 (ix3 0 0 l)) (fun l => x3 (ix3 0 0 l)) k * x4 (ix2 k (y 2))

/-- A chunk that is a product's columns is those columns of the block. -/
theorem chunk_cols (x0 : Vec Ideal S1x1024x1024 .f32) (x1 : Vec Ideal S1x1024 .f32) (x2 x3 : Vec Ideal S1x1x1024 .f32) (x4 : Vec Ideal S1024x3072 .f32)
    (o : Nat) (ho : o + 512 ≤ 3072)
    (p : Vec Ideal S1x1024x512 .bf16)
    (hp : ∀ (a : Fin 1) (r : Fin 1024) (n : Fin 512), p (ix3 a r n) = ∑ k : Fin 1024, k0_pay3 (F := Ideal) x0 x1 x2 x3 (ix2 r k) * x4 (ix2 k ⟨o + n.val, by have := n.isLt; omega⟩))
    (z : S1x1024x512.Idx) (y : S1x1024x3072.Idx) (h1 : (y 1).val = (z 1).val) (h2 : (y 2).val = o + (z 2).val) :
    p z = projBlk x0 x1 x2 x3 x4 y := by
  idx_vars z
  have e1 : y 1 = z1 := Fin.ext h1
  have hz2 : z2.val < 512 := z2.isLt
  have e2 : y 2 = (⟨o + z2.val, by omega⟩ : Fin 3072) := Fin.ext h2
  refine (hp z0 z1 z2).trans ?_
  unfold projBlk
  rw [e1, e2]
  simp only [norm_apply]

theorem projOut_apply (c : Dev nD) (t : Fin cfg0.N) (x0 : Vec Ideal S1x1024x1024 .f32) (x1 : Vec Ideal S1x1024 .f32) (x2 x3 : Vec Ideal S1x1x1024 .f32)
    (x4 : Vec Ideal S1024x3072 .f32) (y : S1x1024x3072.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) x0 x1 x2 x3 x4 y
      = projBlk x0 x1 x2 x3 x4 y := by
  frame_out
  canon_tiles
  · exact chunk_cols x0 x1 x2 x3 x4 2560 (by omega) _ (fun a r n => by pointwise [k0_pay1, k0_pay2, k0_pay4, k0_pay5, k0_pay6, k0_pay7, k0_pay8]) x y h1 (by omega)
  · exact chunk_cols x0 x1 x2 x3 x4 2048 (by omega) _ (fun a r n => by pointwise [k0_pay1, k0_pay2, k0_pay4, k0_pay5, k0_pay6, k0_pay7, k0_pay8]) x y h1 (by omega)
  · exact chunk_cols x0 x1 x2 x3 x4 1536 (by omega) _ (fun a r n => by pointwise [k0_pay1, k0_pay2, k0_pay4, k0_pay5, k0_pay6, k0_pay7, k0_pay8]) x y h1 (by omega)
  · exact chunk_cols x0 x1 x2 x3 x4 1024 (by omega) _ (fun a r n => by pointwise [k0_pay1, k0_pay2, k0_pay4, k0_pay5, k0_pay6, k0_pay7, k0_pay8]) x y h1 (by omega)
  · exact chunk_cols x0 x1 x2 x3 x4 512 (by omega) _ (fun a r n => by pointwise [k0_pay1, k0_pay2, k0_pay4, k0_pay5, k0_pay6, k0_pay7, k0_pay8]) x y h1 (by omega)
  · exact chunk_cols x0 x1 x2 x3 x4 0 (by omega) _ (fun a r n => by pointwise [k0_pay1, k0_pay2, k0_pay4, k0_pay5, k0_pay6, k0_pay7, k0_pay8]) x y h1 (by omega)

theorem idx0 : ∀ t : Fin grid0.N, win0_0.index t = ![t.val / 8, t.val % 8, 0] := by decide +kernel
theorem idx1 : ∀ t : Fin grid0.N, win0_1.index t = ![0, 0] := by decide +kernel
theorem idx2 : ∀ t : Fin grid0.N, win0_2.index t = ![t.val / 8, 0, 0] := by decide +kernel
theorem idx3 : ∀ t : Fin grid0.N, win0_3.index t = ![t.val / 8, 0, 0] := by decide +kernel
theorem idx4 : ∀ t : Fin grid0.N, win0_4.index t = ![0, 0] := by decide +kernel
theorem idx5 : ∀ t : Fin grid0.N, win0_5.index t = ![t.val / 8, t.val % 8, 0] := by decide +kernel
theorem lt64 (t : Fin cfg0.N) : t.val < 64 := t.isLt

variable (m : (ℓ : Loc nD τ sig) → Buf (Elt Ideal) ℓ)

/-- The gain row the call finds is the argument. -/
theorem V_row (c : Dev nD) (l : Fin 1024) : V m c main_v0 (ix2 0 l) = m ((c.tc : Thread nD τ).loc main_arg1) (ix1 l) := by
  have e : V m c main_v0 = shapeCast S1x1024 (m ((c : Thread nD τ).loc main_arg1)) shapeCasts_S1024_S1x1024 := by
    entry_read
    rfl
  rw [e]
  pointwise

theorem blk0 (c : Dev nD) (t : Fin cfg0.N) (r l : Fin 1024) : iblk m c 0 t (ix3 0 r l)
    = m ((c.tc : Thread nD τ).loc main_arg0) (ix3 (⟨t.val / 8, by have := lt64 t; omega⟩ : Fin 8) (⟨t.val % 8 * 1024 + r.val, by omega⟩ : Fin 8192) l) := by
  blk_ext [iblk, V_main_arg0, idx0 t]
theorem blk1 (c : Dev nD) (t : Fin cfg0.N) (l : Fin 1024) : iblk m c 1 t (ix2 0 l) = m ((c.tc : Thread nD τ).loc main_arg1) (ix1 l) := by
  refine Eq.trans ?_ (V_row m c l)
  blk_ext [iblk, idx1 t]
theorem blk2 (c : Dev nD) (t : Fin cfg0.N) (l : Fin 1024) : iblk m c 2 t (ix3 0 0 l)
    = m ((c.tc : Thread nD τ).loc main_arg2) (ix3 (⟨t.val / 8, by have := lt64 t; omega⟩ : Fin 8) 0 l) := by
  blk_ext [iblk, V_main_arg2, idx2 t]
theorem blk3 (c : Dev nD) (t : Fin cfg0.N) (l : Fin 1024) : iblk m c 3 t (ix3 0 0 l)
    = m ((c.tc : Thread nD τ).loc main_arg3) (ix3 (⟨t.val / 8, by have := lt64 t; omega⟩ : Fin 8) 0 l) := by
  blk_ext [iblk, V_main_arg3, idx3 t]
theorem blk4 (c : Dev nD) (t : Fin cfg0.N) (k : Fin 1024) (n : Fin 3072) : iblk m c 4 t (ix2 k n) = m ((c.tc : Thread nD τ).loc main_arg4) (ix2 k n) := by
  blk_ext [iblk, V_main_arg4, idx4 t]

/-- What the call leaves in the projection's array. -/
theorem final (c : Dev nD) : (dats m 0 c).arrAt 5 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  unfold outsAt0
  rw [projOut_apply]
  idx_vars y
  have ht : ((win0_5.blk t).view.emb (ix3 y0 y1 y2)) = ix3 (⟨t.val / 8, by have := lt64 t; omega⟩ : Fin 8) (⟨t.val % 8 * 1024 + y1.val, by omega⟩ : Fin 8192) y2 := by
    blk_ext [idx5]
  rw [ht]
  suffices key : projBlk (iblk m c 0 t) (iblk m c 1 t) (iblk m c 2 t) (iblk m c 3 t) (iblk m c 4 t) (ix3 y0 y1 y2)
      = ∑ k : Fin 1024, normRow (fun l => m ((c.tc : Thread nD τ).loc main_arg0) (ix3 (⟨t.val / 8, by have := lt64 t; omega⟩ : Fin 8) (⟨t.val % 8 * 1024 + y1.val, by omega⟩ : Fin 8192) l)) (fun l => m ((c.tc : Thread nD τ).loc main_arg1) (ix1 l))
        (fun l => m ((c.tc : Thread nD τ).loc main_arg2) (ix3 (⟨t.val / 8, by have := lt64 t; omega⟩ : Fin 8) 0 l)) (fun l => m ((c.tc : Thread nD τ).loc main_arg3) (ix3 (⟨t.val / 8, by have := lt64 t; omega⟩ : Fin 8) 0 l)) k * m ((c.tc : Thread nD τ).loc main_arg4) (ix2 k y2)
      from key
  unfold projBlk
  refine Finset.sum_congr rfl fun k _ => ?_
  refine congrArg₂ (· * ·) ?_ (blk4 m c t k y2)
  refine congrFun ?_ k
  exact congr (congr (congrArg₂ normRow (funext fun l => blk0 m c t y1 l) (funext fun l => blk1 m c t l)) (funext fun l => blk2 m c t l)) (funext fun l => blk3 m c t l)

end Cert.SbInIdeal.Hand

end
-- ==== Proof.SbInRef.lean ====
module

public import proofs.«01_k».proof.Proof.SbInSpec
public import proofs.«01_k».proof.Proof.Gen.SbInRefIdeal.Run
public import Idealize.ShloMosaic.Lib.KernelVsHost

@[expose] public section

noncomputable section

namespace Cert.SbInRefIdeal.Hand

open Cert.SbInRefIdeal Cert.SbInRefIdeal.Gen Cert.SbInSpec Idealize.ShloMosaic Idealize.ShloMosaic.TcCoe
open Cert.ConvSpec (normRow)

/-- The reference's result from its arguments. -/
theorem res_eq (x : FVec Ideal S8x8192x1024 .f32) (g : FVec Ideal S1024 .f32) (sc : FVec Ideal S8x1x1024 .f32) (sh : FVec Ideal S8x1x1024 .f32) (wi : FVec Ideal S1024x3072 .f32) :
    (truncf .bf16 (Host.dotGeneral (F := Ideal) dot_S8x8192x1024_S1024x3072_S8x8192x3072_2_0_01_1_n_n none (addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)) wi) bitsLt_bf16_f32 : FVec Ideal S8x8192x3072 .bf16) = out x g sc sh wi := by
  funext i
  idx_vars i
  unfold out normRow
  pointwise

end Cert.SbInRefIdeal.Hand

end
-- ==== Proof.GlaInSpec.lean ====
module

public import proofs.«01_k».proof.Proof.ConvSpec

@[expose] public section

noncomputable section

namespace Cert.GlaInSpec

open Cert.ConvSpec Idealize.ShloMosaic

abbrev SW : Shape := ⟨2, ![1024, 3088]⟩
abbrev SP : Shape := ⟨3, ![8, 8192, 3328]⟩

/-- The weights with columns of zeros after the last. -/
def wide (wi : SW.Idx → EReal) (k : Fin 1024) (n : Fin 3328) : EReal :=
  if h : n.val < 3088 then wi (ix2 k ⟨n.val, h⟩) else 0

/-- The normed tokens times the widened weights. -/
def out (x : SX.Idx → EReal) (g : SV.Idx → EReal) (sc sh : SM.Idx → EReal) (wi : SW.Idx → EReal) (i : SP.Idx) : EReal :=
  ∑ k : Fin 1024, normRow (fun l => x (ix3 (i 0) (i 1) l)) (fun l => g (ix1 l)) (fun l => sc (ix3 (i 0) 0 l)) (fun l => sh (ix3 (i 0) 0 l)) k * wide wi k (i 2)

end Cert.GlaInSpec

end
-- ==== Proof.GlaInKernel.lean ====
module

public import proofs.«01_k».proof.Proof.Gen.GlaInIdeal.Value
public import proofs.«01_k».proof.Proof.GlaInSpec
public import Idealize.ShloMosaic.Lib.Pipeline.ValueKit
public import Idealize.ShloMosaic.Lib.Pointwise
public import Idealize.ShloMosaic.Lib.KernelVsHost

@[expose] public section

set_option maxRecDepth 16384

noncomputable section

namespace Cert.GlaInIdeal.Hand

open Cert.GlaInIdeal Cert.GlaInIdeal.Gen Cert.GlaInSpec Idealize.ShloMosaic Idealize.ShloMosaic.TcCoe Idealize.SL.Sem
open Cert.ConvSpec (normRow)
open Idealize.ShloMosaic.Pipeline (Dat)

/-- The normed rows of a block. -/
theorem norm_apply (x0 : Vec Ideal S1x1024x1024 .f32) (x1 : Vec Ideal S1x1024 .f32) (x2 x3 : Vec Ideal S1x1x1024 .f32) (r k : Fin 1024) :
    k0_pay4 (F := Ideal) x0 x1 x2 x3 (ix2 r k)
      = normRow (fun l => x0 (ix3 0 r l)) (fun l => x1 (ix2 0 l)) (fun l => x2 (ix3 0 0 l)) (fun l => x3 (ix3 0 0 l)) k := by
  unfold normRow
  pointwise [k0_pay4]

/-- A block of projected columns. -/
def projBlk (x0 : Vec Ideal S1x1024x1024 .f32) (x1 : Vec Ideal S1x1024 .f32) (x2 x3 : Vec Ideal S1x1x1024 .f32) (x4 : Vec Ideal S1024x3328 .f32)
    (y : S1x1024x3328.Idx) : EReal :=
  ∑ k : Fin 1024, normRow (fun l => x0 (ix3 0 (y 1) l)) (fun l => x1 (ix2 0 l)) (fun l => x2 (ix3 0 0 l)) (fun l => x3 (ix3 0 0 l)) k * x4 (ix2 k (y 2))

/-- A chunk that is a product's columns is those columns of the block. -/
theorem chunk_cols (x0 : Vec Ideal S1x1024x1024 .f32) (x1 : Vec Ideal S1x1024 .f32) (x2 x3 : Vec Ideal S1x1x1024 .f32) (x4 : Vec Ideal S1024x3328 .f32)
    (o : Nat) (ho : o + 256 ≤ 3328)
    (p : Vec Ideal S1x1024x256 .bf16)
    (hp : ∀ (a : Fin 1) (r : Fin 1024) (n : Fin 256), p (ix3 a r n) = ∑ k : Fin 1024, k0_pay4 (F := Ideal) x0 x1 x2 x3 (ix2 r k) * x4 (ix2 k ⟨o + n.val, by have := n.isLt; omega⟩))
    (z : S1x1024x256.Idx) (y : S1x1024x3328.Idx) (h1 : (y 1).val = (z 1).val) (h2 : (y 2).val = o + (z 2).val) :
    p z = projBlk x0 x1 x2 x3 x4 y := by
  idx_vars z
  have e1 : y 1 = z1 := Fin.ext h1
  have hz2 : z2.val < 256 := z2.isLt
  have e2 : y 2 = (⟨o + z2.val, by omega⟩ : Fin 3328) := Fin.ext h2
  refine (hp z0 z1 z2).trans ?_
  unfold projBlk
  rw [e1, e2]
  simp only [norm_apply]

theorem projOut_apply (c : Dev nD) (t : Fin cfg0.N) (x0 : Vec Ideal S1x1024x1024 .f32) (x1 : Vec Ideal S1x1024 .f32) (x2 x3 : Vec Ideal S1x1x1024 .f32)
    (x4 : Vec Ideal S1024x3328 .f32) (y : S1x1024x3328.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) x0 x1 x2 x3 x4 y
      = projBlk x0 x1 x2 x3 x4 y := by
  frame_out
  canon_tiles
  · exact chunk_cols x0 x1 x2 x3 x4 3072 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 2816 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 2560 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 2304 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 2048 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 1792 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 1536 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 1280 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 1024 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 768 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 512 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 256 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)
  · exact chunk_cols x0 x1 x2 x3 x4 0 (by omega) _ (fun a r n => by pointwise [k0_pay1, k0_pay2, k0_pay3, k0_pay5, k0_pay6, k0_pay7, k0_pay8, k0_pay9, k0_pay10, k0_pay11, k0_pay12, k0_pay13, k0_pay14, k0_pay15, k0_pay16, k0_pay17]) x y h1 (by omega)

theorem idx0 : ∀ t : Fin grid0.N, win0_0.index t = ![t.val / 8, t.val % 8, 0] := by decide +kernel
theorem idx1 : ∀ t : Fin grid0.N, win0_1.index t = ![0, 0] := by decide +kernel
theorem idx2 : ∀ t : Fin grid0.N, win0_2.index t = ![t.val / 8, 0, 0] := by decide +kernel
theorem idx3 : ∀ t : Fin grid0.N, win0_3.index t = ![t.val / 8, 0, 0] := by decide +kernel
theorem idx4 : ∀ t : Fin grid0.N, win0_4.index t = ![0, 0] := by decide +kernel
theorem idx5 : ∀ t : Fin grid0.N, win0_5.index t = ![t.val / 8, t.val % 8, 0] := by decide +kernel
theorem lt64 (t : Fin cfg0.N) : t.val < 64 := t.isLt

variable (m : (ℓ : Loc nD τ sig) → Buf (Elt Ideal) ℓ)

/-- The gain row the call finds is the argument. -/
theorem V_row (c : Dev nD) (l : Fin 1024) : V m c main_v1 (ix2 0 l) = m ((c.tc : Thread nD τ).loc main_arg1) (ix1 l) := by
  have e : V m c main_v1 = shapeCast S1x1024 (m ((c : Thread nD τ).loc main_arg1)) shapeCasts_S1024_S1x1024 := by
    entry_read
    rfl
  rw [e]
  pointwise

theorem blk0 (c : Dev nD) (t : Fin cfg0.N) (r l : Fin 1024) : iblk m c 0 t (ix3 0 r l)
    = m ((c.tc : Thread nD τ).loc main_arg0) (ix3 (⟨t.val / 8, by have := lt64 t; omega⟩ : Fin 8) (⟨t.val % 8 * 1024 + r.val, by omega⟩ : Fin 8192) l) := by
  blk_ext [iblk, V_main_arg0, idx0 t]
theorem blk1 (c : Dev nD) (t : Fin cfg0.N) (l : Fin 1024) : iblk m c 1 t (ix2 0 l) = m ((c.tc : Thread nD τ).loc main_arg1) (ix1 l) := by
  refine Eq.trans ?_ (V_row m c l)
  blk_ext [iblk, idx1 t]
theorem blk2 (c : Dev nD) (t : Fin cfg0.N) (l : Fin 1024) : iblk m c 2 t (ix3 0 0 l)
    = m ((c.tc : Thread nD τ).loc main_arg2) (ix3 (⟨t.val / 8, by have := lt64 t; omega⟩ : Fin 8) 0 l) := by
  blk_ext [iblk, V_main_arg2, idx2 t]
theorem blk3 (c : Dev nD) (t : Fin cfg0.N) (l : Fin 1024) : iblk m c 3 t (ix3 0 0 l)
    = m ((c.tc : Thread nD τ).loc main_arg3) (ix3 (⟨t.val / 8, by have := lt64 t; omega⟩ : Fin 8) 0 l) := by
  blk_ext [iblk, V_main_arg3, idx3 t]

/-- The weights with the columns of zeros the host puts after them. -/
theorem pad_wide (w : FVec Ideal S1024x3088 .f32) (k : Fin 1024) (n : Fin 3328) :
    pad S1024x3328 ![0, 0] ![0, 240] ![0, 0] w (sitofp (F := Ideal) .f32 (constantI S_ 32 0#32)) pads_S1024x3088_S1024x3328_000_02400 h_S_ (ix2 k n) = wide w k n := by
  unfold wide
  pointwise
  by_cases h : n.val < 3088
  · rw [dif_pos h, dif_pos h]
  · rw [dif_neg h, dif_neg h]
    simp [FloatOps.sitofp]
/-- The weights the call finds are the argument, widened. -/
theorem V_wide (c : Dev nD) (k : Fin 1024) (n : Fin 3328) : V m c main_v0 (ix2 k n) = wide (m ((c.tc : Thread nD τ).loc main_arg4)) k n := by
  have e : V m c main_v0 = pad S1024x3328 ![0, 0] ![0, 240] ![0, 0] (m ((c : Thread nD τ).loc main_arg4) : FVec Ideal S1024x3088 .f32) (sitofp (F := Ideal) .f32 (constantI S_ 32 0#32)) pads_S1024x3088_S1024x3328_000_02400 h_S_ := by
    entry_read
    rfl
  rw [e]
  exact pad_wide _ k n
theorem blk4 (c : Dev nD) (t : Fin cfg0.N) (k : Fin 1024) (n : Fin 3328) : iblk m c 4 t (ix2 k n) = wide (m ((c.tc : Thread nD τ).loc main_arg4)) k n := by
  refine Eq.trans ?_ (V_wide m c k n)
  blk_ext [iblk, idx4 t]

/-- What the call leaves in the projection's array. -/
theorem final (c : Dev nD) : (dats m 0 c).arrAt 5 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  unfold outsAt0
  rw [projOut_apply]
  idx_vars y
  have ht : ((win0_5.blk t).view.emb (ix3 y0 y1 y2)) = ix3 (⟨t.val / 8, by have := lt64 t; omega⟩ : Fin 8) (⟨t.val % 8 * 1024 + y1.val, by omega⟩ : Fin 8192) y2 := by
    blk_ext [idx5]
  rw [ht]
  suffices key : projBlk (iblk m c 0 t) (iblk m c 1 t) (iblk m c 2 t) (iblk m c 3 t) (iblk m c 4 t) (ix3 y0 y1 y2)
      = ∑ k : Fin 1024, normRow (fun l => m ((c.tc : Thread nD τ).loc main_arg0) (ix3 (⟨t.val / 8, by have := lt64 t; omega⟩ : Fin 8) (⟨t.val % 8 * 1024 + y1.val, by omega⟩ : Fin 8192) l)) (fun l => m ((c.tc : Thread nD τ).loc main_arg1) (ix1 l))
        (fun l => m ((c.tc : Thread nD τ).loc main_arg2) (ix3 (⟨t.val / 8, by have := lt64 t; omega⟩ : Fin 8) 0 l)) (fun l => m ((c.tc : Thread nD τ).loc main_arg3) (ix3 (⟨t.val / 8, by have := lt64 t; omega⟩ : Fin 8) 0 l)) k * wide (m ((c.tc : Thread nD τ).loc main_arg4)) k y2
      from key
  unfold projBlk
  refine Finset.sum_congr rfl fun k _ => ?_
  refine congrArg₂ (· * ·) ?_ (blk4 m c t k y2)
  refine congrFun ?_ k
  exact congr (congr (congrArg₂ normRow (funext fun l => blk0 m c t y1 l) (funext fun l => blk1 m c t l)) (funext fun l => blk2 m c t l)) (funext fun l => blk3 m c t l)

end Cert.GlaInIdeal.Hand

end
-- ==== Proof.GlaInRef.lean ====
module

public import proofs.«01_k».proof.Proof.GlaInSpec
public import proofs.«01_k».proof.Proof.Gen.GlaInRefIdeal.Run
public import Idealize.ShloMosaic.Lib.KernelVsHost

@[expose] public section

noncomputable section

namespace Cert.GlaInRefIdeal.Hand

open Cert.GlaInRefIdeal Cert.GlaInRefIdeal.Gen Cert.GlaInSpec Idealize.ShloMosaic Idealize.ShloMosaic.TcCoe
open Cert.ConvSpec (normRow)

/-- The reference's result from its arguments. -/
theorem res_eq (x : FVec Ideal S8x8192x1024 .f32) (g : FVec Ideal S1024 .f32) (sc : FVec Ideal S8x1x1024 .f32) (sh : FVec Ideal S8x1x1024 .f32) (wi : FVec Ideal S1024x3088 .f32) :
    (truncf .bf16 (pad S8x8192x3328 ![0, 0, 0] ![0, 0, 240] ![0, 0, 0] (Host.dotGeneral (F := Ideal) dot_S8x8192x1024_S1024x3088_S8x8192x3088_2_0_01_1_n_n none (addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)) wi) (sitofp .f32 (constantI S_ 32 0#32)) pads_S8x8192x3088_S8x8192x3328_000_000_02400 h_S_) bitsLt_bf16_f32 : FVec Ideal S8x8192x3328 .bf16) = out x g sc sh wi := by
  funext i
  idx_vars i
  unfold out normRow wide
  pointwise
  by_cases h : i2.val < 3088
  · rw [dif_pos h]
    simp only [dif_pos h]
  · rw [dif_neg h]
    simp [dif_neg h, FloatOps.sitofp]

end Cert.GlaInRefIdeal.Hand

end
-- ==== Proof.MixerOutSpec.lean ====
module

public import Idealize.ShloMosaic.Lib.Pointwise

@[expose] public section

noncomputable section

namespace Cert.MixerOutSpec

open Idealize.ShloMosaic

abbrev SX : Shape := ⟨3, ![8, 8192, 1024]⟩
abbrev SM : Shape := ⟨3, ![8, 1, 1024]⟩
abbrev SW : Shape := ⟨2, ![1024, 1024]⟩

/-- The residual stream plus the gated product of the mixer's rows with the weights. -/
def out (o : SX.Idx → EReal) (w : SW.Idx → EReal) (x : SX.Idx → EReal) (gt : SM.Idx → EReal) (i : SX.Idx) : EReal :=
  x (ix3 (i 0) (i 1) (i 2)) + gt (ix3 (i 0) 0 (i 2)) * ∑ k : Fin 1024, o (ix3 (i 0) (i 1) k) * w (ix2 k (i 2))

end Cert.MixerOutSpec

end
-- ==== Proof.MixerOutKernel.lean ====
module

public import proofs.«01_k».proof.Proof.Gen.MixerOutIdeal.Value
public import proofs.«01_k».proof.Proof.MixerOutSpec
public import Idealize.ShloMosaic.Lib.Pipeline.ValueKit
public import Idealize.ShloMosaic.Lib.KernelVsHost

@[expose] public section

set_option maxRecDepth 16384

noncomputable section

namespace Cert.MixerOutIdeal.Hand

open Cert.MixerOutIdeal Cert.MixerOutIdeal.Gen Cert.MixerOutSpec Idealize.ShloMosaic Idealize.ShloMosaic.TcCoe Idealize.SL.Sem
open Idealize.ShloMosaic.Pipeline (Dat)

theorem out_apply (x0 : Vec Ideal S1x1024x1024 .bf16) (x1 : Vec Ideal S1024x1024 .f32) (x2 : Vec Ideal S1x1024x1024 .f32) (x3 : Vec Ideal S1x1x1024 .f32)
    (a : Fin 1) (r n : Fin 1024) : out0_4 (F := Ideal) x0 x1 x2 x3 (ix3 a r n)
      = x2 (ix3 0 r n) + x3 (ix3 0 0 n) * ∑ k : Fin 1024, x0 (ix3 0 r k) * x1 (ix2 k n) := by
  frame_out
  pointwise [k0_pay1]

theorem idx0 : ∀ t : Fin grid0.N, win0_0.index t = ![t.val / 8, t.val % 8, 0] := by decide +kernel
theorem idx1 : ∀ t : Fin grid0.N, win0_1.index t = ![0, 0] := by decide +kernel
theorem idx2 : ∀ t : Fin grid0.N, win0_2.index t = ![t.val / 8, t.val % 8, 0] := by decide +kernel
theorem idx3 : ∀ t : Fin grid0.N, win0_3.index t = ![t.val / 8, 0, 0] := by decide +kernel
theorem idx4 : ∀ t : Fin grid0.N, win0_4.index t = ![t.val / 8, t.val % 8, 0] := by decide +kernel
theorem lt64 (t : Fin cfg0.N) : t.val < 64 := t.isLt

variable (m : (ℓ : Loc nD τ sig) → Buf (Elt Ideal) ℓ)

theorem blk0 (c : Dev nD) (t : Fin cfg0.N) (r l : Fin 1024) : iblk m c 0 t (ix3 0 r l)
    = m ((c.tc : Thread nD τ).loc main_arg0) (ix3 (⟨t.val / 8, by have := lt64 t; omega⟩ : Fin 8) (⟨t.val % 8 * 1024 + r.val, by omega⟩ : Fin 8192) l) := by
  blk_ext [iblk, V_main_arg0, idx0 t]
theorem blk1 (c : Dev nD) (t : Fin cfg0.N) (k n : Fin 1024) : iblk m c 1 t (ix2 k n) = m ((c.tc : Thread nD τ).loc main_arg1) (ix2 k n) := by
  blk_ext [iblk, V_main_arg1, idx1 t]
theorem blk2 (c : Dev nD) (t : Fin cfg0.N) (r l : Fin 1024) : iblk m c 2 t (ix3 0 r l)
    = m ((c.tc : Thread nD τ).loc main_arg2) (ix3 (⟨t.val / 8, by have := lt64 t; omega⟩ : Fin 8) (⟨t.val % 8 * 1024 + r.val, by omega⟩ : Fin 8192) l) := by
  blk_ext [iblk, V_main_arg2, idx2 t]
theorem blk3 (c : Dev nD) (t : Fin cfg0.N) (l : Fin 1024) : iblk m c 3 t (ix3 0 0 l)
    = m ((c.tc : Thread nD τ).loc main_arg3) (ix3 (⟨t.val / 8, by have := lt64 t; omega⟩ : Fin 8) 0 l) := by
  blk_ext [iblk, V_main_arg3, idx3 t]

/-- What the call leaves in the residual stream's array. -/
theorem final (c : Dev nD) : (dats m 0 c).arrAt 4 cfg0.N = out (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  idx_vars y
  have ht : ((win0_4.blk t).view.emb (ix3 y0 y1 y2)) = ix3 (⟨t.val / 8, by have := lt64 t; omega⟩ : Fin 8) (⟨t.val % 8 * 1024 + y1.val, by omega⟩ : Fin 8192) y2 := by
    blk_ext [idx4]
  rw [ht]
  refine (out_apply _ _ _ _ y0 y1 y2).trans ?_
  simp only [blk0, blk1, blk2, blk3]
  rfl

end Cert.MixerOutIdeal.Hand

end
-- ==== Proof.MixerOutRef.lean ====
module

public import proofs.«01_k».proof.Proof.MixerOutSpec
public import proofs.«01_k».proof.Proof.Gen.MixerOutRefIdeal.Run
public import Idealize.ShloMosaic.Lib.KernelVsHost

@[expose] public section

noncomputable section

namespace Cert.MixerOutRefIdeal.Hand

open Cert.MixerOutRefIdeal Cert.MixerOutRefIdeal.Gen Cert.MixerOutSpec Idealize.ShloMosaic Idealize.ShloMosaic.TcCoe

/-- The reference's result from its arguments. -/
theorem res_eq (o : FVec Ideal S8x8192x1024 .bf16) (w : FVec Ideal S1024x1024 .f32) (x : FVec Ideal S8x8192x1024 .f32) (gt : FVec Ideal S8x1x1024 .f32) :
    (addf x (mulf (broadcastInDim S8x8192x1024 ![0, 1, 2] bcast_S8x1x1024_S8x8192x1024_0_1_2 gt) (Host.dotGeneral (F := Ideal) dot_S8x8192x1024_S1024x1024_S8x8192x1024_2_0_01_1_n_n none (extf .f32 o bitsLt_bf16_f32) w)) : FVec Ideal S8x8192x1024 .f32) = out o w x gt := by
  funext i
  idx_vars i
  unfold out
  pointwise

end Cert.MixerOutRefIdeal.Hand

end
-- ==== Proof.ProjClaims.lean ====
module

public import proofs.«01_k».proof.Defs
public import proofs.«01_k».proof.Proof.SbInKernel
public import proofs.«01_k».proof.Proof.SbInRef
public import proofs.«01_k».proof.Proof.GlaInKernel
public import proofs.«01_k».proof.Proof.GlaInRef
public import proofs.«01_k».proof.Proof.MixerOutKernel
public import proofs.«01_k».proof.Proof.MixerOutRef
public import Idealize.ShloMosaic.Lib.Quiescent

@[expose] public section

noncomputable section

namespace Cert.Proof

open Idealize.ShloMosaic Idealize.SL.Sem

/-- The reference of the stick-breaking layer's input projection ends in the arguments it started from, every counter at zero. -/
theorem sbInRef_frame : quiescent_SbInRefIdeal (hSbInRefIdeal := Cert.SbInRefIdeal.Gen.facts) := fun m ρ _ =>
  (θ_run Cert.SbInRefIdeal.defs _ _).mono
    (fun r h => ⟨fun c => (h c).2, Idealize.ShloMosaic.sem_eq_zero_of_no_sems (by decide) r.2⟩)
    (Cert.SbInRefIdeal.Value.run (F := Ideal) m ρ)

/-- The stick-breaking layer's input projection and its reference end in the same `SbInSpec.out` of the arguments. -/
theorem sbIn_algebraic : algebraic_SbInIdeal_SbInRefIdeal (hSbInIdeal := Cert.SbInIdeal.Gen.facts)
    (hSbInRefIdeal := Cert.SbInRefIdeal.Gen.facts) := by
  intro m g m' g' _ hagree
  refine ⟨fun c => (Cert.SbInIdeal.Gen.dats m 0 c).arrAt 5 Cert.SbInIdeal.cfg0.N, Cert.SbInIdeal.Value.run_blocks m g, ?_⟩
  refine (θ_run Cert.SbInRefIdeal.defs _ _).mono (fun r h c => ⟨(h c).1.trans ?_, (h c).2⟩)
    (Cert.SbInRefIdeal.Value.run (F := Ideal) m' g')
  obtain ⟨h0, h1, h2, h3, h4⟩ := hagree c
  refine (Cert.SbInRefIdeal.Hand.res_eq (m' ((c.tc : Thread Cert.SbInRefIdeal.nD Cert.SbInRefIdeal.τ).loc Cert.SbInRefIdeal.main_arg0)) (m' ((c.tc : Thread Cert.SbInRefIdeal.nD Cert.SbInRefIdeal.τ).loc Cert.SbInRefIdeal.main_arg1)) (m' ((c.tc : Thread Cert.SbInRefIdeal.nD Cert.SbInRefIdeal.τ).loc Cert.SbInRefIdeal.main_arg2)) (m' ((c.tc : Thread Cert.SbInRefIdeal.nD Cert.SbInRefIdeal.τ).loc Cert.SbInRefIdeal.main_arg3)) (m' ((c.tc : Thread Cert.SbInRefIdeal.nD Cert.SbInRefIdeal.τ).loc Cert.SbInRefIdeal.main_arg4))).trans ((Cert.SbInIdeal.Hand.final m c).trans ?_).symm
  rw [h0, h1, h2, h3, h4]

/-- The reference of the gated linear layer's input projection ends in the arguments it started from, every counter at zero. -/
theorem glaInRef_frame : quiescent_GlaInRefIdeal (hGlaInRefIdeal := Cert.GlaInRefIdeal.Gen.facts) := fun m ρ _ =>
  (θ_run Cert.GlaInRefIdeal.defs _ _).mono
    (fun r h => ⟨fun c => (h c).2, Idealize.ShloMosaic.sem_eq_zero_of_no_sems (by decide) r.2⟩)
    (Cert.GlaInRefIdeal.Value.run (F := Ideal) m ρ)

/-- The gated linear layer's input projection and its reference end in the same `GlaInSpec.out` of the arguments. -/
theorem glaIn_algebraic : algebraic_GlaInIdeal_GlaInRefIdeal (hGlaInIdeal := Cert.GlaInIdeal.Gen.facts)
    (hGlaInRefIdeal := Cert.GlaInRefIdeal.Gen.facts) := by
  intro m g m' g' _ hagree
  refine ⟨fun c => (Cert.GlaInIdeal.Gen.dats m 0 c).arrAt 5 Cert.GlaInIdeal.cfg0.N, Cert.GlaInIdeal.Value.run_blocks m g, ?_⟩
  refine (θ_run Cert.GlaInRefIdeal.defs _ _).mono (fun r h c => ⟨(h c).1.trans ?_, (h c).2⟩)
    (Cert.GlaInRefIdeal.Value.run (F := Ideal) m' g')
  obtain ⟨h0, h1, h2, h3, h4⟩ := hagree c
  refine (Cert.GlaInRefIdeal.Hand.res_eq (m' ((c.tc : Thread Cert.GlaInRefIdeal.nD Cert.GlaInRefIdeal.τ).loc Cert.GlaInRefIdeal.main_arg0)) (m' ((c.tc : Thread Cert.GlaInRefIdeal.nD Cert.GlaInRefIdeal.τ).loc Cert.GlaInRefIdeal.main_arg1)) (m' ((c.tc : Thread Cert.GlaInRefIdeal.nD Cert.GlaInRefIdeal.τ).loc Cert.GlaInRefIdeal.main_arg2)) (m' ((c.tc : Thread Cert.GlaInRefIdeal.nD Cert.GlaInRefIdeal.τ).loc Cert.GlaInRefIdeal.main_arg3)) (m' ((c.tc : Thread Cert.GlaInRefIdeal.nD Cert.GlaInRefIdeal.τ).loc Cert.GlaInRefIdeal.main_arg4))).trans ((Cert.GlaInIdeal.Hand.final m c).trans ?_).symm
  rw [h0, h1, h2, h3, h4]

/-- The reference of the mixers' output projection ends in the arguments it started from, every counter at zero. -/
theorem mixerOutRef_frame : quiescent_MixerOutRefIdeal (hMixerOutRefIdeal := Cert.MixerOutRefIdeal.Gen.facts) := fun m ρ _ =>
  (θ_run Cert.MixerOutRefIdeal.defs _ _).mono
    (fun r h => ⟨fun c => (h c).2, Idealize.ShloMosaic.sem_eq_zero_of_no_sems (by decide) r.2⟩)
    (Cert.MixerOutRefIdeal.Value.run (F := Ideal) m ρ)

/-- The mixers' output projection and its reference end in the same `MixerOutSpec.out` of the arguments. -/
theorem mixerOut_algebraic : algebraic_MixerOutIdeal_MixerOutRefIdeal (hMixerOutIdeal := Cert.MixerOutIdeal.Gen.facts)
    (hMixerOutRefIdeal := Cert.MixerOutRefIdeal.Gen.facts) := by
  intro m g m' g' _ hagree
  refine ⟨fun c => (Cert.MixerOutIdeal.Gen.dats m 0 c).arrAt 4 Cert.MixerOutIdeal.cfg0.N, Cert.MixerOutIdeal.Value.run_blocks m g, ?_⟩
  refine (θ_run Cert.MixerOutRefIdeal.defs _ _).mono (fun r h c => ⟨(h c).1.trans ?_, (h c).2⟩)
    (Cert.MixerOutRefIdeal.Value.run (F := Ideal) m' g')
  obtain ⟨h0, h1, h2, h3⟩ := hagree c
  refine (Cert.MixerOutRefIdeal.Hand.res_eq (m' ((c.tc : Thread Cert.MixerOutRefIdeal.nD Cert.MixerOutRefIdeal.τ).loc Cert.MixerOutRefIdeal.main_arg0)) (m' ((c.tc : Thread Cert.MixerOutRefIdeal.nD Cert.MixerOutRefIdeal.τ).loc Cert.MixerOutRefIdeal.main_arg1)) (m' ((c.tc : Thread Cert.MixerOutRefIdeal.nD Cert.MixerOutRefIdeal.τ).loc Cert.MixerOutRefIdeal.main_arg2)) (m' ((c.tc : Thread Cert.MixerOutRefIdeal.nD Cert.MixerOutRefIdeal.τ).loc Cert.MixerOutRefIdeal.main_arg3))).trans ((Cert.MixerOutIdeal.Hand.final m c).trans ?_).symm
  rw [h0, h1, h2, h3]

end Cert.Proof

end
-- ==== Proof.DilInSpec.lean ====
module

public import proofs.«01_k».proof.Proof.ConvSpec

@[expose] public section

noncomputable section

namespace Cert.DilInSpec

open Cert.ConvSpec Idealize.ShloMosaic

abbrev SW : Shape := ⟨2, ![1024, 4608]⟩
abbrev SP : Shape := ⟨3, ![8, 8192, 1536]⟩

/-- The weights' first columns, those of the first pattern. -/
def cols (wi : SW.Idx → EReal) (k : Fin 1024) (n : Fin 1536) : EReal := wi (ix2 k (⟨n.val, by omega⟩ : Fin 4608))

/-- The normed tokens times the first pattern's weights. -/
def out (x : SX.Idx → EReal) (g : SV.Idx → EReal) (sc sh : SM.Idx → EReal) (wi : SW.Idx → EReal) (i : SP.Idx) : EReal :=
  ∑ k : Fin 1024, normRow (fun l => x (ix3 (i 0) (i 1) l)) (fun l => g (ix1 l)) (fun l => sc (ix3 (i 0) 0 l)) (fun l => sh (ix3 (i 0) 0 l)) k * cols wi k (i 2)

end Cert.DilInSpec

end
-- ==== Proof.DilInKernel.lean ====
module

public import proofs.«01_k».proof.Proof.Gen.DilInIdeal.Value
public import proofs.«01_k».proof.Proof.DilInSpec
public import Idealize.ShloMosaic.Lib.Pipeline.ValueKit
public import Idealize.ShloMosaic.Lib.Pointwise
public import Idealize.ShloMosaic.Lib.KernelVsHost

@[expose] public section

set_option maxRecDepth 16384

noncomputable section

namespace Cert.DilInIdeal.Hand

open Cert.DilInIdeal Cert.DilInIdeal.Gen Cert.DilInSpec Idealize.ShloMosaic Idealize.ShloMosaic.TcCoe Idealize.SL.Sem
open Cert.ConvSpec (normRow)
open Idealize.ShloMosaic.Pipeline (Dat)

/-- The normed rows of a block. -/
theorem norm_apply (x0 : Vec Ideal S1x1024x1024 .f32) (x1 : Vec Ideal S1x1024 .f32) (x2 x3 : Vec Ideal S1x1x1024 .f32) (r k : Fin 1024) :
    k0_pay4 (F := Ideal) x0 x1 x2 x3 (ix2 r k)
      = normRow (fun l => x0 (ix3 0 r l)) (fun l => x1 (ix2 0 l)) (fun l => x2 (ix3 0 0 l)) (fun l => x3 (ix3 0 0 l)) k := by
  unfold normRow
  pointwise [k0_pay4]

/-- A block of projected columns. -/
def projBlk (x0 : Vec Ideal S1x1024x1024 .f32) (x1 : Vec Ideal S1x1024 .f32) (x2 x3 : Vec Ideal S1x1x1024 .f32) (x4 : Vec Ideal S1024x1536 .f32)
    (y : S1x1024x1536.Idx) : EReal :=
  ∑ k : Fin 1024, normRow (fun l => x0 (ix3 0 (y 1) l)) (fun l => x1 (ix2 0 l)) (fun l => x2 (ix3 0 0 l)) (fun l => x3 (ix3 0 0 l)) k * x4 (ix2 k (y 2))

/-- A chunk that is a product's columns is those columns of the block. -/
theorem chunk_cols (x0 : Vec Ideal S1x1024x1024 .f32) (x1 : Vec Ideal S1x1024 .f32) (x2 x3 : Vec Ideal S1x1x1024 .f32) (x4 : Vec Ideal S1024x1536 .f32)
    (o : Nat) (ho : o + 512 ≤ 1536)
    (p : Vec Ideal S1x1024x512 .bf16)
    (hp : ∀ (a : Fin 1) (r : Fin 1024) (n : Fin 512), p (ix3 a r n) = ∑ k : Fin 1024, k0_pay4 (F := Ideal) x0 x1 x2 x3 (ix2 r k) * x4 (ix2 k ⟨o + n.val, by have := n.isLt; omega⟩))
    (z : S1x1024x512.Idx) (y : S1x1024x1536.Idx) (h1 : (y 1).val = (z 1).val) (h2 : (y 2).val = o + (z 2).val) :
    p z = projBlk x0 x1 x2 x3 x4 y := by
  idx_vars z
  have e1 : y 1 = z1 := Fin.ext h1
  have hz2 : z2.val < 512 := z2.isLt
  have e2 : y 2 = (⟨o + z2.val, by omega⟩ : Fin 1536) := Fin.ext h2
  refine (hp z0 z1 z2).trans ?_
  unfold projBlk
  rw [e1, e2]
  simp only [norm_apply]

theorem projOut_apply (c : Dev nD) (t : Fin cfg0.N) (x0 : Vec Ideal S1x1024x1024 .f32) (x1 : Vec Ideal S1x1024 .f32) (x2 x3 : Vec Ideal S1x1x1024 .f32)
    (x4 : Vec Ideal S1024x1536 .f32) (y : S1x1024x1536.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) x0 x1 x2 x3 x4 y
      = projBlk x0 x1 x2 x3 x4 y := by
  frame_out
  canon_tiles
  · exact chunk_cols x0 x1 x2 x3 x4 1024 (by omega) _ (fun a r n => by pointwise [k0_pay1, k0_pay2, k0_pay3, k0_pay5]) x y h1 (by omega)
  · exact chunk_cols x0 x1 x2 x3 x4 512 (by omega) _ (fun a r n => by pointwise [k0_pay1, k0_pay2, k0_pay3, k0_pay5]) x y h1 (by omega)
  · exact chunk_cols x0 x1 x2 x3 x4 0 (by omega) _ (fun a r n => by pointwise [k0_pay1, k0_pay2, k0_pay3, k0_pay5]) x y h1 (by omega)

theorem idx0 : ∀ t : Fin grid0.N, win0_0.index t = ![t.val / 8, t.val % 8, 0] := by decide +kernel
theorem idx1 : ∀ t : Fin grid0.N, win0_1.index t = ![0, 0] := by decide +kernel
theorem idx2 : ∀ t : Fin grid0.N, win0_2.index t = ![t.val / 8, 0, 0] := by decide +kernel
theorem idx3 : ∀ t : Fin grid0.N, win0_3.index t = ![t.val / 8, 0, 0] := by decide +kernel
theorem idx4 : ∀ t : Fin grid0.N, win0_4.index t = ![0, 0] := by decide +kernel
theorem idx5 : ∀ t : Fin grid0.N, win0_5.index t = ![t.val / 8, t.val % 8, 0] := by decide +kernel
theorem lt64 (t : Fin cfg0.N) : t.val < 64 := t.isLt

variable (m : (ℓ : Loc nD τ sig) → Buf (Elt Ideal) ℓ)

/-- The gain row the call finds is the argument. -/
theorem V_row (c : Dev nD) (l : Fin 1024) : V m c main_v1 (ix2 0 l) = m ((c.tc : Thread nD τ).loc main_arg1) (ix1 l) := by
  have e : V m c main_v1 = shapeCast S1x1024 (m ((c : Thread nD τ).loc main_arg1)) shapeCasts_S1024_S1x1024 := by
    entry_read
    rfl
  rw [e]
  pointwise

theorem blk0 (c : Dev nD) (t : Fin cfg0.N) (r l : Fin 1024) : iblk m c 0 t (ix3 0 r l)
    = m ((c.tc : Thread nD τ).loc main_arg0) (ix3 (⟨t.val / 8, by have := lt64 t; omega⟩ : Fin 8) (⟨t.val % 8 * 1024 + r.val, by omega⟩ : Fin 8192) l) := by
  blk_ext [iblk, V_main_arg0, idx0 t]
theorem blk1 (c : Dev nD) (t : Fin cfg0.N) (l : Fin 1024) : iblk m c 1 t (ix2 0 l) = m ((c.tc : Thread nD τ).loc main_arg1) (ix1 l) := by
  refine Eq.trans ?_ (V_row m c l)
  blk_ext [iblk, idx1 t]
theorem blk2 (c : Dev nD) (t : Fin cfg0.N) (l : Fin 1024) : iblk m c 2 t (ix3 0 0 l)
    = m ((c.tc : Thread nD τ).loc main_arg2) (ix3 (⟨t.val / 8, by have := lt64 t; omega⟩ : Fin 8) 0 l) := by
  blk_ext [iblk, V_main_arg2, idx2 t]
theorem blk3 (c : Dev nD) (t : Fin cfg0.N) (l : Fin 1024) : iblk m c 3 t (ix3 0 0 l)
    = m ((c.tc : Thread nD τ).loc main_arg3) (ix3 (⟨t.val / 8, by have := lt64 t; omega⟩ : Fin 8) 0 l) := by
  blk_ext [iblk, V_main_arg3, idx3 t]
/-- The weights the call finds are the pattern's columns of the argument. -/
theorem V_cols (c : Dev nD) (k : Fin 1024) (n : Fin 1536) : V m c main_v0 (ix2 k n) = cols (m ((c.tc : Thread nD τ).loc main_arg4)) k n := by
  have e : V m c main_v0 = extractStridedSlice S1024x1536 ![0, 0] (m ((c : Thread nD τ).loc main_arg4)) slices_S1024x4608_S1024x1536_0_0 := by
    entry_read
    rfl
  rw [e]
  unfold cols
  pointwise
theorem blk4 (c : Dev nD) (t : Fin cfg0.N) (k : Fin 1024) (n : Fin 1536) : iblk m c 4 t (ix2 k n) = cols (m ((c.tc : Thread nD τ).loc main_arg4)) k n := by
  refine Eq.trans ?_ (V_cols m c k n)
  blk_ext [iblk, idx4 t]

/-- What the call leaves in the projection's array. -/
theorem final (c : Dev nD) : (dats m 0 c).arrAt 5 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  unfold outsAt0
  rw [projOut_apply]
  idx_vars y
  have ht : ((win0_5.blk t).view.emb (ix3 y0 y1 y2)) = ix3 (⟨t.val / 8, by have := lt64 t; omega⟩ : Fin 8) (⟨t.val % 8 * 1024 + y1.val, by omega⟩ : Fin 8192) y2 := by
    blk_ext [idx5]
  rw [ht]
  suffices key : projBlk (iblk m c 0 t) (iblk m c 1 t) (iblk m c 2 t) (iblk m c 3 t) (iblk m c 4 t) (ix3 y0 y1 y2)
      = ∑ k : Fin 1024, normRow (fun l => m ((c.tc : Thread nD τ).loc main_arg0) (ix3 (⟨t.val / 8, by have := lt64 t; omega⟩ : Fin 8) (⟨t.val % 8 * 1024 + y1.val, by omega⟩ : Fin 8192) l)) (fun l => m ((c.tc : Thread nD τ).loc main_arg1) (ix1 l))
        (fun l => m ((c.tc : Thread nD τ).loc main_arg2) (ix3 (⟨t.val / 8, by have := lt64 t; omega⟩ : Fin 8) 0 l)) (fun l => m ((c.tc : Thread nD τ).loc main_arg3) (ix3 (⟨t.val / 8, by have := lt64 t; omega⟩ : Fin 8) 0 l)) k * cols (m ((c.tc : Thread nD τ).loc main_arg4)) k y2
      from key
  unfold projBlk
  refine Finset.sum_congr rfl fun k _ => ?_
  refine congrArg₂ (· * ·) ?_ (blk4 m c t k y2)
  refine congrFun ?_ k
  exact congr (congr (congrArg₂ normRow (funext fun l => blk0 m c t y1 l) (funext fun l => blk1 m c t l)) (funext fun l => blk2 m c t l)) (funext fun l => blk3 m c t l)

end Cert.DilInIdeal.Hand

end
-- ==== Proof.DilInRef.lean ====
module

public import proofs.«01_k».proof.Proof.DilInSpec
public import proofs.«01_k».proof.Proof.Gen.DilInRefIdeal.Run
public import Idealize.ShloMosaic.Lib.KernelVsHost

@[expose] public section

noncomputable section

namespace Cert.DilInRefIdeal.Hand

open Cert.DilInRefIdeal Cert.DilInRefIdeal.Gen Cert.DilInSpec Idealize.ShloMosaic Idealize.ShloMosaic.TcCoe
open Cert.ConvSpec (normRow)

/-- The reference's result from its arguments. -/
theorem res_eq (x : FVec Ideal S8x8192x1024 .f32) (g : FVec Ideal S1024 .f32) (sc : FVec Ideal S8x1x1024 .f32) (sh : FVec Ideal S8x1x1024 .f32) (wi : FVec Ideal S1024x4608 .f32) :
    (truncf .bf16 (extractStridedSlice S8x8192x1536 ![0, 0, 0] (Host.dotGeneral (F := Ideal) dot_S8x8192x1024_S1024x4608_S8x8192x4608_2_0_01_1_n_n none (addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)) wi) slices_S8x8192x4608_S8x8192x1536_0_0_0) bitsLt_bf16_f32 : FVec Ideal S8x8192x1536 .bf16) = out x g sc sh wi := by
  funext i
  idx_vars i
  unfold out normRow cols
  pointwise

end Cert.DilInRefIdeal.Hand

end
-- ==== Proof.StridedInSpec.lean ====
module

public import proofs.«01_k».proof.Proof.ConvSpec

@[expose] public section

noncomputable section

namespace Cert.StridedInSpec

open Cert.ConvSpec Idealize.ShloMosaic

abbrev SW : Shape := ⟨2, ![1024, 4608]⟩
abbrev SP : Shape := ⟨3, ![8, 2048, 6144]⟩

/-- The weights' second pattern of columns. -/
def cols (wi : SW.Idx → EReal) (k : Fin 1024) (n : Fin 1536) : EReal := wi (ix2 k (⟨1536 + n.val, by omega⟩ : Fin 4608))

/-- The token that the column `q` of the row `r` belongs to: the columns come in pieces of 512, one piece for each
    of the four residues in turn, the queries' four first, then the keys' and the values'. -/
def tok (r : Fin 2048) (q : Fin 6144) : Fin 8192 := ⟨r.val * 4 + q.val / 512 % 4, by omega⟩

/-- The projection's column that the column `q` holds. -/
def col (q : Fin 6144) : Fin 1536 := ⟨q.val / 2048 * 512 + q.val % 512, by omega⟩

/-- The normed tokens times the second pattern's weights, the tokens apart by their residue modulo four. -/
def out (x : SX.Idx → EReal) (g : SV.Idx → EReal) (sc sh : SM.Idx → EReal) (wi : SW.Idx → EReal) (i : SP.Idx) : EReal :=
  ∑ k : Fin 1024, normRow (fun l => x (ix3 (i 0) (tok (i 1) (i 2)) l)) (fun l => g (ix1 l)) (fun l => sc (ix3 (i 0) 0 l)) (fun l => sh (ix3 (i 0) 0 l)) k * cols wi k (col (i 2))

end Cert.StridedInSpec

end
-- ==== Proof.StridedInKernel.lean ====
module

public import proofs.«01_k».proof.Proof.Gen.StridedInIdeal.Value
public import proofs.«01_k».proof.Proof.StridedInSpec
public import Idealize.ShloMosaic.Lib.Pipeline.ValueKit
public import Idealize.ShloMosaic.Lib.Pointwise
public import Idealize.ShloMosaic.Lib.KernelVsHost

@[expose] public section

set_option maxRecDepth 16384

noncomputable section

namespace Cert.StridedInIdeal.Hand

open Cert.StridedInIdeal Cert.StridedInIdeal.Gen Cert.StridedInSpec Idealize.ShloMosaic Idealize.ShloMosaic.TcCoe Idealize.SL.Sem
open Cert.ConvSpec (normRow)
open Idealize.ShloMosaic.Pipeline (Dat)

/-- The normed rows of a block. -/
theorem norm_apply (x0 : Vec Ideal S1x1024x1024 .f32) (x1 : Vec Ideal S1x1024 .f32) (x2 x3 : Vec Ideal S1x1x1024 .f32) (r k : Fin 1024) :
    k0_pay3 (F := Ideal) x0 x1 x2 x3 (ix2 r k)
      = normRow (fun l => x0 (ix3 0 r l)) (fun l => x1 (ix2 0 l)) (fun l => x2 (ix3 0 0 l)) (fun l => x3 (ix3 0 0 l)) k := by
  unfold normRow
  pointwise [k0_pay3]

/-- A chunk of the kept product: the columns of one plane. -/
def keep (x0 : Vec Ideal S1x1024x1024 .f32) (x1 : Vec Ideal S1x1024 .f32) (x2 x3 : Vec Ideal S1x1x1024 .f32) (x4 : Vec Ideal S1024x1536 .f32)
    (z : S12x1024x128.Idx) : EReal :=
  ∑ k : Fin 1024, normRow (fun l => x0 (ix3 0 (z 1) l)) (fun l => x1 (ix2 0 l)) (fun l => x2 (ix3 0 0 l)) (fun l => x3 (ix3 0 0 l)) k
    * x4 (ix2 k (⟨(z 0).val * 128 + (z 2).val, by have h0 : (z 0).val < 12 := (z 0).isLt; have h2 : (z 2).val < 128 := (z 2).isLt; omega⟩ : Fin 1536))

/-- A block of projected columns, the rows apart by their residue. -/
def projBlk (x0 : Vec Ideal S1x1024x1024 .f32) (x1 : Vec Ideal S1x1024 .f32) (x2 x3 : Vec Ideal S1x1x1024 .f32) (x4 : Vec Ideal S1024x1536 .f32)
    (r : Fin 256) (q : Fin 6144) : EReal :=
  ∑ k : Fin 1024, normRow (fun l => x0 (ix3 0 (⟨r.val * 4 + q.val / 512 % 4, by omega⟩ : Fin 1024) l)) (fun l => x1 (ix2 0 l)) (fun l => x2 (ix3 0 0 l)) (fun l => x3 (ix3 0 0 l)) k
    * x4 (ix2 k (col q))

/-- Stores that all keep the product. -/
abbrev Keeps (x0 : Vec Ideal S1x1024x1024 .f32) (x1 : Vec Ideal S1x1024 .f32) (x2 x3 : Vec Ideal S1x1x1024 .f32) (x4 : Vec Ideal S1024x1536 .f32)
    (L : List (View.Piece (Elt Ideal) S12x1024x128 .f32)) : Prop :=
  ∀ p ∈ L, ∀ x : p.1.shape.Idx, p.2 x = keep x0 x1 x2 x3 x4 (p.1.emb x)

theorem keeps_nil (x0 : Vec Ideal S1x1024x1024 .f32) (x1 : Vec Ideal S1x1024 .f32) (x2 x3 : Vec Ideal S1x1x1024 .f32) (x4 : Vec Ideal S1024x1536 .f32) :
    Keeps x0 x1 x2 x3 x4 [] := fun p hp => absurd hp List.not_mem_nil

/-- One more plane stored. -/
theorem keeps_cons (x0 : Vec Ideal S1x1024x1024 .f32) (x1 : Vec Ideal S1x1024 .f32) (x2 x3 : Vec Ideal S1x1x1024 .f32) (x4 : Vec Ideal S1024x1536 .f32)
    (L : List (View.Piece (Elt Ideal) S12x1024x128 .f32)) (o : Nat) (ho : o < 12) (inb : ∀ a, (![o, 0, 0] : Fin 3 → Nat) a + (![1, 1024, 128] : Fin 3 → Nat) a ≤ S12x1024x128.size a)
    (p : Vec Ideal S1x1024x128 .f32)
    (hp : ∀ (a : Fin 1) (r : Fin 1024) (n : Fin 128), p (ix3 a r n) = ∑ k : Fin 1024, k0_pay3 (F := Ideal) x0 x1 x2 x3 (ix2 r k) * x4 (ix2 k ⟨o * 128 + n.val, by have := n.isLt; omega⟩))
    (hL : Keeps x0 x1 x2 x3 x4 L) :
    Keeps x0 x1 x2 x3 x4 (⟨Rect.unit ![o, 0, 0] ![1, 1024, 128] inb, p⟩ :: L) := by
  intro q hq z
  rcases List.mem_cons.1 hq with e | h
  · subst e
    change S1x1024x128.Idx at z
    idx_vars z
    refine (hp z0 z1 z2).trans ?_
    have e : (Rect.unit (s := S12x1024x128) ![o, 0, 0] ![1, 1024, 128] inb).emb (ix3 z0 z1 z2) = ix3 (⟨o, ho⟩ : Fin 12) z1 z2 := by
      blk_ext
    refine Eq.trans ?_ (congrArg (keep x0 x1 x2 x3 x4) e).symm
    unfold keep
    simp only [norm_apply]
    rfl
  · exact hL q h z

/-- A strided read of a kept plane is the block's columns. -/
theorem strided (x0 : Vec Ideal S1x1024x1024 .f32) (x1 : Vec Ideal S1x1024 .f32) (x2 x3 : Vec Ideal S1x1x1024 .f32) (x4 : Vec Ideal S1024x1536 .f32)
    (L : List (View.Piece (Elt Ideal) S12x1024x128 .f32)) (hL : Keeps x0 x1 x2 x3 x4 L) (q : Nat) (hq : q < 12) (ρ : Nat) (hρ : ρ < 4)
    (hc : ∃ (inb : ∀ a, (![q, 0, 0] : Fin 3 → Nat) a + (![1, 1024, 128] : Fin 3 → Nat) a ≤ S12x1024x128.size a) (p : Vec Ideal S1x1024x128 .f32), (⟨Rect.unit ![q, 0, 0] ![1, 1024, 128] inb, p⟩ : View.Piece (Elt Ideal) S12x1024x128 .f32) ∈ L)
    (inb : ∀ a, (![1, 256, 128] : Fin 3 → Nat) a = 0 ∨ (![q, ρ, 0] : Fin 3 → Nat) a + (![1, 4, 1] : Fin 3 → Nat) a * ((![1, 256, 128] : Fin 3 → Nat) a - 1) < S12x1024x128.size a)
    (a : Fin 1) (r : Fin 256) (l : Fin 128) :
    (View.whole cc0_scratch1).readCov L { off := ![q, ρ, 0], size := ![1, 256, 128], stride := ![1, 4, 1], inb := inb } (ix3 a r l)
      = keep x0 x1 x2 x3 x4 (ix3 (⟨q, hq⟩ : Fin 12) (⟨r.val * 4 + ρ, by omega⟩ : Fin 1024) l) := by
  rw [View.readCov_eq_canon']
  have e : ({ off := ![q, ρ, 0], size := ![1, 256, 128], stride := ![1, 4, 1], inb := inb } : LoadRect S12x1024x128).idx (ix3 a r l)
      = ix3 (⟨q, hq⟩ : Fin 12) (⟨r.val * 4 + ρ, by omega⟩ : Fin 1024) l := by
    funext d
    match d with
    | ⟨0, _⟩ => exact Fin.ext (show q + 1 * a.val = q by omega)
    | ⟨1, _⟩ => exact Fin.ext (show ρ + 4 * r.val = r.val * 4 + ρ by omega)
    | ⟨2, _⟩ => exact Fin.ext (show 0 + 1 * l.val = l.val by omega)
  refine (congrArg (View.canon L) e).trans ?_
  refine View.canon_apply_of_pieces (keep x0 x1 x2 x3 x4) L hL _ ?_
  obtain ⟨i, p, hp⟩ := hc
  refine ⟨_, hp, ?_⟩
  rw [LoadRect.mem_set]
  intro d
  match d with
  | ⟨0, _⟩ => exact ⟨0, Nat.one_pos, show q = q + 1 * 0 by omega⟩
  | ⟨1, _⟩ => exact ⟨r.val * 4 + ρ, show r.val * 4 + ρ < 1024 by omega, show r.val * 4 + ρ = 0 + 1 * (r.val * 4 + ρ) by omega⟩
  | ⟨2, _⟩ => exact ⟨l.val, l.isLt, show l.val = 0 + 1 * l.val by omega⟩

/-- What a store of such a read holds is the block's columns. -/
theorem stored (x0 : Vec Ideal S1x1024x1024 .f32) (x1 : Vec Ideal S1x1024 .f32) (x2 x3 : Vec Ideal S1x1x1024 .f32) (x4 : Vec Ideal S1024x1536 .f32)
    (q : Nat) (hq : q < 12) (ρ : Nat) (hρ : ρ < 4) (p : Vec Ideal S1x256x128 .bf16) (v : Vec Ideal S1x256x128 .f32)
    (hp : ∀ (a : Fin 1) (r : Fin 256) (l : Fin 128), p (ix3 a r l) = v (ix3 0 r l))
    (hv : ∀ (a : Fin 1) (r : Fin 256) (l : Fin 128), v (ix3 a r l) = keep x0 x1 x2 x3 x4 (ix3 (⟨q, hq⟩ : Fin 12) (⟨r.val * 4 + ρ, by omega⟩ : Fin 1024) l))
    (z : S1x256x128.Idx) (yr : Fin 256) (yq : Fin 6144) (h1 : yr.val = (z 1).val) (h2 : yq.val = q / 4 * 2048 + ρ * 512 + q % 4 * 128 + (z 2).val) :
    p z = projBlk x0 x1 x2 x3 x4 yr yq := by
  idx_vars z
  have hz1 : z1.val < 256 := z1.isLt
  have hz2 : z2.val < 128 := z2.isLt
  have hz : yq.val = q / 4 * 2048 + ρ * 512 + q % 4 * 128 + z2.val := h2
  obtain rfl : yr = z1 := Fin.ext h1
  refine (hp z0 yr z2).trans ((hv 0 yr z2).trans ?_)
  have er : (⟨yr.val * 4 + ρ, by omega⟩ : Fin 1024) = ⟨yr.val * 4 + yq.val / 512 % 4, by omega⟩ :=
    Fin.ext (by show yr.val * 4 + ρ = yr.val * 4 + yq.val / 512 % 4; omega)
  have ec : (⟨q * 128 + z2.val, by omega⟩ : Fin 1536) = col yq :=
    Fin.ext (by show q * 128 + z2.val = yq.val / 2048 * 512 + yq.val % 512; omega)
  unfold projBlk
  rw [← er, ← ec]
  rfl

/-- The first 4 planes stored. -/
theorem keeps4 (x0 : Vec Ideal S1x1024x1024 .f32) (x1 : Vec Ideal S1x1024 .f32) (x2 x3 : Vec Ideal S1x1x1024 .f32) (x4 : Vec Ideal S1024x1536 .f32) : Keeps x0 x1 x2 x3 x4
    [⟨Rect.unit ![3, 0, 0] ![1, 1024, 128] inb_S12x1024x128_S1x1024x128_3_0_0, k0_pay8 (k0_pay4 (k0_pay3 (F := Ideal) x0 x1 x2 x3) (View.ld x4 (Rect.unit ![0, 0] ![1024, 512] inb_S1024x1536_S1024x512_0_0)))⟩,
      ⟨Rect.unit ![2, 0, 0] ![1, 1024, 128] inb_S12x1024x128_S1x1024x128_2_0_0, k0_pay7 (k0_pay4 (k0_pay3 (F := Ideal) x0 x1 x2 x3) (View.ld x4 (Rect.unit ![0, 0] ![1024, 512] inb_S1024x1536_S1024x512_0_0)))⟩,
      ⟨Rect.unit ![1, 0, 0] ![1, 1024, 128] inb_S12x1024x128_S1x1024x128_1_0_0, k0_pay6 (k0_pay4 (k0_pay3 (F := Ideal) x0 x1 x2 x3) (View.ld x4 (Rect.unit ![0, 0] ![1024, 512] inb_S1024x1536_S1024x512_0_0)))⟩,
      ⟨Rect.unit ![0, 0, 0] ![1, 1024, 128] inb_S12x1024x128_S1x1024x128_0_0_0, k0_pay5 (k0_pay4 (k0_pay3 (F := Ideal) x0 x1 x2 x3) (View.ld x4 (Rect.unit ![0, 0] ![1024, 512] inb_S1024x1536_S1024x512_0_0)))⟩] :=
  keeps_cons x0 x1 x2 x3 x4 _ 3 (by omega) _ _ (fun a r n => by pointwise [k0_pay4, k0_pay5, k0_pay6, k0_pay7, k0_pay8]) (keeps_cons x0 x1 x2 x3 x4 _ 2 (by omega) _ _ (fun a r n => by pointwise [k0_pay4, k0_pay5, k0_pay6, k0_pay7, k0_pay8]) (keeps_cons x0 x1 x2 x3 x4 _ 1 (by omega) _ _ (fun a r n => by pointwise [k0_pay4, k0_pay5, k0_pay6, k0_pay7, k0_pay8]) (keeps_cons x0 x1 x2 x3 x4 _ 0 (by omega) _ _ (fun a r n => by pointwise [k0_pay4, k0_pay5, k0_pay6, k0_pay7, k0_pay8]) (keeps_nil x0 x1 x2 x3 x4))))

/-- The first 8 planes stored. -/
theorem keeps8 (x0 : Vec Ideal S1x1024x1024 .f32) (x1 : Vec Ideal S1x1024 .f32) (x2 x3 : Vec Ideal S1x1x1024 .f32) (x4 : Vec Ideal S1024x1536 .f32) : Keeps x0 x1 x2 x3 x4
    [⟨Rect.unit ![7, 0, 0] ![1, 1024, 128] inb_S12x1024x128_S1x1024x128_7_0_0, k0_pay31 (k0_pay3 (F := Ideal) x0 x1 x2 x3) (View.ld x4 (Rect.unit ![0, 512] ![1024, 512] inb_S1024x1536_S1024x512_0_512))⟩,
      ⟨Rect.unit ![6, 0, 0] ![1, 1024, 128] inb_S12x1024x128_S1x1024x128_6_0_0, k0_pay30 (k0_pay3 (F := Ideal) x0 x1 x2 x3) (View.ld x4 (Rect.unit ![0, 512] ![1024, 512] inb_S1024x1536_S1024x512_0_512))⟩,
      ⟨Rect.unit ![5, 0, 0] ![1, 1024, 128] inb_S12x1024x128_S1x1024x128_5_0_0, k0_pay29 (k0_pay3 (F := Ideal) x0 x1 x2 x3) (View.ld x4 (Rect.unit ![0, 512] ![1024, 512] inb_S1024x1536_S1024x512_0_512))⟩,
      ⟨Rect.unit ![4, 0, 0] ![1, 1024, 128] inb_S12x1024x128_S1x1024x128_4_0_0, k0_pay28 (k0_pay3 (F := Ideal) x0 x1 x2 x3) (View.ld x4 (Rect.unit ![0, 512] ![1024, 512] inb_S1024x1536_S1024x512_0_512))⟩,
      ⟨Rect.unit ![3, 0, 0] ![1, 1024, 128] inb_S12x1024x128_S1x1024x128_3_0_0, k0_pay8 (k0_pay4 (k0_pay3 (F := Ideal) x0 x1 x2 x3) (View.ld x4 (Rect.unit ![0, 0] ![1024, 512] inb_S1024x1536_S1024x512_0_0)))⟩,
      ⟨Rect.unit ![2, 0, 0] ![1, 1024, 128] inb_S12x1024x128_S1x1024x128_2_0_0, k0_pay7 (k0_pay4 (k0_pay3 (F := Ideal) x0 x1 x2 x3) (View.ld x4 (Rect.unit ![0, 0] ![1024, 512] inb_S1024x1536_S1024x512_0_0)))⟩,
      ⟨Rect.unit ![1, 0, 0] ![1, 1024, 128] inb_S12x1024x128_S1x1024x128_1_0_0, k0_pay6 (k0_pay4 (k0_pay3 (F := Ideal) x0 x1 x2 x3) (View.ld x4 (Rect.unit ![0, 0] ![1024, 512] inb_S1024x1536_S1024x512_0_0)))⟩,
      ⟨Rect.unit ![0, 0, 0] ![1, 1024, 128] inb_S12x1024x128_S1x1024x128_0_0_0, k0_pay5 (k0_pay4 (k0_pay3 (F := Ideal) x0 x1 x2 x3) (View.ld x4 (Rect.unit ![0, 0] ![1024, 512] inb_S1024x1536_S1024x512_0_0)))⟩] :=
  keeps_cons x0 x1 x2 x3 x4 _ 7 (by omega) _ _ (fun a r n => by pointwise [k0_pay27, k0_pay28, k0_pay29, k0_pay30, k0_pay31]; exact Finset.sum_congr rfl fun k _ => congrArg (fun i => k0_pay3 (F := Ideal) x0 x1 x2 x3 (ix2 r k) * x4 (ix2 k i)) (Fin.ext (by simp only; omega))) (keeps_cons x0 x1 x2 x3 x4 _ 6 (by omega) _ _ (fun a r n => by pointwise [k0_pay27, k0_pay28, k0_pay29, k0_pay30, k0_pay31]; exact Finset.sum_congr rfl fun k _ => congrArg (fun i => k0_pay3 (F := Ideal) x0 x1 x2 x3 (ix2 r k) * x4 (ix2 k i)) (Fin.ext (by simp only; omega))) (keeps_cons x0 x1 x2 x3 x4 _ 5 (by omega) _ _ (fun a r n => by pointwise [k0_pay27, k0_pay28, k0_pay29, k0_pay30, k0_pay31]; exact Finset.sum_congr rfl fun k _ => congrArg (fun i => k0_pay3 (F := Ideal) x0 x1 x2 x3 (ix2 r k) * x4 (ix2 k i)) (Fin.ext (by simp only; omega))) (keeps_cons x0 x1 x2 x3 x4 _ 4 (by omega) _ _ (fun a r n => by pointwise [k0_pay27, k0_pay28, k0_pay29, k0_pay30, k0_pay31]) (keeps4 x0 x1 x2 x3 x4))))

/-- The first 12 planes stored. -/
theorem keeps12 (x0 : Vec Ideal S1x1024x1024 .f32) (x1 : Vec Ideal S1x1024 .f32) (x2 x3 : Vec Ideal S1x1x1024 .f32) (x4 : Vec Ideal S1024x1536 .f32) : Keeps x0 x1 x2 x3 x4
    [⟨Rect.unit ![11, 0, 0] ![1, 1024, 128] inb_S12x1024x128_S1x1024x128_11_0_0, k0_pay54 (k0_pay3 (F := Ideal) x0 x1 x2 x3) (View.ld x4 (Rect.unit ![0, 1024] ![1024, 512] inb_S1024x1536_S1024x512_0_1024))⟩,
      ⟨Rect.unit ![10, 0, 0] ![1, 1024, 128] inb_S12x1024x128_S1x1024x128_10_0_0, k0_pay53 (k0_pay3 (F := Ideal) x0 x1 x2 x3) (View.ld x4 (Rect.unit ![0, 1024] ![1024, 512] inb_S1024x1536_S1024x512_0_1024))⟩,
      ⟨Rect.unit ![9, 0, 0] ![1, 1024, 128] inb_S12x1024x128_S1x1024x128_9_0_0, k0_pay52 (k0_pay3 (F := Ideal) x0 x1 x2 x3) (View.ld x4 (Rect.unit ![0, 1024] ![1024, 512] inb_S1024x1536_S1024x512_0_1024))⟩,
      ⟨Rect.unit ![8, 0, 0] ![1, 1024, 128] inb_S12x1024x128_S1x1024x128_8_0_0, k0_pay51 (k0_pay3 (F := Ideal) x0 x1 x2 x3) (View.ld x4 (Rect.unit ![0, 1024] ![1024, 512] inb_S1024x1536_S1024x512_0_1024))⟩,
      ⟨Rect.unit ![7, 0, 0] ![1, 1024, 128] inb_S12x1024x128_S1x1024x128_7_0_0, k0_pay31 (k0_pay3 (F := Ideal) x0 x1 x2 x3) (View.ld x4 (Rect.unit ![0, 512] ![1024, 512] inb_S1024x1536_S1024x512_0_512))⟩,
      ⟨Rect.unit ![6, 0, 0] ![1, 1024, 128] inb_S12x1024x128_S1x1024x128_6_0_0, k0_pay30 (k0_pay3 (F := Ideal) x0 x1 x2 x3) (View.ld x4 (Rect.unit ![0, 512] ![1024, 512] inb_S1024x1536_S1024x512_0_512))⟩,
      ⟨Rect.unit ![5, 0, 0] ![1, 1024, 128] inb_S12x1024x128_S1x1024x128_5_0_0, k0_pay29 (k0_pay3 (F := Ideal) x0 x1 x2 x3) (View.ld x4 (Rect.unit ![0, 512] ![1024, 512] inb_S1024x1536_S1024x512_0_512))⟩,
      ⟨Rect.unit ![4, 0, 0] ![1, 1024, 128] inb_S12x1024x128_S1x1024x128_4_0_0, k0_pay28 (k0_pay3 (F := Ideal) x0 x1 x2 x3) (View.ld x4 (Rect.unit ![0, 512] ![1024, 512] inb_S1024x1536_S1024x512_0_512))⟩,
      ⟨Rect.unit ![3, 0, 0] ![1, 1024, 128] inb_S12x1024x128_S1x1024x128_3_0_0, k0_pay8 (k0_pay4 (k0_pay3 (F := Ideal) x0 x1 x2 x3) (View.ld x4 (Rect.unit ![0, 0] ![1024, 512] inb_S1024x1536_S1024x512_0_0)))⟩,
      ⟨Rect.unit ![2, 0, 0] ![1, 1024, 128] inb_S12x1024x128_S1x1024x128_2_0_0, k0_pay7 (k0_pay4 (k0_pay3 (F := Ideal) x0 x1 x2 x3) (View.ld x4 (Rect.unit ![0, 0] ![1024, 512] inb_S1024x1536_S1024x512_0_0)))⟩,
      ⟨Rect.unit ![1, 0, 0] ![1, 1024, 128] inb_S12x1024x128_S1x1024x128_1_0_0, k0_pay6 (k0_pay4 (k0_pay3 (F := Ideal) x0 x1 x2 x3) (View.ld x4 (Rect.unit ![0, 0] ![1024, 512] inb_S1024x1536_S1024x512_0_0)))⟩,
      ⟨Rect.unit ![0, 0, 0] ![1, 1024, 128] inb_S12x1024x128_S1x1024x128_0_0_0, k0_pay5 (k0_pay4 (k0_pay3 (F := Ideal) x0 x1 x2 x3) (View.ld x4 (Rect.unit ![0, 0] ![1024, 512] inb_S1024x1536_S1024x512_0_0)))⟩] :=
  keeps_cons x0 x1 x2 x3 x4 _ 11 (by omega) _ _ (fun a r n => by pointwise [k0_pay50, k0_pay51, k0_pay52, k0_pay53, k0_pay54]; exact Finset.sum_congr rfl fun k _ => congrArg (fun i => k0_pay3 (F := Ideal) x0 x1 x2 x3 (ix2 r k) * x4 (ix2 k i)) (Fin.ext (by simp only; omega))) (keeps_cons x0 x1 x2 x3 x4 _ 10 (by omega) _ _ (fun a r n => by pointwise [k0_pay50, k0_pay51, k0_pay52, k0_pay53, k0_pay54]; exact Finset.sum_congr rfl fun k _ => congrArg (fun i => k0_pay3 (F := Ideal) x0 x1 x2 x3 (ix2 r k) * x4 (ix2 k i)) (Fin.ext (by simp only; omega))) (keeps_cons x0 x1 x2 x3 x4 _ 9 (by omega) _ _ (fun a r n => by pointwise [k0_pay50, k0_pay51, k0_pay52, k0_pay53, k0_pay54]; exact Finset.sum_congr rfl fun k _ => congrArg (fun i => k0_pay3 (F := Ideal) x0 x1 x2 x3 (ix2 r k) * x4 (ix2 k i)) (Fin.ext (by simp only; omega))) (keeps_cons x0 x1 x2 x3 x4 _ 8 (by omega) _ _ (fun a r n => by pointwise [k0_pay50, k0_pay51, k0_pay52, k0_pay53, k0_pay54]) (keeps8 x0 x1 x2 x3 x4))))

theorem projOut_apply (c : Dev nD) (t : Fin cfg0.N) (x0 : Vec Ideal S1x1024x1024 .f32) (x1 : Vec Ideal S1x1024 .f32) (x2 x3 : Vec Ideal S1x1x1024 .f32)
    (x4 : Vec Ideal S1024x1536 .f32) (y : S1x256x6144.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) x0 x1 x2 x3 x4 y
      = projBlk x0 x1 x2 x3 x4 (y 1) (y 2) := by
  frame_out
  canon_tiles
  · exact stored x0 x1 x2 x3 x4 11 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 11 (by omega) 3 (by omega) ⟨_, _, List.mem_cons_self⟩ inb_S12x1024x128_S1x256x128_11_3_0_s_1_4_1 a r l) x (y 1) (y 2) h1 (by omega)
  · exact stored x0 x1 x2 x3 x4 10 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 10 (by omega) 3 (by omega) ⟨_, _, (List.mem_cons_of_mem _ List.mem_cons_self)⟩ inb_S12x1024x128_S1x256x128_10_3_0_s_1_4_1 a r l) x (y 1) (y 2) h1 (by omega)
  · exact stored x0 x1 x2 x3 x4 9 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 9 (by omega) 3 (by omega) ⟨_, _, (List.mem_cons_of_mem _ (List.mem_cons_of_mem _ List.mem_cons_self))⟩ inb_S12x1024x128_S1x256x128_9_3_0_s_1_4_1 a r l) x (y 1) (y 2) h1 (by omega)
  · exact stored x0 x1 x2 x3 x4 8 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 8 (by omega) 3 (by omega) ⟨_, _, (List.mem_cons_of_mem _ (List.mem_cons_of_mem _ (List.mem_cons_of_mem _ List.mem_cons_self)))⟩ inb_S12x1024x128_S1x256x128_8_3_0_s_1_4_1 a r l) x (y 1) (y 2) h1 (by omega)
  · exact stored x0 x1 x2 x3 x4 11 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 11 (by omega) 2 (by omega) ⟨_, _, List.mem_cons_self⟩ inb_S12x1024x128_S1x256x128_11_2_0_s_1_4_1 a r l) x (y 1) (y 2) h1 (by omega)
  · exact stored x0 x1 x2 x3 x4 10 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 10 (by omega) 2 (by omega) ⟨_, _, (List.mem_cons_of_mem _ List.mem_cons_self)⟩ inb_S12x1024x128_S1x256x128_10_2_0_s_1_4_1 a r l) x (y 1) (y 2) h1 (by omega)
  · exact stored x0 x1 x2 x3 x4 9 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 9 (by omega) 2 (by omega) ⟨_, _, (List.mem_cons_of_mem _ (List.mem_cons_of_mem _ List.mem_cons_self))⟩ inb_S12x1024x128_S1x256x128_9_2_0_s_1_4_1 a r l) x (y 1) (y 2) h1 (by omega)
  · exact stored x0 x1 x2 x3 x4 8 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 8 (by omega) 2 (by omega) ⟨_, _, (List.mem_cons_of_mem _ (List.mem_cons_of_mem _ (List.mem_cons_of_mem _ List.mem_cons_self)))⟩ inb_S12x1024x128_S1x256x128_8_2_0_s_1_4_1 a r l) x (y 1) (y 2) h1 (by omega)
  · exact stored x0 x1 x2 x3 x4 11 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 11 (by omega) 1 (by omega) ⟨_, _, List.mem_cons_self⟩ inb_S12x1024x128_S1x256x128_11_1_0_s_1_4_1 a r l) x (y 1) (y 2) h1 (by omega)
  · exact stored x0 x1 x2 x3 x4 10 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 10 (by omega) 1 (by omega) ⟨_, _, (List.mem_cons_of_mem _ List.mem_cons_self)⟩ inb_S12x1024x128_S1x256x128_10_1_0_s_1_4_1 a r l) x (y 1) (y 2) h1 (by omega)
  · exact stored x0 x1 x2 x3 x4 9 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 9 (by omega) 1 (by omega) ⟨_, _, (List.mem_cons_of_mem _ (List.mem_cons_of_mem _ List.mem_cons_self))⟩ inb_S12x1024x128_S1x256x128_9_1_0_s_1_4_1 a r l) x (y 1) (y 2) h1 (by omega)
  · exact stored x0 x1 x2 x3 x4 8 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 8 (by omega) 1 (by omega) ⟨_, _, (List.mem_cons_of_mem _ (List.mem_cons_of_mem _ (List.mem_cons_of_mem _ List.mem_cons_self)))⟩ inb_S12x1024x128_S1x256x128_8_1_0_s_1_4_1 a r l) x (y 1) (y 2) h1 (by omega)
  · exact stored x0 x1 x2 x3 x4 11 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 11 (by omega) 0 (by omega) ⟨_, _, List.mem_cons_self⟩ inb_S12x1024x128_S1x256x128_11_0_0_s_1_4_1 a r l) x (y 1) (y 2) h1 (by omega)
  · exact stored x0 x1 x2 x3 x4 10 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 10 (by omega) 0 (by omega) ⟨_, _, (List.mem_cons_of_mem _ List.mem_cons_self)⟩ inb_S12x1024x128_S1x256x128_10_0_0_s_1_4_1 a r l) x (y 1) (y 2) h1 (by omega)
  · exact stored x0 x1 x2 x3 x4 9 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 9 (by omega) 0 (by omega) ⟨_, _, (List.mem_cons_of_mem _ (List.mem_cons_of_mem _ List.mem_cons_self))⟩ inb_S12x1024x128_S1x256x128_9_0_0_s_1_4_1 a r l) x (y 1) (y 2) h1 (by omega)
  · exact stored x0 x1 x2 x3 x4 8 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps12 x0 x1 x2 x3 x4) 8 (by omega) 0 (by omega) ⟨_, _, (List.mem_cons_of_mem _ (List.mem_cons_of_mem _ (List.mem_cons_of_mem _ List.mem_cons_self)))⟩ inb_S12x1024x128_S1x256x128_8_0_0_s_1_4_1 a r l) x (y 1) (y 2) h1 (by omega)
  · exact stored x0 x1 x2 x3 x4 7 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 7 (by omega) 3 (by omega) ⟨_, _, List.mem_cons_self⟩ inb_S12x1024x128_S1x256x128_7_3_0_s_1_4_1 a r l) x (y 1) (y 2) h1 (by omega)
  · exact stored x0 x1 x2 x3 x4 6 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 6 (by omega) 3 (by omega) ⟨_, _, (List.mem_cons_of_mem _ List.mem_cons_self)⟩ inb_S12x1024x128_S1x256x128_6_3_0_s_1_4_1 a r l) x (y 1) (y 2) h1 (by omega)
  · exact stored x0 x1 x2 x3 x4 5 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 5 (by omega) 3 (by omega) ⟨_, _, (List.mem_cons_of_mem _ (List.mem_cons_of_mem _ List.mem_cons_self))⟩ inb_S12x1024x128_S1x256x128_5_3_0_s_1_4_1 a r l) x (y 1) (y 2) h1 (by omega)
  · exact stored x0 x1 x2 x3 x4 4 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 4 (by omega) 3 (by omega) ⟨_, _, (List.mem_cons_of_mem _ (List.mem_cons_of_mem _ (List.mem_cons_of_mem _ List.mem_cons_self)))⟩ inb_S12x1024x128_S1x256x128_4_3_0_s_1_4_1 a r l) x (y 1) (y 2) h1 (by omega)
  · exact stored x0 x1 x2 x3 x4 7 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 7 (by omega) 2 (by omega) ⟨_, _, List.mem_cons_self⟩ inb_S12x1024x128_S1x256x128_7_2_0_s_1_4_1 a r l) x (y 1) (y 2) h1 (by omega)
  · exact stored x0 x1 x2 x3 x4 6 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 6 (by omega) 2 (by omega) ⟨_, _, (List.mem_cons_of_mem _ List.mem_cons_self)⟩ inb_S12x1024x128_S1x256x128_6_2_0_s_1_4_1 a r l) x (y 1) (y 2) h1 (by omega)
  · exact stored x0 x1 x2 x3 x4 5 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 5 (by omega) 2 (by omega) ⟨_, _, (List.mem_cons_of_mem _ (List.mem_cons_of_mem _ List.mem_cons_self))⟩ inb_S12x1024x128_S1x256x128_5_2_0_s_1_4_1 a r l) x (y 1) (y 2) h1 (by omega)
  · exact stored x0 x1 x2 x3 x4 4 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 4 (by omega) 2 (by omega) ⟨_, _, (List.mem_cons_of_mem _ (List.mem_cons_of_mem _ (List.mem_cons_of_mem _ List.mem_cons_self)))⟩ inb_S12x1024x128_S1x256x128_4_2_0_s_1_4_1 a r l) x (y 1) (y 2) h1 (by omega)
  · exact stored x0 x1 x2 x3 x4 7 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 7 (by omega) 1 (by omega) ⟨_, _, List.mem_cons_self⟩ inb_S12x1024x128_S1x256x128_7_1_0_s_1_4_1 a r l) x (y 1) (y 2) h1 (by omega)
  · exact stored x0 x1 x2 x3 x4 6 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 6 (by omega) 1 (by omega) ⟨_, _, (List.mem_cons_of_mem _ List.mem_cons_self)⟩ inb_S12x1024x128_S1x256x128_6_1_0_s_1_4_1 a r l) x (y 1) (y 2) h1 (by omega)
  · exact stored x0 x1 x2 x3 x4 5 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 5 (by omega) 1 (by omega) ⟨_, _, (List.mem_cons_of_mem _ (List.mem_cons_of_mem _ List.mem_cons_self))⟩ inb_S12x1024x128_S1x256x128_5_1_0_s_1_4_1 a r l) x (y 1) (y 2) h1 (by omega)
  · exact stored x0 x1 x2 x3 x4 4 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 4 (by omega) 1 (by omega) ⟨_, _, (List.mem_cons_of_mem _ (List.mem_cons_of_mem _ (List.mem_cons_of_mem _ List.mem_cons_self)))⟩ inb_S12x1024x128_S1x256x128_4_1_0_s_1_4_1 a r l) x (y 1) (y 2) h1 (by omega)
  · exact stored x0 x1 x2 x3 x4 7 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 7 (by omega) 0 (by omega) ⟨_, _, List.mem_cons_self⟩ inb_S12x1024x128_S1x256x128_7_0_0_s_1_4_1 a r l) x (y 1) (y 2) h1 (by omega)
  · exact stored x0 x1 x2 x3 x4 6 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 6 (by omega) 0 (by omega) ⟨_, _, (List.mem_cons_of_mem _ List.mem_cons_self)⟩ inb_S12x1024x128_S1x256x128_6_0_0_s_1_4_1 a r l) x (y 1) (y 2) h1 (by omega)
  · exact stored x0 x1 x2 x3 x4 5 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 5 (by omega) 0 (by omega) ⟨_, _, (List.mem_cons_of_mem _ (List.mem_cons_of_mem _ List.mem_cons_self))⟩ inb_S12x1024x128_S1x256x128_5_0_0_s_1_4_1 a r l) x (y 1) (y 2) h1 (by omega)
  · exact stored x0 x1 x2 x3 x4 4 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps8 x0 x1 x2 x3 x4) 4 (by omega) 0 (by omega) ⟨_, _, (List.mem_cons_of_mem _ (List.mem_cons_of_mem _ (List.mem_cons_of_mem _ List.mem_cons_self)))⟩ inb_S12x1024x128_S1x256x128_4_0_0_s_1_4_1 a r l) x (y 1) (y 2) h1 (by omega)
  · exact stored x0 x1 x2 x3 x4 3 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 3 (by omega) 3 (by omega) ⟨_, _, List.mem_cons_self⟩ inb_S12x1024x128_S1x256x128_3_3_0_s_1_4_1 a r l) x (y 1) (y 2) h1 (by omega)
  · exact stored x0 x1 x2 x3 x4 2 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 2 (by omega) 3 (by omega) ⟨_, _, (List.mem_cons_of_mem _ List.mem_cons_self)⟩ inb_S12x1024x128_S1x256x128_2_3_0_s_1_4_1 a r l) x (y 1) (y 2) h1 (by omega)
  · exact stored x0 x1 x2 x3 x4 1 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 1 (by omega) 3 (by omega) ⟨_, _, (List.mem_cons_of_mem _ (List.mem_cons_of_mem _ List.mem_cons_self))⟩ inb_S12x1024x128_S1x256x128_1_3_0_s_1_4_1 a r l) x (y 1) (y 2) h1 (by omega)
  · exact stored x0 x1 x2 x3 x4 0 (by omega) 3 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 0 (by omega) 3 (by omega) ⟨_, _, (List.mem_cons_of_mem _ (List.mem_cons_of_mem _ (List.mem_cons_of_mem _ List.mem_cons_self)))⟩ inb_S12x1024x128_S1x256x128_0_3_0_s_1_4_1 a r l) x (y 1) (y 2) h1 (by omega)
  · exact stored x0 x1 x2 x3 x4 3 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 3 (by omega) 2 (by omega) ⟨_, _, List.mem_cons_self⟩ inb_S12x1024x128_S1x256x128_3_2_0_s_1_4_1 a r l) x (y 1) (y 2) h1 (by omega)
  · exact stored x0 x1 x2 x3 x4 2 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 2 (by omega) 2 (by omega) ⟨_, _, (List.mem_cons_of_mem _ List.mem_cons_self)⟩ inb_S12x1024x128_S1x256x128_2_2_0_s_1_4_1 a r l) x (y 1) (y 2) h1 (by omega)
  · exact stored x0 x1 x2 x3 x4 1 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 1 (by omega) 2 (by omega) ⟨_, _, (List.mem_cons_of_mem _ (List.mem_cons_of_mem _ List.mem_cons_self))⟩ inb_S12x1024x128_S1x256x128_1_2_0_s_1_4_1 a r l) x (y 1) (y 2) h1 (by omega)
  · exact stored x0 x1 x2 x3 x4 0 (by omega) 2 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 0 (by omega) 2 (by omega) ⟨_, _, (List.mem_cons_of_mem _ (List.mem_cons_of_mem _ (List.mem_cons_of_mem _ List.mem_cons_self)))⟩ inb_S12x1024x128_S1x256x128_0_2_0_s_1_4_1 a r l) x (y 1) (y 2) h1 (by omega)
  · exact stored x0 x1 x2 x3 x4 3 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 3 (by omega) 1 (by omega) ⟨_, _, List.mem_cons_self⟩ inb_S12x1024x128_S1x256x128_3_1_0_s_1_4_1 a r l) x (y 1) (y 2) h1 (by omega)
  · exact stored x0 x1 x2 x3 x4 2 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 2 (by omega) 1 (by omega) ⟨_, _, (List.mem_cons_of_mem _ List.mem_cons_self)⟩ inb_S12x1024x128_S1x256x128_2_1_0_s_1_4_1 a r l) x (y 1) (y 2) h1 (by omega)
  · exact stored x0 x1 x2 x3 x4 1 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 1 (by omega) 1 (by omega) ⟨_, _, (List.mem_cons_of_mem _ (List.mem_cons_of_mem _ List.mem_cons_self))⟩ inb_S12x1024x128_S1x256x128_1_1_0_s_1_4_1 a r l) x (y 1) (y 2) h1 (by omega)
  · exact stored x0 x1 x2 x3 x4 0 (by omega) 1 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 0 (by omega) 1 (by omega) ⟨_, _, (List.mem_cons_of_mem _ (List.mem_cons_of_mem _ (List.mem_cons_of_mem _ List.mem_cons_self)))⟩ inb_S12x1024x128_S1x256x128_0_1_0_s_1_4_1 a r l) x (y 1) (y 2) h1 (by omega)
  · exact stored x0 x1 x2 x3 x4 3 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 3 (by omega) 0 (by omega) ⟨_, _, List.mem_cons_self⟩ inb_S12x1024x128_S1x256x128_3_0_0_s_1_4_1 a r l) x (y 1) (y 2) h1 (by omega)
  · exact stored x0 x1 x2 x3 x4 2 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 2 (by omega) 0 (by omega) ⟨_, _, (List.mem_cons_of_mem _ List.mem_cons_self)⟩ inb_S12x1024x128_S1x256x128_2_0_0_s_1_4_1 a r l) x (y 1) (y 2) h1 (by omega)
  · exact stored x0 x1 x2 x3 x4 1 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 1 (by omega) 0 (by omega) ⟨_, _, (List.mem_cons_of_mem _ (List.mem_cons_of_mem _ List.mem_cons_self))⟩ inb_S12x1024x128_S1x256x128_1_0_0_s_1_4_1 a r l) x (y 1) (y 2) h1 (by omega)
  · exact stored x0 x1 x2 x3 x4 0 (by omega) 0 (by omega) _ _ (fun a r l => by pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay55, k0_pay56, k0_pay57, k0_pay58, k0_pay59, k0_pay60, k0_pay61, k0_pay62, k0_pay63, k0_pay64, k0_pay65, k0_pay66, k0_pay67, k0_pay68, k0_pay69, k0_pay70, k0_pay71]) (fun a r l => strided x0 x1 x2 x3 x4 _ (keeps4 x0 x1 x2 x3 x4) 0 (by omega) 0 (by omega) ⟨_, _, (List.mem_cons_of_mem _ (List.mem_cons_of_mem _ (List.mem_cons_of_mem _ List.mem_cons_self)))⟩ inb_S12x1024x128_S1x256x128_0_0_0_s_1_4_1 a r l) x (y 1) (y 2) h1 (by omega)

theorem idx0 : ∀ t : Fin grid0.N, win0_0.index t = ![t.val / 8, t.val % 8, 0] := by decide +kernel
theorem idx1 : ∀ t : Fin grid0.N, win0_1.index t = ![0, 0] := by decide +kernel
theorem idx2 : ∀ t : Fin grid0.N, win0_2.index t = ![t.val / 8, 0, 0] := by decide +kernel
theorem idx3 : ∀ t : Fin grid0.N, win0_3.index t = ![t.val / 8, 0, 0] := by decide +kernel
theorem idx4 : ∀ t : Fin grid0.N, win0_4.index t = ![0, 0] := by decide +kernel
theorem idx5 : ∀ t : Fin grid0.N, win0_5.index t = ![t.val / 8, t.val % 8, 0] := by decide +kernel
theorem lt64 (t : Fin cfg0.N) : t.val < 64 := t.isLt

variable (m : (ℓ : Loc nD τ sig) → Buf (Elt Ideal) ℓ)

/-- The gain row the call finds is the argument. -/
theorem V_row (c : Dev nD) (l : Fin 1024) : V m c main_v1 (ix2 0 l) = m ((c.tc : Thread nD τ).loc main_arg1) (ix1 l) := by
  have e : V m c main_v1 = shapeCast S1x1024 (m ((c : Thread nD τ).loc main_arg1)) shapeCasts_S1024_S1x1024 := by
    entry_read
    rfl
  rw [e]
  pointwise

theorem blk0 (c : Dev nD) (t : Fin cfg0.N) (r l : Fin 1024) : iblk m c 0 t (ix3 0 r l)
    = m ((c.tc : Thread nD τ).loc main_arg0) (ix3 (⟨t.val / 8, by have := lt64 t; omega⟩ : Fin 8) (⟨t.val % 8 * 1024 + r.val, by omega⟩ : Fin 8192) l) := by
  blk_ext [iblk, V_main_arg0, idx0 t]
theorem blk1 (c : Dev nD) (t : Fin cfg0.N) (l : Fin 1024) : iblk m c 1 t (ix2 0 l) = m ((c.tc : Thread nD τ).loc main_arg1) (ix1 l) := by
  refine Eq.trans ?_ (V_row m c l)
  blk_ext [iblk, idx1 t]
theorem blk2 (c : Dev nD) (t : Fin cfg0.N) (l : Fin 1024) : iblk m c 2 t (ix3 0 0 l)
    = m ((c.tc : Thread nD τ).loc main_arg2) (ix3 (⟨t.val / 8, by have := lt64 t; omega⟩ : Fin 8) 0 l) := by
  blk_ext [iblk, V_main_arg2, idx2 t]
theorem blk3 (c : Dev nD) (t : Fin cfg0.N) (l : Fin 1024) : iblk m c 3 t (ix3 0 0 l)
    = m ((c.tc : Thread nD τ).loc main_arg3) (ix3 (⟨t.val / 8, by have := lt64 t; omega⟩ : Fin 8) 0 l) := by
  blk_ext [iblk, V_main_arg3, idx3 t]
/-- The weights the call finds are the pattern's columns of the argument. -/
theorem V_cols (c : Dev nD) (k : Fin 1024) (n : Fin 1536) : V m c main_v0 (ix2 k n) = cols (m ((c.tc : Thread nD τ).loc main_arg4)) k n := by
  have e : V m c main_v0 = extractStridedSlice S1024x1536 ![0, 1536] (m ((c : Thread nD τ).loc main_arg4)) slices_S1024x4608_S1024x1536_0_1536 := by
    entry_read
    rfl
  rw [e]
  unfold cols
  pointwise
theorem blk4 (c : Dev nD) (t : Fin cfg0.N) (k : Fin 1024) (n : Fin 1536) : iblk m c 4 t (ix2 k n) = cols (m ((c.tc : Thread nD τ).loc main_arg4)) k n := by
  refine Eq.trans ?_ (V_cols m c k n)
  blk_ext [iblk, idx4 t]

/-- What the call leaves in the projection's array. -/
theorem final (c : Dev nD) : (dats m 0 c).arrAt 5 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  unfold outsAt0
  rw [projOut_apply]
  idx_vars y
  have ht : ((win0_5.blk t).view.emb (ix3 y0 y1 y2)) = ix3 (⟨t.val / 8, by have := lt64 t; omega⟩ : Fin 8) (⟨t.val % 8 * 256 + y1.val, by omega⟩ : Fin 2048) y2 := by
    blk_ext [idx5]
  rw [ht]
  have hq : y2.val < 6144 := y2.isLt
  have hr : y1.val < 256 := y1.isLt
  have et : (⟨t.val % 8 * 1024 + (y1.val * 4 + y2.val / 512 % 4), by omega⟩ : Fin 8192) = tok (⟨t.val % 8 * 256 + y1.val, by omega⟩ : Fin 2048) y2 :=
    Fin.ext (by show t.val % 8 * 1024 + (y1.val * 4 + y2.val / 512 % 4) = (t.val % 8 * 256 + y1.val) * 4 + y2.val / 512 % 4; omega)
  suffices key : projBlk (iblk m c 0 t) (iblk m c 1 t) (iblk m c 2 t) (iblk m c 3 t) (iblk m c 4 t) y1 y2
      = ∑ k : Fin 1024, normRow (fun l => m ((c.tc : Thread nD τ).loc main_arg0) (ix3 (⟨t.val / 8, by have := lt64 t; omega⟩ : Fin 8) (tok (⟨t.val % 8 * 256 + y1.val, by omega⟩ : Fin 2048) y2) l)) (fun l => m ((c.tc : Thread nD τ).loc main_arg1) (ix1 l))
        (fun l => m ((c.tc : Thread nD τ).loc main_arg2) (ix3 (⟨t.val / 8, by have := lt64 t; omega⟩ : Fin 8) 0 l)) (fun l => m ((c.tc : Thread nD τ).loc main_arg3) (ix3 (⟨t.val / 8, by have := lt64 t; omega⟩ : Fin 8) 0 l)) k * cols (m ((c.tc : Thread nD τ).loc main_arg4)) k (col y2)
      from key
  rw [← et]
  unfold projBlk
  refine Finset.sum_congr rfl fun k _ => ?_
  refine congrArg₂ (· * ·) ?_ (blk4 m c t k (col y2))
  refine congrFun ?_ k
  exact congr (congr (congrArg₂ normRow (funext fun l => blk0 m c t (⟨y1.val * 4 + y2.val / 512 % 4, by omega⟩ : Fin 1024) l) (funext fun l => blk1 m c t l)) (funext fun l => blk2 m c t l)) (funext fun l => blk3 m c t l)

end Cert.StridedInIdeal.Hand

end
-- ==== Proof.StridedInRef.lean ====
module

public import proofs.«01_k».proof.Proof.StridedInSpec
public import proofs.«01_k».proof.Proof.Gen.StridedInRefIdeal.Run
public import Idealize.ShloMosaic.Lib.KernelVsHost

@[expose] public section

noncomputable section

namespace Cert.StridedInRefIdeal.Hand

open Cert.StridedInRefIdeal Cert.StridedInRefIdeal.Gen Cert.StridedInSpec Idealize.ShloMosaic Idealize.ShloMosaic.TcCoe
open Cert.ConvSpec (normRow)

/-- The reference's result from its arguments. -/
theorem res_eq (x : FVec Ideal S8x8192x1024 .f32) (g : FVec Ideal S1024 .f32) (sc : FVec Ideal S8x1x1024 .f32) (sh : FVec Ideal S8x1x1024 .f32) (wi : FVec Ideal S1024x4608 .f32) :
    (truncf .bf16 (shapeCast _ (transpose S8x2048x3x4x512 [0, 1, 3, 2, 4] (shapeCast _ (extractStridedSlice S8x8192x1536 ![0, 0, 1536] (Host.dotGeneral (F := Ideal) dot_S8x8192x1024_S1024x4608_S8x8192x4608_2_0_01_1_n_n none (addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)) wi) slices_S8x8192x4608_S8x8192x1536_0_0_1536) shapeCasts_S8x8192x1536_S8x2048x4x3x512) transposes_S8x2048x4x3x512_S8x2048x3x4x512_0_1_3_2_4) shapeCasts_S8x2048x3x4x512_S8x2048x6144) bitsLt_bf16_f32 : FVec Ideal S8x2048x6144 .bf16) = out x g sc sh wi := by
  funext i
  idx_vars i
  unfold out normRow cols tok col
  pointwise

end Cert.StridedInRefIdeal.Hand

end
-- ==== Proof.DilInClaims.lean ====
module

public import proofs.«01_k».proof.Defs
public import proofs.«01_k».proof.Proof.DilInKernel
public import proofs.«01_k».proof.Proof.DilInRef
public import proofs.«01_k».proof.Proof.StridedInKernel
public import proofs.«01_k».proof.Proof.StridedInRef
public import Idealize.ShloMosaic.Lib.Quiescent

@[expose] public section

noncomputable section

namespace Cert.Proof

open Idealize.ShloMosaic Idealize.SL.Sem

/-- The reference of the dilated layer's projection for its first pattern ends in the arguments it started from, every counter at zero. -/
theorem dilInRef_frame : quiescent_DilInRefIdeal (hDilInRefIdeal := Cert.DilInRefIdeal.Gen.facts) := fun m ρ _ =>
  (θ_run Cert.DilInRefIdeal.defs _ _).mono
    (fun r h => ⟨fun c => (h c).2, Idealize.ShloMosaic.sem_eq_zero_of_no_sems (by decide) r.2⟩)
    (Cert.DilInRefIdeal.Value.run (F := Ideal) m ρ)

/-- The kernel of the dilated layer's projection for its first pattern and its reference end in the same `DilInSpec.out` of the arguments. -/
theorem dilIn_algebraic : algebraic_DilInIdeal_DilInRefIdeal (hDilInIdeal := Cert.DilInIdeal.Gen.facts)
    (hDilInRefIdeal := Cert.DilInRefIdeal.Gen.facts) := by
  intro m g m' g' _ hagree
  refine ⟨fun c => (Cert.DilInIdeal.Gen.dats m 0 c).arrAt 5 Cert.DilInIdeal.cfg0.N, Cert.DilInIdeal.Value.run_blocks m g, ?_⟩
  refine (θ_run Cert.DilInRefIdeal.defs _ _).mono (fun r h c => ⟨(h c).1.trans ?_, (h c).2⟩)
    (Cert.DilInRefIdeal.Value.run (F := Ideal) m' g')
  obtain ⟨h0, h1, h2, h3, h4⟩ := hagree c
  refine (Cert.DilInRefIdeal.Hand.res_eq (m' ((c.tc : Thread Cert.DilInRefIdeal.nD Cert.DilInRefIdeal.τ).loc Cert.DilInRefIdeal.main_arg0)) (m' ((c.tc : Thread Cert.DilInRefIdeal.nD Cert.DilInRefIdeal.τ).loc Cert.DilInRefIdeal.main_arg1)) (m' ((c.tc : Thread Cert.DilInRefIdeal.nD Cert.DilInRefIdeal.τ).loc Cert.DilInRefIdeal.main_arg2)) (m' ((c.tc : Thread Cert.DilInRefIdeal.nD Cert.DilInRefIdeal.τ).loc Cert.DilInRefIdeal.main_arg3)) (m' ((c.tc : Thread Cert.DilInRefIdeal.nD Cert.DilInRefIdeal.τ).loc Cert.DilInRefIdeal.main_arg4))).trans ((Cert.DilInIdeal.Hand.final m c).trans ?_).symm
  rw [h0, h1, h2, h3, h4]

/-- The reference of the dilated layer's projection for its second pattern ends in the arguments it started from, every counter at zero. -/
theorem stridedInRef_frame : quiescent_StridedInRefIdeal (hStridedInRefIdeal := Cert.StridedInRefIdeal.Gen.facts) := fun m ρ _ =>
  (θ_run Cert.StridedInRefIdeal.defs _ _).mono
    (fun r h => ⟨fun c => (h c).2, Idealize.ShloMosaic.sem_eq_zero_of_no_sems (by decide) r.2⟩)
    (Cert.StridedInRefIdeal.Value.run (F := Ideal) m ρ)

/-- The kernel of the dilated layer's projection for its second pattern and its reference end in the same `StridedInSpec.out` of the arguments. -/
theorem stridedIn_algebraic : algebraic_StridedInIdeal_StridedInRefIdeal (hStridedInIdeal := Cert.StridedInIdeal.Gen.facts)
    (hStridedInRefIdeal := Cert.StridedInRefIdeal.Gen.facts) := by
  intro m g m' g' _ hagree
  refine ⟨fun c => (Cert.StridedInIdeal.Gen.dats m 0 c).arrAt 5 Cert.StridedInIdeal.cfg0.N, Cert.StridedInIdeal.Value.run_blocks m g, ?_⟩
  refine (θ_run Cert.StridedInRefIdeal.defs _ _).mono (fun r h c => ⟨(h c).1.trans ?_, (h c).2⟩)
    (Cert.StridedInRefIdeal.Value.run (F := Ideal) m' g')
  obtain ⟨h0, h1, h2, h3, h4⟩ := hagree c
  refine (Cert.StridedInRefIdeal.Hand.res_eq (m' ((c.tc : Thread Cert.StridedInRefIdeal.nD Cert.StridedInRefIdeal.τ).loc Cert.StridedInRefIdeal.main_arg0)) (m' ((c.tc : Thread Cert.StridedInRefIdeal.nD Cert.StridedInRefIdeal.τ).loc Cert.StridedInRefIdeal.main_arg1)) (m' ((c.tc : Thread Cert.StridedInRefIdeal.nD Cert.StridedInRefIdeal.τ).loc Cert.StridedInRefIdeal.main_arg2)) (m' ((c.tc : Thread Cert.StridedInRefIdeal.nD Cert.StridedInRefIdeal.τ).loc Cert.StridedInRefIdeal.main_arg3)) (m' ((c.tc : Thread Cert.StridedInRefIdeal.nD Cert.StridedInRefIdeal.τ).loc Cert.StridedInRefIdeal.main_arg4))).trans ((Cert.StridedInIdeal.Hand.final m c).trans ?_).symm
  rw [h0, h1, h2, h3, h4]

end Cert.Proof

end
-- ==== Proof.WideInSpec.lean ====
module

public import proofs.«01_k».proof.Proof.ConvSpec

@[expose] public section

noncomputable section

namespace Cert.WideInSpec

open Cert.ConvSpec Idealize.ShloMosaic

abbrev SW : Shape := ⟨2, ![1024, 4608]⟩
abbrev SP : Shape := ⟨3, ![8, 512, 24576]⟩

/-- The weights' third pattern of columns. -/
def cols (wi : SW.Idx → EReal) (k : Fin 1024) (n : Fin 1536) : EReal := wi (ix2 k (⟨3072 + n.val, by omega⟩ : Fin 4608))

/-- The token that the column `q` of the row `r` belongs to: the columns come in pieces of 512, one piece for each
    of the sixteen residues in turn, the queries' sixteen first, then the keys' and the values'. -/
def tok (r : Fin 512) (q : Fin 24576) : Fin 8192 := ⟨r.val * 16 + q.val / 512 % 16, by omega⟩

/-- The projection's column that the column `q` holds. -/
def col (q : Fin 24576) : Fin 1536 := ⟨q.val / 8192 * 512 + q.val % 512, by omega⟩

/-- The normed tokens times the third pattern's weights, the tokens apart by their residue modulo sixteen. -/
def out (x : SX.Idx → EReal) (g : SV.Idx → EReal) (sc sh : SM.Idx → EReal) (wi : SW.Idx → EReal) (i : SP.Idx) : EReal :=
  ∑ k : Fin 1024, normRow (fun l => x (ix3 (i 0) (tok (i 1) (i 2)) l)) (fun l => g (ix1 l)) (fun l => sc (ix3 (i 0) 0 l)) (fun l => sh (ix3 (i 0) 0 l)) k * cols wi k (col (i 2))

end Cert.WideInSpec

end
-- ==== Proof.WideInKernel.lean ====
module

public import proofs.«01_k».proof.Proof.Gen.WideInIdeal.Value
public import proofs.«01_k».proof.Proof.WideInSpec
public import Idealize.ShloMosaic.Lib.Pipeline.ValueKit
public import Idealize.ShloMosaic.Lib.Pointwise
public import Idealize.ShloMosaic.Lib.KernelVsHost

@[expose] public section

set_option maxRecDepth 16384

noncomputable section

namespace Cert.WideInIdeal.Hand

open Cert.WideInIdeal Cert.WideInIdeal.Gen Cert.WideInSpec Idealize.ShloMosaic Idealize.ShloMosaic.TcCoe Idealize.SL.Sem
open Cert.ConvSpec (normRow)
open Idealize.ShloMosaic.Pipeline (Dat)

/-- The normed rows of a block. -/
theorem norm_apply (x0 : Vec Ideal S1x1024x1024 .f32) (x1 : Vec Ideal S1x1024 .f32) (x2 x3 : Vec Ideal S1x1x1024 .f32) (r k : Fin 1024) :
    k0_pay3 (F := Ideal) x0 x1 x2 x3 (ix2 r k)
      = normRow (fun l => x0 (ix3 0 r l)) (fun l => x1 (ix2 0 l)) (fun l => x2 (ix3 0 0 l)) (fun l => x3 (ix3 0 0 l)) k := by
  unfold normRow
  pointwise [k0_pay3]

/-- A chunk of the kept product: the columns of one plane. -/
def keep (x0 : Vec Ideal S1x1024x1024 .f32) (x1 : Vec Ideal S1x1024 .f32) (x2 x3 : Vec Ideal S1x1x1024 .f32) (x4 : Vec Ideal S1024x1536 .f32)
    (z : S12x1024x128.Idx) : EReal :=
  ∑ k : Fin 1024, normRow (fun l => x0 (ix3 0 (z 1) l)) (fun l => x1 (ix2 0 l)) (fun l => x2 (ix3 0 0 l)) (fun l => x3 (ix3 0 0 l)) k
    * x4 (ix2 k (⟨(z 0).val * 128 + (z 2).val, by have h0 : (z 0).val < 12 := (z 0).isLt; have h2 : (z 2).val < 128 := (z 2).isLt; omega⟩ : Fin 1536))

/-- A block of projected columns, the rows apart by their residue. -/
def projBlk (x0 : Vec Ideal S1x1024x1024 .f32) (x1 : Vec Ideal S1x1024 .f32) (x2 x3 : Vec Ideal S1x1x1024 .f32) (x4 : Vec Ideal S1024x1536 .f32)
    (r : Fin 64) (q : Fin 24576) : EReal :=
  ∑ k : Fin 1024, normRow (fun l => x0 (ix3 0 (⟨r.val * 16 + q.val / 512 % 16, by omega⟩ : Fin 1024) l)) (fun l => x1 (ix2 0 l)) (fun l => x2 (ix3 0 0 l)) (fun l => x3 (ix3 0 0 l)) k
    * x4 (ix2 k (col q))

/-- Stores that all keep the product. -/
abbrev Keeps (x0 : Vec Ideal S1x1024x1024 .f32) (x1 : Vec Ideal S1x1024 .f32) (x2 x3 : Vec Ideal S1x1x1024 .f32) (x4 : Vec Ideal S1024x1536 .f32)
    (L : List (View.Piece (Elt Ideal) S12x1024x128 .f32)) : Prop :=
  ∀ p ∈ L, ∀ x : p.1.shape.Idx, p.2 x = keep x0 x1 x2 x3 x4 (p.1.emb x)

theorem keeps_nil (x0 : Vec Ideal S1x1024x1024 .f32) (x1 : Vec Ideal S1x1024 .f32) (x2 x3 : Vec Ideal S1x1x1024 .f32) (x4 : Vec Ideal S1024x1536 .f32) :
    Keeps x0 x1 x2 x3 x4 [] := fun p hp => absurd hp List.not_mem_nil

/-- One more plane stored. -/
theorem keeps_cons (x0 : Vec Ideal S1x1024x1024 .f32) (x1 : Vec Ideal S1x1024 .f32) (x2 x3 : Vec Ideal S1x1x1024 .f32) (x4 : Vec Ideal S1024x1536 .f32)
    (L : List (View.Piece (Elt Ideal) S12x1024x128 .f32)) (o : Nat) (ho : o < 12) (inb : ∀ a, (![o, 0, 0] : Fin 3 → Nat) a + (![1, 1024, 128] : Fin 3 → Nat) a ≤ S12x1024x128.size a)
    (p : Vec Ideal S1x1024x128 .f32)
    (hp : ∀ (a : Fin 1) (r : Fin 1024) (n : Fin 128), p (ix3 a r n) = ∑ k : Fin 1024, k0_pay3 (F := Ideal) x0 x1 x2 x3 (ix2 r k) * x4 (ix2 k ⟨o * 128 + n.val, by have := n.isLt; omega⟩))
    (hL : Keeps x0 x1 x2 x3 x4 L) :
    Keeps x0 x1 x2 x3 x4 (⟨Rect.unit ![o, 0, 0] ![1, 1024, 128] inb, p⟩ :: L) := by
  intro q hq z
  rcases List.mem_cons.1 hq with e | h
  · subst e
    change S1x1024x128.Idx at z
    idx_vars z
    refine (hp z0 z1 z2).trans ?_
    have e : (Rect.unit (s := S12x1024x128) ![o, 0, 0] ![1, 1024, 128] inb).emb (ix3 z0 z1 z2) = ix3 (⟨o, ho⟩ : Fin 12) z1 z2 := by
      blk_ext
    refine Eq.trans ?_ (congrArg (keep x0 x1 x2 x3 x4) e).symm
    unfold keep
    simp only [norm_apply]
    rfl
  · exact hL q h z

/-- A strided read of a kept plane is the block's columns. -/
theorem strided (x0 : Vec Ideal S1x1024x1024 .f32) (x1 : Vec Ideal S1x1024 .f32) (x2 x3 : Vec Ideal S1x1x1024 .f32) (x4 : Vec Ideal S1024x1536 .f32)
    (L : List (View.Piece (Elt Ideal) S12x1024x128 .f32)) (hL : Keeps x0 x1 x2 x3 x4 L) (q : Nat) (hq : q < 12) (ρ : Nat) (hρ : ρ < 16)
    (hc : ∃ (inb : ∀ a, (![q, 0, 0] : Fin 3 → Nat) a + (![1, 1024, 128] : Fin 3 → Nat) a ≤ S12x1024x128.size a) (p : Vec Ideal S1x1024x128 .f32), (⟨Rect.unit ![q, 0, 0] ![1, 1024, 128] inb, p⟩ : View.Piece (Elt Ideal) S12x1024x128 .f32) ∈ L)
    (inb : ∀ a, (![1, 64, 128] : Fin 3 → Nat) a = 0 ∨ (![q, ρ, 0] : Fin 3 → Nat) a + (![1, 16, 1] : Fin 3 → Nat) a * ((![1, 64, 128] : Fin 3 → Nat) a - 1) < S12x1024x128.size a)
    (a : Fin 1) (r : Fin 64) (l : Fin 128) :
    (View.whole cc0_scratch1).readCov L { off := ![q, ρ, 0], size := ![1, 64, 128], stride := ![1, 16, 1], inb := inb } (ix3 a r l)
      = keep x0 x1 x2 x3 x4 (ix3 (⟨q, hq⟩ : Fin 12) (⟨r.val * 16 + ρ, by omega⟩ : Fin 1024) l) := by
  rw [View.readCov_eq_canon']
  have e : ({ off := ![q, ρ, 0], size := ![1, 64, 128], stride := ![1, 16, 1], inb := inb } : LoadRect S12x1024x128).idx (ix3 a r l)
      = ix3 (⟨q, hq⟩ : Fin 12) (⟨r.val * 16 + ρ, by omega⟩ : Fin 1024) l := by
    funext d
    match d with
    | ⟨0, _⟩ => exact Fin.ext (show q + 1 * a.val = q by omega)
    | ⟨1, _⟩ => exact Fin.ext (show ρ + 16 * r.val = r.val * 16 + ρ by omega)
    | ⟨2, _⟩ => exact Fin.ext (show 0 + 1 * l.val = l.val by omega)
  refine (congrArg (View.canon L) e).trans ?_
  refine View.canon_apply_of_pieces (keep x0 x1 x2 x3 x4) L hL _ ?_
  obtain ⟨i, p, hp⟩ := hc
  refine ⟨_, hp, ?_⟩
  rw [LoadRect.mem_set]
  intro d
  match d with
  | ⟨0, _⟩ => exact ⟨0, Nat.one_pos, show q = q + 1 * 0 by omega⟩
  | ⟨1, _⟩ => exact ⟨r.val * 16 + ρ, show r.val * 16 + ρ < 1024 by omega, show r.val * 16 + ρ = 0 + 1 * (r.val * 16 + ρ) by omega⟩
  | ⟨2, _⟩ => exact ⟨l.val, l.isLt, show l.val = 0 + 1 * l.val by omega⟩

/-- What a store of such a read holds is the block's columns. -/
theorem stored (x0 : Vec Ideal S1x1024x1024 .f32) (x1 : Vec Ideal S1x1024 .f32) (x2 x3 : Vec Ideal S1x1x1024 .f32) (x4 : Vec Ideal S1024x1536 .f32)
    (q : Nat) (hq : q < 12) (ρ : Nat) (hρ : ρ < 16) (p : Vec Ideal S1x64x128 .bf16) (v : Vec Ideal S1x64x128 .f32)
    (hp : ∀ (a : Fin 1) (r : Fin 64) (l : Fin 128), p (ix3 a r l) = v (ix3 0 r l))
    (hv : ∀ (a : Fin 1) (r : Fin 64) (l : Fin 128), v (ix3 a r l) = keep x0 x1 x2 x3 x4 (ix3 (⟨q, hq⟩ : Fin 12) (⟨r.val * 16 + ρ, by omega⟩ : Fin 1024) l))
    (z : S1x64x128.Idx) (yr : Fin 64) (yq : Fin 24576) (h1 : yr.val = (z 1).val) (h2 : yq.val = q / 4 * 8192 + ρ * 512 + q % 4 * 128 + (z 2).val) :
    p z = projBlk x0 x1 x2 x3 x4 yr yq := by
  idx_vars z
  have hz1 : z1.val < 64 := z1.isLt
  have hz2 : z2.val < 128 := z2.isLt
  have hz : yq.val = q / 4 * 8192 + ρ * 512 + q % 4 * 128 + z2.val := h2
  obtain rfl : yr = z1 := Fin.ext h1
  refine (hp z0 yr z2).trans ((hv 0 yr z2).trans ?_)
  have er : (⟨yr.val * 16 + ρ, by omega⟩ : Fin 1024) = ⟨yr.val * 16 + yq.val / 512 % 16, by omega⟩ :=
    Fin.ext (by show yr.val * 16 + ρ = yr.val * 16 + yq.val / 512 % 16; omega)
  have ec : (⟨q * 128 + z2.val, by omega⟩ : Fin 1536) = col yq :=
    Fin.ext (by show q * 128 + z2.val = yq.val / 8192 * 512 + yq.val % 512; omega)
  unfold projBlk
  rw [← er, ← ec]
  rfl

/-- The first 4 planes stored. -/
theorem keeps4 (x0 : Vec Ideal S1x1024x1024 .f32) (x1 : Vec Ideal S1x1024 .f32) (x2 x3 : Vec Ideal S1x1x1024 .f32) (x4 : Vec Ideal S1024x1536 .f32) : Keeps x0 x1 x2 x3 x4
    [⟨Rect.unit ![3, 0, 0] ![1, 1024, 128] inb_S12x1024x128_S1x1024x128_3_0_0, k0_pay8 (k0_pay4 (k0_pay3 (F := Ideal) x0 x1 x2 x3) (View.ld x4 (Rect.unit ![0, 0] ![1024, 512] inb_S1024x1536_S1024x512_0_0)))⟩,
      ⟨Rect.unit ![2, 0, 0] ![1, 1024, 128] inb_S12x1024x128_S1x1024x128_2_0_0, k0_pay7 (k0_pay4 (k0_pay3 (F := Ideal) x0 x1 x2 x3) (View.ld x4 (Rect.unit ![0, 0] ![1024, 512] inb_S1024x1536_S1024x512_0_0)))⟩,
      ⟨Rect.unit ![1, 0, 0] ![1, 1024, 128] inb_S12x1024x128_S1x1024x128_1_0_0, k0_pay6 (k0_pay4 (k0_pay3 (F := Ideal) x0 x1 x2 x3) (View.ld x4 (Rect.unit ![0, 0] ![1024, 512] inb_S1024x1536_S1024x512_0_0)))⟩,
      ⟨Rect.unit ![0, 0, 0] ![1, 1024, 128] inb_S12x1024x128_S1x1024x128_0_0_0, k0_pay5 (k0_pay4 (k0_pay3 (F := Ideal) x0 x1 x2 x3) (View.ld x4 (Rect.unit ![0, 0] ![1024, 512] inb_S1024x1536_S1024x512_0_0)))⟩] :=
  keeps_cons x0 x1 x2 x3 x4 _ 3 (by omega) _ _ (fun a r n => by pointwise [k0_pay4, k0_pay5, k0_pay6, k0_pay7, k0_pay8]) (keeps_cons x0 x1 x2 x3 x4 _ 2 (by omega) _ _ (fun a r n => by pointwise [k0_pay4, k0_pay5, k0_pay6, k0_pay7, k0_pay8]) (keeps_cons x0 x1 x2 x3 x4 _ 1 (by omega) _ _ (fun a r n => by pointwise [k0_pay4, k0_pay5, k0_pay6, k0_pay7, k0_pay8]) (keeps_cons x0 x1 x2 x3 x4 _ 0 (by omega) _ _ (fun a r n => by pointwise [k0_pay4, k0_pay5, k0_pay6, k0_pay7, k0_pay8]) (keeps_nil x0 x1 x2 x3 x4))))

/-- The first 8 planes stored. -/
theorem keeps8 (x0 : Vec Ideal S1x1024x1024 .f32) (x1 : Vec Ideal S1x1024 .f32) (x2 x3 : Vec Ideal S1x1x1024 .f32) (x4 : Vec Ideal S1024x1536 .f32) : Keeps x0 x1 x2 x3 x4
    [⟨Rect.unit ![7, 0, 0] ![1, 1024, 128] inb_S12x1024x128_S1x1024x128_7_0_0, k0_pay85 (k0_pay84 (k0_pay3 (F := Ideal) x0 x1 x2 x3) (View.ld x4 (Rect.unit ![0, 512] ![1024, 512] inb_S1024x1536_S1024x512_0_512)))⟩,
      ⟨Rect.unit ![6, 0, 0] ![1, 1024, 128] inb_S12x1024x128_S1x1024x128_6_0_0, k0_pay83 (k0_pay3 (F := Ideal) x0 x1 x2 x3) (View.ld x4 (Rect.unit ![0, 512] ![1024, 512] inb_S1024x1536_S1024x512_0_512))⟩,
      ⟨Rect.unit ![5, 0, 0] ![1, 1024, 128] inb_S12x1024x128_S1x1024x128_5_0_0, k0_pay82 (k0_pay3 (F := Ideal) x0 x1 x2 x3) (View.ld x4 (Rect.unit ![0, 512] ![1024, 512] inb_S1024x1536_S1024x512_0_512))⟩,
      ⟨Rect.unit ![4, 0, 0] ![1, 1024, 128] inb_S12x1024x128_S1x1024x128_4_0_0, k0_pay81 (k0_pay3 (F := Ideal) x0 x1 x2 x3) (View.ld x4 (Rect.unit ![0, 512] ![1024, 512] inb_S1024x1536_S1024x512_0_512))⟩,
      ⟨Rect.unit ![3, 0, 0] ![1, 1024, 128] inb_S12x1024x128_S1x1024x128_3_0_0, k0_pay8 (k0_pay4 (k0_pay3 (F := Ideal) x0 x1 x2 x3) (View.ld x4 (Rect.unit ![0, 0] ![1024, 512] inb_S1024x1536_S1024x512_0_0)))⟩,
      ⟨Rect.unit ![2, 0, 0] ![1, 1024, 128] inb_S12x1024x128_S1x1024x128_2_0_0, k0_pay7 (k0_pay4 (k0_pay3 (F := Ideal) x0 x1 x2 x3) (View.ld x4 (Rect.unit ![0, 0] ![1024, 512] inb_S1024x1536_S1024x512_0_0)))⟩,
      ⟨Rect.unit ![1, 0, 0] ![1, 1024, 128] inb_S12x1024x128_S1x1024x128_1_0_0, k0_pay6 (k0_pay4 (k0_pay3 (F := Ideal) x0 x1 x2 x3) (View.ld x4 (Rect.unit ![0, 0] ![1024, 512] inb_S1024x1536_S1024x512_0_0)))⟩,
      ⟨Rect.unit ![0, 0, 0] ![1, 1024, 128] inb_S12x1024x128_S1x1024x128_0_0_0, k0_pay5 (k0_pay4 (k0_pay3 (F := Ideal) x0 x1 x2 x3) (View.ld x4 (Rect.unit ![0, 0] ![1024, 512] inb_S1024x1536_S1024x512_0_0)))⟩] :=
  keeps_cons x0 x1 x2 x3 x4 _ 7 (by omega) _ _ (fun a r n => by pointwise [k0_pay80, k0_pay81, k0_pay82, k0_pay83, k0_pay84, k0_pay85]; exact Finset.sum_congr rfl fun k _ => congrArg (fun i => k0_pay3 (F := Ideal) x0 x1 x2 x3 (ix2 r k) * x4 (ix2 k i)) (Fin.ext (by simp only; omega))) (keeps_cons x0 x1 x2 x3 x4 _ 6 (by omega) _ _ (fun a r n => by pointwise [k0_pay80, k0_pay81, k0_pay82, k0_pay83, k0_pay84, k0_pay85]; exact Finset.sum_congr rfl fun k _ => congrArg (fun i => k0_pay3 (F := Ideal) x0 x1 x2 x3 (ix2 r k) * x4 (ix2 k i)) (Fin.ext (by simp only; omega))) (keeps_cons x0 x1 x2 x3 x4 _ 5 (by omega) _ _ (fun a r n => by pointwise [k0_pay80, k0_pay81, k0_pay82, k0_pay83, k0_pay84, k0_pay85]; exact Finset.sum_congr rfl fun k _ => congrArg (fun i => k0_pay3 (F := Ideal) x0 x1 x2 x3 (ix2 r k) * x4 (ix2 k i)) (Fin.ext (by simp only; omega))) (keeps_cons x0 x1 x2 x3 x4 _ 4 (by omega) _ _ (fun a r n => by pointwise [k0_pay80, k0_pay81, k0_pay82, k0_pay83, k0_pay84, k0_pay85]) (keeps4 x0 x1 x2 x3 x4))))

/-- The first 12 planes stored. -/
theorem keeps12 (x0 : Vec Ideal S1x1024x1024 .f32) (x1 : Vec Ideal S1x1024 .f32) (x2 x3 : Vec Ideal S1x1x1024 .f32) (x4 : Vec Ideal S1024x1536 .f32) : Keeps x0 x1 x2 x3 x4
    [⟨Rect.unit ![11, 0, 0] ![1, 1024, 128] inb_S12x1024x128_S1x1024x128_11_0_0, k0_pay161 (k0_pay3 (F := Ideal) x0 x1 x2 x3) (View.ld x4 (Rect.unit ![0, 1024] ![1024, 512] inb_S1024x1536_S1024x512_0_1024))⟩,
      ⟨Rect.unit ![10, 0, 0] ![1, 1024, 128] inb_S12x1024x128_S1x1024x128_10_0_0, k0_pay160 (k0_pay3 (F := Ideal) x0 x1 x2 x3) (View.ld x4 (Rect.unit ![0, 1024] ![1024, 512] inb_S1024x1536_S1024x512_0_1024))⟩,
      ⟨Rect.unit ![9, 0, 0] ![1, 1024, 128] inb_S12x1024x128_S1x1024x128_9_0_0, k0_pay159 (k0_pay3 (F := Ideal) x0 x1 x2 x3) (View.ld x4 (Rect.unit ![0, 1024] ![1024, 512] inb_S1024x1536_S1024x512_0_1024))⟩,
      ⟨Rect.unit ![8, 0, 0] ![1, 1024, 128] inb_S12x1024x128_S1x1024x128_8_0_0, k0_pay158 (k0_pay3 (F := Ideal) x0 x1 x2 x3) (View.ld x4 (Rect.unit ![0, 1024] ![1024, 512] inb_S1024x1536_S1024x512_0_1024))⟩,
      ⟨Rect.unit ![7, 0, 0] ![1, 1024, 128] inb_S12x1024x128_S1x1024x128_7_0_0, k0_pay85 (k0_pay84 (k0_pay3 (F := Ideal) x0 x1 x2 x3) (View.ld x4 (Rect.unit ![0, 512] ![1024, 512] inb_S1024x1536_S1024x512_0_512)))⟩,
      ⟨Rect.unit ![6, 0, 0] ![1, 1024, 128] inb_S12x1024x128_S1x1024x128_6_0_0, k0_pay83 (k0_pay3 (F := Ideal) x0 x1 x2 x3) (View.ld x4 (Rect.unit ![0, 512] ![1024, 512] inb_S1024x1536_S1024x512_0_512))⟩,
      ⟨Rect.unit ![5, 0, 0] ![1, 1024, 128] inb_S12x1024x128_S1x1024x128_5_0_0, k0_pay82 (k0_pay3 (F := Ideal) x0 x1 x2 x3) (View.ld x4 (Rect.unit ![0, 512] ![1024, 512] inb_S1024x1536_S1024x512_0_512))⟩,
      ⟨Rect.unit ![4, 0, 0] ![1, 1024, 128] inb_S12x1024x128_S1x1024x128_4_0_0, k0_pay81 (k0_pay3 (F := Ideal) x0 x1 x2 x3) (View.ld x4 (Rect.unit ![0, 512] ![1024, 512] inb_S1024x1536_S1024x512_0_512))⟩,
      ⟨Rect.unit ![3, 0, 0] ![1, 1024, 128] inb_S12x1024x128_S1x1024x128_3_0_0, k0_pay8 (k0_pay4 (k0_pay3 (F := Ideal) x0 x1 x2 x3) (View.ld x4 (Rect.unit ![0, 0] ![1024, 512] inb_S1024x1536_S1024x512_0_0)))⟩,
      ⟨Rect.unit ![2, 0, 0] ![1, 1024, 128] inb_S12x1024x128_S1x1024x128_2_0_0, k0_pay7 (k0_pay4 (k0_pay3 (F := Ideal) x0 x1 x2 x3) (View.ld x4 (Rect.unit ![0, 0] ![1024, 512] inb_S1024x1536_S1024x512_0_0)))⟩,
      ⟨Rect.unit ![1, 0, 0] ![1, 1024, 128] inb_S12x1024x128_S1x1024x128_1_0_0, k0_pay6 (k0_pay4 (k0_pay3 (F := Ideal) x0 x1 x2 x3) (View.ld x4 (Rect.unit ![0, 0] ![1024, 512] inb_S1024x1536_S1024x512_0_0)))⟩,
      ⟨Rect.unit ![0, 0, 0] ![1, 1024, 128] inb_S12x1024x128_S1x1024x128_0_0_0, k0_pay5 (k0_pay4 (k0_pay3 (F := Ideal) x0 x1 x2 x3) (View.ld x4 (Rect.unit ![0, 0] ![1024, 512] inb_S1024x1536_S1024x512_0_0)))⟩] :=
  keeps_cons x0 x1 x2 x3 x4 _ 11 (by omega) _ _ (fun a r n => by pointwise [k0_pay157, k0_pay158, k0_pay159, k0_pay160, k0_pay161]; exact Finset.sum_congr rfl fun k _ => congrArg (fun i => k0_pay3 (F := Ideal) x0 x1 x2 x3 (ix2 r k) * x4 (ix2 k i)) (Fin.ext (by simp only; omega))) (keeps_cons x0 x1 x2 x3 x4 _ 10 (by omega) _ _ (fun a r n => by pointwise [k0_pay157, k0_pay158, k0_pay159, k0_pay160, k0_pay161]; exact Finset.sum_congr rfl fun k _ => congrArg (fun i => k0_pay3 (F := Ideal) x0 x1 x2 x3 (ix2 r k) * x4 (ix2 k i)) (Fin.ext (by simp only; omega))) (keeps_cons x0 x1 x2 x3 x4 _ 9 (by omega) _ _ (fun a r n => by pointwise [k0_pay157, k0_pay158, k0_pay159, k0_pay160, k0_pay161]; exact Finset.sum_congr rfl fun k _ => congrArg (fun i => k0_pay3 (F := Ideal) x0 x1 x2 x3 (ix2 r k) * x4 (ix2 k i)) (Fin.ext (by simp only; omega))) (keeps_cons x0 x1 x2 x3 x4 _ 8 (by omega) _ _ (fun a r n => by pointwise [k0_pay157, k0_pay158, k0_pay159, k0_pay160, k0_pay161]) (keeps8 x0 x1 x2 x3 x4))))

set_option maxHeartbeats 4000000 in
theorem projOut_apply (c : Dev nD) (t : Fin cfg0.N) (x0 : Vec Ideal S1x1024x1024 .f32) (x1 : Vec Ideal S1x1024 .f32) (x2 x3 : Vec Ideal S1x1x1024 .f32)
    (x4 : Vec Ideal S1024x1536 .f32) (y : S1x64x24576.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) x0 x1 x2 x3 x4 y
      = projBlk x0 x1 x2 x3 x4 (y 1) (y 2) := by
  frame_out
  canon_tiles
  · exact stored x0 x1 x2 x3 x4 11 (by omega) 15 (by omega) _ _ (fun a r l => by pointwise [k0_pay2]) (fun a r l => strided x0 x1 x2 x3 x4 _ (keeps12 x0 x1 x2 x3 x4) 11 (by omega) 15 (by omega) ⟨_, _, List.mem_cons_self⟩ inb_S12x1024x128_S1x64x128_11_15_0_s_1_16_1 a r l) x (y 1) (y 2) h1 (by omega)
  · exact stored x0 x1 x2 x3 x4 10 (by omega) 15 (by omega) _ _ (fun a r l => by pointwise [k0_pay1, k0_pay232]) (fun a r l => strided x0 x1 x2 x3 x4 _ (keeps12 x0 x1 x2 x3 x4) 10 (by omega) 15 (by omega) ⟨_, _, (List.mem_cons_of_mem _ List.mem_cons_self)⟩ inb_S12x1024x128_S1x64x128_10_15_0_s_1_16_1 a r l) x (y 1) (y 2) h1 (by omega)
  · exact stored x0 x1 x2 x3 x4 9 (by omega) 15 (by omega) _ _ (fun a r l => by pointwise [k0_pay231, k0_pay230]) (fun a r l => strided x0 x1 x2 x3 x4 _ (keeps12 x0 x1 x2 x3 x4) 9 (by omega) 15 (by omega) ⟨_, _, (List.mem_cons_of_mem _ (List.mem_cons_of_mem _ List.mem_cons_self))⟩ inb_S12x1024x128_S1x64x128_9_15_0_s_1_16_1 a r l) x (y 1) (y 2) h1 (by omega)
  · exact stored x0 x1 x2 x3 x4 8 (by omega) 15 (by omega) _ _ (fun a r l => by pointwise [k0_pay229]) (fun a r l => strided x0 x1 x2 x3 x4 _ (keeps12 x0 x1 x2 x3 x4) 8 (by omega) 15 (by omega) ⟨_, _, (List.mem_cons_of_mem _ (List.mem_cons_of_mem _ (List.mem_cons_of_mem _ List.mem_cons_self)))⟩ inb_S12x1024x128_S1x64x128_8_15_0_s_1_16_1 a r l) x (y 1) (y 2) h1 (by omega)
  · exact stored x0 x1 x2 x3 x4 11 (by omega) 14 (by omega) _ _ (fun a r l => by pointwise [k0_pay228]) (fun a r l => strided x0 x1 x2 x3 x4 _ (keeps12 x0 x1 x2 x3 x4) 11 (by omega) 14 (by omega) ⟨_, _, List.mem_cons_self⟩ inb_S12x1024x128_S1x64x128_11_14_0_s_1_16_1 a r l) x (y 1) (y 2) h1 (by omega)
  · exact stored x0 x1 x2 x3 x4 10 (by omega) 14 (by omega) _ _ (fun a r l => by pointwise [k0_pay227]) (fun a r l => strided x0 x1 x2 x3 x4 _ (keeps12 x0 x1 x2 x3 x4) 10 (by omega) 14 (by omega) ⟨_, _, (List.mem_cons_of_mem _ List.mem_cons_self)⟩ inb_S12x1024x128_S1x64x128_10_14_0_s_1_16_1 a r l) x (y 1) (y 2) h1 (by omega)
  · exact stored x0 x1 x2 x3 x4 9 (by omega) 14 (by omega) _ _ (fun a r l => by pointwise [k0_pay226]) (fun a r l => strided x0 x1 x2 x3 x4 _ (keeps12 x0 x1 x2 x3 x4) 9 (by omega) 14 (by omega) ⟨_, _, (List.mem_cons_of_mem _ (List.mem_cons_of_mem _ List.mem_cons_self))⟩ inb_S12x1024x128_S1x64x128_9_14_0_s_1_16_1 a r l) x (y 1) (y 2) h1 (by omega)
  · exact stored x0 x1 x2 x3 x4 8 (by omega) 14 (by omega) _ _ (fun a r l => by pointwise [k0_pay225]) (fun a r l => strided x0 x1 x2 x3 x4 _ (keeps12 x0 x1 x2 x3 x4) 8 (by omega) 14 (by omega) ⟨_, _, (List.mem_cons_of_mem _ (List.mem_cons_of_mem _ (List.mem_cons_of_mem _ List.mem_cons_self)))⟩ inb_S12x1024x128_S1x64x128_8_14_0_s_1_16_1 a r l) x (y 1) (y 2) h1 (by omega)
  · exact stored x0 x1 x2 x3 x4 11 (by omega) 13 (by omega) _ _ (fun a r l => by pointwise [k0_pay224]) (fun a r l => strided x0 x1 x2 x3 x4 _ (keeps12 x0 x1 x2 x3 x4) 11 (by omega) 13 (by omega) ⟨_, _, List.mem_cons_self⟩ inb_S12x1024x128_S1x64x128_11_13_0_s_1_16_1 a r l) x (y 1) (y 2) h1 (by omega)
  · exact stored x0 x1 x2 x3 x4 10 (by omega) 13 (by omega) _ _ (fun a r l => by pointwise [k0_pay223]) (fun a r l => strided x0 x1 x2 x3 x4 _ (keeps12 x0 x1 x2 x3 x4) 10 (by omega) 13 (by omega) ⟨_, _, (List.mem_cons_of_mem _ List.mem_cons_self)⟩ inb_S12x1024x128_S1x64x128_10_13_0_s_1_16_1 a r l) x (y 1) (y 2) h1 (by omega)
  · exact stored x0 x1 x2 x3 x4 9 (by omega) 13 (by omega) _ _ (fun a r l => by pointwise [k0_pay222]) (fun a r l => strided x0 x1 x2 x3 x4 _ (keeps12 x0 x1 x2 x3 x4) 9 (by omega) 13 (by omega) ⟨_, _, (List.mem_cons_of_mem _ (List.mem_cons_of_mem _ List.mem_cons_self))⟩ inb_S12x1024x128_S1x64x128_9_13_0_s_1_16_1 a r l) x (y 1) (y 2) h1 (by omega)
  · exact stored x0 x1 x2 x3 x4 8 (by omega) 13 (by omega) _ _ (fun a r l => by pointwise [k0_pay221]) (fun a r l => strided x0 x1 x2 x3 x4 _ (keeps12 x0 x1 x2 x3 x4) 8 (by omega) 13 (by omega) ⟨_, _, (List.mem_cons_of_mem _ (List.mem_cons_of_mem _ (List.mem_cons_of_mem _ List.mem_cons_self)))⟩ inb_S12x1024x128_S1x64x128_8_13_0_s_1_16_1 a r l) x (y 1) (y 2) h1 (by omega)
  · exact stored x0 x1 x2 x3 x4 11 (by omega) 12 (by omega) _ _ (fun a r l => by pointwise [k0_pay220]) (fun a r l => strided x0 x1 x2 x3 x4 _ (keeps12 x0 x1 x2 x3 x4) 11 (by omega) 12 (by omega) ⟨_, _, List.mem_cons_self⟩ inb_S12x1024x128_S1x64x128_11_12_0_s_1_16_1 a r l) x (y 1) (y 2) h1 (by omega)
  · exact stored x0 x1 x2 x3 x4 10 (by omega) 12 (by omega) _ _ (fun a r l => by pointwise [k0_pay219]) (fun a r l => strided x0 x1 x2 x3 x4 _ (keeps12 x0 x1 x2 x3 x4) 10 (by omega) 12 (by omega) ⟨_, _, (List.mem_cons_of_mem _ List.mem_cons_self)⟩ inb_S12x1024x128_S1x64x128_10_12_0_s_1_16_1 a r l) x (y 1) (y 2) h1 (by omega)
  · exact stored x0 x1 x2 x3 x4 9 (by omega) 12 (by omega) _ _ (fun a r l => by pointwise [k0_pay218]) (fun a r l => strided x0 x1 x2 x3 x4 _ (keeps12 x0 x1 x2 x3 x4) 9 (by omega) 12 (by omega) ⟨_, _, (List.mem_cons_of_mem _ (List.mem_cons_of_mem _ List.mem_cons_self))⟩ inb_S12x1024x128_S1x64x128_9_12_0_s_1_16_1 a r l) x (y 1) (y 2) h1 (by omega)
  · exact stored x0 x1 x2 x3 x4 8 (by omega) 12 (by omega) _ _ (fun a r l => by pointwise [k0_pay217]) (fun a r l => strided x0 x1 x2 x3 x4 _ (keeps12 x0 x1 x2 x3 x4) 8 (by omega) 12 (by omega) ⟨_, _, (List.mem_cons_of_mem _ (List.mem_cons_of_mem _ (List.mem_cons_of_mem _ List.mem_cons_self)))⟩ inb_S12x1024x128_S1x64x128_8_12_0_s_1_16_1 a r l) x (y 1) (y 2) h1 (by omega)
  · exact stored x0 x1 x2 x3 x4 11 (by omega) 11 (by omega) _ _ (fun a r l => by pointwise [k0_pay216, k0_pay215]) (fun a r l => strided x0 x1 x2 x3 x4 _ (keeps12 x0 x1 x2 x3 x4) 11 (by omega) 11 (by omega) ⟨_, _, List.mem_cons_self⟩ inb_S12x1024x128_S1x64x128_11_11_0_s_1_16_1 a r l) x (y 1) (y 2) h1 (by omega)
  · exact stored x0 x1 x2 x3 x4 10 (by omega) 11 (by omega) _ _ (fun a r l => by pointwise [k0_pay214]) (fun a r l => strided x0 x1 x2 x3 x4 _ (keeps12 x0 x1 x2 x3 x4) 10 (by omega) 11 (by omega) ⟨_, _, (List.mem_cons_of_mem _ List.mem_cons_self)⟩ inb_S12x1024x128_S1x64x128_10_11_0_s_1_16_1 a r l) x (y 1) (y 2) h1 (by omega)
  · exact stored x0 x1 x2 x3 x4 9 (by omega) 11 (by omega) _ _ (fun a r l => by pointwise [k0_pay213]) (fun a r l => strided x0 x1 x2 x3 x4 _ (keeps12 x0 x1 x2 x3 x4) 9 (by omega) 11 (by omega) ⟨_, _, (List.mem_cons_of_mem _ (List.mem_cons_of_mem _ List.mem_cons_self))⟩ inb_S12x1024x128_S1x64x128_9_11_0_s_1_16_1 a r l) x (y 1) (y 2) h1 (by omega)
  · exact stored x0 x1 x2 x3 x4 8 (by omega) 11 (by omega) _ _ (fun a r l => by pointwise [k0_pay212]) (fun a r l => strided x0 x1 x2 x3 x4 _ (keeps12 x0 x1 x2 x3 x4) 8 (by omega) 11 (by omega) ⟨_, _, (List.mem_cons_of_mem _ (List.mem_cons_of_mem _ (List.mem_cons_of_mem _ List.mem_cons_self)))⟩ inb_S12x1024x128_S1x64x128_8_11_0_s_1_16_1 a r l) x (y 1) (y 2) h1 (by omega)
  · exact stored x0 x1 x2 x3 x4 11 (by omega) 10 (by omega) _ _ (fun a r l => by pointwise [k0_pay211]) (fun a r l => strided x0 x1 x2 x3 x4 _ (keeps12 x0 x1 x2 x3 x4) 11 (by omega) 10 (by omega) ⟨_, _, List.mem_cons_self⟩ inb_S12x1024x128_S1x64x128_11_10_0_s_1_16_1 a r l) x (y 1) (y 2) h1 (by omega)
  · exact stored x0 x1 x2 x3 x4 10 (by omega) 10 (by omega) _ _ (fun a r l => by pointwise [k0_pay210]) (fun a r l => strided x0 x1 x2 x3 x4 _ (keeps12 x0 x1 x2 x3 x4) 10 (by omega) 10 (by omega) ⟨_, _, (List.mem_cons_of_mem _ List.mem_cons_self)⟩ inb_S12x1024x128_S1x64x128_10_10_0_s_1_16_1 a r l) x (y 1) (y 2) h1 (by omega)
  · exact stored x0 x1 x2 x3 x4 9 (by omega) 10 (by omega) _ _ (fun a r l => by pointwise [k0_pay209]) (fun a r l => strided x0 x1 x2 x3 x4 _ (keeps12 x0 x1 x2 x3 x4) 9 (by omega) 10 (by omega) ⟨_, _, (List.mem_cons_of_mem _ (List.mem_cons_of_mem _ List.mem_cons_self))⟩ inb_S12x1024x128_S1x64x128_9_10_0_s_1_16_1 a r l) x (y 1) (y 2) h1 (by omega)
  · exact stored x0 x1 x2 x3 x4 8 (by omega) 10 (by omega) _ _ (fun a r l => by pointwise [k0_pay208]) (fun a r l => strided x0 x1 x2 x3 x4 _ (keeps12 x0 x1 x2 x3 x4) 8 (by omega) 10 (by omega) ⟨_, _, (List.mem_cons_of_mem _ (List.mem_cons_of_mem _ (List.mem_cons_of_mem _ List.mem_cons_self)))⟩ inb_S12x1024x128_S1x64x128_8_10_0_s_1_16_1 a r l) x (y 1) (y 2) h1 (by omega)
  · exact stored x0 x1 x2 x3 x4 11 (by omega) 9 (by omega) _ _ (fun a r l => by pointwise [k0_pay207]) (fun a r l => strided x0 x1 x2 x3 x4 _ (keeps12 x0 x1 x2 x3 x4) 11 (by omega) 9 (by omega) ⟨_, _, List.mem_cons_self⟩ inb_S12x1024x128_S1x64x128_11_9_0_s_1_16_1 a r l) x (y 1) (y 2) h1 (by omega)
  · exact stored x0 x1 x2 x3 x4 10 (by omega) 9 (by omega) _ _ (fun a r l => by pointwise [k0_pay206, k0_pay205]) (fun a r l => strided x0 x1 x2 x3 x4 _ (keeps12 x0 x1 x2 x3 x4) 10 (by omega) 9 (by omega) ⟨_, _, (List.mem_cons_of_mem _ List.mem_cons_self)⟩ inb_S12x1024x128_S1x64x128_10_9_0_s_1_16_1 a r l) x (y 1) (y 2) h1 (by omega)
  · exact stored x0 x1 x2 x3 x4 9 (by omega) 9 (by omega) _ _ (fun a r l => by pointwise [k0_pay204]) (fun a r l => strided x0 x1 x2 x3 x4 _ (keeps12 x0 x1 x2 x3 x4) 9 (by omega) 9 (by omega) ⟨_, _, (List.mem_cons_of_mem _ (List.mem_cons_of_mem _ List.mem_cons_self))⟩ inb_S12x1024x128_S1x64x128_9_9_0_s_1_16_1 a r l) x (y 1) (y 2) h1 (by omega)
  · exact stored x0 x1 x2 x3 x4 8 (by omega) 9 (by omega) _ _ (fun a r l => by pointwise [k0_pay203]) (fun a r l => strided x0 x1 x2 x3 x4 _ (keeps12 x0 x1 x2 x3 x4) 8 (by omega) 9 (by omega) ⟨_, _, (List.mem_cons_of_mem _ (List.mem_cons_of_mem _ (List.mem_cons_of_mem _ List.mem_cons_self)))⟩ inb_S12x1024x128_S1x64x128_8_9_0_s_1_16_1 a r l) x (y 1) (y 2) h1 (by omega)
  · exact stored x0 x1 x2 x3 x4 11 (by omega) 8 (by omega) _ _ (fun a r l => by pointwise [k0_pay202]) (fun a r l => strided x0 x1 x2 x3 x4 _ (keeps12 x0 x1 x2 x3 x4) 11 (by omega) 8 (by omega) ⟨_, _, List.mem_cons_self⟩ inb_S12x1024x128_S1x64x128_11_8_0_s_1_16_1 a r l) x (y 1) (y 2) h1 (by omega)
  · exact stored x0 x1 x2 x3 x4 10 (by omega) 8 (by omega) _ _ (fun a r l => by pointwise [k0_pay201]) (fun a r l => strided x0 x1 x2 x3 x4 _ (keeps12 x0 x1 x2 x3 x4) 10 (by omega) 8 (by omega) ⟨_, _, (List.mem_cons_of_mem _ List.mem_cons_self)⟩ inb_S12x1024x128_S1x64x128_10_8_0_s_1_16_1 a r l) x (y 1) (y 2) h1 (by omega)
  · exact stored x0 x1 x2 x3 x4 9 (by omega) 8 (by omega) _ _ (fun a r l => by pointwise [k0_pay200, k0_pay199]) (fun a r l => strided x0 x1 x2 x3 x4 _ (keeps12 x0 x1 x2 x3 x4) 9 (by omega) 8 (by omega) ⟨_, _, (List.mem_cons_of_mem _ (List.mem_cons_of_mem _ List.mem_cons_self))⟩ inb_S12x1024x128_S1x64x128_9_8_0_s_1_16_1 a r l) x (y 1) (y 2) h1 (by omega)
  · exact stored x0 x1 x2 x3 x4 8 (by omega) 8 (by omega) _ _ (fun a r l => by pointwise [k0_pay198]) (fun a r l => strided x0 x1 x2 x3 x4 _ (keeps12 x0 x1 x2 x3 x4) 8 (by omega) 8 (by omega) ⟨_, _, (List.mem_cons_of_mem _ (List.mem_cons_of_mem _ (List.mem_cons_of_mem _ List.mem_cons_self)))⟩ inb_S12x1024x128_S1x64x128_8_8_0_s_1_16_1 a r l) x (y 1) (y 2) h1 (by omega)
  · exact stored x0 x1 x2 x3 x4 11 (by omega) 7 (by omega) _ _ (fun a r l => by pointwise [k0_pay197]) (fun a r l => strided x0 x1 x2 x3 x4 _ (keeps12 x0 x1 x2 x3 x4) 11 (by omega) 7 (by omega) ⟨_, _, List.mem_cons_self⟩ inb_S12x1024x128_S1x64x128_11_7_0_s_1_16_1 a r l) x (y 1) (y 2) h1 (by omega)
  · exact stored x0 x1 x2 x3 x4 10 (by omega) 7 (by omega) _ _ (fun a r l => by pointwise [k0_pay196]) (fun a r l => strided x0 x1 x2 x3 x4 _ (keeps12 x0 x1 x2 x3 x4) 10 (by omega) 7 (by omega) ⟨_, _, (List.mem_cons_of_mem _ List.mem_cons_self)⟩ inb_S12x1024x128_S1x64x128_10_7_0_s_1_16_1 a r l) x (y 1) (y 2) h1 (by omega)
  · exact stored x0 x1 x2 x3 x4 9 (by omega) 7 (by omega) _ _ (fun a r l => by pointwise [k0_pay195]) (fun a r l => strided x0 x1 x2 x3 x4 _ (keeps12 x0 x1 x2 x3 x4) 9 (by omega) 7 (by omega) ⟨_, _, (List.mem_cons_of_mem _ (List.mem_cons_of_mem _ List.mem_cons_self))⟩ inb_S12x1024x128_S1x64x128_9_7_0_s_1_16_1 a r l) x (y 1) (y 2) h1 (by omega)
  · exact stored x0 x1 x2 x3 x4 8 (by omega) 7 (by omega) _ _ (fun a r l => by pointwise [k0_pay194]) (fun a r l => strided x0 x1 x2 x3 x4 _ (keeps12 x0 x1 x2 x3 x4) 8 (by omega) 7 (by omega) ⟨_, _, (List.mem_cons_of_mem _ (List.mem_cons_of_mem _ (List.mem_cons_of_mem _ List.mem_cons_self)))⟩ inb_S12x1024x128_S1x64x128_8_7_0_s_1_16_1 a r l) x (y 1) (y 2) h1 (by omega)
  · exact stored x0 x1 x2 x3 x4 11 (by omega) 6 (by omega) _ _ (fun a r l => by pointwise [k0_pay193]) (fun a r l => strided x0 x1 x2 x3 x4 _ (keeps12 x0 x1 x2 x3 x4) 11 (by omega) 6 (by omega) ⟨_, _, List.mem_cons_self⟩ inb_S12x1024x128_S1x64x128_11_6_0_s_1_16_1 a r l) x (y 1) (y 2) h1 (by omega)
  · exact stored x0 x1 x2 x3 x4 10 (by omega) 6 (by omega) _ _ (fun a r l => by pointwise [k0_pay192]) (fun a r l => strided x0 x1 x2 x3 x4 _ (keeps12 x0 x1 x2 x3 x4) 10 (by omega) 6 (by omega) ⟨_, _, (List.mem_cons_of_mem _ List.mem_cons_self)⟩ inb_S12x1024x128_S1x64x128_10_6_0_s_1_16_1 a r l) x (y 1) (y 2) h1 (by omega)
  · exact stored x0 x1 x2 x3 x4 9 (by omega) 6 (by omega) _ _ (fun a r l => by pointwise [k0_pay191]) (fun a r l => strided x0 x1 x2 x3 x4 _ (keeps12 x0 x1 x2 x3 x4) 9 (by omega) 6 (by omega) ⟨_, _, (List.mem_cons_of_mem _ (List.mem_cons_of_mem _ List.mem_cons_self))⟩ inb_S12x1024x128_S1x64x128_9_6_0_s_1_16_1 a r l) x (y 1) (y 2) h1 (by omega)
  · exact stored x0 x1 x2 x3 x4 8 (by omega) 6 (by omega) _ _ (fun a r l => by pointwise [k0_pay190, k0_pay189]) (fun a r l => strided x0 x1 x2 x3 x4 _ (keeps12 x0 x1 x2 x3 x4) 8 (by omega) 6 (by omega) ⟨_, _, (List.mem_cons_of_mem _ (List.mem_cons_of_mem _ (List.mem_cons_of_mem _ List.mem_cons_self)))⟩ inb_S12x1024x128_S1x64x128_8_6_0_s_1_16_1 a r l) x (y 1) (y 2) h1 (by omega)
  · exact stored x0 x1 x2 x3 x4 11 (by omega) 5 (by omega) _ _ (fun a r l => by pointwise [k0_pay188]) (fun a r l => strided x0 x1 x2 x3 x4 _ (keeps12 x0 x1 x2 x3 x4) 11 (by omega) 5 (by omega) ⟨_, _, List.mem_cons_self⟩ inb_S12x1024x128_S1x64x128_11_5_0_s_1_16_1 a r l) x (y 1) (y 2) h1 (by omega)
  · exact stored x0 x1 x2 x3 x4 10 (by omega) 5 (by omega) _ _ (fun a r l => by pointwise [k0_pay187]) (fun a r l => strided x0 x1 x2 x3 x4 _ (keeps12 x0 x1 x2 x3 x4) 10 (by omega) 5 (by omega) ⟨_, _, (List.mem_cons_of_mem _ List.mem_cons_self)⟩ inb_S12x1024x128_S1x64x128_10_5_0_s_1_16_1 a r l) x (y 1) (y 2) h1 (by omega)
  · exact stored x0 x1 x2 x3 x4 9 (by omega) 5 (by omega) _ _ (fun a r l => by pointwise [k0_pay186]) (fun a r l => strided x0 x1 x2 x3 x4 _ (keeps12 x0 x1 x2 x3 x4) 9 (by omega) 5 (by omega) ⟨_, _, (List.mem_cons_of_mem _ (List.mem_cons_of_mem _ List.mem_cons_self))⟩ inb_S12x1024x128_S1x64x128_9_5_0_s_1_16_1 a r l) x (y 1) (y 2) h1 (by omega)
  · exact stored x0 x1 x2 x3 x4 8 (by omega) 5 (by omega) _ _ (fun a r l => by pointwise [k0_pay185]) (fun a r l => strided x0 x1 x2 x3 x4 _ (keeps12 x0 x1 x2 x3 x4) 8 (by omega) 5 (by omega) ⟨_, _, (List.mem_cons_of_mem _ (List.mem_cons_of_mem _ (List.mem_cons_of_mem _ List.mem_cons_self)))⟩ inb_S12x1024x128_S1x64x128_8_5_0_s_1_16_1 a r l) x (y 1) (y 2) h1 (by omega)
  · exact stored x0 x1 x2 x3 x4 11 (by omega) 4 (by omega) _ _ (fun a r l => by pointwise [k0_pay184]) (fun a r l => strided x0 x1 x2 x3 x4 _ (keeps12 x0 x1 x2 x3 x4) 11 (by omega) 4 (by omega) ⟨_, _, List.mem_cons_self⟩ inb_S12x1024x128_S1x64x128_11_4_0_s_1_16_1 a r l) x (y 1) (y 2) h1 (by omega)
  · exact stored x0 x1 x2 x3 x4 10 (by omega) 4 (by omega) _ _ (fun a r l => by pointwise [k0_pay183]) (fun a r l => strided x0 x1 x2 x3 x4 _ (keeps12 x0 x1 x2 x3 x4) 10 (by omega) 4 (by omega) ⟨_, _, (List.mem_cons_of_mem _ List.mem_cons_self)⟩ inb_S12x1024x128_S1x64x128_10_4_0_s_1_16_1 a r l) x (y 1) (y 2) h1 (by omega)
  · exact stored x0 x1 x2 x3 x4 9 (by omega) 4 (by omega) _ _ (fun a r l => by pointwise [k0_pay182]) (fun a r l => strided x0 x1 x2 x3 x4 _ (keeps12 x0 x1 x2 x3 x4) 9 (by omega) 4 (by omega) ⟨_, _, (List.mem_cons_of_mem _ (List.mem_cons_of_mem _ List.mem_cons_self))⟩ inb_S12x1024x128_S1x64x128_9_4_0_s_1_16_1 a r l) x (y 1) (y 2) h1 (by omega)
  · exact stored x0 x1 x2 x3 x4 8 (by omega) 4 (by omega) _ _ (fun a r l => by pointwise [k0_pay181]) (fun a r l => strided x0 x1 x2 x3 x4 _ (keeps12 x0 x1 x2 x3 x4) 8 (by omega) 4 (by omega) ⟨_, _, (List.mem_cons_of_mem _ (List.mem_cons_of_mem _ (List.mem_cons_of_mem _ List.mem_cons_self)))⟩ inb_S12x1024x128_S1x64x128_8_4_0_s_1_16_1 a r l) x (y 1) (y 2) h1 (by omega)
  · exact stored x0 x1 x2 x3 x4 11 (by omega) 3 (by omega) _ _ (fun a r l => by pointwise [k0_pay180, k0_pay179]) (fun a r l => strided x0 x1 x2 x3 x4 _ (keeps12 x0 x1 x2 x3 x4) 11 (by omega) 3 (by omega) ⟨_, _, List.mem_cons_self⟩ inb_S12x1024x128_S1x64x128_11_3_0_s_1_16_1 a r l) x (y 1) (y 2) h1 (by omega)
  · exact stored x0 x1 x2 x3 x4 10 (by omega) 3 (by omega) _ _ (fun a r l => by pointwise [k0_pay178]) (fun a r l => strided x0 x1 x2 x3 x4 _ (keeps12 x0 x1 x2 x3 x4) 10 (by omega) 3 (by omega) ⟨_, _, (List.mem_cons_of_mem _ List.mem_cons_self)⟩ inb_S12x1024x128_S1x64x128_10_3_0_s_1_16_1 a r l) x (y 1) (y 2) h1 (by omega)
  · exact stored x0 x1 x2 x3 x4 9 (by omega) 3 (by omega) _ _ (fun a r l => by pointwise [k0_pay177]) (fun a r l => strided x0 x1 x2 x3 x4 _ (keeps12 x0 x1 x2 x3 x4) 9 (by omega) 3 (by omega) ⟨_, _, (List.mem_cons_of_mem _ (List.mem_cons_of_mem _ List.mem_cons_self))⟩ inb_S12x1024x128_S1x64x128_9_3_0_s_1_16_1 a r l) x (y 1) (y 2) h1 (by omega)
  · exact stored x0 x1 x2 x3 x4 8 (by omega) 3 (by omega) _ _ (fun a r l => by pointwise [k0_pay176]) (fun a r l => strided x0 x1 x2 x3 x4 _ (keeps12 x0 x1 x2 x3 x4) 8 (by omega) 3 (by omega) ⟨_, _, (List.mem_cons_of_mem _ (List.mem_cons_of_mem _ (List.mem_cons_of_mem _ List.mem_cons_self)))⟩ inb_S12x1024x128_S1x64x128_8_3_0_s_1_16_1 a r l) x (y 1) (y 2) h1 (by omega)
  · exact stored x0 x1 x2 x3 x4 11 (by omega) 2 (by omega) _ _ (fun a r l => by pointwise [k0_pay175]) (fun a r l => strided x0 x1 x2 x3 x4 _ (keeps12 x0 x1 x2 x3 x4) 11 (by omega) 2 (by omega) ⟨_, _, List.mem_cons_self⟩ inb_S12x1024x128_S1x64x128_11_2_0_s_1_16_1 a r l) x (y 1) (y 2) h1 (by omega)
  · exact stored x0 x1 x2 x3 x4 10 (by omega) 2 (by omega) _ _ (fun a r l => by pointwise [k0_pay174, k0_pay173]) (fun a r l => strided x0 x1 x2 x3 x4 _ (keeps12 x0 x1 x2 x3 x4) 10 (by omega) 2 (by omega) ⟨_, _, (List.mem_cons_of_mem _ List.mem_cons_self)⟩ inb_S12x1024x128_S1x64x128_10_2_0_s_1_16_1 a r l) x (y 1) (y 2) h1 (by omega)
  · exact stored x0 x1 x2 x3 x4 9 (by omega) 2 (by omega) _ _ (fun a r l => by pointwise [k0_pay172]) (fun a r l => strided x0 x1 x2 x3 x4 _ (keeps12 x0 x1 x2 x3 x4) 9 (by omega) 2 (by omega) ⟨_, _, (List.mem_cons_of_mem _ (List.mem_cons_of_mem _ List.mem_cons_self))⟩ inb_S12x1024x128_S1x64x128_9_2_0_s_1_16_1 a r l) x (y 1) (y 2) h1 (by omega)
  · exact stored x0 x1 x2 x3 x4 8 (by omega) 2 (by omega) _ _ (fun a r l => by pointwise [k0_pay171]) (fun a r l => strided x0 x1 x2 x3 x4 _ (keeps12 x0 x1 x2 x3 x4) 8 (by omega) 2 (by omega) ⟨_, _, (List.mem_cons_of_mem _ (List.mem_cons_of_mem _ (List.mem_cons_of_mem _ List.mem_cons_self)))⟩ inb_S12x1024x128_S1x64x128_8_2_0_s_1_16_1 a r l) x (y 1) (y 2) h1 (by omega)
  · exact stored x0 x1 x2 x3 x4 11 (by omega) 1 (by omega) _ _ (fun a r l => by pointwise [k0_pay170]) (fun a r l => strided x0 x1 x2 x3 x4 _ (keeps12 x0 x1 x2 x3 x4) 11 (by omega) 1 (by omega) ⟨_, _, List.mem_cons_self⟩ inb_S12x1024x128_S1x64x128_11_1_0_s_1_16_1 a r l) x (y 1) (y 2) h1 (by omega)
  · exact stored x0 x1 x2 x3 x4 10 (by omega) 1 (by omega) _ _ (fun a r l => by pointwise [k0_pay169]) (fun a r l => strided x0 x1 x2 x3 x4 _ (keeps12 x0 x1 x2 x3 x4) 10 (by omega) 1 (by omega) ⟨_, _, (List.mem_cons_of_mem _ List.mem_cons_self)⟩ inb_S12x1024x128_S1x64x128_10_1_0_s_1_16_1 a r l) x (y 1) (y 2) h1 (by omega)
  · exact stored x0 x1 x2 x3 x4 9 (by omega) 1 (by omega) _ _ (fun a r l => by pointwise [k0_pay168]) (fun a r l => strided x0 x1 x2 x3 x4 _ (keeps12 x0 x1 x2 x3 x4) 9 (by omega) 1 (by omega) ⟨_, _, (List.mem_cons_of_mem _ (List.mem_cons_of_mem _ List.mem_cons_self))⟩ inb_S12x1024x128_S1x64x128_9_1_0_s_1_16_1 a r l) x (y 1) (y 2) h1 (by omega)
  · exact stored x0 x1 x2 x3 x4 8 (by omega) 1 (by omega) _ _ (fun a r l => by pointwise [k0_pay167]) (fun a r l => strided x0 x1 x2 x3 x4 _ (keeps12 x0 x1 x2 x3 x4) 8 (by omega) 1 (by omega) ⟨_, _, (List.mem_cons_of_mem _ (List.mem_cons_of_mem _ (List.mem_cons_of_mem _ List.mem_cons_self)))⟩ inb_S12x1024x128_S1x64x128_8_1_0_s_1_16_1 a r l) x (y 1) (y 2) h1 (by omega)
  · exact stored x0 x1 x2 x3 x4 11 (by omega) 0 (by omega) _ _ (fun a r l => by pointwise [k0_pay166]) (fun a r l => strided x0 x1 x2 x3 x4 _ (keeps12 x0 x1 x2 x3 x4) 11 (by omega) 0 (by omega) ⟨_, _, List.mem_cons_self⟩ inb_S12x1024x128_S1x64x128_11_0_0_s_1_16_1 a r l) x (y 1) (y 2) h1 (by omega)
  · exact stored x0 x1 x2 x3 x4 10 (by omega) 0 (by omega) _ _ (fun a r l => by pointwise [k0_pay165]) (fun a r l => strided x0 x1 x2 x3 x4 _ (keeps12 x0 x1 x2 x3 x4) 10 (by omega) 0 (by omega) ⟨_, _, (List.mem_cons_of_mem _ List.mem_cons_self)⟩ inb_S12x1024x128_S1x64x128_10_0_0_s_1_16_1 a r l) x (y 1) (y 2) h1 (by omega)
  · exact stored x0 x1 x2 x3 x4 9 (by omega) 0 (by omega) _ _ (fun a r l => by pointwise [k0_pay164, k0_pay163]) (fun a r l => strided x0 x1 x2 x3 x4 _ (keeps12 x0 x1 x2 x3 x4) 9 (by omega) 0 (by omega) ⟨_, _, (List.mem_cons_of_mem _ (List.mem_cons_of_mem _ List.mem_cons_self))⟩ inb_S12x1024x128_S1x64x128_9_0_0_s_1_16_1 a r l) x (y 1) (y 2) h1 (by omega)
  · exact stored x0 x1 x2 x3 x4 8 (by omega) 0 (by omega) _ _ (fun a r l => by pointwise [k0_pay162]) (fun a r l => strided x0 x1 x2 x3 x4 _ (keeps12 x0 x1 x2 x3 x4) 8 (by omega) 0 (by omega) ⟨_, _, (List.mem_cons_of_mem _ (List.mem_cons_of_mem _ (List.mem_cons_of_mem _ List.mem_cons_self)))⟩ inb_S12x1024x128_S1x64x128_8_0_0_s_1_16_1 a r l) x (y 1) (y 2) h1 (by omega)
  · exact stored x0 x1 x2 x3 x4 7 (by omega) 15 (by omega) _ _ (fun a r l => by pointwise [k0_pay156]) (fun a r l => strided x0 x1 x2 x3 x4 _ (keeps8 x0 x1 x2 x3 x4) 7 (by omega) 15 (by omega) ⟨_, _, List.mem_cons_self⟩ inb_S12x1024x128_S1x64x128_7_15_0_s_1_16_1 a r l) x (y 1) (y 2) h1 (by omega)
  · exact stored x0 x1 x2 x3 x4 6 (by omega) 15 (by omega) _ _ (fun a r l => by pointwise [k0_pay155]) (fun a r l => strided x0 x1 x2 x3 x4 _ (keeps8 x0 x1 x2 x3 x4) 6 (by omega) 15 (by omega) ⟨_, _, (List.mem_cons_of_mem _ List.mem_cons_self)⟩ inb_S12x1024x128_S1x64x128_6_15_0_s_1_16_1 a r l) x (y 1) (y 2) h1 (by omega)
  · exact stored x0 x1 x2 x3 x4 5 (by omega) 15 (by omega) _ _ (fun a r l => by pointwise [k0_pay154]) (fun a r l => strided x0 x1 x2 x3 x4 _ (keeps8 x0 x1 x2 x3 x4) 5 (by omega) 15 (by omega) ⟨_, _, (List.mem_cons_of_mem _ (List.mem_cons_of_mem _ List.mem_cons_self))⟩ inb_S12x1024x128_S1x64x128_5_15_0_s_1_16_1 a r l) x (y 1) (y 2) h1 (by omega)
  · exact stored x0 x1 x2 x3 x4 4 (by omega) 15 (by omega) _ _ (fun a r l => by pointwise [k0_pay153]) (fun a r l => strided x0 x1 x2 x3 x4 _ (keeps8 x0 x1 x2 x3 x4) 4 (by omega) 15 (by omega) ⟨_, _, (List.mem_cons_of_mem _ (List.mem_cons_of_mem _ (List.mem_cons_of_mem _ List.mem_cons_self)))⟩ inb_S12x1024x128_S1x64x128_4_15_0_s_1_16_1 a r l) x (y 1) (y 2) h1 (by omega)
  · exact stored x0 x1 x2 x3 x4 7 (by omega) 14 (by omega) _ _ (fun a r l => by pointwise [k0_pay152, k0_pay151]) (fun a r l => strided x0 x1 x2 x3 x4 _ (keeps8 x0 x1 x2 x3 x4) 7 (by omega) 14 (by omega) ⟨_, _, List.mem_cons_self⟩ inb_S12x1024x128_S1x64x128_7_14_0_s_1_16_1 a r l) x (y 1) (y 2) h1 (by omega)
  · exact stored x0 x1 x2 x3 x4 6 (by omega) 14 (by omega) _ _ (fun a r l => by pointwise [k0_pay150]) (fun a r l => strided x0 x1 x2 x3 x4 _ (keeps8 x0 x1 x2 x3 x4) 6 (by omega) 14 (by omega) ⟨_, _, (List.mem_cons_of_mem _ List.mem_cons_self)⟩ inb_S12x1024x128_S1x64x128_6_14_0_s_1_16_1 a r l) x (y 1) (y 2) h1 (by omega)
  · exact stored x0 x1 x2 x3 x4 5 (by omega) 14 (by omega) _ _ (fun a r l => by pointwise [k0_pay149]) (fun a r l => strided x0 x1 x2 x3 x4 _ (keeps8 x0 x1 x2 x3 x4) 5 (by omega) 14 (by omega) ⟨_, _, (List.mem_cons_of_mem _ (List.mem_cons_of_mem _ List.mem_cons_self))⟩ inb_S12x1024x128_S1x64x128_5_14_0_s_1_16_1 a r l) x (y 1) (y 2) h1 (by omega)
  · exact stored x0 x1 x2 x3 x4 4 (by omega) 14 (by omega) _ _ (fun a r l => by pointwise [k0_pay148]) (fun a r l => strided x0 x1 x2 x3 x4 _ (keeps8 x0 x1 x2 x3 x4) 4 (by omega) 14 (by omega) ⟨_, _, (List.mem_cons_of_mem _ (List.mem_cons_of_mem _ (List.mem_cons_of_mem _ List.mem_cons_self)))⟩ inb_S12x1024x128_S1x64x128_4_14_0_s_1_16_1 a r l) x (y 1) (y 2) h1 (by omega)
  · exact stored x0 x1 x2 x3 x4 7 (by omega) 13 (by omega) _ _ (fun a r l => by pointwise [k0_pay147]) (fun a r l => strided x0 x1 x2 x3 x4 _ (keeps8 x0 x1 x2 x3 x4) 7 (by omega) 13 (by omega) ⟨_, _, List.mem_cons_self⟩ inb_S12x1024x128_S1x64x128_7_13_0_s_1_16_1 a r l) x (y 1) (y 2) h1 (by omega)
  · exact stored x0 x1 x2 x3 x4 6 (by omega) 13 (by omega) _ _ (fun a r l => by pointwise [k0_pay146]) (fun a r l => strided x0 x1 x2 x3 x4 _ (keeps8 x0 x1 x2 x3 x4) 6 (by omega) 13 (by omega) ⟨_, _, (List.mem_cons_of_mem _ List.mem_cons_self)⟩ inb_S12x1024x128_S1x64x128_6_13_0_s_1_16_1 a r l) x (y 1) (y 2) h1 (by omega)
  · exact stored x0 x1 x2 x3 x4 5 (by omega) 13 (by omega) _ _ (fun a r l => by pointwise [k0_pay145]) (fun a r l => strided x0 x1 x2 x3 x4 _ (keeps8 x0 x1 x2 x3 x4) 5 (by omega) 13 (by omega) ⟨_, _, (List.mem_cons_of_mem _ (List.mem_cons_of_mem _ List.mem_cons_self))⟩ inb_S12x1024x128_S1x64x128_5_13_0_s_1_16_1 a r l) x (y 1) (y 2) h1 (by omega)
  · exact stored x0 x1 x2 x3 x4 4 (by omega) 13 (by omega) _ _ (fun a r l => by pointwise [k0_pay144]) (fun a r l => strided x0 x1 x2 x3 x4 _ (keeps8 x0 x1 x2 x3 x4) 4 (by omega) 13 (by omega) ⟨_, _, (List.mem_cons_of_mem _ (List.mem_cons_of_mem _ (List.mem_cons_of_mem _ List.mem_cons_self)))⟩ inb_S12x1024x128_S1x64x128_4_13_0_s_1_16_1 a r l) x (y 1) (y 2) h1 (by omega)
  · exact stored x0 x1 x2 x3 x4 7 (by omega) 12 (by omega) _ _ (fun a r l => by pointwise [k0_pay143]) (fun a r l => strided x0 x1 x2 x3 x4 _ (keeps8 x0 x1 x2 x3 x4) 7 (by omega) 12 (by omega) ⟨_, _, List.mem_cons_self⟩ inb_S12x1024x128_S1x64x128_7_12_0_s_1_16_1 a r l) x (y 1) (y 2) h1 (by omega)
  · exact stored x0 x1 x2 x3 x4 6 (by omega) 12 (by omega) _ _ (fun a r l => by pointwise [k0_pay142]) (fun a r l => strided x0 x1 x2 x3 x4 _ (keeps8 x0 x1 x2 x3 x4) 6 (by omega) 12 (by omega) ⟨_, _, (List.mem_cons_of_mem _ List.mem_cons_self)⟩ inb_S12x1024x128_S1x64x128_6_12_0_s_1_16_1 a r l) x (y 1) (y 2) h1 (by omega)
  · exact stored x0 x1 x2 x3 x4 5 (by omega) 12 (by omega) _ _ (fun a r l => by pointwise [k0_pay141]) (fun a r l => strided x0 x1 x2 x3 x4 _ (keeps8 x0 x1 x2 x3 x4) 5 (by omega) 12 (by omega) ⟨_, _, (List.mem_cons_of_mem _ (List.mem_cons_of_mem _ List.mem_cons_self))⟩ inb_S12x1024x128_S1x64x128_5_12_0_s_1_16_1 a r l) x (y 1) (y 2) h1 (by omega)
  · exact stored x0 x1 x2 x3 x4 4 (by omega) 12 (by omega) _ _ (fun a r l => by pointwise [k0_pay140]) (fun a r l => strided x0 x1 x2 x3 x4 _ (keeps8 x0 x1 x2 x3 x4) 4 (by omega) 12 (by omega) ⟨_, _, (List.mem_cons_of_mem _ (List.mem_cons_of_mem _ (List.mem_cons_of_mem _ List.mem_cons_self)))⟩ inb_S12x1024x128_S1x64x128_4_12_0_s_1_16_1 a r l) x (y 1) (y 2) h1 (by omega)
  · exact stored x0 x1 x2 x3 x4 7 (by omega) 11 (by omega) _ _ (fun a r l => by pointwise [k0_pay139]) (fun a r l => strided x0 x1 x2 x3 x4 _ (keeps8 x0 x1 x2 x3 x4) 7 (by omega) 11 (by omega) ⟨_, _, List.mem_cons_self⟩ inb_S12x1024x128_S1x64x128_7_11_0_s_1_16_1 a r l) x (y 1) (y 2) h1 (by omega)
  · exact stored x0 x1 x2 x3 x4 6 (by omega) 11 (by omega) _ _ (fun a r l => by pointwise [k0_pay138]) (fun a r l => strided x0 x1 x2 x3 x4 _ (keeps8 x0 x1 x2 x3 x4) 6 (by omega) 11 (by omega) ⟨_, _, (List.mem_cons_of_mem _ List.mem_cons_self)⟩ inb_S12x1024x128_S1x64x128_6_11_0_s_1_16_1 a r l) x (y 1) (y 2) h1 (by omega)
  · exact stored x0 x1 x2 x3 x4 5 (by omega) 11 (by omega) _ _ (fun a r l => by pointwise [k0_pay137, k0_pay136]) (fun a r l => strided x0 x1 x2 x3 x4 _ (keeps8 x0 x1 x2 x3 x4) 5 (by omega) 11 (by omega) ⟨_, _, (List.mem_cons_of_mem _ (List.mem_cons_of_mem _ List.mem_cons_self))⟩ inb_S12x1024x128_S1x64x128_5_11_0_s_1_16_1 a r l) x (y 1) (y 2) h1 (by omega)
  · exact stored x0 x1 x2 x3 x4 4 (by omega) 11 (by omega) _ _ (fun a r l => by pointwise [k0_pay135]) (fun a r l => strided x0 x1 x2 x3 x4 _ (keeps8 x0 x1 x2 x3 x4) 4 (by omega) 11 (by omega) ⟨_, _, (List.mem_cons_of_mem _ (List.mem_cons_of_mem _ (List.mem_cons_of_mem _ List.mem_cons_self)))⟩ inb_S12x1024x128_S1x64x128_4_11_0_s_1_16_1 a r l) x (y 1) (y 2) h1 (by omega)
  · exact stored x0 x1 x2 x3 x4 7 (by omega) 10 (by omega) _ _ (fun a r l => by pointwise [k0_pay134]) (fun a r l => strided x0 x1 x2 x3 x4 _ (keeps8 x0 x1 x2 x3 x4) 7 (by omega) 10 (by omega) ⟨_, _, List.mem_cons_self⟩ inb_S12x1024x128_S1x64x128_7_10_0_s_1_16_1 a r l) x (y 1) (y 2) h1 (by omega)
  · exact stored x0 x1 x2 x3 x4 6 (by omega) 10 (by omega) _ _ (fun a r l => by pointwise [k0_pay133]) (fun a r l => strided x0 x1 x2 x3 x4 _ (keeps8 x0 x1 x2 x3 x4) 6 (by omega) 10 (by omega) ⟨_, _, (List.mem_cons_of_mem _ List.mem_cons_self)⟩ inb_S12x1024x128_S1x64x128_6_10_0_s_1_16_1 a r l) x (y 1) (y 2) h1 (by omega)
  · exact stored x0 x1 x2 x3 x4 5 (by omega) 10 (by omega) _ _ (fun a r l => by pointwise [k0_pay132]) (fun a r l => strided x0 x1 x2 x3 x4 _ (keeps8 x0 x1 x2 x3 x4) 5 (by omega) 10 (by omega) ⟨_, _, (List.mem_cons_of_mem _ (List.mem_cons_of_mem _ List.mem_cons_self))⟩ inb_S12x1024x128_S1x64x128_5_10_0_s_1_16_1 a r l) x (y 1) (y 2) h1 (by omega)
  · exact stored x0 x1 x2 x3 x4 4 (by omega) 10 (by omega) _ _ (fun a r l => by pointwise [k0_pay131]) (fun a r l => strided x0 x1 x2 x3 x4 _ (keeps8 x0 x1 x2 x3 x4) 4 (by omega) 10 (by omega) ⟨_, _, (List.mem_cons_of_mem _ (List.mem_cons_of_mem _ (List.mem_cons_of_mem _ List.mem_cons_self)))⟩ inb_S12x1024x128_S1x64x128_4_10_0_s_1_16_1 a r l) x (y 1) (y 2) h1 (by omega)
  · exact stored x0 x1 x2 x3 x4 7 (by omega) 9 (by omega) _ _ (fun a r l => by pointwise [k0_pay130]) (fun a r l => strided x0 x1 x2 x3 x4 _ (keeps8 x0 x1 x2 x3 x4) 7 (by omega) 9 (by omega) ⟨_, _, List.mem_cons_self⟩ inb_S12x1024x128_S1x64x128_7_9_0_s_1_16_1 a r l) x (y 1) (y 2) h1 (by omega)
  · exact stored x0 x1 x2 x3 x4 6 (by omega) 9 (by omega) _ _ (fun a r l => by pointwise [k0_pay129]) (fun a r l => strided x0 x1 x2 x3 x4 _ (keeps8 x0 x1 x2 x3 x4) 6 (by omega) 9 (by omega) ⟨_, _, (List.mem_cons_of_mem _ List.mem_cons_self)⟩ inb_S12x1024x128_S1x64x128_6_9_0_s_1_16_1 a r l) x (y 1) (y 2) h1 (by omega)
  · exact stored x0 x1 x2 x3 x4 5 (by omega) 9 (by omega) _ _ (fun a r l => by pointwise [k0_pay128]) (fun a r l => strided x0 x1 x2 x3 x4 _ (keeps8 x0 x1 x2 x3 x4) 5 (by omega) 9 (by omega) ⟨_, _, (List.mem_cons_of_mem _ (List.mem_cons_of_mem _ List.mem_cons_self))⟩ inb_S12x1024x128_S1x64x128_5_9_0_s_1_16_1 a r l) x (y 1) (y 2) h1 (by omega)
  · exact stored x0 x1 x2 x3 x4 4 (by omega) 9 (by omega) _ _ (fun a r l => by pointwise [k0_pay127, k0_pay126]) (fun a r l => strided x0 x1 x2 x3 x4 _ (keeps8 x0 x1 x2 x3 x4) 4 (by omega) 9 (by omega) ⟨_, _, (List.mem_cons_of_mem _ (List.mem_cons_of_mem _ (List.mem_cons_of_mem _ List.mem_cons_self)))⟩ inb_S12x1024x128_S1x64x128_4_9_0_s_1_16_1 a r l) x (y 1) (y 2) h1 (by omega)
  · exact stored x0 x1 x2 x3 x4 7 (by omega) 8 (by omega) _ _ (fun a r l => by pointwise [k0_pay125]) (fun a r l => strided x0 x1 x2 x3 x4 _ (keeps8 x0 x1 x2 x3 x4) 7 (by omega) 8 (by omega) ⟨_, _, List.mem_cons_self⟩ inb_S12x1024x128_S1x64x128_7_8_0_s_1_16_1 a r l) x (y 1) (y 2) h1 (by omega)
  · exact stored x0 x1 x2 x3 x4 6 (by omega) 8 (by omega) _ _ (fun a r l => by pointwise [k0_pay124]) (fun a r l => strided x0 x1 x2 x3 x4 _ (keeps8 x0 x1 x2 x3 x4) 6 (by omega) 8 (by omega) ⟨_, _, (List.mem_cons_of_mem _ List.mem_cons_self)⟩ inb_S12x1024x128_S1x64x128_6_8_0_s_1_16_1 a r l) x (y 1) (y 2) h1 (by omega)
  · exact stored x0 x1 x2 x3 x4 5 (by omega) 8 (by omega) _ _ (fun a r l => by pointwise [k0_pay123]) (fun a r l => strided x0 x1 x2 x3 x4 _ (keeps8 x0 x1 x2 x3 x4) 5 (by omega) 8 (by omega) ⟨_, _, (List.mem_cons_of_mem _ (List.mem_cons_of_mem _ List.mem_cons_self))⟩ inb_S12x1024x128_S1x64x128_5_8_0_s_1_16_1 a r l) x (y 1) (y 2) h1 (by omega)
  · exact stored x0 x1 x2 x3 x4 4 (by omega) 8 (by omega) _ _ (fun a r l => by pointwise [k0_pay122]) (fun a r l => strided x0 x1 x2 x3 x4 _ (keeps8 x0 x1 x2 x3 x4) 4 (by omega) 8 (by omega) ⟨_, _, (List.mem_cons_of_mem _ (List.mem_cons_of_mem _ (List.mem_cons_of_mem _ List.mem_cons_self)))⟩ inb_S12x1024x128_S1x64x128_4_8_0_s_1_16_1 a r l) x (y 1) (y 2) h1 (by omega)
  · exact stored x0 x1 x2 x3 x4 7 (by omega) 7 (by omega) _ _ (fun a r l => by pointwise [k0_pay121, k0_pay120]) (fun a r l => strided x0 x1 x2 x3 x4 _ (keeps8 x0 x1 x2 x3 x4) 7 (by omega) 7 (by omega) ⟨_, _, List.mem_cons_self⟩ inb_S12x1024x128_S1x64x128_7_7_0_s_1_16_1 a r l) x (y 1) (y 2) h1 (by omega)
  · exact stored x0 x1 x2 x3 x4 6 (by omega) 7 (by omega) _ _ (fun a r l => by pointwise [k0_pay119]) (fun a r l => strided x0 x1 x2 x3 x4 _ (keeps8 x0 x1 x2 x3 x4) 6 (by omega) 7 (by omega) ⟨_, _, (List.mem_cons_of_mem _ List.mem_cons_self)⟩ inb_S12x1024x128_S1x64x128_6_7_0_s_1_16_1 a r l) x (y 1) (y 2) h1 (by omega)
  · exact stored x0 x1 x2 x3 x4 5 (by omega) 7 (by omega) _ _ (fun a r l => by pointwise [k0_pay118]) (fun a r l => strided x0 x1 x2 x3 x4 _ (keeps8 x0 x1 x2 x3 x4) 5 (by omega) 7 (by omega) ⟨_, _, (List.mem_cons_of_mem _ (List.mem_cons_of_mem _ List.mem_cons_self))⟩ inb_S12x1024x128_S1x64x128_5_7_0_s_1_16_1 a r l) x (y 1) (y 2) h1 (by omega)
  · exact stored x0 x1 x2 x3 x4 4 (by omega) 7 (by omega) _ _ (fun a r l => by pointwise [k0_pay117]) (fun a r l => strided x0 x1 x2 x3 x4 _ (keeps8 x0 x1 x2 x3 x4) 4 (by omega) 7 (by omega) ⟨_, _, (List.mem_cons_of_mem _ (List.mem_cons_of_mem _ (List.mem_cons_of_mem _ List.mem_cons_self)))⟩ inb_S12x1024x128_S1x64x128_4_7_0_s_1_16_1 a r l) x (y 1) (y 2) h1 (by omega)
  · exact stored x0 x1 x2 x3 x4 7 (by omega) 6 (by omega) _ _ (fun a r l => by pointwise [k0_pay116]) (fun a r l => strided x0 x1 x2 x3 x4 _ (keeps8 x0 x1 x2 x3 x4) 7 (by omega) 6 (by omega) ⟨_, _, List.mem_cons_self⟩ inb_S12x1024x128_S1x64x128_7_6_0_s_1_16_1 a r l) x (y 1) (y 2) h1 (by omega)
  · exact stored x0 x1 x2 x3 x4 6 (by omega) 6 (by omega) _ _ (fun a r l => by pointwise [k0_pay115]) (fun a r l => strided x0 x1 x2 x3 x4 _ (keeps8 x0 x1 x2 x3 x4) 6 (by omega) 6 (by omega) ⟨_, _, (List.mem_cons_of_mem _ List.mem_cons_self)⟩ inb_S12x1024x128_S1x64x128_6_6_0_s_1_16_1 a r l) x (y 1) (y 2) h1 (by omega)
  · exact stored x0 x1 x2 x3 x4 5 (by omega) 6 (by omega) _ _ (fun a r l => by pointwise [k0_pay114]) (fun a r l => strided x0 x1 x2 x3 x4 _ (keeps8 x0 x1 x2 x3 x4) 5 (by omega) 6 (by omega) ⟨_, _, (List.mem_cons_of_mem _ (List.mem_cons_of_mem _ List.mem_cons_self))⟩ inb_S12x1024x128_S1x64x128_5_6_0_s_1_16_1 a r l) x (y 1) (y 2) h1 (by omega)
  · exact stored x0 x1 x2 x3 x4 4 (by omega) 6 (by omega) _ _ (fun a r l => by pointwise [k0_pay113]) (fun a r l => strided x0 x1 x2 x3 x4 _ (keeps8 x0 x1 x2 x3 x4) 4 (by omega) 6 (by omega) ⟨_, _, (List.mem_cons_of_mem _ (List.mem_cons_of_mem _ (List.mem_cons_of_mem _ List.mem_cons_self)))⟩ inb_S12x1024x128_S1x64x128_4_6_0_s_1_16_1 a r l) x (y 1) (y 2) h1 (by omega)
  · exact stored x0 x1 x2 x3 x4 7 (by omega) 5 (by omega) _ _ (fun a r l => by pointwise [k0_pay112]) (fun a r l => strided x0 x1 x2 x3 x4 _ (keeps8 x0 x1 x2 x3 x4) 7 (by omega) 5 (by omega) ⟨_, _, List.mem_cons_self⟩ inb_S12x1024x128_S1x64x128_7_5_0_s_1_16_1 a r l) x (y 1) (y 2) h1 (by omega)
  · exact stored x0 x1 x2 x3 x4 6 (by omega) 5 (by omega) _ _ (fun a r l => by pointwise [k0_pay111, k0_pay110]) (fun a r l => strided x0 x1 x2 x3 x4 _ (keeps8 x0 x1 x2 x3 x4) 6 (by omega) 5 (by omega) ⟨_, _, (List.mem_cons_of_mem _ List.mem_cons_self)⟩ inb_S12x1024x128_S1x64x128_6_5_0_s_1_16_1 a r l) x (y 1) (y 2) h1 (by omega)
  · exact stored x0 x1 x2 x3 x4 5 (by omega) 5 (by omega) _ _ (fun a r l => by pointwise [k0_pay109]) (fun a r l => strided x0 x1 x2 x3 x4 _ (keeps8 x0 x1 x2 x3 x4) 5 (by omega) 5 (by omega) ⟨_, _, (List.mem_cons_of_mem _ (List.mem_cons_of_mem _ List.mem_cons_self))⟩ inb_S12x1024x128_S1x64x128_5_5_0_s_1_16_1 a r l) x (y 1) (y 2) h1 (by omega)
  · exact stored x0 x1 x2 x3 x4 4 (by omega) 5 (by omega) _ _ (fun a r l => by pointwise [k0_pay108]) (fun a r l => strided x0 x1 x2 x3 x4 _ (keeps8 x0 x1 x2 x3 x4) 4 (by omega) 5 (by omega) ⟨_, _, (List.mem_cons_of_mem _ (List.mem_cons_of_mem _ (List.mem_cons_of_mem _ List.mem_cons_self)))⟩ inb_S12x1024x128_S1x64x128_4_5_0_s_1_16_1 a r l) x (y 1) (y 2) h1 (by omega)
  · exact stored x0 x1 x2 x3 x4 7 (by omega) 4 (by omega) _ _ (fun a r l => by pointwise [k0_pay107]) (fun a r l => strided x0 x1 x2 x3 x4 _ (keeps8 x0 x1 x2 x3 x4) 7 (by omega) 4 (by omega) ⟨_, _, List.mem_cons_self⟩ inb_S12x1024x128_S1x64x128_7_4_0_s_1_16_1 a r l) x (y 1) (y 2) h1 (by omega)
  · exact stored x0 x1 x2 x3 x4 6 (by omega) 4 (by omega) _ _ (fun a r l => by pointwise [k0_pay106]) (fun a r l => strided x0 x1 x2 x3 x4 _ (keeps8 x0 x1 x2 x3 x4) 6 (by omega) 4 (by omega) ⟨_, _, (List.mem_cons_of_mem _ List.mem_cons_self)⟩ inb_S12x1024x128_S1x64x128_6_4_0_s_1_16_1 a r l) x (y 1) (y 2) h1 (by omega)
  · exact stored x0 x1 x2 x3 x4 5 (by omega) 4 (by omega) _ _ (fun a r l => by pointwise [k0_pay105]) (fun a r l => strided x0 x1 x2 x3 x4 _ (keeps8 x0 x1 x2 x3 x4) 5 (by omega) 4 (by omega) ⟨_, _, (List.mem_cons_of_mem _ (List.mem_cons_of_mem _ List.mem_cons_self))⟩ inb_S12x1024x128_S1x64x128_5_4_0_s_1_16_1 a r l) x (y 1) (y 2) h1 (by omega)
  · exact stored x0 x1 x2 x3 x4 4 (by omega) 4 (by omega) _ _ (fun a r l => by pointwise [k0_pay104]) (fun a r l => strided x0 x1 x2 x3 x4 _ (keeps8 x0 x1 x2 x3 x4) 4 (by omega) 4 (by omega) ⟨_, _, (List.mem_cons_of_mem _ (List.mem_cons_of_mem _ (List.mem_cons_of_mem _ List.mem_cons_self)))⟩ inb_S12x1024x128_S1x64x128_4_4_0_s_1_16_1 a r l) x (y 1) (y 2) h1 (by omega)
  · exact stored x0 x1 x2 x3 x4 7 (by omega) 3 (by omega) _ _ (fun a r l => by pointwise [k0_pay103]) (fun a r l => strided x0 x1 x2 x3 x4 _ (keeps8 x0 x1 x2 x3 x4) 7 (by omega) 3 (by omega) ⟨_, _, List.mem_cons_self⟩ inb_S12x1024x128_S1x64x128_7_3_0_s_1_16_1 a r l) x (y 1) (y 2) h1 (by omega)
  · exact stored x0 x1 x2 x3 x4 6 (by omega) 3 (by omega) _ _ (fun a r l => by pointwise [k0_pay102]) (fun a r l => strided x0 x1 x2 x3 x4 _ (keeps8 x0 x1 x2 x3 x4) 6 (by omega) 3 (by omega) ⟨_, _, (List.mem_cons_of_mem _ List.mem_cons_self)⟩ inb_S12x1024x128_S1x64x128_6_3_0_s_1_16_1 a r l) x (y 1) (y 2) h1 (by omega)
  · exact stored x0 x1 x2 x3 x4 5 (by omega) 3 (by omega) _ _ (fun a r l => by pointwise [k0_pay101, k0_pay100]) (fun a r l => strided x0 x1 x2 x3 x4 _ (keeps8 x0 x1 x2 x3 x4) 5 (by omega) 3 (by omega) ⟨_, _, (List.mem_cons_of_mem _ (List.mem_cons_of_mem _ List.mem_cons_self))⟩ inb_S12x1024x128_S1x64x128_5_3_0_s_1_16_1 a r l) x (y 1) (y 2) h1 (by omega)
  · exact stored x0 x1 x2 x3 x4 4 (by omega) 3 (by omega) _ _ (fun a r l => by pointwise [k0_pay99]) (fun a r l => strided x0 x1 x2 x3 x4 _ (keeps8 x0 x1 x2 x3 x4) 4 (by omega) 3 (by omega) ⟨_, _, (List.mem_cons_of_mem _ (List.mem_cons_of_mem _ (List.mem_cons_of_mem _ List.mem_cons_self)))⟩ inb_S12x1024x128_S1x64x128_4_3_0_s_1_16_1 a r l) x (y 1) (y 2) h1 (by omega)
  · exact stored x0 x1 x2 x3 x4 7 (by omega) 2 (by omega) _ _ (fun a r l => by pointwise [k0_pay98]) (fun a r l => strided x0 x1 x2 x3 x4 _ (keeps8 x0 x1 x2 x3 x4) 7 (by omega) 2 (by omega) ⟨_, _, List.mem_cons_self⟩ inb_S12x1024x128_S1x64x128_7_2_0_s_1_16_1 a r l) x (y 1) (y 2) h1 (by omega)
  · exact stored x0 x1 x2 x3 x4 6 (by omega) 2 (by omega) _ _ (fun a r l => by pointwise [k0_pay97]) (fun a r l => strided x0 x1 x2 x3 x4 _ (keeps8 x0 x1 x2 x3 x4) 6 (by omega) 2 (by omega) ⟨_, _, (List.mem_cons_of_mem _ List.mem_cons_self)⟩ inb_S12x1024x128_S1x64x128_6_2_0_s_1_16_1 a r l) x (y 1) (y 2) h1 (by omega)
  · exact stored x0 x1 x2 x3 x4 5 (by omega) 2 (by omega) _ _ (fun a r l => by pointwise [k0_pay96]) (fun a r l => strided x0 x1 x2 x3 x4 _ (keeps8 x0 x1 x2 x3 x4) 5 (by omega) 2 (by omega) ⟨_, _, (List.mem_cons_of_mem _ (List.mem_cons_of_mem _ List.mem_cons_self))⟩ inb_S12x1024x128_S1x64x128_5_2_0_s_1_16_1 a r l) x (y 1) (y 2) h1 (by omega)
  · exact stored x0 x1 x2 x3 x4 4 (by omega) 2 (by omega) _ _ (fun a r l => by pointwise [k0_pay95, k0_pay94]) (fun a r l => strided x0 x1 x2 x3 x4 _ (keeps8 x0 x1 x2 x3 x4) 4 (by omega) 2 (by omega) ⟨_, _, (List.mem_cons_of_mem _ (List.mem_cons_of_mem _ (List.mem_cons_of_mem _ List.mem_cons_self)))⟩ inb_S12x1024x128_S1x64x128_4_2_0_s_1_16_1 a r l) x (y 1) (y 2) h1 (by omega)
  · exact stored x0 x1 x2 x3 x4 7 (by omega) 1 (by omega) _ _ (fun a r l => by pointwise [k0_pay93]) (fun a r l => strided x0 x1 x2 x3 x4 _ (keeps8 x0 x1 x2 x3 x4) 7 (by omega) 1 (by omega) ⟨_, _, List.mem_cons_self⟩ inb_S12x1024x128_S1x64x128_7_1_0_s_1_16_1 a r l) x (y 1) (y 2) h1 (by omega)
  · exact stored x0 x1 x2 x3 x4 6 (by omega) 1 (by omega) _ _ (fun a r l => by pointwise [k0_pay92]) (fun a r l => strided x0 x1 x2 x3 x4 _ (keeps8 x0 x1 x2 x3 x4) 6 (by omega) 1 (by omega) ⟨_, _, (List.mem_cons_of_mem _ List.mem_cons_self)⟩ inb_S12x1024x128_S1x64x128_6_1_0_s_1_16_1 a r l) x (y 1) (y 2) h1 (by omega)
  · exact stored x0 x1 x2 x3 x4 5 (by omega) 1 (by omega) _ _ (fun a r l => by pointwise [k0_pay91]) (fun a r l => strided x0 x1 x2 x3 x4 _ (keeps8 x0 x1 x2 x3 x4) 5 (by omega) 1 (by omega) ⟨_, _, (List.mem_cons_of_mem _ (List.mem_cons_of_mem _ List.mem_cons_self))⟩ inb_S12x1024x128_S1x64x128_5_1_0_s_1_16_1 a r l) x (y 1) (y 2) h1 (by omega)
  · exact stored x0 x1 x2 x3 x4 4 (by omega) 1 (by omega) _ _ (fun a r l => by pointwise [k0_pay90]) (fun a r l => strided x0 x1 x2 x3 x4 _ (keeps8 x0 x1 x2 x3 x4) 4 (by omega) 1 (by omega) ⟨_, _, (List.mem_cons_of_mem _ (List.mem_cons_of_mem _ (List.mem_cons_of_mem _ List.mem_cons_self)))⟩ inb_S12x1024x128_S1x64x128_4_1_0_s_1_16_1 a r l) x (y 1) (y 2) h1 (by omega)
  · exact stored x0 x1 x2 x3 x4 7 (by omega) 0 (by omega) _ _ (fun a r l => by pointwise [k0_pay89]) (fun a r l => strided x0 x1 x2 x3 x4 _ (keeps8 x0 x1 x2 x3 x4) 7 (by omega) 0 (by omega) ⟨_, _, List.mem_cons_self⟩ inb_S12x1024x128_S1x64x128_7_0_0_s_1_16_1 a r l) x (y 1) (y 2) h1 (by omega)
  · exact stored x0 x1 x2 x3 x4 6 (by omega) 0 (by omega) _ _ (fun a r l => by pointwise [k0_pay88]) (fun a r l => strided x0 x1 x2 x3 x4 _ (keeps8 x0 x1 x2 x3 x4) 6 (by omega) 0 (by omega) ⟨_, _, (List.mem_cons_of_mem _ List.mem_cons_self)⟩ inb_S12x1024x128_S1x64x128_6_0_0_s_1_16_1 a r l) x (y 1) (y 2) h1 (by omega)
  · exact stored x0 x1 x2 x3 x4 5 (by omega) 0 (by omega) _ _ (fun a r l => by pointwise [k0_pay87]) (fun a r l => strided x0 x1 x2 x3 x4 _ (keeps8 x0 x1 x2 x3 x4) 5 (by omega) 0 (by omega) ⟨_, _, (List.mem_cons_of_mem _ (List.mem_cons_of_mem _ List.mem_cons_self))⟩ inb_S12x1024x128_S1x64x128_5_0_0_s_1_16_1 a r l) x (y 1) (y 2) h1 (by omega)
  · exact stored x0 x1 x2 x3 x4 4 (by omega) 0 (by omega) _ _ (fun a r l => by pointwise [k0_pay86]) (fun a r l => strided x0 x1 x2 x3 x4 _ (keeps8 x0 x1 x2 x3 x4) 4 (by omega) 0 (by omega) ⟨_, _, (List.mem_cons_of_mem _ (List.mem_cons_of_mem _ (List.mem_cons_of_mem _ List.mem_cons_self)))⟩ inb_S12x1024x128_S1x64x128_4_0_0_s_1_16_1 a r l) x (y 1) (y 2) h1 (by omega)
  · exact stored x0 x1 x2 x3 x4 3 (by omega) 15 (by omega) _ _ (fun a r l => by pointwise [k0_pay79]) (fun a r l => strided x0 x1 x2 x3 x4 _ (keeps4 x0 x1 x2 x3 x4) 3 (by omega) 15 (by omega) ⟨_, _, List.mem_cons_self⟩ inb_S12x1024x128_S1x64x128_3_15_0_s_1_16_1 a r l) x (y 1) (y 2) h1 (by omega)
  · exact stored x0 x1 x2 x3 x4 2 (by omega) 15 (by omega) _ _ (fun a r l => by pointwise [k0_pay78]) (fun a r l => strided x0 x1 x2 x3 x4 _ (keeps4 x0 x1 x2 x3 x4) 2 (by omega) 15 (by omega) ⟨_, _, (List.mem_cons_of_mem _ List.mem_cons_self)⟩ inb_S12x1024x128_S1x64x128_2_15_0_s_1_16_1 a r l) x (y 1) (y 2) h1 (by omega)
  · exact stored x0 x1 x2 x3 x4 1 (by omega) 15 (by omega) _ _ (fun a r l => by pointwise [k0_pay77]) (fun a r l => strided x0 x1 x2 x3 x4 _ (keeps4 x0 x1 x2 x3 x4) 1 (by omega) 15 (by omega) ⟨_, _, (List.mem_cons_of_mem _ (List.mem_cons_of_mem _ List.mem_cons_self))⟩ inb_S12x1024x128_S1x64x128_1_15_0_s_1_16_1 a r l) x (y 1) (y 2) h1 (by omega)
  · exact stored x0 x1 x2 x3 x4 0 (by omega) 15 (by omega) _ _ (fun a r l => by pointwise [k0_pay76]) (fun a r l => strided x0 x1 x2 x3 x4 _ (keeps4 x0 x1 x2 x3 x4) 0 (by omega) 15 (by omega) ⟨_, _, (List.mem_cons_of_mem _ (List.mem_cons_of_mem _ (List.mem_cons_of_mem _ List.mem_cons_self)))⟩ inb_S12x1024x128_S1x64x128_0_15_0_s_1_16_1 a r l) x (y 1) (y 2) h1 (by omega)
  · exact stored x0 x1 x2 x3 x4 3 (by omega) 14 (by omega) _ _ (fun a r l => by pointwise [k0_pay75]) (fun a r l => strided x0 x1 x2 x3 x4 _ (keeps4 x0 x1 x2 x3 x4) 3 (by omega) 14 (by omega) ⟨_, _, List.mem_cons_self⟩ inb_S12x1024x128_S1x64x128_3_14_0_s_1_16_1 a r l) x (y 1) (y 2) h1 (by omega)
  · exact stored x0 x1 x2 x3 x4 2 (by omega) 14 (by omega) _ _ (fun a r l => by pointwise [k0_pay74]) (fun a r l => strided x0 x1 x2 x3 x4 _ (keeps4 x0 x1 x2 x3 x4) 2 (by omega) 14 (by omega) ⟨_, _, (List.mem_cons_of_mem _ List.mem_cons_self)⟩ inb_S12x1024x128_S1x64x128_2_14_0_s_1_16_1 a r l) x (y 1) (y 2) h1 (by omega)
  · exact stored x0 x1 x2 x3 x4 1 (by omega) 14 (by omega) _ _ (fun a r l => by pointwise [k0_pay73, k0_pay72]) (fun a r l => strided x0 x1 x2 x3 x4 _ (keeps4 x0 x1 x2 x3 x4) 1 (by omega) 14 (by omega) ⟨_, _, (List.mem_cons_of_mem _ (List.mem_cons_of_mem _ List.mem_cons_self))⟩ inb_S12x1024x128_S1x64x128_1_14_0_s_1_16_1 a r l) x (y 1) (y 2) h1 (by omega)
  · exact stored x0 x1 x2 x3 x4 0 (by omega) 14 (by omega) _ _ (fun a r l => by pointwise [k0_pay71]) (fun a r l => strided x0 x1 x2 x3 x4 _ (keeps4 x0 x1 x2 x3 x4) 0 (by omega) 14 (by omega) ⟨_, _, (List.mem_cons_of_mem _ (List.mem_cons_of_mem _ (List.mem_cons_of_mem _ List.mem_cons_self)))⟩ inb_S12x1024x128_S1x64x128_0_14_0_s_1_16_1 a r l) x (y 1) (y 2) h1 (by omega)
  · exact stored x0 x1 x2 x3 x4 3 (by omega) 13 (by omega) _ _ (fun a r l => by pointwise [k0_pay70]) (fun a r l => strided x0 x1 x2 x3 x4 _ (keeps4 x0 x1 x2 x3 x4) 3 (by omega) 13 (by omega) ⟨_, _, List.mem_cons_self⟩ inb_S12x1024x128_S1x64x128_3_13_0_s_1_16_1 a r l) x (y 1) (y 2) h1 (by omega)
  · exact stored x0 x1 x2 x3 x4 2 (by omega) 13 (by omega) _ _ (fun a r l => by pointwise [k0_pay69]) (fun a r l => strided x0 x1 x2 x3 x4 _ (keeps4 x0 x1 x2 x3 x4) 2 (by omega) 13 (by omega) ⟨_, _, (List.mem_cons_of_mem _ List.mem_cons_self)⟩ inb_S12x1024x128_S1x64x128_2_13_0_s_1_16_1 a r l) x (y 1) (y 2) h1 (by omega)
  · exact stored x0 x1 x2 x3 x4 1 (by omega) 13 (by omega) _ _ (fun a r l => by pointwise [k0_pay68]) (fun a r l => strided x0 x1 x2 x3 x4 _ (keeps4 x0 x1 x2 x3 x4) 1 (by omega) 13 (by omega) ⟨_, _, (List.mem_cons_of_mem _ (List.mem_cons_of_mem _ List.mem_cons_self))⟩ inb_S12x1024x128_S1x64x128_1_13_0_s_1_16_1 a r l) x (y 1) (y 2) h1 (by omega)
  · exact stored x0 x1 x2 x3 x4 0 (by omega) 13 (by omega) _ _ (fun a r l => by pointwise [k0_pay67]) (fun a r l => strided x0 x1 x2 x3 x4 _ (keeps4 x0 x1 x2 x3 x4) 0 (by omega) 13 (by omega) ⟨_, _, (List.mem_cons_of_mem _ (List.mem_cons_of_mem _ (List.mem_cons_of_mem _ List.mem_cons_self)))⟩ inb_S12x1024x128_S1x64x128_0_13_0_s_1_16_1 a r l) x (y 1) (y 2) h1 (by omega)
  · exact stored x0 x1 x2 x3 x4 3 (by omega) 12 (by omega) _ _ (fun a r l => by pointwise [k0_pay66]) (fun a r l => strided x0 x1 x2 x3 x4 _ (keeps4 x0 x1 x2 x3 x4) 3 (by omega) 12 (by omega) ⟨_, _, List.mem_cons_self⟩ inb_S12x1024x128_S1x64x128_3_12_0_s_1_16_1 a r l) x (y 1) (y 2) h1 (by omega)
  · exact stored x0 x1 x2 x3 x4 2 (by omega) 12 (by omega) _ _ (fun a r l => by pointwise [k0_pay65]) (fun a r l => strided x0 x1 x2 x3 x4 _ (keeps4 x0 x1 x2 x3 x4) 2 (by omega) 12 (by omega) ⟨_, _, (List.mem_cons_of_mem _ List.mem_cons_self)⟩ inb_S12x1024x128_S1x64x128_2_12_0_s_1_16_1 a r l) x (y 1) (y 2) h1 (by omega)
  · exact stored x0 x1 x2 x3 x4 1 (by omega) 12 (by omega) _ _ (fun a r l => by pointwise [k0_pay64]) (fun a r l => strided x0 x1 x2 x3 x4 _ (keeps4 x0 x1 x2 x3 x4) 1 (by omega) 12 (by omega) ⟨_, _, (List.mem_cons_of_mem _ (List.mem_cons_of_mem _ List.mem_cons_self))⟩ inb_S12x1024x128_S1x64x128_1_12_0_s_1_16_1 a r l) x (y 1) (y 2) h1 (by omega)
  · exact stored x0 x1 x2 x3 x4 0 (by omega) 12 (by omega) _ _ (fun a r l => by pointwise [k0_pay63]) (fun a r l => strided x0 x1 x2 x3 x4 _ (keeps4 x0 x1 x2 x3 x4) 0 (by omega) 12 (by omega) ⟨_, _, (List.mem_cons_of_mem _ (List.mem_cons_of_mem _ (List.mem_cons_of_mem _ List.mem_cons_self)))⟩ inb_S12x1024x128_S1x64x128_0_12_0_s_1_16_1 a r l) x (y 1) (y 2) h1 (by omega)
  · exact stored x0 x1 x2 x3 x4 3 (by omega) 11 (by omega) _ _ (fun a r l => by pointwise [k0_pay62]) (fun a r l => strided x0 x1 x2 x3 x4 _ (keeps4 x0 x1 x2 x3 x4) 3 (by omega) 11 (by omega) ⟨_, _, List.mem_cons_self⟩ inb_S12x1024x128_S1x64x128_3_11_0_s_1_16_1 a r l) x (y 1) (y 2) h1 (by omega)
  · exact stored x0 x1 x2 x3 x4 2 (by omega) 11 (by omega) _ _ (fun a r l => by pointwise [k0_pay61]) (fun a r l => strided x0 x1 x2 x3 x4 _ (keeps4 x0 x1 x2 x3 x4) 2 (by omega) 11 (by omega) ⟨_, _, (List.mem_cons_of_mem _ List.mem_cons_self)⟩ inb_S12x1024x128_S1x64x128_2_11_0_s_1_16_1 a r l) x (y 1) (y 2) h1 (by omega)
  · exact stored x0 x1 x2 x3 x4 1 (by omega) 11 (by omega) _ _ (fun a r l => by pointwise [k0_pay60]) (fun a r l => strided x0 x1 x2 x3 x4 _ (keeps4 x0 x1 x2 x3 x4) 1 (by omega) 11 (by omega) ⟨_, _, (List.mem_cons_of_mem _ (List.mem_cons_of_mem _ List.mem_cons_self))⟩ inb_S12x1024x128_S1x64x128_1_11_0_s_1_16_1 a r l) x (y 1) (y 2) h1 (by omega)
  · exact stored x0 x1 x2 x3 x4 0 (by omega) 11 (by omega) _ _ (fun a r l => by pointwise [k0_pay59]) (fun a r l => strided x0 x1 x2 x3 x4 _ (keeps4 x0 x1 x2 x3 x4) 0 (by omega) 11 (by omega) ⟨_, _, (List.mem_cons_of_mem _ (List.mem_cons_of_mem _ (List.mem_cons_of_mem _ List.mem_cons_self)))⟩ inb_S12x1024x128_S1x64x128_0_11_0_s_1_16_1 a r l) x (y 1) (y 2) h1 (by omega)
  · exact stored x0 x1 x2 x3 x4 3 (by omega) 10 (by omega) _ _ (fun a r l => by pointwise [k0_pay58, k0_pay57]) (fun a r l => strided x0 x1 x2 x3 x4 _ (keeps4 x0 x1 x2 x3 x4) 3 (by omega) 10 (by omega) ⟨_, _, List.mem_cons_self⟩ inb_S12x1024x128_S1x64x128_3_10_0_s_1_16_1 a r l) x (y 1) (y 2) h1 (by omega)
  · exact stored x0 x1 x2 x3 x4 2 (by omega) 10 (by omega) _ _ (fun a r l => by pointwise [k0_pay56]) (fun a r l => strided x0 x1 x2 x3 x4 _ (keeps4 x0 x1 x2 x3 x4) 2 (by omega) 10 (by omega) ⟨_, _, (List.mem_cons_of_mem _ List.mem_cons_self)⟩ inb_S12x1024x128_S1x64x128_2_10_0_s_1_16_1 a r l) x (y 1) (y 2) h1 (by omega)
  · exact stored x0 x1 x2 x3 x4 1 (by omega) 10 (by omega) _ _ (fun a r l => by pointwise [k0_pay55]) (fun a r l => strided x0 x1 x2 x3 x4 _ (keeps4 x0 x1 x2 x3 x4) 1 (by omega) 10 (by omega) ⟨_, _, (List.mem_cons_of_mem _ (List.mem_cons_of_mem _ List.mem_cons_self))⟩ inb_S12x1024x128_S1x64x128_1_10_0_s_1_16_1 a r l) x (y 1) (y 2) h1 (by omega)
  · exact stored x0 x1 x2 x3 x4 0 (by omega) 10 (by omega) _ _ (fun a r l => by pointwise [k0_pay54]) (fun a r l => strided x0 x1 x2 x3 x4 _ (keeps4 x0 x1 x2 x3 x4) 0 (by omega) 10 (by omega) ⟨_, _, (List.mem_cons_of_mem _ (List.mem_cons_of_mem _ (List.mem_cons_of_mem _ List.mem_cons_self)))⟩ inb_S12x1024x128_S1x64x128_0_10_0_s_1_16_1 a r l) x (y 1) (y 2) h1 (by omega)
  · exact stored x0 x1 x2 x3 x4 3 (by omega) 9 (by omega) _ _ (fun a r l => by pointwise [k0_pay53]) (fun a r l => strided x0 x1 x2 x3 x4 _ (keeps4 x0 x1 x2 x3 x4) 3 (by omega) 9 (by omega) ⟨_, _, List.mem_cons_self⟩ inb_S12x1024x128_S1x64x128_3_9_0_s_1_16_1 a r l) x (y 1) (y 2) h1 (by omega)
  · exact stored x0 x1 x2 x3 x4 2 (by omega) 9 (by omega) _ _ (fun a r l => by pointwise [k0_pay52]) (fun a r l => strided x0 x1 x2 x3 x4 _ (keeps4 x0 x1 x2 x3 x4) 2 (by omega) 9 (by omega) ⟨_, _, (List.mem_cons_of_mem _ List.mem_cons_self)⟩ inb_S12x1024x128_S1x64x128_2_9_0_s_1_16_1 a r l) x (y 1) (y 2) h1 (by omega)
  · exact stored x0 x1 x2 x3 x4 1 (by omega) 9 (by omega) _ _ (fun a r l => by pointwise [k0_pay51]) (fun a r l => strided x0 x1 x2 x3 x4 _ (keeps4 x0 x1 x2 x3 x4) 1 (by omega) 9 (by omega) ⟨_, _, (List.mem_cons_of_mem _ (List.mem_cons_of_mem _ List.mem_cons_self))⟩ inb_S12x1024x128_S1x64x128_1_9_0_s_1_16_1 a r l) x (y 1) (y 2) h1 (by omega)
  · exact stored x0 x1 x2 x3 x4 0 (by omega) 9 (by omega) _ _ (fun a r l => by pointwise [k0_pay50]) (fun a r l => strided x0 x1 x2 x3 x4 _ (keeps4 x0 x1 x2 x3 x4) 0 (by omega) 9 (by omega) ⟨_, _, (List.mem_cons_of_mem _ (List.mem_cons_of_mem _ (List.mem_cons_of_mem _ List.mem_cons_self)))⟩ inb_S12x1024x128_S1x64x128_0_9_0_s_1_16_1 a r l) x (y 1) (y 2) h1 (by omega)
  · exact stored x0 x1 x2 x3 x4 3 (by omega) 8 (by omega) _ _ (fun a r l => by pointwise [k0_pay49]) (fun a r l => strided x0 x1 x2 x3 x4 _ (keeps4 x0 x1 x2 x3 x4) 3 (by omega) 8 (by omega) ⟨_, _, List.mem_cons_self⟩ inb_S12x1024x128_S1x64x128_3_8_0_s_1_16_1 a r l) x (y 1) (y 2) h1 (by omega)
  · exact stored x0 x1 x2 x3 x4 2 (by omega) 8 (by omega) _ _ (fun a r l => by pointwise [k0_pay48, k0_pay47]) (fun a r l => strided x0 x1 x2 x3 x4 _ (keeps4 x0 x1 x2 x3 x4) 2 (by omega) 8 (by omega) ⟨_, _, (List.mem_cons_of_mem _ List.mem_cons_self)⟩ inb_S12x1024x128_S1x64x128_2_8_0_s_1_16_1 a r l) x (y 1) (y 2) h1 (by omega)
  · exact stored x0 x1 x2 x3 x4 1 (by omega) 8 (by omega) _ _ (fun a r l => by pointwise [k0_pay46]) (fun a r l => strided x0 x1 x2 x3 x4 _ (keeps4 x0 x1 x2 x3 x4) 1 (by omega) 8 (by omega) ⟨_, _, (List.mem_cons_of_mem _ (List.mem_cons_of_mem _ List.mem_cons_self))⟩ inb_S12x1024x128_S1x64x128_1_8_0_s_1_16_1 a r l) x (y 1) (y 2) h1 (by omega)
  · exact stored x0 x1 x2 x3 x4 0 (by omega) 8 (by omega) _ _ (fun a r l => by pointwise [k0_pay45]) (fun a r l => strided x0 x1 x2 x3 x4 _ (keeps4 x0 x1 x2 x3 x4) 0 (by omega) 8 (by omega) ⟨_, _, (List.mem_cons_of_mem _ (List.mem_cons_of_mem _ (List.mem_cons_of_mem _ List.mem_cons_self)))⟩ inb_S12x1024x128_S1x64x128_0_8_0_s_1_16_1 a r l) x (y 1) (y 2) h1 (by omega)
  · exact stored x0 x1 x2 x3 x4 3 (by omega) 7 (by omega) _ _ (fun a r l => by pointwise [k0_pay44]) (fun a r l => strided x0 x1 x2 x3 x4 _ (keeps4 x0 x1 x2 x3 x4) 3 (by omega) 7 (by omega) ⟨_, _, List.mem_cons_self⟩ inb_S12x1024x128_S1x64x128_3_7_0_s_1_16_1 a r l) x (y 1) (y 2) h1 (by omega)
  · exact stored x0 x1 x2 x3 x4 2 (by omega) 7 (by omega) _ _ (fun a r l => by pointwise [k0_pay43]) (fun a r l => strided x0 x1 x2 x3 x4 _ (keeps4 x0 x1 x2 x3 x4) 2 (by omega) 7 (by omega) ⟨_, _, (List.mem_cons_of_mem _ List.mem_cons_self)⟩ inb_S12x1024x128_S1x64x128_2_7_0_s_1_16_1 a r l) x (y 1) (y 2) h1 (by omega)
  · exact stored x0 x1 x2 x3 x4 1 (by omega) 7 (by omega) _ _ (fun a r l => by pointwise [k0_pay42, k0_pay41]) (fun a r l => strided x0 x1 x2 x3 x4 _ (keeps4 x0 x1 x2 x3 x4) 1 (by omega) 7 (by omega) ⟨_, _, (List.mem_cons_of_mem _ (List.mem_cons_of_mem _ List.mem_cons_self))⟩ inb_S12x1024x128_S1x64x128_1_7_0_s_1_16_1 a r l) x (y 1) (y 2) h1 (by omega)
  · exact stored x0 x1 x2 x3 x4 0 (by omega) 7 (by omega) _ _ (fun a r l => by pointwise [k0_pay40]) (fun a r l => strided x0 x1 x2 x3 x4 _ (keeps4 x0 x1 x2 x3 x4) 0 (by omega) 7 (by omega) ⟨_, _, (List.mem_cons_of_mem _ (List.mem_cons_of_mem _ (List.mem_cons_of_mem _ List.mem_cons_self)))⟩ inb_S12x1024x128_S1x64x128_0_7_0_s_1_16_1 a r l) x (y 1) (y 2) h1 (by omega)
  · exact stored x0 x1 x2 x3 x4 3 (by omega) 6 (by omega) _ _ (fun a r l => by pointwise [k0_pay39]) (fun a r l => strided x0 x1 x2 x3 x4 _ (keeps4 x0 x1 x2 x3 x4) 3 (by omega) 6 (by omega) ⟨_, _, List.mem_cons_self⟩ inb_S12x1024x128_S1x64x128_3_6_0_s_1_16_1 a r l) x (y 1) (y 2) h1 (by omega)
  · exact stored x0 x1 x2 x3 x4 2 (by omega) 6 (by omega) _ _ (fun a r l => by pointwise [k0_pay38]) (fun a r l => strided x0 x1 x2 x3 x4 _ (keeps4 x0 x1 x2 x3 x4) 2 (by omega) 6 (by omega) ⟨_, _, (List.mem_cons_of_mem _ List.mem_cons_self)⟩ inb_S12x1024x128_S1x64x128_2_6_0_s_1_16_1 a r l) x (y 1) (y 2) h1 (by omega)
  · exact stored x0 x1 x2 x3 x4 1 (by omega) 6 (by omega) _ _ (fun a r l => by pointwise [k0_pay37]) (fun a r l => strided x0 x1 x2 x3 x4 _ (keeps4 x0 x1 x2 x3 x4) 1 (by omega) 6 (by omega) ⟨_, _, (List.mem_cons_of_mem _ (List.mem_cons_of_mem _ List.mem_cons_self))⟩ inb_S12x1024x128_S1x64x128_1_6_0_s_1_16_1 a r l) x (y 1) (y 2) h1 (by omega)
  · exact stored x0 x1 x2 x3 x4 0 (by omega) 6 (by omega) _ _ (fun a r l => by pointwise [k0_pay36]) (fun a r l => strided x0 x1 x2 x3 x4 _ (keeps4 x0 x1 x2 x3 x4) 0 (by omega) 6 (by omega) ⟨_, _, (List.mem_cons_of_mem _ (List.mem_cons_of_mem _ (List.mem_cons_of_mem _ List.mem_cons_self)))⟩ inb_S12x1024x128_S1x64x128_0_6_0_s_1_16_1 a r l) x (y 1) (y 2) h1 (by omega)
  · exact stored x0 x1 x2 x3 x4 3 (by omega) 5 (by omega) _ _ (fun a r l => by pointwise [k0_pay35]) (fun a r l => strided x0 x1 x2 x3 x4 _ (keeps4 x0 x1 x2 x3 x4) 3 (by omega) 5 (by omega) ⟨_, _, List.mem_cons_self⟩ inb_S12x1024x128_S1x64x128_3_5_0_s_1_16_1 a r l) x (y 1) (y 2) h1 (by omega)
  · exact stored x0 x1 x2 x3 x4 2 (by omega) 5 (by omega) _ _ (fun a r l => by pointwise [k0_pay34]) (fun a r l => strided x0 x1 x2 x3 x4 _ (keeps4 x0 x1 x2 x3 x4) 2 (by omega) 5 (by omega) ⟨_, _, (List.mem_cons_of_mem _ List.mem_cons_self)⟩ inb_S12x1024x128_S1x64x128_2_5_0_s_1_16_1 a r l) x (y 1) (y 2) h1 (by omega)
  · exact stored x0 x1 x2 x3 x4 1 (by omega) 5 (by omega) _ _ (fun a r l => by pointwise [k0_pay33]) (fun a r l => strided x0 x1 x2 x3 x4 _ (keeps4 x0 x1 x2 x3 x4) 1 (by omega) 5 (by omega) ⟨_, _, (List.mem_cons_of_mem _ (List.mem_cons_of_mem _ List.mem_cons_self))⟩ inb_S12x1024x128_S1x64x128_1_5_0_s_1_16_1 a r l) x (y 1) (y 2) h1 (by omega)
  · exact stored x0 x1 x2 x3 x4 0 (by omega) 5 (by omega) _ _ (fun a r l => by pointwise [k0_pay32, k0_pay31]) (fun a r l => strided x0 x1 x2 x3 x4 _ (keeps4 x0 x1 x2 x3 x4) 0 (by omega) 5 (by omega) ⟨_, _, (List.mem_cons_of_mem _ (List.mem_cons_of_mem _ (List.mem_cons_of_mem _ List.mem_cons_self)))⟩ inb_S12x1024x128_S1x64x128_0_5_0_s_1_16_1 a r l) x (y 1) (y 2) h1 (by omega)
  · exact stored x0 x1 x2 x3 x4 3 (by omega) 4 (by omega) _ _ (fun a r l => by pointwise [k0_pay30]) (fun a r l => strided x0 x1 x2 x3 x4 _ (keeps4 x0 x1 x2 x3 x4) 3 (by omega) 4 (by omega) ⟨_, _, List.mem_cons_self⟩ inb_S12x1024x128_S1x64x128_3_4_0_s_1_16_1 a r l) x (y 1) (y 2) h1 (by omega)
  · exact stored x0 x1 x2 x3 x4 2 (by omega) 4 (by omega) _ _ (fun a r l => by pointwise [k0_pay29]) (fun a r l => strided x0 x1 x2 x3 x4 _ (keeps4 x0 x1 x2 x3 x4) 2 (by omega) 4 (by omega) ⟨_, _, (List.mem_cons_of_mem _ List.mem_cons_self)⟩ inb_S12x1024x128_S1x64x128_2_4_0_s_1_16_1 a r l) x (y 1) (y 2) h1 (by omega)
  · exact stored x0 x1 x2 x3 x4 1 (by omega) 4 (by omega) _ _ (fun a r l => by pointwise [k0_pay28]) (fun a r l => strided x0 x1 x2 x3 x4 _ (keeps4 x0 x1 x2 x3 x4) 1 (by omega) 4 (by omega) ⟨_, _, (List.mem_cons_of_mem _ (List.mem_cons_of_mem _ List.mem_cons_self))⟩ inb_S12x1024x128_S1x64x128_1_4_0_s_1_16_1 a r l) x (y 1) (y 2) h1 (by omega)
  · exact stored x0 x1 x2 x3 x4 0 (by omega) 4 (by omega) _ _ (fun a r l => by pointwise [k0_pay27]) (fun a r l => strided x0 x1 x2 x3 x4 _ (keeps4 x0 x1 x2 x3 x4) 0 (by omega) 4 (by omega) ⟨_, _, (List.mem_cons_of_mem _ (List.mem_cons_of_mem _ (List.mem_cons_of_mem _ List.mem_cons_self)))⟩ inb_S12x1024x128_S1x64x128_0_4_0_s_1_16_1 a r l) x (y 1) (y 2) h1 (by omega)
  · exact stored x0 x1 x2 x3 x4 3 (by omega) 3 (by omega) _ _ (fun a r l => by pointwise [k0_pay26]) (fun a r l => strided x0 x1 x2 x3 x4 _ (keeps4 x0 x1 x2 x3 x4) 3 (by omega) 3 (by omega) ⟨_, _, List.mem_cons_self⟩ inb_S12x1024x128_S1x64x128_3_3_0_s_1_16_1 a r l) x (y 1) (y 2) h1 (by omega)
  · exact stored x0 x1 x2 x3 x4 2 (by omega) 3 (by omega) _ _ (fun a r l => by pointwise [k0_pay25]) (fun a r l => strided x0 x1 x2 x3 x4 _ (keeps4 x0 x1 x2 x3 x4) 2 (by omega) 3 (by omega) ⟨_, _, (List.mem_cons_of_mem _ List.mem_cons_self)⟩ inb_S12x1024x128_S1x64x128_2_3_0_s_1_16_1 a r l) x (y 1) (y 2) h1 (by omega)
  · exact stored x0 x1 x2 x3 x4 1 (by omega) 3 (by omega) _ _ (fun a r l => by pointwise [k0_pay24]) (fun a r l => strided x0 x1 x2 x3 x4 _ (keeps4 x0 x1 x2 x3 x4) 1 (by omega) 3 (by omega) ⟨_, _, (List.mem_cons_of_mem _ (List.mem_cons_of_mem _ List.mem_cons_self))⟩ inb_S12x1024x128_S1x64x128_1_3_0_s_1_16_1 a r l) x (y 1) (y 2) h1 (by omega)
  · exact stored x0 x1 x2 x3 x4 0 (by omega) 3 (by omega) _ _ (fun a r l => by pointwise [k0_pay23]) (fun a r l => strided x0 x1 x2 x3 x4 _ (keeps4 x0 x1 x2 x3 x4) 0 (by omega) 3 (by omega) ⟨_, _, (List.mem_cons_of_mem _ (List.mem_cons_of_mem _ (List.mem_cons_of_mem _ List.mem_cons_self)))⟩ inb_S12x1024x128_S1x64x128_0_3_0_s_1_16_1 a r l) x (y 1) (y 2) h1 (by omega)
  · exact stored x0 x1 x2 x3 x4 3 (by omega) 2 (by omega) _ _ (fun a r l => by pointwise [k0_pay22, k0_pay21]) (fun a r l => strided x0 x1 x2 x3 x4 _ (keeps4 x0 x1 x2 x3 x4) 3 (by omega) 2 (by omega) ⟨_, _, List.mem_cons_self⟩ inb_S12x1024x128_S1x64x128_3_2_0_s_1_16_1 a r l) x (y 1) (y 2) h1 (by omega)
  · exact stored x0 x1 x2 x3 x4 2 (by omega) 2 (by omega) _ _ (fun a r l => by pointwise [k0_pay20]) (fun a r l => strided x0 x1 x2 x3 x4 _ (keeps4 x0 x1 x2 x3 x4) 2 (by omega) 2 (by omega) ⟨_, _, (List.mem_cons_of_mem _ List.mem_cons_self)⟩ inb_S12x1024x128_S1x64x128_2_2_0_s_1_16_1 a r l) x (y 1) (y 2) h1 (by omega)
  · exact stored x0 x1 x2 x3 x4 1 (by omega) 2 (by omega) _ _ (fun a r l => by pointwise [k0_pay19]) (fun a r l => strided x0 x1 x2 x3 x4 _ (keeps4 x0 x1 x2 x3 x4) 1 (by omega) 2 (by omega) ⟨_, _, (List.mem_cons_of_mem _ (List.mem_cons_of_mem _ List.mem_cons_self))⟩ inb_S12x1024x128_S1x64x128_1_2_0_s_1_16_1 a r l) x (y 1) (y 2) h1 (by omega)
  · exact stored x0 x1 x2 x3 x4 0 (by omega) 2 (by omega) _ _ (fun a r l => by pointwise [k0_pay18]) (fun a r l => strided x0 x1 x2 x3 x4 _ (keeps4 x0 x1 x2 x3 x4) 0 (by omega) 2 (by omega) ⟨_, _, (List.mem_cons_of_mem _ (List.mem_cons_of_mem _ (List.mem_cons_of_mem _ List.mem_cons_self)))⟩ inb_S12x1024x128_S1x64x128_0_2_0_s_1_16_1 a r l) x (y 1) (y 2) h1 (by omega)
  · exact stored x0 x1 x2 x3 x4 3 (by omega) 1 (by omega) _ _ (fun a r l => by pointwise [k0_pay17]) (fun a r l => strided x0 x1 x2 x3 x4 _ (keeps4 x0 x1 x2 x3 x4) 3 (by omega) 1 (by omega) ⟨_, _, List.mem_cons_self⟩ inb_S12x1024x128_S1x64x128_3_1_0_s_1_16_1 a r l) x (y 1) (y 2) h1 (by omega)
  · exact stored x0 x1 x2 x3 x4 2 (by omega) 1 (by omega) _ _ (fun a r l => by pointwise [k0_pay16, k0_pay15]) (fun a r l => strided x0 x1 x2 x3 x4 _ (keeps4 x0 x1 x2 x3 x4) 2 (by omega) 1 (by omega) ⟨_, _, (List.mem_cons_of_mem _ List.mem_cons_self)⟩ inb_S12x1024x128_S1x64x128_2_1_0_s_1_16_1 a r l) x (y 1) (y 2) h1 (by omega)
  · exact stored x0 x1 x2 x3 x4 1 (by omega) 1 (by omega) _ _ (fun a r l => by pointwise [k0_pay14]) (fun a r l => strided x0 x1 x2 x3 x4 _ (keeps4 x0 x1 x2 x3 x4) 1 (by omega) 1 (by omega) ⟨_, _, (List.mem_cons_of_mem _ (List.mem_cons_of_mem _ List.mem_cons_self))⟩ inb_S12x1024x128_S1x64x128_1_1_0_s_1_16_1 a r l) x (y 1) (y 2) h1 (by omega)
  · exact stored x0 x1 x2 x3 x4 0 (by omega) 1 (by omega) _ _ (fun a r l => by pointwise [k0_pay13]) (fun a r l => strided x0 x1 x2 x3 x4 _ (keeps4 x0 x1 x2 x3 x4) 0 (by omega) 1 (by omega) ⟨_, _, (List.mem_cons_of_mem _ (List.mem_cons_of_mem _ (List.mem_cons_of_mem _ List.mem_cons_self)))⟩ inb_S12x1024x128_S1x64x128_0_1_0_s_1_16_1 a r l) x (y 1) (y 2) h1 (by omega)
  · exact stored x0 x1 x2 x3 x4 3 (by omega) 0 (by omega) _ _ (fun a r l => by pointwise [k0_pay12]) (fun a r l => strided x0 x1 x2 x3 x4 _ (keeps4 x0 x1 x2 x3 x4) 3 (by omega) 0 (by omega) ⟨_, _, List.mem_cons_self⟩ inb_S12x1024x128_S1x64x128_3_0_0_s_1_16_1 a r l) x (y 1) (y 2) h1 (by omega)
  · exact stored x0 x1 x2 x3 x4 2 (by omega) 0 (by omega) _ _ (fun a r l => by pointwise [k0_pay11]) (fun a r l => strided x0 x1 x2 x3 x4 _ (keeps4 x0 x1 x2 x3 x4) 2 (by omega) 0 (by omega) ⟨_, _, (List.mem_cons_of_mem _ List.mem_cons_self)⟩ inb_S12x1024x128_S1x64x128_2_0_0_s_1_16_1 a r l) x (y 1) (y 2) h1 (by omega)
  · exact stored x0 x1 x2 x3 x4 1 (by omega) 0 (by omega) _ _ (fun a r l => by pointwise [k0_pay10]) (fun a r l => strided x0 x1 x2 x3 x4 _ (keeps4 x0 x1 x2 x3 x4) 1 (by omega) 0 (by omega) ⟨_, _, (List.mem_cons_of_mem _ (List.mem_cons_of_mem _ List.mem_cons_self))⟩ inb_S12x1024x128_S1x64x128_1_0_0_s_1_16_1 a r l) x (y 1) (y 2) h1 (by omega)
  · exact stored x0 x1 x2 x3 x4 0 (by omega) 0 (by omega) _ _ (fun a r l => by pointwise [k0_pay9]) (fun a r l => strided x0 x1 x2 x3 x4 _ (keeps4 x0 x1 x2 x3 x4) 0 (by omega) 0 (by omega) ⟨_, _, (List.mem_cons_of_mem _ (List.mem_cons_of_mem _ (List.mem_cons_of_mem _ List.mem_cons_self)))⟩ inb_S12x1024x128_S1x64x128_0_0_0_s_1_16_1 a r l) x (y 1) (y 2) h1 (by omega)

theorem idx0 : ∀ t : Fin grid0.N, win0_0.index t = ![t.val / 8, t.val % 8, 0] := by decide +kernel
theorem idx1 : ∀ t : Fin grid0.N, win0_1.index t = ![0, 0] := by decide +kernel
theorem idx2 : ∀ t : Fin grid0.N, win0_2.index t = ![t.val / 8, 0, 0] := by decide +kernel
theorem idx3 : ∀ t : Fin grid0.N, win0_3.index t = ![t.val / 8, 0, 0] := by decide +kernel
theorem idx4 : ∀ t : Fin grid0.N, win0_4.index t = ![0, 0] := by decide +kernel
theorem idx5 : ∀ t : Fin grid0.N, win0_5.index t = ![t.val / 8, t.val % 8, 0] := by decide +kernel
theorem lt64 (t : Fin cfg0.N) : t.val < 64 := t.isLt

variable (m : (ℓ : Loc nD τ sig) → Buf (Elt Ideal) ℓ)

/-- The gain row the call finds is the argument. -/
theorem V_row (c : Dev nD) (l : Fin 1024) : V m c main_v1 (ix2 0 l) = m ((c.tc : Thread nD τ).loc main_arg1) (ix1 l) := by
  have e : V m c main_v1 = shapeCast S1x1024 (m ((c : Thread nD τ).loc main_arg1)) shapeCasts_S1024_S1x1024 := by
    entry_read
    rfl
  rw [e]
  pointwise

theorem blk0 (c : Dev nD) (t : Fin cfg0.N) (r l : Fin 1024) : iblk m c 0 t (ix3 0 r l)
    = m ((c.tc : Thread nD τ).loc main_arg0) (ix3 (⟨t.val / 8, by have := lt64 t; omega⟩ : Fin 8) (⟨t.val % 8 * 1024 + r.val, by omega⟩ : Fin 8192) l) := by
  blk_ext [iblk, V_main_arg0, idx0 t]
theorem blk1 (c : Dev nD) (t : Fin cfg0.N) (l : Fin 1024) : iblk m c 1 t (ix2 0 l) = m ((c.tc : Thread nD τ).loc main_arg1) (ix1 l) := by
  refine Eq.trans ?_ (V_row m c l)
  blk_ext [iblk, idx1 t]
theorem blk2 (c : Dev nD) (t : Fin cfg0.N) (l : Fin 1024) : iblk m c 2 t (ix3 0 0 l)
    = m ((c.tc : Thread nD τ).loc main_arg2) (ix3 (⟨t.val / 8, by have := lt64 t; omega⟩ : Fin 8) 0 l) := by
  blk_ext [iblk, V_main_arg2, idx2 t]
theorem blk3 (c : Dev nD) (t : Fin cfg0.N) (l : Fin 1024) : iblk m c 3 t (ix3 0 0 l)
    = m ((c.tc : Thread nD τ).loc main_arg3) (ix3 (⟨t.val / 8, by have := lt64 t; omega⟩ : Fin 8) 0 l) := by
  blk_ext [iblk, V_main_arg3, idx3 t]
/-- The weights the call finds are the pattern's columns of the argument. -/
theorem V_cols (c : Dev nD) (k : Fin 1024) (n : Fin 1536) : V m c main_v0 (ix2 k n) = cols (m ((c.tc : Thread nD τ).loc main_arg4)) k n := by
  have e : V m c main_v0 = extractStridedSlice S1024x1536 ![0, 3072] (m ((c : Thread nD τ).loc main_arg4)) slices_S1024x4608_S1024x1536_0_3072 := by
    entry_read
    rfl
  rw [e]
  unfold cols
  pointwise
theorem blk4 (c : Dev nD) (t : Fin cfg0.N) (k : Fin 1024) (n : Fin 1536) : iblk m c 4 t (ix2 k n) = cols (m ((c.tc : Thread nD τ).loc main_arg4)) k n := by
  refine Eq.trans ?_ (V_cols m c k n)
  blk_ext [iblk, idx4 t]

/-- What the call leaves in the projection's array. -/
theorem final (c : Dev nD) : (dats m 0 c).arrAt 5 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  unfold outsAt0
  rw [projOut_apply]
  idx_vars y
  have ht : ((win0_5.blk t).view.emb (ix3 y0 y1 y2)) = ix3 (⟨t.val / 8, by have := lt64 t; omega⟩ : Fin 8) (⟨t.val % 8 * 64 + y1.val, by omega⟩ : Fin 512) y2 := by
    blk_ext [idx5]
  rw [ht]
  have hq : y2.val < 24576 := y2.isLt
  have hr : y1.val < 64 := y1.isLt
  have et : (⟨t.val % 8 * 1024 + (y1.val * 16 + y2.val / 512 % 16), by omega⟩ : Fin 8192) = tok (⟨t.val % 8 * 64 + y1.val, by omega⟩ : Fin 512) y2 :=
    Fin.ext (by show t.val % 8 * 1024 + (y1.val * 16 + y2.val / 512 % 16) = (t.val % 8 * 64 + y1.val) * 16 + y2.val / 512 % 16; omega)
  suffices key : projBlk (iblk m c 0 t) (iblk m c 1 t) (iblk m c 2 t) (iblk m c 3 t) (iblk m c 4 t) y1 y2
      = ∑ k : Fin 1024, normRow (fun l => m ((c.tc : Thread nD τ).loc main_arg0) (ix3 (⟨t.val / 8, by have := lt64 t; omega⟩ : Fin 8) (tok (⟨t.val % 8 * 64 + y1.val, by omega⟩ : Fin 512) y2) l)) (fun l => m ((c.tc : Thread nD τ).loc main_arg1) (ix1 l))
        (fun l => m ((c.tc : Thread nD τ).loc main_arg2) (ix3 (⟨t.val / 8, by have := lt64 t; omega⟩ : Fin 8) 0 l)) (fun l => m ((c.tc : Thread nD τ).loc main_arg3) (ix3 (⟨t.val / 8, by have := lt64 t; omega⟩ : Fin 8) 0 l)) k * cols (m ((c.tc : Thread nD τ).loc main_arg4)) k (col y2)
      from key
  rw [← et]
  unfold projBlk
  refine Finset.sum_congr rfl fun k _ => ?_
  refine congrArg₂ (· * ·) ?_ (blk4 m c t k (col y2))
  refine congrFun ?_ k
  exact congr (congr (congrArg₂ normRow (funext fun l => blk0 m c t (⟨y1.val * 16 + y2.val / 512 % 16, by omega⟩ : Fin 1024) l) (funext fun l => blk1 m c t l)) (funext fun l => blk2 m c t l)) (funext fun l => blk3 m c t l)

end Cert.WideInIdeal.Hand

end
-- ==== Proof.WideInRef.lean ====
module

public import proofs.«01_k».proof.Proof.WideInSpec
public import proofs.«01_k».proof.Proof.Gen.WideInRefIdeal.Run
public import Idealize.ShloMosaic.Lib.KernelVsHost

@[expose] public section

noncomputable section

namespace Cert.WideInRefIdeal.Hand

open Cert.WideInRefIdeal Cert.WideInRefIdeal.Gen Cert.WideInSpec Idealize.ShloMosaic Idealize.ShloMosaic.TcCoe
open Cert.ConvSpec (normRow)

/-- The reference's result from its arguments. -/
theorem res_eq (x : FVec Ideal S8x8192x1024 .f32) (g : FVec Ideal S1024 .f32) (sc : FVec Ideal S8x1x1024 .f32) (sh : FVec Ideal S8x1x1024 .f32) (wi : FVec Ideal S1024x4608 .f32) :
    (truncf .bf16 (shapeCast _ (transpose S8x512x3x16x512 [0, 1, 3, 2, 4] (shapeCast _ (extractStridedSlice S8x8192x1536 ![0, 0, 3072] (Host.dotGeneral (F := Ideal) dot_S8x8192x1024_S1024x4608_S8x8192x4608_2_0_01_1_n_n none (addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)) wi) slices_S8x8192x4608_S8x8192x1536_0_0_3072) shapeCasts_S8x8192x1536_S8x512x16x3x512) transposes_S8x512x16x3x512_S8x512x3x16x512_0_1_3_2_4) shapeCasts_S8x512x3x16x512_S8x512x24576) bitsLt_bf16_f32 : FVec Ideal S8x512x24576 .bf16) = out x g sc sh wi := by
  funext i
  idx_vars i
  unfold out normRow cols tok col
  pointwise

end Cert.WideInRefIdeal.Hand

end
-- ==== Proof.WideInClaims.lean ====
module

public import proofs.«01_k».proof.Defs
public import proofs.«01_k».proof.Proof.WideInKernel
public import proofs.«01_k».proof.Proof.WideInRef
public import Idealize.ShloMosaic.Lib.Quiescent

@[expose] public section

noncomputable section

namespace Cert.Proof

open Idealize.ShloMosaic Idealize.SL.Sem

/-- The reference of the dilated layer's projection for its third pattern ends in the arguments it started from, every counter at zero. -/
theorem wideInRef_frame : quiescent_WideInRefIdeal (hWideInRefIdeal := Cert.WideInRefIdeal.Gen.facts) := fun m ρ _ =>
  (θ_run Cert.WideInRefIdeal.defs _ _).mono
    (fun r h => ⟨fun c => (h c).2, Idealize.ShloMosaic.sem_eq_zero_of_no_sems (by decide) r.2⟩)
    (Cert.WideInRefIdeal.Value.run (F := Ideal) m ρ)

/-- The kernel of the dilated layer's projection for its third pattern and its reference end in the same `WideInSpec.out` of the arguments. -/
theorem wideIn_algebraic : algebraic_WideInIdeal_WideInRefIdeal (hWideInIdeal := Cert.WideInIdeal.Gen.facts)
    (hWideInRefIdeal := Cert.WideInRefIdeal.Gen.facts) := by
  intro m g m' g' _ hagree
  refine ⟨fun c => (Cert.WideInIdeal.Gen.dats m 0 c).arrAt 5 Cert.WideInIdeal.cfg0.N, Cert.WideInIdeal.Value.run_blocks m g, ?_⟩
  refine (θ_run Cert.WideInRefIdeal.defs _ _).mono (fun r h c => ⟨(h c).1.trans ?_, (h c).2⟩)
    (Cert.WideInRefIdeal.Value.run (F := Ideal) m' g')
  obtain ⟨h0, h1, h2, h3, h4⟩ := hagree c
  refine (Cert.WideInRefIdeal.Hand.res_eq (m' ((c.tc : Thread Cert.WideInRefIdeal.nD Cert.WideInRefIdeal.τ).loc Cert.WideInRefIdeal.main_arg0)) (m' ((c.tc : Thread Cert.WideInRefIdeal.nD Cert.WideInRefIdeal.τ).loc Cert.WideInRefIdeal.main_arg1)) (m' ((c.tc : Thread Cert.WideInRefIdeal.nD Cert.WideInRefIdeal.τ).loc Cert.WideInRefIdeal.main_arg2)) (m' ((c.tc : Thread Cert.WideInRefIdeal.nD Cert.WideInRefIdeal.τ).loc Cert.WideInRefIdeal.main_arg3)) (m' ((c.tc : Thread Cert.WideInRefIdeal.nD Cert.WideInRefIdeal.τ).loc Cert.WideInRefIdeal.main_arg4))).trans ((Cert.WideInIdeal.Hand.final m c).trans ?_).symm
  rw [h0, h1, h2, h3, h4]

end Cert.Proof

end
-- ==== Proof.DilOutSpec.lean ====
module

public import Idealize.ShloMosaic.Lib.Pointwise

@[expose] public section

noncomputable section

namespace Cert.DilOutSpec

open Idealize.ShloMosaic

abbrev SO : Shape := ⟨4, ![8, 4, 8192, 128]⟩
abbrev SL : Shape := ⟨3, ![8, 8192, 128]⟩
abbrev SX : Shape := ⟨3, ![8, 8192, 1024]⟩
abbrev SM : Shape := ⟨3, ![8, 1, 1024]⟩
abbrev SW : Shape := ⟨2, ![512, 1024]⟩

/-- The share of the pattern with logarithm `x` among three with logarithms `a`, `b`, `c`. -/
def share (x a b c : EReal) : EReal :=
  Ideal.div (Ideal.exp (x - max (max a b) c)) (Ideal.exp (a - max (max a b) c) + Ideal.exp (b - max (max a b) c) + Ideal.exp (c - max (max a b) c))

/-- The head, the pair of heads and the place in the pair of a mixed row's column. -/
def head (k : Fin 512) : Fin 128 := ⟨k.val / 64, by omega⟩
def pair (k : Fin 512) : Fin 4 := ⟨k.val / 128, by omega⟩
def lane (k : Fin 512) : Fin 128 := ⟨k.val % 128, by omega⟩

/-- A column of the three patterns' rows mixed by the weights of its head. -/
def mix (w0 w1 w2 : Fin 128 → EReal) (o0 o1 o2 : Fin 4 → Fin 128 → EReal) (k : Fin 512) : EReal :=
  w0 (head k) * o0 (pair k) (lane k) + w1 (head k) * o1 (pair k) (lane k) + w2 (head k) * o2 (pair k) (lane k)

/-- The residual stream plus the gated product of the mixed rows with the weights. -/
def out (o0 o1 o2 : SO.Idx → EReal) (l0 l1 l2 : SL.Idx → EReal) (w : SW.Idx → EReal) (x : SX.Idx → EReal) (gt : SM.Idx → EReal) (i : SX.Idx) : EReal :=
  x (ix3 (i 0) (i 1) (i 2)) + gt (ix3 (i 0) 0 (i 2)) * ∑ k : Fin 512,
    mix (fun h => share (l0 (ix3 (i 0) (i 1) h)) (l0 (ix3 (i 0) (i 1) h)) (l1 (ix3 (i 0) (i 1) h)) (l2 (ix3 (i 0) (i 1) h)))
      (fun h => share (l1 (ix3 (i 0) (i 1) h)) (l0 (ix3 (i 0) (i 1) h)) (l1 (ix3 (i 0) (i 1) h)) (l2 (ix3 (i 0) (i 1) h)))
      (fun h => share (l2 (ix3 (i 0) (i 1) h)) (l0 (ix3 (i 0) (i 1) h)) (l1 (ix3 (i 0) (i 1) h)) (l2 (ix3 (i 0) (i 1) h)))
      (fun p l => o0 (ix4 (i 0) p (i 1) l)) (fun p l => o1 (ix4 (i 0) p (i 1) l)) (fun p l => o2 (ix4 (i 0) p (i 1) l)) k * w (ix2 k (i 2))

end Cert.DilOutSpec

end
-- ==== Proof.DilOutKernel.lean ====
module

public import proofs.«01_k».proof.Proof.Gen.DilOutIdeal.Value
public import proofs.«01_k».proof.Proof.DilOutSpec
public import Idealize.ShloMosaic.Lib.Pipeline.ValueKit
public import Idealize.ShloMosaic.Lib.KernelVsHost

@[expose] public section

set_option maxRecDepth 16384

noncomputable section

namespace Cert.DilOutIdeal.Hand

open Cert.DilOutIdeal Cert.DilOutIdeal.Gen Cert.DilOutSpec Idealize.ShloMosaic Idealize.ShloMosaic.TcCoe Idealize.SL.Sem
open Idealize.ShloMosaic.Pipeline (Dat)

theorem first_half : ∀ l : Fin 128, IntOp.cmpi .slt (BitVec.ofNat 32 l.val) 64#32 = if l.val < 64 then 1#1 else 0#1 := by decide +kernel

/-- The lane picks the weight of its head from the pair's two. -/
theorem pick (w : Fin 128 → EReal) (p : Fin 4) (l : Fin 128) (k : Fin 512) (hk : k.val = p.val * 128 + l.val) (u v : Fin 128)
    (hu : u.val = 2 * p.val) (hv : v.val = 2 * p.val + 1) :
    Scalar.select (IntOp.cmpi .slt (BitVec.ofNat 32 l.val) 64#32) (w u) (w v) = w (head k) := by
  rw [first_half]
  by_cases h : l.val < 64
  · have e : head k = u := Fin.ext (by unfold head; simp only; omega)
    rw [if_pos h, e]
    rfl
  · have e : head k = v := Fin.ext (by unfold head; simp only; omega)
    rw [if_neg h, e]
    rfl

/-- A pair's columns are those of the mixed row. -/
theorem piece (w0 w1 w2 : Fin 128 → EReal) (o0 o1 o2 : Fin 4 → Fin 128 → EReal) (p : Fin 4) (l : Fin 128) (k : Fin 512)
    (hk : k.val = p.val * 128 + l.val) (u v : Fin 128) (hu : u.val = 2 * p.val) (hv : v.val = 2 * p.val + 1) :
    Scalar.select (IntOp.cmpi .slt (BitVec.ofNat 32 l.val) 64#32) (w0 u) (w0 v) * o0 p l
      + Scalar.select (IntOp.cmpi .slt (BitVec.ofNat 32 l.val) 64#32) (w1 u) (w1 v) * o1 p l
      + Scalar.select (IntOp.cmpi .slt (BitVec.ofNat 32 l.val) 64#32) (w2 u) (w2 v) * o2 p l = mix w0 w1 w2 o0 o1 o2 k := by
  have ep : pair k = p := Fin.ext (by unfold pair; simp only; omega)
  have el : lane k = l := Fin.ext (by unfold lane; simp only; omega)
  unfold mix
  rw [pick w0 p l k hk u v hu hv, pick w1 p l k hk u v hu hv, pick w2 p l k hk u v hu hv, ep, el]

theorem share0 (x3 x4 x5 : Vec Ideal S1x1024x128 .f32) (r : Fin 1024) (h : Fin 128) : k0_pay9 (F := Ideal) x3 x4 x5 (ix2 r h)
    = share (x3 (ix3 0 r h)) (x3 (ix3 0 r h)) (x4 (ix3 0 r h)) (x5 (ix3 0 r h)) := by
  unfold share
  pointwise [k0_pay9, k0_pay8, k0_pay7, k0_pay6, k0_pay5, k0_pay4, k0_pay3, k0_pay2, k0_pay1]
theorem share1 (x3 x4 x5 : Vec Ideal S1x1024x128 .f32) (r : Fin 1024) (h : Fin 128) : k0_pay10 (F := Ideal) x3 x4 x5 (ix2 r h)
    = share (x4 (ix3 0 r h)) (x3 (ix3 0 r h)) (x4 (ix3 0 r h)) (x5 (ix3 0 r h)) := by
  unfold share
  pointwise [k0_pay10, k0_pay8, k0_pay7, k0_pay6, k0_pay5, k0_pay4, k0_pay3, k0_pay2, k0_pay1]
theorem share2 (x3 x4 x5 : Vec Ideal S1x1024x128 .f32) (r : Fin 1024) (h : Fin 128) : k0_pay11 (F := Ideal) x3 x4 x5 (ix2 r h)
    = share (x5 (ix3 0 r h)) (x3 (ix3 0 r h)) (x4 (ix3 0 r h)) (x5 (ix3 0 r h)) := by
  unfold share
  pointwise [k0_pay11, k0_pay8, k0_pay7, k0_pay6, k0_pay5, k0_pay4, k0_pay3, k0_pay2, k0_pay1]

theorem out_apply (x0 x1 x2 : Vec Ideal S1x4x1024x128 .f32) (x3 x4 x5 : Vec Ideal S1x1024x128 .f32) (x6 : Vec Ideal S512x1024 .f32)
    (x7 : Vec Ideal S1x1024x1024 .f32) (x8 : Vec Ideal S1x1x1024 .f32)
    (a : Fin 1) (r n : Fin 1024) : out0_9 (F := Ideal) x0 x1 x2 x3 x4 x5 x6 x7 x8 (ix3 a r n)
      = x7 (ix3 0 r n) + x8 (ix3 0 0 n) * ∑ k : Fin 512, mix (fun h => share (x3 (ix3 0 r h)) (x3 (ix3 0 r h)) (x4 (ix3 0 r h)) (x5 (ix3 0 r h))) (fun h => share (x4 (ix3 0 r h)) (x3 (ix3 0 r h)) (x4 (ix3 0 r h)) (x5 (ix3 0 r h))) (fun h => share (x5 (ix3 0 r h)) (x3 (ix3 0 r h)) (x4 (ix3 0 r h)) (x5 (ix3 0 r h)))
          (fun p l => x0 (ix4 0 p r l)) (fun p l => x1 (ix4 0 p r l)) (fun p l => x2 (ix4 0 p r l)) k * x6 (ix2 k n) := by
  frame_out
  pointwise [k0_pay12, k0_pay13, k0_pay14, k0_pay15, k0_pay16, k0_pay17, k0_pay18, k0_pay19, k0_pay20, k0_pay21, k0_pay22, k0_pay23, k0_pay24, k0_pay25, k0_pay26, k0_pay27, k0_pay28]
  refine congrArg (fun s => x7 (ix3 0 r n) + x8 (ix3 0 0 n) * s) (Finset.sum_congr rfl fun k _ => congrArg (· * x6 (ix2 k n)) ?_)
  have e3 : View.ld x3 r0_0 = x3 := View.ld_unit_lit _ x3 (by decide)
  have e4 : View.ld x4 r0_0 = x4 := View.ld_unit_lit _ x4 (by decide)
  have e5 : View.ld x5 r0_0 = x5 := View.ld_unit_lit _ x5 (by decide)
  simp only [← share0, ← share1, ← share2, e3, e4, e5]
  by_cases h : k.val < 128
  · rw [dif_pos h]
    exact piece (fun h => k0_pay9 x3 x4 x5 (ix2 r h)) (fun h => k0_pay10 x3 x4 x5 (ix2 r h)) (fun h => k0_pay11 x3 x4 x5 (ix2 r h)) (fun p l => x0 (ix4 0 p r l)) (fun p l => x1 (ix4 0 p r l)) (fun p l => x2 (ix4 0 p r l)) 0 ⟨k.val, by omega⟩ k (by change k.val = 0 * 128 + (k.val); omega) 0 1 rfl rfl
  rw [dif_neg h]
  by_cases h1 : k.val - 128 < 128
  · rw [dif_pos h1]
    exact piece (fun h => k0_pay9 x3 x4 x5 (ix2 r h)) (fun h => k0_pay10 x3 x4 x5 (ix2 r h)) (fun h => k0_pay11 x3 x4 x5 (ix2 r h)) (fun p l => x0 (ix4 0 p r l)) (fun p l => x1 (ix4 0 p r l)) (fun p l => x2 (ix4 0 p r l)) 1 ⟨k.val - 128, by omega⟩ k (by change k.val = 1 * 128 + (k.val - 128); omega) 2 3 rfl rfl
  rw [dif_neg h1]
  by_cases h2 : k.val - 128 - 128 < 128
  · rw [dif_pos h2]
    exact piece (fun h => k0_pay9 x3 x4 x5 (ix2 r h)) (fun h => k0_pay10 x3 x4 x5 (ix2 r h)) (fun h => k0_pay11 x3 x4 x5 (ix2 r h)) (fun p l => x0 (ix4 0 p r l)) (fun p l => x1 (ix4 0 p r l)) (fun p l => x2 (ix4 0 p r l)) 2 ⟨k.val - 128 - 128, by omega⟩ k (by change k.val = 2 * 128 + (k.val - 128 - 128); omega) 4 5 rfl rfl
  rw [dif_neg h2]
  exact piece (fun h => k0_pay9 x3 x4 x5 (ix2 r h)) (fun h => k0_pay10 x3 x4 x5 (ix2 r h)) (fun h => k0_pay11 x3 x4 x5 (ix2 r h)) (fun p l => x0 (ix4 0 p r l)) (fun p l => x1 (ix4 0 p r l)) (fun p l => x2 (ix4 0 p r l)) 3 ⟨k.val - 128 - 128 - 128, by omega⟩ k (by change k.val = 3 * 128 + (k.val - 128 - 128 - 128); omega) 6 7 rfl rfl

theorem idx0 : ∀ t : Fin grid0.N, win0_0.index t = ![t.val / 8, 0, t.val % 8, 0] := by decide +kernel
theorem idx1 : ∀ t : Fin grid0.N, win0_1.index t = ![t.val / 8, 0, t.val % 8, 0] := by decide +kernel
theorem idx2 : ∀ t : Fin grid0.N, win0_2.index t = ![t.val / 8, 0, t.val % 8, 0] := by decide +kernel
theorem idx3 : ∀ t : Fin grid0.N, win0_3.index t = ![t.val / 8, t.val % 8, 0] := by decide +kernel
theorem idx4 : ∀ t : Fin grid0.N, win0_4.index t = ![t.val / 8, t.val % 8, 0] := by decide +kernel
theorem idx5 : ∀ t : Fin grid0.N, win0_5.index t = ![t.val / 8, t.val % 8, 0] := by decide +kernel
theorem idx6 : ∀ t : Fin grid0.N, win0_6.index t = ![0, 0] := by decide +kernel
theorem idx7 : ∀ t : Fin grid0.N, win0_7.index t = ![t.val / 8, t.val % 8, 0] := by decide +kernel
theorem idx8 : ∀ t : Fin grid0.N, win0_8.index t = ![t.val / 8, 0, 0] := by decide +kernel
theorem idx9 : ∀ t : Fin grid0.N, win0_9.index t = ![t.val / 8, t.val % 8, 0] := by decide +kernel
theorem lt64 (t : Fin cfg0.N) : t.val < 64 := t.isLt

variable (m : (ℓ : Loc nD τ sig) → Buf (Elt Ideal) ℓ)

theorem blk0 (c : Dev nD) (t : Fin cfg0.N) (p : Fin 4) (r : Fin 1024) (l : Fin 128) : iblk m c 0 t (ix4 0 p r l)
    = m ((c.tc : Thread nD τ).loc main_arg0) (ix4 (⟨t.val / 8, by have := lt64 t; omega⟩ : Fin 8) p (⟨t.val % 8 * 1024 + r.val, by omega⟩ : Fin 8192) l) := by
  blk_ext [iblk, V_main_arg0, idx0 t]
theorem blk1 (c : Dev nD) (t : Fin cfg0.N) (p : Fin 4) (r : Fin 1024) (l : Fin 128) : iblk m c 1 t (ix4 0 p r l)
    = m ((c.tc : Thread nD τ).loc main_arg1) (ix4 (⟨t.val / 8, by have := lt64 t; omega⟩ : Fin 8) p (⟨t.val % 8 * 1024 + r.val, by omega⟩ : Fin 8192) l) := by
  blk_ext [iblk, V_main_arg1, idx1 t]
theorem blk2 (c : Dev nD) (t : Fin cfg0.N) (p : Fin 4) (r : Fin 1024) (l : Fin 128) : iblk m c 2 t (ix4 0 p r l)
    = m ((c.tc : Thread nD τ).loc main_arg2) (ix4 (⟨t.val / 8, by have := lt64 t; omega⟩ : Fin 8) p (⟨t.val % 8 * 1024 + r.val, by omega⟩ : Fin 8192) l) := by
  blk_ext [iblk, V_main_arg2, idx2 t]
theorem blk3 (c : Dev nD) (t : Fin cfg0.N) (r : Fin 1024) (l : Fin 128) : iblk m c 3 t (ix3 0 r l)
    = m ((c.tc : Thread nD τ).loc main_arg3) (ix3 (⟨t.val / 8, by have := lt64 t; omega⟩ : Fin 8) (⟨t.val % 8 * 1024 + r.val, by omega⟩ : Fin 8192) l) := by
  blk_ext [iblk, V_main_arg3, idx3 t]
theorem blk4 (c : Dev nD) (t : Fin cfg0.N) (r : Fin 1024) (l : Fin 128) : iblk m c 4 t (ix3 0 r l)
    = m ((c.tc : Thread nD τ).loc main_arg4) (ix3 (⟨t.val / 8, by have := lt64 t; omega⟩ : Fin 8) (⟨t.val % 8 * 1024 + r.val, by omega⟩ : Fin 8192) l) := by
  blk_ext [iblk, V_main_arg4, idx4 t]
theorem blk5 (c : Dev nD) (t : Fin cfg0.N) (r : Fin 1024) (l : Fin 128) : iblk m c 5 t (ix3 0 r l)
    = m ((c.tc : Thread nD τ).loc main_arg5) (ix3 (⟨t.val / 8, by have := lt64 t; omega⟩ : Fin 8) (⟨t.val % 8 * 1024 + r.val, by omega⟩ : Fin 8192) l) := by
  blk_ext [iblk, V_main_arg5, idx5 t]
theorem blk6 (c : Dev nD) (t : Fin cfg0.N) (k : Fin 512) (n : Fin 1024) : iblk m c 6 t (ix2 k n) = m ((c.tc : Thread nD τ).loc main_arg6) (ix2 k n) := by
  blk_ext [iblk, V_main_arg6, idx6 t]
theorem blk7 (c : Dev nD) (t : Fin cfg0.N) (r l : Fin 1024) : iblk m c 7 t (ix3 0 r l)
    = m ((c.tc : Thread nD τ).loc main_arg7) (ix3 (⟨t.val / 8, by have := lt64 t; omega⟩ : Fin 8) (⟨t.val % 8 * 1024 + r.val, by omega⟩ : Fin 8192) l) := by
  blk_ext [iblk, V_main_arg7, idx7 t]
theorem blk8 (c : Dev nD) (t : Fin cfg0.N) (l : Fin 1024) : iblk m c 8 t (ix3 0 0 l)
    = m ((c.tc : Thread nD τ).loc main_arg8) (ix3 (⟨t.val / 8, by have := lt64 t; omega⟩ : Fin 8) 0 l) := by
  blk_ext [iblk, V_main_arg8, idx8 t]

/-- What the call leaves in the residual stream's array. -/
theorem final (c : Dev nD) : (dats m 0 c).arrAt 9 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 9 _ (by decide +kernel) fun t hf y => ?_
  blk_simp
  rw [after0_9]
  idx_vars y
  have ht : ((win0_9.blk t).view.emb (ix3 y0 y1 y2)) = ix3 (⟨t.val / 8, by have := lt64 t; omega⟩ : Fin 8) (⟨t.val % 8 * 1024 + y1.val, by omega⟩ : Fin 8192) y2 := by
    blk_ext [idx9]
  rw [ht]
  refine (out_apply _ _ _ _ _ _ _ _ _ y0 y1 y2).trans ?_
  simp only [blk0, blk1, blk2, blk3, blk4, blk5, blk6, blk7, blk8]
  rfl

end Cert.DilOutIdeal.Hand

end
-- ==== Proof.DilOutRef.lean ====
module

public import proofs.«01_k».proof.Proof.DilOutSpec
public import proofs.«01_k».proof.Proof.Gen.DilOutRefIdeal.Run
public import Idealize.ShloMosaic.Lib.KernelVsHost

@[expose] public section

set_option maxRecDepth 16384

noncomputable section

namespace Cert.DilOutRefIdeal.Hand

open Cert.DilOutRefIdeal Cert.DilOutRefIdeal.Gen Cert.DilOutRefIdeal.Value Cert.DilOutSpec Idealize.ShloMosaic Idealize.ShloMosaic.TcCoe

/-- The three patterns' denominators, by head. -/
def lse (l0 l1 l2 : FVec Ideal S8x8192x128 .f32) : FVec Ideal S3x8x8x8192 .f32 :=
  transpose S3x8x8x8192 [0, 1, 3, 2] (extractStridedSlice S3x8x8192x8 ![0, 0, 0, 0] ((concatenate S3x8x8192x128 0 [⟨S1x8x8192x128, (broadcastInDim S1x8x8192x128 ![1, 2, 3] bcast_S8x8192x128_S1x8x8192x128_1_2_3 l0)⟩, ⟨S1x8x8192x128, (broadcastInDim S1x8x8192x128 ![1, 2, 3] bcast_S8x8192x128_S1x8x8192x128_1_2_3 l1)⟩, ⟨S1x8x8192x128, (broadcastInDim S1x8x8192x128 ![1, 2, 3] bcast_S8x8192x128_S1x8x8192x128_1_2_3 l2)⟩] concatenates_S1x8x8192x128_S1x8x8192x128_S1x8x8192x128_S3x8x8192x128_d0)) slices_S3x8x8192x128_S3x8x8192x8_0_0_0_0) transposes_S3x8x8192x8_S3x8x8x8192_0_1_3_2

theorem lse_apply (l0 l1 l2 : FVec Ideal S8x8192x128 .f32) (g : Fin 3) (b h : Fin 8) (s : Fin 8192) :
    lse l0 l1 l2 (ix4 g b h s) = if _ : g.val < 1 then l0 (ix3 b s (⟨h.val, by omega⟩ : Fin 128)) else if _ : g.val - 1 < 1 then l1 (ix3 b s (⟨h.val, by omega⟩ : Fin 128)) else l2 (ix3 b s (⟨h.val, by omega⟩ : Fin 128)) := by
  unfold lse
  pointwise

theorem neg_inf : Ideal.ofBits .f32 4286578688#32 = (⊥ : EReal) := by simp [Ideal.ofBits, Ideal.ieee]

theorem largest (f : Fin 3 → EReal) : Finset.fold max ⊥ f Finset.univ = max (max (f 0) (f 1)) (f 2) := by
  rw [show (Finset.univ : Finset (Fin 3)) = {0, 1, 2} from rfl, Finset.fold_insert (by decide), Finset.fold_insert (by decide), Finset.fold_singleton]
  simp [max_assoc]

/-- Their largest. -/
def top (l : FVec Ideal S3x8x8x8192 .f32) : FVec Ideal S3x8x8x8192 .f32 :=
  broadcastInDim S3x8x8x8192 ![0, 1, 2, 3] bcast_S1x8x8x8192_S3x8x8x8192_0_1_2_3 (broadcastInDim S1x8x8x8192 ![1, 2, 3] bcast_S8x8x8192_S1x8x8x8192_1_2_3 (maximumf (broadcastInDim S8x8x8192 ![] bcast_S_S8x8x8192 (constant S_ .f32 0xFF800000#32)) (Host.reduce FloatOps.maximumf l (constant S_ .f32 0xFF800000#32) reducesTo_S3x8x8x8192_S8x8x8192_d0 h_S_)))

theorem top_apply (l : FVec Ideal S3x8x8x8192 .f32) (g : Fin 3) (b h : Fin 8) (s : Fin 8192) :
    top l (ix4 g b h s) = max (max (l (ix4 0 b h s)) (l (ix4 1 b h s))) (l (ix4 2 b h s)) := by
  unfold top
  pointwise
  rw [neg_inf]
  exact (max_eq_right bot_le).trans (largest fun x => l (ix4 x b h s))

/-- The patterns' shares. -/
def frac (l : FVec Ideal S3x8x8x8192 .f32) : FVec Ideal S3x8x8x8192 .f32 :=
  Host.divf (Host.exp (subf l (top l))) (broadcastInDim S3x8x8x8192 ![0, 1, 2, 3] bcast_S1x8x8x8192_S3x8x8x8192_0_1_2_3 (broadcastInDim S1x8x8x8192 ![1, 2, 3] bcast_S8x8x8192_S1x8x8x8192_1_2_3 (Host.reduceAdd (Host.exp (subf l (top l))) (constant S_ .f32 0x00000000#32) reducesTo_S3x8x8x8192_S8x8x8192_d0 h_S_)))

theorem frac_apply (l : FVec Ideal S3x8x8x8192 .f32) (g : Fin 3) (b h : Fin 8) (s : Fin 8192) :
    frac l (ix4 g b h s) = Ideal.div (Ideal.exp (l (ix4 g b h s) - top l (ix4 g b h s))) (∑ x : Fin 3, Ideal.exp (l (ix4 x b h s) - top l (ix4 x b h s))) := by
  unfold frac
  pointwise

/-- A pattern's rows, by head. -/
def heads (o : FVec Ideal S8x4x8192x128 .f32) : FVec Ideal S8x8x8192x64 .f32 :=
  shapeCast _ (transpose S8x4x2x8192x64 [0, 1, 3, 2, 4] (shapeCast _ o shapeCasts_S8x4x8192x128_S8x4x8192x2x64) transposes_S8x4x8192x2x64_S8x4x2x8192x64_0_1_3_2_4) shapeCasts_S8x4x2x8192x64_S8x8x8192x64

theorem heads_apply (o : FVec Ideal S8x4x8192x128 .f32) (b h : Fin 8) (s : Fin 8192) (d : Fin 64) :
    heads o (ix4 b h s d) = o (ix4 b (⟨h.val / 2, by omega⟩ : Fin 4) s (⟨h.val % 2 * 64 + d.val, by omega⟩ : Fin 128)) := by
  unfold heads
  pointwise

/-- The three patterns' rows. -/
def stack (o0 o1 o2 : FVec Ideal S8x8x8192x64 .f32) : FVec Ideal S3x8x8x8192x64 .f32 :=
  concatenate S3x8x8x8192x64 0 [⟨S1x8x8x8192x64, (broadcastInDim S1x8x8x8192x64 ![1, 2, 3, 4] bcast_S8x8x8192x64_S1x8x8x8192x64_1_2_3_4 o0)⟩, ⟨S1x8x8x8192x64, (broadcastInDim S1x8x8x8192x64 ![1, 2, 3, 4] bcast_S8x8x8192x64_S1x8x8x8192x64_1_2_3_4 o1)⟩, ⟨S1x8x8x8192x64, (broadcastInDim S1x8x8x8192x64 ![1, 2, 3, 4] bcast_S8x8x8192x64_S1x8x8x8192x64_1_2_3_4 o2)⟩] concatenates_S1x8x8x8192x64_S1x8x8x8192x64_S1x8x8x8192x64_S3x8x8x8192x64_d0

theorem stack_apply (o0 o1 o2 : FVec Ideal S8x8x8192x64 .f32) (g : Fin 3) (b h : Fin 8) (s : Fin 8192) (d : Fin 64) :
    stack o0 o1 o2 (ix5 g b h s d) = if _ : g.val < 1 then o0 (ix4 b h s d) else if _ : g.val - 1 < 1 then o1 (ix4 b h s d) else o2 (ix4 b h s d) := by
  unfold stack
  pointwise

theorem lse0 (l0 l1 l2 : FVec Ideal S8x8192x128 .f32) (b h : Fin 8) (s : Fin 8192) : lse l0 l1 l2 (ix4 0 b h s) = l0 (ix3 b s (⟨h.val, by omega⟩ : Fin 128)) :=
  (lse_apply l0 l1 l2 0 b h s).trans (dif_pos (by decide))
theorem stack0 (o0 o1 o2 : FVec Ideal S8x8x8192x64 .f32) (b h : Fin 8) (s : Fin 8192) (d : Fin 64) : stack o0 o1 o2 (ix5 0 b h s d) = o0 (ix4 b h s d) :=
  (stack_apply o0 o1 o2 0 b h s d).trans (dif_pos (by decide))
theorem lse1 (l0 l1 l2 : FVec Ideal S8x8192x128 .f32) (b h : Fin 8) (s : Fin 8192) : lse l0 l1 l2 (ix4 1 b h s) = l1 (ix3 b s (⟨h.val, by omega⟩ : Fin 128)) :=
  (lse_apply l0 l1 l2 1 b h s).trans ((dif_neg (by decide)).trans (dif_pos (by decide)))
theorem stack1 (o0 o1 o2 : FVec Ideal S8x8x8192x64 .f32) (b h : Fin 8) (s : Fin 8192) (d : Fin 64) : stack o0 o1 o2 (ix5 1 b h s d) = o1 (ix4 b h s d) :=
  (stack_apply o0 o1 o2 1 b h s d).trans ((dif_neg (by decide)).trans (dif_pos (by decide)))
theorem lse2 (l0 l1 l2 : FVec Ideal S8x8192x128 .f32) (b h : Fin 8) (s : Fin 8192) : lse l0 l1 l2 (ix4 2 b h s) = l2 (ix3 b s (⟨h.val, by omega⟩ : Fin 128)) :=
  (lse_apply l0 l1 l2 2 b h s).trans ((dif_neg (by decide)).trans (dif_neg (by decide)))
theorem stack2 (o0 o1 o2 : FVec Ideal S8x8x8192x64 .f32) (b h : Fin 8) (s : Fin 8192) (d : Fin 64) : stack o0 o1 o2 (ix5 2 b h s d) = o2 (ix4 b h s d) :=
  (stack_apply o0 o1 o2 2 b h s d).trans ((dif_neg (by decide)).trans (dif_neg (by decide)))

/-- The mixed rows. -/
def mixed (w : FVec Ideal S3x8x8x8192 .f32) (o : FVec Ideal S3x8x8x8192x64 .f32) : FVec Ideal S8x8192x512 .f32 :=
  shapeCast _ (Host.dotGeneral (F := Ideal) dot_S3x8x8x8192_S3x8x8x8192x64_S8x8192x8x64_0_0_n_4_132_132 none w o) shapeCasts_S8x8192x8x64_S8x8192x512

theorem mixed_apply (w : FVec Ideal S3x8x8x8192 .f32) (o : FVec Ideal S3x8x8x8192x64 .f32) (b : Fin 8) (s : Fin 8192) (k : Fin 512) :
    mixed w o (ix3 b s k) = ∑ g : Fin 3, w (ix4 g b (⟨k.val / 64, by omega⟩ : Fin 8) s) * o (ix5 g b (⟨k.val / 64, by omega⟩ : Fin 8) s (⟨k.val % 64, by omega⟩ : Fin 64)) := by
  unfold mixed
  pointwise

/-- The reference's mixed rows are the patterns' rows mixed by their shares. -/
theorem mixed_eq (o0 o1 o2 : FVec Ideal S8x4x8192x128 .f32) (l0 l1 l2 : FVec Ideal S8x8192x128 .f32) (b : Fin 8) (s : Fin 8192) (k : Fin 512) :
    mixed (frac (lse l0 l1 l2)) (stack (heads o0) (heads o1) (heads o2)) (ix3 b s k)
      = mix (fun h => share (l0 (ix3 b s h)) (l0 (ix3 b s h)) (l1 (ix3 b s h)) (l2 (ix3 b s h)))
          (fun h => share (l1 (ix3 b s h)) (l0 (ix3 b s h)) (l1 (ix3 b s h)) (l2 (ix3 b s h)))
          (fun h => share (l2 (ix3 b s h)) (l0 (ix3 b s h)) (l1 (ix3 b s h)) (l2 (ix3 b s h)))
          (fun p l => o0 (ix4 b p s l)) (fun p l => o1 (ix4 b p s l)) (fun p l => o2 (ix4 b p s l)) k := by
  rw [mixed_apply, Fin.sum_univ_three]
  simp only [frac_apply, Fin.sum_univ_three, top_apply, lse0, lse1, lse2, stack0, stack1, stack2, heads_apply]
  have eh : (⟨k.val / 64, by omega⟩ : Fin 128) = head k := rfl
  have ep : (⟨k.val / 64 / 2, by omega⟩ : Fin 4) = pair k := Fin.ext (by show k.val / 64 / 2 = k.val / 128; omega)
  have el : (⟨k.val / 64 % 2 * 64 + k.val % 64, by omega⟩ : Fin 128) = lane k := Fin.ext (by show k.val / 64 % 2 * 64 + k.val % 64 = k.val % 128; omega)
  simp only [eh, ep, el]
  rfl

/-- The reference's result from its arguments. -/
theorem res_eq (o0 o1 o2 : FVec Ideal S8x4x8192x128 .f32) (l0 l1 l2 : FVec Ideal S8x8192x128 .f32) (w : FVec Ideal S512x1024 .f32) (x : FVec Ideal S8x8192x1024 .f32) (gt : FVec Ideal S8x1x1024 .f32) :
    (addf x (mulf (broadcastInDim S8x8192x1024 ![0, 1, 2] bcast_S8x1x1024_S8x8192x1024_0_1_2 gt) (Host.dotGeneral (F := Ideal) dot_S8x8192x512_S512x1024_S8x8192x1024_2_0_01_1_n_n none
      (mixed (frac (lse l0 l1 l2)) (stack (heads o0) (heads o1) (heads o2))) w)) : FVec Ideal S8x8192x1024 .f32) = out o0 o1 o2 l0 l1 l2 w x gt := by
  funext i
  idx_vars i
  suffices key : (addf x (mulf (broadcastInDim S8x8192x1024 ![0, 1, 2] bcast_S8x1x1024_S8x8192x1024_0_1_2 gt) (Host.dotGeneral (F := Ideal) dot_S8x8192x512_S512x1024_S8x8192x1024_2_0_01_1_n_n none
      (mixed (frac (lse l0 l1 l2)) (stack (heads o0) (heads o1) (heads o2))) w)) : FVec Ideal S8x8192x1024 .f32) (ix3 i0 i1 i2)
      = x (ix3 i0 i1 i2) + gt (ix3 i0 0 i2) * ∑ k : Fin 512, mixed (frac (lse l0 l1 l2)) (stack (heads o0) (heads o1) (heads o2)) (ix3 i0 i1 k) * w (ix2 k i2) by
    rw [key]
    simp only [mixed_eq]
    rfl
  generalize mixed (frac (lse l0 l1 l2)) (stack (heads o0) (heads o1) (heads o2)) = u
  pointwise

/-- The result the run states is that. -/
theorem res_main (m : (ℓ : Loc nD τ sig) → Buf (Elt Ideal) ℓ) (c : Dev nD) : res_main_v35 m c
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_main_v35
  exact res_eq _ _ _ _ _ _ _ _ _

end Cert.DilOutRefIdeal.Hand

end
-- ==== Proof.DilOutClaims.lean ====
module

public import proofs.«01_k».proof.Defs
public import proofs.«01_k».proof.Proof.DilOutKernel
public import proofs.«01_k».proof.Proof.DilOutRef
public import Idealize.ShloMosaic.Lib.Quiescent

@[expose] public section

noncomputable section

namespace Cert.Proof

open Idealize.ShloMosaic Idealize.SL.Sem

/-- The reference of the mix of the three patterns ends in the arguments it started from, every counter at zero. -/
theorem dilOutRef_frame : quiescent_DilOutRefIdeal (hDilOutRefIdeal := Cert.DilOutRefIdeal.Gen.facts) := fun m ρ _ =>
  (θ_run Cert.DilOutRefIdeal.defs _ _).mono
    (fun r h => ⟨fun c => (h c).2, Idealize.ShloMosaic.sem_eq_zero_of_no_sems (by decide) r.2⟩)
    (Cert.DilOutRefIdeal.Value.run (F := Ideal) m ρ)

/-- The kernel of the mix of the three patterns and its reference end in the same `DilOutSpec.out` of the arguments. -/
theorem dilOut_algebraic : algebraic_DilOutIdeal_DilOutRefIdeal (hDilOutIdeal := Cert.DilOutIdeal.Gen.facts)
    (hDilOutRefIdeal := Cert.DilOutRefIdeal.Gen.facts) := by
  intro m g m' g' _ hagree
  refine ⟨fun c => (Cert.DilOutIdeal.Gen.dats m 0 c).arrAt 9 Cert.DilOutIdeal.cfg0.N, Cert.DilOutIdeal.Value.run_blocks m g, ?_⟩
  refine (θ_run Cert.DilOutRefIdeal.defs _ _).mono (fun r h c => ⟨(h c).1.trans ?_, (h c).2⟩)
    (Cert.DilOutRefIdeal.Value.run (F := Ideal) m' g')
  obtain ⟨h0, h1, h2, h3, h4, h5, h6, h7, h8⟩ := hagree c
  refine (Cert.DilOutRefIdeal.Hand.res_main m' c).trans ((Cert.DilOutIdeal.Hand.final m c).trans ?_).symm
  rw [h0, h1, h2, h3, h4, h5, h6, h7, h8]

end Cert.Proof

end
-- ==== Proof.lean ====
module

public import proofs.«01_k».proof.Defs
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.Experts
public import proofs.«01_k».proof.Proof.Gen.Experts.Skeleton
public import proofs.«01_k».proof.Proof.Gen.Experts.Launch
public import proofs.«01_k».proof.Proof.Gen.ExpertsRef
public import proofs.«01_k».proof.Proof.Gen.ExpertsRef.Skeleton
public import proofs.«01_k».proof.Proof.Gen.ExpertsRef.Launch
public import proofs.«01_k».proof.Proof.Gen.ExpertsRef.Points
public import proofs.«01_k».proof.Proof.Gen.ExpertsRef.Frame
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Pre_block_tables
public import proofs.«01_k».proof.Proof.Gen.ExpertsRef.Value
public import proofs.«01_k».proof.Proof.Gen.CombineIdeal.Value
public import proofs.«01_k».proof.Proof.Gen.CombineRefIdeal.Run
public import proofs.«01_k».proof.Proof.Gen.SbIn
public import proofs.«01_k».proof.Proof.Gen.SbIn.Skeleton
public import proofs.«01_k».proof.Proof.Gen.SbIn.Launch
public import proofs.«01_k».proof.Proof.Gen.SbIn.Points
public import proofs.«01_k».proof.Proof.Gen.SbIn.Frame
public import proofs.«01_k».proof.Proof.Gen.SbInIdeal
public import proofs.«01_k».proof.Proof.Gen.SbInIdeal.Skeleton
public import proofs.«01_k».proof.Proof.Gen.SbInIdeal.Launch
public import proofs.«01_k».proof.Proof.Gen.SbInIdeal.Points
public import proofs.«01_k».proof.Proof.Gen.SbInIdeal.Frame
public import proofs.«01_k».proof.Proof.Gen.SbInRefIdeal
public import proofs.«01_k».proof.Proof.Gen.GlaIn
public import proofs.«01_k».proof.Proof.Gen.GlaIn.Skeleton
public import proofs.«01_k».proof.Proof.Gen.GlaIn.Launch
public import proofs.«01_k».proof.Proof.Gen.GlaIn.Points
public import proofs.«01_k».proof.Proof.Gen.GlaIn.Frame
public import proofs.«01_k».proof.Proof.Gen.GlaInIdeal
public import proofs.«01_k».proof.Proof.Gen.GlaInIdeal.Skeleton
public import proofs.«01_k».proof.Proof.Gen.GlaInIdeal.Launch
public import proofs.«01_k».proof.Proof.Gen.GlaInIdeal.Points
public import proofs.«01_k».proof.Proof.Gen.GlaInIdeal.Frame
public import proofs.«01_k».proof.Proof.Gen.GlaInRefIdeal
public import proofs.«01_k».proof.Proof.Gen.MixerOut
public import proofs.«01_k».proof.Proof.Gen.MixerOut.Skeleton
public import proofs.«01_k».proof.Proof.Gen.MixerOut.Launch
public import proofs.«01_k».proof.Proof.Gen.MixerOut.Points
public import proofs.«01_k».proof.Proof.Gen.MixerOut.Frame
public import proofs.«01_k».proof.Proof.Gen.MixerOutIdeal
public import proofs.«01_k».proof.Proof.Gen.MixerOutIdeal.Skeleton
public import proofs.«01_k».proof.Proof.Gen.MixerOutIdeal.Launch
public import proofs.«01_k».proof.Proof.Gen.MixerOutIdeal.Points
public import proofs.«01_k».proof.Proof.Gen.MixerOutIdeal.Frame
public import proofs.«01_k».proof.Proof.Gen.MixerOutRefIdeal
public import proofs.«01_k».proof.Proof.Gen.SbInIdeal.Value
public import proofs.«01_k».proof.Proof.Gen.SbInRefIdeal.Run
public import proofs.«01_k».proof.Proof.Gen.GlaInIdeal.Value
public import proofs.«01_k».proof.Proof.Gen.GlaInRefIdeal.Run
public import proofs.«01_k».proof.Proof.Gen.MixerOutIdeal.Value
public import proofs.«01_k».proof.Proof.Gen.MixerOutRefIdeal.Run
public import proofs.«01_k».proof.Proof.Gen.DilIn
public import proofs.«01_k».proof.Proof.Gen.DilIn.Skeleton
public import proofs.«01_k».proof.Proof.Gen.DilIn.Launch
public import proofs.«01_k».proof.Proof.Gen.DilIn.Points
public import proofs.«01_k».proof.Proof.Gen.DilIn.Frame
public import proofs.«01_k».proof.Proof.Gen.DilInIdeal
public import proofs.«01_k».proof.Proof.Gen.DilInIdeal.Skeleton
public import proofs.«01_k».proof.Proof.Gen.DilInIdeal.Launch
public import proofs.«01_k».proof.Proof.Gen.DilInIdeal.Points
public import proofs.«01_k».proof.Proof.Gen.DilInIdeal.Frame
public import proofs.«01_k».proof.Proof.Gen.DilInRefIdeal
public import proofs.«01_k».proof.Proof.Gen.DilInIdeal.Value
public import proofs.«01_k».proof.Proof.Gen.DilInRefIdeal.Run
public import proofs.«01_k».proof.Proof.Gen.StridedIn
public import proofs.«01_k».proof.Proof.Gen.WideIn
public import proofs.«01_k».proof.Proof.Gen.StridedIn.Skeleton
public import proofs.«01_k».proof.Proof.Gen.WideIn.Skeleton
public import proofs.«01_k».proof.Proof.Gen.StridedIn.Launch
public import proofs.«01_k».proof.Proof.Gen.WideIn.Launch
public import proofs.«01_k».proof.Proof.Gen.StridedIn.Points
public import proofs.«01_k».proof.Proof.Gen.WideIn.Points
public import proofs.«01_k».proof.Proof.Gen.StridedIn.Frame
public import proofs.«01_k».proof.Proof.Gen.WideIn.Frame
public import proofs.«01_k».proof.Proof.Gen.StridedInIdeal
public import proofs.«01_k».proof.Proof.Gen.WideInIdeal
public import proofs.«01_k».proof.Proof.Gen.StridedInIdeal.Skeleton
public import proofs.«01_k».proof.Proof.Gen.WideInIdeal.Skeleton
public import proofs.«01_k».proof.Proof.Gen.StridedInIdeal.Launch
public import proofs.«01_k».proof.Proof.Gen.WideInIdeal.Launch
public import proofs.«01_k».proof.Proof.Gen.StridedInIdeal.Points
public import proofs.«01_k».proof.Proof.Gen.WideInIdeal.Points
public import proofs.«01_k».proof.Proof.Gen.StridedInIdeal.Frame
public import proofs.«01_k».proof.Proof.Gen.WideInIdeal.Frame
public import proofs.«01_k».proof.Proof.Gen.StridedInRefIdeal
public import proofs.«01_k».proof.Proof.Gen.WideInRefIdeal
public import proofs.«01_k».proof.Proof.Gen.StridedInIdeal.Value
public import proofs.«01_k».proof.Proof.Gen.WideInIdeal.Value
public import proofs.«01_k».proof.Proof.Gen.StridedInRefIdeal.Run
public import proofs.«01_k».proof.Proof.Gen.WideInRefIdeal.Run
public import proofs.«01_k».proof.Proof.Gen.DilOut
public import proofs.«01_k».proof.Proof.Gen.DilOut.Skeleton
public import proofs.«01_k».proof.Proof.Gen.DilOut.Launch
public import proofs.«01_k».proof.Proof.Gen.DilOut.Points
public import proofs.«01_k».proof.Proof.Gen.DilOut.Frame
public import proofs.«01_k».proof.Proof.Gen.DilOutIdeal
public import proofs.«01_k».proof.Proof.Gen.DilOutIdeal.Skeleton
public import proofs.«01_k».proof.Proof.Gen.DilOutIdeal.Launch
public import proofs.«01_k».proof.Proof.Gen.DilOutIdeal.Points
public import proofs.«01_k».proof.Proof.Gen.DilOutIdeal.Frame
public import proofs.«01_k».proof.Proof.Gen.DilOutRefIdeal
public import proofs.«01_k».proof.Proof.Gen.DilOutIdeal.Value
public import proofs.«01_k».proof.Proof.Gen.DilOutRefIdeal.Run
public import proofs.«01_k».proof.Proof.CombineClaims
public import proofs.«01_k».proof.Proof.ConvClaims
public import proofs.«01_k».proof.Proof.ExpertsClaims
public import proofs.«01_k».proof.Proof.ProjClaims
public import proofs.«01_k».proof.Proof.DilInClaims
public import proofs.«01_k».proof.Proof.WideInClaims
public import proofs.«01_k».proof.Proof.DilOutClaims
public import Idealize.ShloMosaic.Adequacy
public import Idealize.ShloMosaic.Init

@[expose] public section

noncomputable section

namespace Cert.Proof

open Idealize.ShloMosaic Idealize.SL.Sem Cert.Combine

theorem claim : Cert.Claim := ⟨Cert.Experts.Gen.facts, Cert.ExpertsRef.Gen.facts, Cert.Combine.Gen.facts, Cert.CombineIdeal.Gen.facts,
  Cert.CombineRefIdeal.Gen.facts, Cert.Conv.Gen.facts, Cert.ConvIdeal.Gen.facts, Cert.ConvRefIdeal.Gen.facts,
  Cert.SbIn.Gen.facts, Cert.SbInIdeal.Gen.facts, Cert.SbInRefIdeal.Gen.facts,
  Cert.GlaIn.Gen.facts, Cert.GlaInIdeal.Gen.facts, Cert.GlaInRefIdeal.Gen.facts,
  Cert.MixerOut.Gen.facts, Cert.MixerOutIdeal.Gen.facts, Cert.MixerOutRefIdeal.Gen.facts,
  Cert.DilIn.Gen.facts, Cert.DilInIdeal.Gen.facts, Cert.DilInRefIdeal.Gen.facts,
  Cert.StridedIn.Gen.facts, Cert.StridedInIdeal.Gen.facts, Cert.StridedInRefIdeal.Gen.facts,
  Cert.DilOut.Gen.facts, Cert.DilOutIdeal.Gen.facts, Cert.DilOutRefIdeal.Gen.facts,
  Cert.WideIn.Gen.facts, Cert.WideInIdeal.Gen.facts, Cert.WideInRefIdeal.Gen.facts,
  Cert.Pre_block_tables.Gen.facts, experts_frame, expertsRef_frame,
  fun m ρ _ => Cert.Combine.Gen.frame m ρ, fun m ρ _ => Cert.CombineIdeal.Gen.frame m ρ, combineRef_frame,
  fun m ρ _ => Cert.Conv.Gen.frame m ρ, fun m ρ _ => Cert.ConvIdeal.Gen.frame m ρ, convRef_frame,
  fun m ρ _ => Cert.SbIn.Gen.frame m ρ, fun m ρ _ => Cert.SbInIdeal.Gen.frame m ρ, sbInRef_frame,
  fun m ρ _ => Cert.GlaIn.Gen.frame m ρ, fun m ρ _ => Cert.GlaInIdeal.Gen.frame m ρ, glaInRef_frame,
  fun m ρ _ => Cert.MixerOut.Gen.frame m ρ, fun m ρ _ => Cert.MixerOutIdeal.Gen.frame m ρ, mixerOutRef_frame,
  fun m ρ _ => Cert.DilIn.Gen.frame m ρ, fun m ρ _ => Cert.DilInIdeal.Gen.frame m ρ, dilInRef_frame,
  fun m ρ _ => Cert.StridedIn.Gen.frame m ρ, fun m ρ _ => Cert.StridedInIdeal.Gen.frame m ρ, stridedInRef_frame,
  fun m ρ _ => Cert.DilOut.Gen.frame m ρ, fun m ρ _ => Cert.DilOutIdeal.Gen.frame m ρ, dilOutRef_frame,
  fun m ρ _ => Cert.WideIn.Gen.frame m ρ, fun m ρ _ => Cert.WideInIdeal.Gen.frame m ρ, wideInRef_frame,
  experts_bitexact, trivial, combine_algebraic, trivial, conv_algebraic, trivial, sbIn_algebraic, trivial, glaIn_algebraic, trivial, mixerOut_algebraic,
  trivial, dilIn_algebraic, trivial, stridedIn_algebraic, trivial, dilOut_algebraic, trivial, wideIn_algebraic⟩

end Cert.Proof

end
